-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Token (m : (ℓ : Loc Cert.Token.nD Cert.Token.τ Cert.Token.sig) → Buf (Elt Bits) ℓ) : Prop :=
  True

def Pre_TokenIdeal (m : (ℓ : Loc Cert.TokenIdeal.nD Cert.TokenIdeal.τ Cert.TokenIdeal.sig) → Buf (Elt Ideal) ℓ) : Prop :=
  True

def Pre_TokenIdeal_laid_out [hPre_laid_out : Cert.Pre_laid_out.Facts] (m : (ℓ : Loc Cert.TokenIdeal.nD Cert.TokenIdeal.τ Cert.TokenIdeal.sig) → Buf (Elt Ideal) ℓ) : Prop :=
  ∀ c : Dev Cert.TokenIdeal.nD,
    (Cert.Pre_laid_out.fn (F := Ideal) (m ((c.tc : Thread Cert.TokenIdeal.nD Cert.TokenIdeal.τ).loc Cert.TokenIdeal.main_arg0)) (m ((c.tc : Thread Cert.TokenIdeal.nD Cert.TokenIdeal.τ).loc Cert.TokenIdeal.main_arg1)) (m ((c.tc : Thread Cert.TokenIdeal.nD Cert.TokenIdeal.τ).loc Cert.TokenIdeal.main_arg2)) (m ((c.tc : Thread Cert.TokenIdeal.nD Cert.TokenIdeal.τ).loc Cert.TokenIdeal.main_arg3)) (m ((c.tc : Thread Cert.TokenIdeal.nD Cert.TokenIdeal.τ).loc Cert.TokenIdeal.main_arg4)) (m ((c.tc : Thread Cert.TokenIdeal.nD Cert.TokenIdeal.τ).loc Cert.TokenIdeal.main_arg5))) = (fun _ => 1#1)

def Pre_TokenRefIdeal (m : (ℓ : Loc Cert.TokenRefIdeal.nD Cert.TokenRefIdeal.τ Cert.TokenRefIdeal.sig) → Buf (Elt Ideal) ℓ) : Prop :=
  True

def Pre_TokenRefIdeal_laid_out [hPre_laid_out : Cert.Pre_laid_out.Facts] (m : (ℓ : Loc Cert.TokenRefIdeal.nD Cert.TokenRefIdeal.τ Cert.TokenRefIdeal.sig) → Buf (Elt Ideal) ℓ) : Prop :=
  ∀ c : Dev Cert.TokenRefIdeal.nD,
    (Cert.Pre_laid_out.fn (F := Ideal) (m ((c.tc : Thread Cert.TokenRefIdeal.nD Cert.TokenRefIdeal.τ).loc Cert.TokenRefIdeal.main_arg0)) (m ((c.tc : Thread Cert.TokenRefIdeal.nD Cert.TokenRefIdeal.τ).loc Cert.TokenRefIdeal.main_arg1)) (m ((c.tc : Thread Cert.TokenRefIdeal.nD Cert.TokenRefIdeal.τ).loc Cert.TokenRefIdeal.main_arg2)) (m ((c.tc : Thread Cert.TokenRefIdeal.nD Cert.TokenRefIdeal.τ).loc Cert.TokenRefIdeal.main_arg3)) (m ((c.tc : Thread Cert.TokenRefIdeal.nD Cert.TokenRefIdeal.τ).loc Cert.TokenRefIdeal.main_arg4)) (m ((c.tc : Thread Cert.TokenRefIdeal.nD Cert.TokenRefIdeal.τ).loc Cert.TokenRefIdeal.main_arg5))) = (fun _ => 1#1)

def Pre_Pad (m : (ℓ : Loc Cert.Pad.nD Cert.Pad.τ Cert.Pad.sig) → Buf (Elt Bits) ℓ) : Prop :=
  True

def Pre_PadIdeal (m : (ℓ : Loc Cert.PadIdeal.nD Cert.PadIdeal.τ Cert.PadIdeal.sig) → Buf (Elt Ideal) ℓ) : Prop :=
  True

def Pre_PadRefIdeal (m : (ℓ : Loc Cert.PadRefIdeal.nD Cert.PadRefIdeal.τ Cert.PadRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Token [hToken : Cert.Token.Facts] : Prop :=
  ∀ (m : (ℓ : Loc Cert.Token.nD Cert.Token.τ Cert.Token.sig) → Buf (Elt Bits) ℓ) (g : Dev Cert.Token.nD → PrngReg), Pre_Token m →
    θ_run (Cert.Token.defs (F := Bits)) (onTc (τ := Cert.Token.τ) (Cert.Token.main (F := Bits))) ⟨m, fun _ => 0, g⟩ (fun r => (∀ c : Dev Cert.Token.nD,
      r.2.mem ((c.tc : Thread Cert.Token.nD Cert.Token.τ).loc Cert.Token.main_arg0) = m ((c.tc : Thread Cert.Token.nD Cert.Token.τ).loc Cert.Token.main_arg0)
      ∧ r.2.mem ((c.tc : Thread Cert.Token.nD Cert.Token.τ).loc Cert.Token.main_arg1) = m ((c.tc : Thread Cert.Token.nD Cert.Token.τ).loc Cert.Token.main_arg1)
      ∧ r.2.mem ((c.tc : Thread Cert.Token.nD Cert.Token.τ).loc Cert.Token.main_arg2) = m ((c.tc : Thread Cert.Token.nD Cert.Token.τ).loc Cert.Token.main_arg2)
      ∧ r.2.mem ((c.tc : Thread Cert.Token.nD Cert.Token.τ).loc Cert.Token.main_arg3) = m ((c.tc : Thread Cert.Token.nD Cert.Token.τ).loc Cert.Token.main_arg3)
      ∧ r.2.mem ((c.tc : Thread Cert.Token.nD Cert.Token.τ).loc Cert.Token.main_arg4) = m ((c.tc : Thread Cert.Token.nD Cert.Token.τ).loc Cert.Token.main_arg4)
      ∧ r.2.mem ((c.tc : Thread Cert.Token.nD Cert.Token.τ).loc Cert.Token.main_arg5) = m ((c.tc : Thread Cert.Token.nD Cert.Token.τ).loc Cert.Token.main_arg5))
      ∧ r.2.sem = fun _ => 0)

def quiescent_TokenIdeal [hTokenIdeal : Cert.TokenIdeal.Facts] : Prop :=
  ∀ (m : (ℓ : Loc Cert.TokenIdeal.nD Cert.TokenIdeal.τ Cert.TokenIdeal.sig) → Buf (Elt Ideal) ℓ) (g : Dev Cert.TokenIdeal.nD → PrngReg), Pre_TokenIdeal m →
    θ_run (Cert.TokenIdeal.defs (F := Ideal)) (onTc (τ := Cert.TokenIdeal.τ) (Cert.TokenIdeal.main (F := Ideal))) ⟨m, fun _ => 0, g⟩ (fun r => (∀ c : Dev Cert.TokenIdeal.nD,
      r.2.mem ((c.tc : Thread Cert.TokenIdeal.nD Cert.TokenIdeal.τ).loc Cert.TokenIdeal.main_arg0) = m ((c.tc : Thread Cert.TokenIdeal.nD Cert.TokenIdeal.τ).loc Cert.TokenIdeal.main_arg0)
      ∧ r.2.mem ((c.tc : Thread Cert.TokenIdeal.nD Cert.TokenIdeal.τ).loc Cert.TokenIdeal.main_arg1) = m ((c.tc : Thread Cert.TokenIdeal.nD Cert.TokenIdeal.τ).loc Cert.TokenIdeal.main_arg1)
      ∧ r.2.mem ((c.tc : Thread Cert.TokenIdeal.nD Cert.TokenIdeal.τ).loc Cert.TokenIdeal.main_arg2) = m ((c.tc : Thread Cert.TokenIdeal.nD Cert.TokenIdeal.τ).loc Cert.TokenIdeal.main_arg2)
      ∧ r.2.mem ((c.tc : Thread Cert.TokenIdeal.nD Cert.TokenIdeal.τ).loc Cert.TokenIdeal.main_arg3) = m ((c.tc : Thread Cert.TokenIdeal.nD Cert.TokenIdeal.τ).loc Cert.TokenIdeal.main_arg3)
      ∧ r.2.mem ((c.tc : Thread Cert.TokenIdeal.nD Cert.TokenIdeal.τ).loc Cert.TokenIdeal.main_arg4) = m ((c.tc : Thread Cert.TokenIdeal.nD Cert.TokenIdeal.τ).loc Cert.TokenIdeal.main_arg4)
      ∧ r.2.mem ((c.tc : Thread Cert.TokenIdeal.nD Cert.TokenIdeal.τ).loc Cert.TokenIdeal.main_arg5) = m ((c.tc : Thread Cert.TokenIdeal.nD Cert.TokenIdeal.τ).loc Cert.TokenIdeal.main_arg5))
      ∧ r.2.sem = fun _ => 0)

def quiescent_TokenIdeal_pre_laid_out [hTokenIdeal : Cert.TokenIdeal.Facts] [hPre_laid_out : Cert.Pre_laid_out.Facts] : Prop :=
  ∀ (m : (ℓ : Loc Cert.TokenIdeal.nD Cert.TokenIdeal.τ Cert.TokenIdeal.sig) → Buf (Elt Ideal) ℓ) (g : Dev Cert.TokenIdeal.nD → PrngReg), Pre_TokenIdeal_laid_out m →
    θ_run (Cert.TokenIdeal.defs (F := Ideal)) (onTc (τ := Cert.TokenIdeal.τ) (Cert.TokenIdeal.main (F := Ideal))) ⟨m, fun _ => 0, g⟩ (fun r => (∀ c : Dev Cert.TokenIdeal.nD,
      r.2.mem ((c.tc : Thread Cert.TokenIdeal.nD Cert.TokenIdeal.τ).loc Cert.TokenIdeal.main_arg0) = m ((c.tc : Thread Cert.TokenIdeal.nD Cert.TokenIdeal.τ).loc Cert.TokenIdeal.main_arg0)
      ∧ r.2.mem ((c.tc : Thread Cert.TokenIdeal.nD Cert.TokenIdeal.τ).loc Cert.TokenIdeal.main_arg1) = m ((c.tc : Thread Cert.TokenIdeal.nD Cert.TokenIdeal.τ).loc Cert.TokenIdeal.main_arg1)
      ∧ r.2.mem ((c.tc : Thread Cert.TokenIdeal.nD Cert.TokenIdeal.τ).loc Cert.TokenIdeal.main_arg2) = m ((c.tc : Thread Cert.TokenIdeal.nD Cert.TokenIdeal.τ).loc Cert.TokenIdeal.main_arg2)
      ∧ r.2.mem ((c.tc : Thread Cert.TokenIdeal.nD Cert.TokenIdeal.τ).loc Cert.TokenIdeal.main_arg3) = m ((c.tc : Thread Cert.TokenIdeal.nD Cert.TokenIdeal.τ).loc Cert.TokenIdeal.main_arg3)
      ∧ r.2.mem ((c.tc : Thread Cert.TokenIdeal.nD Cert.TokenIdeal.τ).loc Cert.TokenIdeal.main_arg4) = m ((c.tc : Thread Cert.TokenIdeal.nD Cert.TokenIdeal.τ).loc Cert.TokenIdeal.main_arg4)
      ∧ r.2.mem ((c.tc : Thread Cert.TokenIdeal.nD Cert.TokenIdeal.τ).loc Cert.TokenIdeal.main_arg5) = m ((c.tc : Thread Cert.TokenIdeal.nD Cert.TokenIdeal.τ).loc Cert.TokenIdeal.main_arg5))
      ∧ r.2.sem = fun _ => 0)

def quiescent_TokenRefIdeal [hTokenRefIdeal : Cert.TokenRefIdeal.Facts] : Prop :=
  ∀ (m : (ℓ : Loc Cert.TokenRefIdeal.nD Cert.TokenRefIdeal.τ Cert.TokenRefIdeal.sig) → Buf (Elt Ideal) ℓ) (g : Dev Cert.TokenRefIdeal.nD → PrngReg), Pre_TokenRefIdeal m →
    θ_run (Cert.TokenRefIdeal.defs (F := Ideal)) (onTc (τ := Cert.TokenRefIdeal.τ) (Cert.TokenRefIdeal.main (F := Ideal))) ⟨m, fun _ => 0, g⟩ (fun r => (∀ c : Dev Cert.TokenRefIdeal.nD,
      r.2.mem ((c.tc : Thread Cert.TokenRefIdeal.nD Cert.TokenRefIdeal.τ).loc Cert.TokenRefIdeal.main_arg0) = m ((c.tc : Thread Cert.TokenRefIdeal.nD Cert.TokenRefIdeal.τ).loc Cert.TokenRefIdeal.main_arg0)
      ∧ r.2.mem ((c.tc : Thread Cert.TokenRefIdeal.nD Cert.TokenRefIdeal.τ).loc Cert.TokenRefIdeal.main_arg1) = m ((c.tc : Thread Cert.TokenRefIdeal.nD Cert.TokenRefIdeal.τ).loc Cert.TokenRefIdeal.main_arg1)
      ∧ r.2.mem ((c.tc : Thread Cert.TokenRefIdeal.nD Cert.TokenRefIdeal.τ).loc Cert.TokenRefIdeal.main_arg2) = m ((c.tc : Thread Cert.TokenRefIdeal.nD Cert.TokenRefIdeal.τ).loc Cert.TokenRefIdeal.main_arg2)
      ∧ r.2.mem ((c.tc : Thread Cert.TokenRefIdeal.nD Cert.TokenRefIdeal.τ).loc Cert.TokenRefIdeal.main_arg3) = m ((c.tc : Thread Cert.TokenRefIdeal.nD Cert.TokenRefIdeal.τ).loc Cert.TokenRefIdeal.main_arg3)
      ∧ r.2.mem ((c.tc : Thread Cert.TokenRefIdeal.nD Cert.TokenRefIdeal.τ).loc Cert.TokenRefIdeal.main_arg4) = m ((c.tc : Thread Cert.TokenRefIdeal.nD Cert.TokenRefIdeal.τ).loc Cert.TokenRefIdeal.main_arg4)
      ∧ r.2.mem ((c.tc : Thread Cert.TokenRefIdeal.nD Cert.TokenRefIdeal.τ).loc Cert.TokenRefIdeal.main_arg5) = m ((c.tc : Thread Cert.TokenRefIdeal.nD Cert.TokenRefIdeal.τ).loc Cert.TokenRefIdeal.main_arg5))
      ∧ r.2.sem = fun _ => 0)

def quiescent_TokenRefIdeal_pre_laid_out [hTokenRefIdeal : Cert.TokenRefIdeal.Facts] [hPre_laid_out : Cert.Pre_laid_out.Facts] : Prop :=
  ∀ (m : (ℓ : Loc Cert.TokenRefIdeal.nD Cert.TokenRefIdeal.τ Cert.TokenRefIdeal.sig) → Buf (Elt Ideal) ℓ) (g : Dev Cert.TokenRefIdeal.nD → PrngReg), Pre_TokenRefIdeal_laid_out m →
    θ_run (Cert.TokenRefIdeal.defs (F := Ideal)) (onTc (τ := Cert.TokenRefIdeal.τ) (Cert.TokenRefIdeal.main (F := Ideal))) ⟨m, fun _ => 0, g⟩ (fun r => (∀ c : Dev Cert.TokenRefIdeal.nD,
      r.2.mem ((c.tc : Thread Cert.TokenRefIdeal.nD Cert.TokenRefIdeal.τ).loc Cert.TokenRefIdeal.main_arg0) = m ((c.tc : Thread Cert.TokenRefIdeal.nD Cert.TokenRefIdeal.τ).loc Cert.TokenRefIdeal.main_arg0)
      ∧ r.2.mem ((c.tc : Thread Cert.TokenRefIdeal.nD Cert.TokenRefIdeal.τ).loc Cert.TokenRefIdeal.main_arg1) = m ((c.tc : Thread Cert.TokenRefIdeal.nD Cert.TokenRefIdeal.τ).loc Cert.TokenRefIdeal.main_arg1)
      ∧ r.2.mem ((c.tc : Thread Cert.TokenRefIdeal.nD Cert.TokenRefIdeal.τ).loc Cert.TokenRefIdeal.main_arg2) = m ((c.tc : Thread Cert.TokenRefIdeal.nD Cert.TokenRefIdeal.τ).loc Cert.TokenRefIdeal.main_arg2)
      ∧ r.2.mem ((c.tc : Thread Cert.TokenRefIdeal.nD Cert.TokenRefIdeal.τ).loc Cert.TokenRefIdeal.main_arg3) = m ((c.tc : Thread Cert.TokenRefIdeal.nD Cert.TokenRefIdeal.τ).loc Cert.TokenRefIdeal.main_arg3)
      ∧ r.2.mem ((c.tc : Thread Cert.TokenRefIdeal.nD Cert.TokenRefIdeal.τ).loc Cert.TokenRefIdeal.main_arg4) = m ((c.tc : Thread Cert.TokenRefIdeal.nD Cert.TokenRefIdeal.τ).loc Cert.TokenRefIdeal.main_arg4)
      ∧ r.2.mem ((c.tc : Thread Cert.TokenRefIdeal.nD Cert.TokenRefIdeal.τ).loc Cert.TokenRefIdeal.main_arg5) = m ((c.tc : Thread Cert.TokenRefIdeal.nD Cert.TokenRefIdeal.τ).loc Cert.TokenRefIdeal.main_arg5))
      ∧ r.2.sem = fun _ => 0)

def quiescent_Pad [hPad : Cert.Pad.Facts] : Prop :=
  ∀ (m : (ℓ : Loc Cert.Pad.nD Cert.Pad.τ Cert.Pad.sig) → Buf (Elt Bits) ℓ) (g : Dev Cert.Pad.nD → PrngReg), Pre_Pad m →
    θ_run (Cert.Pad.defs (F := Bits)) (onTc (τ := Cert.Pad.τ) (Cert.Pad.main (F := Bits))) ⟨m, fun _ => 0, g⟩ (fun r => (∀ c : Dev Cert.Pad.nD,
      r.2.mem ((c.tc : Thread Cert.Pad.nD Cert.Pad.τ).loc Cert.Pad.main_arg0) = m ((c.tc : Thread Cert.Pad.nD Cert.Pad.τ).loc Cert.Pad.main_arg0)
      ∧ r.2.mem ((c.tc : Thread Cert.Pad.nD Cert.Pad.τ).loc Cert.Pad.main_arg1) = m ((c.tc : Thread Cert.Pad.nD Cert.Pad.τ).loc Cert.Pad.main_arg1)
      ∧ r.2.mem ((c.tc : Thread Cert.Pad.nD Cert.Pad.τ).loc Cert.Pad.main_arg2) = m ((c.tc : Thread Cert.Pad.nD Cert.Pad.τ).loc Cert.Pad.main_arg2)
      ∧ r.2.mem ((c.tc : Thread Cert.Pad.nD Cert.Pad.τ).loc Cert.Pad.main_arg3) = m ((c.tc : Thread Cert.Pad.nD Cert.Pad.τ).loc Cert.Pad.main_arg3)
      ∧ r.2.mem ((c.tc : Thread Cert.Pad.nD Cert.Pad.τ).loc Cert.Pad.main_arg4) = m ((c.tc : Thread Cert.Pad.nD Cert.Pad.τ).loc Cert.Pad.main_arg4))
      ∧ r.2.sem = fun _ => 0)

def quiescent_PadIdeal [hPadIdeal : Cert.PadIdeal.Facts] : Prop :=
  ∀ (m : (ℓ : Loc Cert.PadIdeal.nD Cert.PadIdeal.τ Cert.PadIdeal.sig) → Buf (Elt Ideal) ℓ) (g : Dev Cert.PadIdeal.nD → PrngReg), Pre_PadIdeal m →
    θ_run (Cert.PadIdeal.defs (F := Ideal)) (onTc (τ := Cert.PadIdeal.τ) (Cert.PadIdeal.main (F := Ideal))) ⟨m, fun _ => 0, g⟩ (fun r => (∀ c : Dev Cert.PadIdeal.nD,
      r.2.mem ((c.tc : Thread Cert.PadIdeal.nD Cert.PadIdeal.τ).loc Cert.PadIdeal.main_arg0) = m ((c.tc : Thread Cert.PadIdeal.nD Cert.PadIdeal.τ).loc Cert.PadIdeal.main_arg0)
      ∧ r.2.mem ((c.tc : Thread Cert.PadIdeal.nD Cert.PadIdeal.τ).loc Cert.PadIdeal.main_arg1) = m ((c.tc : Thread Cert.PadIdeal.nD Cert.PadIdeal.τ).loc Cert.PadIdeal.main_arg1)
      ∧ r.2.mem ((c.tc : Thread Cert.PadIdeal.nD Cert.PadIdeal.τ).loc Cert.PadIdeal.main_arg2) = m ((c.tc : Thread Cert.PadIdeal.nD Cert.PadIdeal.τ).loc Cert.PadIdeal.main_arg2)
      ∧ r.2.mem ((c.tc : Thread Cert.PadIdeal.nD Cert.PadIdeal.τ).loc Cert.PadIdeal.main_arg3) = m ((c.tc : Thread Cert.PadIdeal.nD Cert.PadIdeal.τ).loc Cert.PadIdeal.main_arg3)
      ∧ r.2.mem ((c.tc : Thread Cert.PadIdeal.nD Cert.PadIdeal.τ).loc Cert.PadIdeal.main_arg4) = m ((c.tc : Thread Cert.PadIdeal.nD Cert.PadIdeal.τ).loc Cert.PadIdeal.main_arg4))
      ∧ r.2.sem = fun _ => 0)

def quiescent_PadRefIdeal [hPadRefIdeal : Cert.PadRefIdeal.Facts] : Prop :=
  ∀ (m : (ℓ : Loc Cert.PadRefIdeal.nD Cert.PadRefIdeal.τ Cert.PadRefIdeal.sig) → Buf (Elt Ideal) ℓ) (g : Dev Cert.PadRefIdeal.nD → PrngReg), Pre_PadRefIdeal m →
    θ_run (Cert.PadRefIdeal.defs (F := Ideal)) (onTc (τ := Cert.PadRefIdeal.τ) (Cert.PadRefIdeal.main (F := Ideal))) ⟨m, fun _ => 0, g⟩ (fun r => (∀ c : Dev Cert.PadRefIdeal.nD,
      r.2.mem ((c.tc : Thread Cert.PadRefIdeal.nD Cert.PadRefIdeal.τ).loc Cert.PadRefIdeal.main_arg0) = m ((c.tc : Thread Cert.PadRefIdeal.nD Cert.PadRefIdeal.τ).loc Cert.PadRefIdeal.main_arg0)
      ∧ r.2.mem ((c.tc : Thread Cert.PadRefIdeal.nD Cert.PadRefIdeal.τ).loc Cert.PadRefIdeal.main_arg1) = m ((c.tc : Thread Cert.PadRefIdeal.nD Cert.PadRefIdeal.τ).loc Cert.PadRefIdeal.main_arg1)
      ∧ r.2.mem ((c.tc : Thread Cert.PadRefIdeal.nD Cert.PadRefIdeal.τ).loc Cert.PadRefIdeal.main_arg2) = m ((c.tc : Thread Cert.PadRefIdeal.nD Cert.PadRefIdeal.τ).loc Cert.PadRefIdeal.main_arg2)
      ∧ r.2.mem ((c.tc : Thread Cert.PadRefIdeal.nD Cert.PadRefIdeal.τ).loc Cert.PadRefIdeal.main_arg3) = m ((c.tc : Thread Cert.PadRefIdeal.nD Cert.PadRefIdeal.τ).loc Cert.PadRefIdeal.main_arg3)
      ∧ r.2.mem ((c.tc : Thread Cert.PadRefIdeal.nD Cert.PadRefIdeal.τ).loc Cert.PadRefIdeal.main_arg4) = m ((c.tc : Thread Cert.PadRefIdeal.nD Cert.PadRefIdeal.τ).loc Cert.PadRefIdeal.main_arg4))
      ∧ r.2.sem = fun _ => 0)

def preserves_Kernel_KernelIdeal : Prop :=
  IdealRules.named_const.Statement Cert.KernelIdeal.κ "qs" .f32 0x3E16C740#32 (((Real.sqrt 96)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v93_0)) (v1 : (c : Dev Cert.KernelIdeal.nD) → Buf (Elt Ideal) ((c.tc : Thread Cert.KernelIdeal.nD Cert.KernelIdeal.τ).loc Cert.KernelIdeal.main_v93_1)) (v2 : (c : Dev Cert.KernelIdeal.nD) → Buf (Elt Ideal) ((c.tc : Thread Cert.KernelIdeal.nD Cert.KernelIdeal.τ).loc Cert.KernelIdeal.main_v93_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93_0) = v0 c
          ∧ r.2.mem ((c.tc : Thread Cert.KernelIdeal.nD Cert.KernelIdeal.τ).loc Cert.KernelIdeal.main_v93_1) = v1 c
          ∧ r.2.mem ((c.tc : Thread Cert.KernelIdeal.nD Cert.KernelIdeal.τ).loc Cert.KernelIdeal.main_v93_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v184) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Token_TokenIdeal : Prop :=
  True

def algebraic_TokenIdeal_TokenRefIdeal_pre_laid_out [hTokenIdeal : Cert.TokenIdeal.Facts] [hTokenRefIdeal : Cert.TokenRefIdeal.Facts] [hPre_laid_out : Cert.Pre_laid_out.Facts] : Prop :=
  ∀ (m : (ℓ : Loc Cert.TokenIdeal.nD Cert.TokenIdeal.τ Cert.TokenIdeal.sig) → Buf (Elt Ideal) ℓ) (g : Dev Cert.TokenIdeal.nD → PrngReg)
    (m' : (ℓ : Loc Cert.TokenRefIdeal.nD Cert.TokenRefIdeal.τ Cert.TokenRefIdeal.sig) → Buf (Elt Ideal) ℓ) (g' : Dev Cert.TokenRefIdeal.nD → PrngReg), Pre_TokenIdeal_laid_out m →
    (∀ c : Dev Cert.TokenIdeal.nD,
      m' ((c.tc : Thread Cert.TokenRefIdeal.nD Cert.TokenRefIdeal.τ).loc Cert.TokenRefIdeal.main_arg0) = m ((c.tc : Thread Cert.TokenIdeal.nD Cert.TokenIdeal.τ).loc Cert.TokenIdeal.main_arg0)
      ∧ m' ((c.tc : Thread Cert.TokenRefIdeal.nD Cert.TokenRefIdeal.τ).loc Cert.TokenRefIdeal.main_arg1) = m ((c.tc : Thread Cert.TokenIdeal.nD Cert.TokenIdeal.τ).loc Cert.TokenIdeal.main_arg1)
      ∧ m' ((c.tc : Thread Cert.TokenRefIdeal.nD Cert.TokenRefIdeal.τ).loc Cert.TokenRefIdeal.main_arg2) = m ((c.tc : Thread Cert.TokenIdeal.nD Cert.TokenIdeal.τ).loc Cert.TokenIdeal.main_arg2)
      ∧ m' ((c.tc : Thread Cert.TokenRefIdeal.nD Cert.TokenRefIdeal.τ).loc Cert.TokenRefIdeal.main_arg3) = m ((c.tc : Thread Cert.TokenIdeal.nD Cert.TokenIdeal.τ).loc Cert.TokenIdeal.main_arg3)
      ∧ m' ((c.tc : Thread Cert.TokenRefIdeal.nD Cert.TokenRefIdeal.τ).loc Cert.TokenRefIdeal.main_arg4) = m ((c.tc : Thread Cert.TokenIdeal.nD Cert.TokenIdeal.τ).loc Cert.TokenIdeal.main_arg4)
      ∧ m' ((c.tc : Thread Cert.TokenRefIdeal.nD Cert.TokenRefIdeal.τ).loc Cert.TokenRefIdeal.main_arg5) = m ((c.tc : Thread Cert.TokenIdeal.nD Cert.TokenIdeal.τ).loc Cert.TokenIdeal.main_arg5)) →
    ∃ (v0 : (c : Dev Cert.TokenIdeal.nD) → Buf (Elt Ideal) ((c.tc : Thread Cert.TokenIdeal.nD Cert.TokenIdeal.τ).loc Cert.TokenIdeal.main_v94_0)) (v1 : (c : Dev Cert.TokenIdeal.nD) → Buf (Elt Ideal) ((c.tc : Thread Cert.TokenIdeal.nD Cert.TokenIdeal.τ).loc Cert.TokenIdeal.main_v94_1)) (v2 : (c : Dev Cert.TokenIdeal.nD) → Buf (Elt Ideal) ((c.tc : Thread Cert.TokenIdeal.nD Cert.TokenIdeal.τ).loc Cert.TokenIdeal.main_v94_2)) (v3 : (c : Dev Cert.TokenIdeal.nD) → Buf (Elt Ideal) ((c.tc : Thread Cert.TokenIdeal.nD Cert.TokenIdeal.τ).loc Cert.TokenIdeal.main_v94_3)) (v4 : (c : Dev Cert.TokenIdeal.nD) → Buf (Elt Ideal) ((c.tc : Thread Cert.TokenIdeal.nD Cert.TokenIdeal.τ).loc Cert.TokenIdeal.main_v94_4)) (v5 : (c : Dev Cert.TokenIdeal.nD) → Buf (Elt Ideal) ((c.tc : Thread Cert.TokenIdeal.nD Cert.TokenIdeal.τ).loc Cert.TokenIdeal.main_v94_5)) (v6 : (c : Dev Cert.TokenIdeal.nD) → Buf (Elt Ideal) ((c.tc : Thread Cert.TokenIdeal.nD Cert.TokenIdeal.τ).loc Cert.TokenIdeal.main_v94_6)) (v7 : (c : Dev Cert.TokenIdeal.nD) → Buf (Elt Ideal) ((c.tc : Thread Cert.TokenIdeal.nD Cert.TokenIdeal.τ).loc Cert.TokenIdeal.main_v94_7)),
      θ_run (Cert.TokenIdeal.defs (F := Ideal)) (onTc (τ := Cert.TokenIdeal.τ) (Cert.TokenIdeal.main (F := Ideal))) ⟨m, fun _ => 0, g⟩ (fun r => ∀ c : Dev Cert.TokenIdeal.nD,
          r.2.mem ((c.tc : Thread Cert.TokenIdeal.nD Cert.TokenIdeal.τ).loc Cert.TokenIdeal.main_v94_0) = v0 c
          ∧ r.2.mem ((c.tc : Thread Cert.TokenIdeal.nD Cert.TokenIdeal.τ).loc Cert.TokenIdeal.main_v94_1) = v1 c
          ∧ r.2.mem ((c.tc : Thread Cert.TokenIdeal.nD Cert.TokenIdeal.τ).loc Cert.TokenIdeal.main_v94_2) = v2 c
          ∧ r.2.mem ((c.tc : Thread Cert.TokenIdeal.nD Cert.TokenIdeal.τ).loc Cert.TokenIdeal.main_v94_3) = v3 c
          ∧ r.2.mem ((c.tc : Thread Cert.TokenIdeal.nD Cert.TokenIdeal.τ).loc Cert.TokenIdeal.main_v94_4) = v4 c
          ∧ r.2.mem ((c.tc : Thread Cert.TokenIdeal.nD Cert.TokenIdeal.τ).loc Cert.TokenIdeal.main_v94_5) = v5 c
          ∧ r.2.mem ((c.tc : Thread Cert.TokenIdeal.nD Cert.TokenIdeal.τ).loc Cert.TokenIdeal.main_v94_6) = v6 c
          ∧ r.2.mem ((c.tc : Thread Cert.TokenIdeal.nD Cert.TokenIdeal.τ).loc Cert.TokenIdeal.main_v94_7) = v7 c
          ∧ r.2.mem ((c.tc : Thread Cert.TokenIdeal.nD Cert.TokenIdeal.τ).loc Cert.TokenIdeal.main_arg0) = m ((c.tc : Thread Cert.TokenIdeal.nD Cert.TokenIdeal.τ).loc Cert.TokenIdeal.main_arg0)
          ∧ r.2.mem ((c.tc : Thread Cert.TokenIdeal.nD Cert.TokenIdeal.τ).loc Cert.TokenIdeal.main_arg1) = m ((c.tc : Thread Cert.TokenIdeal.nD Cert.TokenIdeal.τ).loc Cert.TokenIdeal.main_arg1)
          ∧ r.2.mem ((c.tc : Thread Cert.TokenIdeal.nD Cert.TokenIdeal.τ).loc Cert.TokenIdeal.main_arg2) = m ((c.tc : Thread Cert.TokenIdeal.nD Cert.TokenIdeal.τ).loc Cert.TokenIdeal.main_arg2)
          ∧ r.2.mem ((c.tc : Thread Cert.TokenIdeal.nD Cert.TokenIdeal.τ).loc Cert.TokenIdeal.main_arg3) = m ((c.tc : Thread Cert.TokenIdeal.nD Cert.TokenIdeal.τ).loc Cert.TokenIdeal.main_arg3)
          ∧ r.2.mem ((c.tc : Thread Cert.TokenIdeal.nD Cert.TokenIdeal.τ).loc Cert.TokenIdeal.main_arg4) = m ((c.tc : Thread Cert.TokenIdeal.nD Cert.TokenIdeal.τ).loc Cert.TokenIdeal.main_arg4)
          ∧ r.2.mem ((c.tc : Thread Cert.TokenIdeal.nD Cert.TokenIdeal.τ).loc Cert.TokenIdeal.main_arg5) = m ((c.tc : Thread Cert.TokenIdeal.nD Cert.TokenIdeal.τ).loc Cert.TokenIdeal.main_arg5))
      ∧ θ_run (Cert.TokenRefIdeal.defs (F := Ideal)) (onTc (τ := Cert.TokenRefIdeal.τ) (Cert.TokenRefIdeal.main (F := Ideal))) ⟨m', fun _ => 0, g'⟩ (fun r => ∀ c : Dev Cert.TokenRefIdeal.nD,
          r.2.mem ((c.tc : Thread Cert.TokenRefIdeal.nD Cert.TokenRefIdeal.τ).loc Cert.TokenRefIdeal.main_v197) = v0 c
          ∧ r.2.mem ((c.tc : Thread Cert.TokenRefIdeal.nD Cert.TokenRefIdeal.τ).loc Cert.TokenRefIdeal.main_v200) = v1 c
          ∧ r.2.mem ((c.tc : Thread Cert.TokenRefIdeal.nD Cert.TokenRefIdeal.τ).loc Cert.TokenRefIdeal.main_v202) = v2 c
          ∧ r.2.mem ((c.tc : Thread Cert.TokenRefIdeal.nD Cert.TokenRefIdeal.τ).loc Cert.TokenRefIdeal.main_v204) = v3 c
          ∧ r.2.mem ((c.tc : Thread Cert.TokenRefIdeal.nD Cert.TokenRefIdeal.τ).loc Cert.TokenRefIdeal.main_v207) = v4 c
          ∧ r.2.mem ((c.tc : Thread Cert.TokenRefIdeal.nD Cert.TokenRefIdeal.τ).loc Cert.TokenRefIdeal.main_v215) = v5 c
          ∧ r.2.mem ((c.tc : Thread Cert.TokenRefIdeal.nD Cert.TokenRefIdeal.τ).loc Cert.TokenRefIdeal.main_v223) = v6 c
          ∧ r.2.mem ((c.tc : Thread Cert.TokenRefIdeal.nD Cert.TokenRefIdeal.τ).loc Cert.TokenRefIdeal.main_v194) = v7 c
          ∧ r.2.mem ((c.tc : Thread Cert.TokenRefIdeal.nD Cert.TokenRefIdeal.τ).loc Cert.TokenRefIdeal.main_arg0) = m' ((c.tc : Thread Cert.TokenRefIdeal.nD Cert.TokenRefIdeal.τ).loc Cert.TokenRefIdeal.main_arg0)
          ∧ r.2.mem ((c.tc : Thread Cert.TokenRefIdeal.nD Cert.TokenRefIdeal.τ).loc Cert.TokenRefIdeal.main_arg1) = m' ((c.tc : Thread Cert.TokenRefIdeal.nD Cert.TokenRefIdeal.τ).loc Cert.TokenRefIdeal.main_arg1)
          ∧ r.2.mem ((c.tc : Thread Cert.TokenRefIdeal.nD Cert.TokenRefIdeal.τ).loc Cert.TokenRefIdeal.main_arg2) = m' ((c.tc : Thread Cert.TokenRefIdeal.nD Cert.TokenRefIdeal.τ).loc Cert.TokenRefIdeal.main_arg2)
          ∧ r.2.mem ((c.tc : Thread Cert.TokenRefIdeal.nD Cert.TokenRefIdeal.τ).loc Cert.TokenRefIdeal.main_arg3) = m' ((c.tc : Thread Cert.TokenRefIdeal.nD Cert.TokenRefIdeal.τ).loc Cert.TokenRefIdeal.main_arg3)
          ∧ r.2.mem ((c.tc : Thread Cert.TokenRefIdeal.nD Cert.TokenRefIdeal.τ).loc Cert.TokenRefIdeal.main_arg4) = m' ((c.tc : Thread Cert.TokenRefIdeal.nD Cert.TokenRefIdeal.τ).loc Cert.TokenRefIdeal.main_arg4)
          ∧ r.2.mem ((c.tc : Thread Cert.TokenRefIdeal.nD Cert.TokenRefIdeal.τ).loc Cert.TokenRefIdeal.main_arg5) = m' ((c.tc : Thread Cert.TokenRefIdeal.nD Cert.TokenRefIdeal.τ).loc Cert.TokenRefIdeal.main_arg5))

def preserves_Pad_PadIdeal : Prop :=
  True

def algebraic_PadIdeal_PadRefIdeal [hPadIdeal : Cert.PadIdeal.Facts] [hPadRefIdeal : Cert.PadRefIdeal.Facts] : Prop :=
  ∀ (m : (ℓ : Loc Cert.PadIdeal.nD Cert.PadIdeal.τ Cert.PadIdeal.sig) → Buf (Elt Ideal) ℓ) (g : Dev Cert.PadIdeal.nD → PrngReg)
    (m' : (ℓ : Loc Cert.PadRefIdeal.nD Cert.PadRefIdeal.τ Cert.PadRefIdeal.sig) → Buf (Elt Ideal) ℓ) (g' : Dev Cert.PadRefIdeal.nD → PrngReg), Pre_PadIdeal m →
    (∀ c : Dev Cert.PadIdeal.nD,
      m' ((c.tc : Thread Cert.PadRefIdeal.nD Cert.PadRefIdeal.τ).loc Cert.PadRefIdeal.main_arg0) = m ((c.tc : Thread Cert.PadIdeal.nD Cert.PadIdeal.τ).loc Cert.PadIdeal.main_arg0)
      ∧ m' ((c.tc : Thread Cert.PadRefIdeal.nD Cert.PadRefIdeal.τ).loc Cert.PadRefIdeal.main_arg1) = m ((c.tc : Thread Cert.PadIdeal.nD Cert.PadIdeal.τ).loc Cert.PadIdeal.main_arg1)
      ∧ m' ((c.tc : Thread Cert.PadRefIdeal.nD Cert.PadRefIdeal.τ).loc Cert.PadRefIdeal.main_arg2) = m ((c.tc : Thread Cert.PadIdeal.nD Cert.PadIdeal.τ).loc Cert.PadIdeal.main_arg2)
      ∧ m' ((c.tc : Thread Cert.PadRefIdeal.nD Cert.PadRefIdeal.τ).loc Cert.PadRefIdeal.main_arg3) = m ((c.tc : Thread Cert.PadIdeal.nD Cert.PadIdeal.τ).loc Cert.PadIdeal.main_arg3)
      ∧ m' ((c.tc : Thread Cert.PadRefIdeal.nD Cert.PadRefIdeal.τ).loc Cert.PadRefIdeal.main_arg4) = m ((c.tc : Thread Cert.PadIdeal.nD Cert.PadIdeal.τ).loc Cert.PadIdeal.main_arg4)) →
    ∃ (v0 : (c : Dev Cert.PadIdeal.nD) → Buf (Elt Ideal) ((c.tc : Thread Cert.PadIdeal.nD Cert.PadIdeal.τ).loc Cert.PadIdeal.main_v8_0)) (v1 : (c : Dev Cert.PadIdeal.nD) → Buf (Elt Ideal) ((c.tc : Thread Cert.PadIdeal.nD Cert.PadIdeal.τ).loc Cert.PadIdeal.main_v8_1)),
      θ_run (Cert.PadIdeal.defs (F := Ideal)) (onTc (τ := Cert.PadIdeal.τ) (Cert.PadIdeal.main (F := Ideal))) ⟨m, fun _ => 0, g⟩ (fun r => ∀ c : Dev Cert.PadIdeal.nD,
          r.2.mem ((c.tc : Thread Cert.PadIdeal.nD Cert.PadIdeal.τ).loc Cert.PadIdeal.main_v8_0) = v0 c
          ∧ r.2.mem ((c.tc : Thread Cert.PadIdeal.nD Cert.PadIdeal.τ).loc Cert.PadIdeal.main_v8_1) = v1 c
          ∧ r.2.mem ((c.tc : Thread Cert.PadIdeal.nD Cert.PadIdeal.τ).loc Cert.PadIdeal.main_arg0) = m ((c.tc : Thread Cert.PadIdeal.nD Cert.PadIdeal.τ).loc Cert.PadIdeal.main_arg0)
          ∧ r.2.mem ((c.tc : Thread Cert.PadIdeal.nD Cert.PadIdeal.τ).loc Cert.PadIdeal.main_arg1) = m ((c.tc : Thread Cert.PadIdeal.nD Cert.PadIdeal.τ).loc Cert.PadIdeal.main_arg1)
          ∧ r.2.mem ((c.tc : Thread Cert.PadIdeal.nD Cert.PadIdeal.τ).loc Cert.PadIdeal.main_arg2) = m ((c.tc : Thread Cert.PadIdeal.nD Cert.PadIdeal.τ).loc Cert.PadIdeal.main_arg2)
          ∧ r.2.mem ((c.tc : Thread Cert.PadIdeal.nD Cert.PadIdeal.τ).loc Cert.PadIdeal.main_arg3) = m ((c.tc : Thread Cert.PadIdeal.nD Cert.PadIdeal.τ).loc Cert.PadIdeal.main_arg3)
          ∧ r.2.mem ((c.tc : Thread Cert.PadIdeal.nD Cert.PadIdeal.τ).loc Cert.PadIdeal.main_arg4) = m ((c.tc : Thread Cert.PadIdeal.nD Cert.PadIdeal.τ).loc Cert.PadIdeal.main_arg4))
      ∧ θ_run (Cert.PadRefIdeal.defs (F := Ideal)) (onTc (τ := Cert.PadRefIdeal.τ) (Cert.PadRefIdeal.main (F := Ideal))) ⟨m', fun _ => 0, g'⟩ (fun r => ∀ c : Dev Cert.PadRefIdeal.nD,
          r.2.mem ((c.tc : Thread Cert.PadRefIdeal.nD Cert.PadRefIdeal.τ).loc Cert.PadRefIdeal.main_v24) = v0 c
          ∧ r.2.mem ((c.tc : Thread Cert.PadRefIdeal.nD Cert.PadRefIdeal.τ).loc Cert.PadRefIdeal.main_v10) = v1 c
          ∧ r.2.mem ((c.tc : Thread Cert.PadRefIdeal.nD Cert.PadRefIdeal.τ).loc Cert.PadRefIdeal.main_arg0) = m' ((c.tc : Thread Cert.PadRefIdeal.nD Cert.PadRefIdeal.τ).loc Cert.PadRefIdeal.main_arg0)
          ∧ r.2.mem ((c.tc : Thread Cert.PadRefIdeal.nD Cert.PadRefIdeal.τ).loc Cert.PadRefIdeal.main_arg1) = m' ((c.tc : Thread Cert.PadRefIdeal.nD Cert.PadRefIdeal.τ).loc Cert.PadRefIdeal.main_arg1)
          ∧ r.2.mem ((c.tc : Thread Cert.PadRefIdeal.nD Cert.PadRefIdeal.τ).loc Cert.PadRefIdeal.main_arg2) = m' ((c.tc : Thread Cert.PadRefIdeal.nD Cert.PadRefIdeal.τ).loc Cert.PadRefIdeal.main_arg2)
          ∧ r.2.mem ((c.tc : Thread Cert.PadRefIdeal.nD Cert.PadRefIdeal.τ).loc Cert.PadRefIdeal.main_arg3) = m' ((c.tc : Thread Cert.PadRefIdeal.nD Cert.PadRefIdeal.τ).loc Cert.PadRefIdeal.main_arg3)
          ∧ r.2.mem ((c.tc : Thread Cert.PadRefIdeal.nD Cert.PadRefIdeal.τ).loc Cert.PadRefIdeal.main_arg4) = m' ((c.tc : Thread Cert.PadRefIdeal.nD Cert.PadRefIdeal.τ).loc Cert.PadRefIdeal.main_arg4))

def Claim : Prop :=
  ∃ (hKernel : Cert.Kernel.Facts) (hKernelIdeal : Cert.KernelIdeal.Facts) (hReferenceIdeal : Cert.ReferenceIdeal.Facts) (hToken : Cert.Token.Facts) (hTokenIdeal : Cert.TokenIdeal.Facts) (hTokenRefIdeal : Cert.TokenRefIdeal.Facts) (hPad : Cert.Pad.Facts) (hPadIdeal : Cert.PadIdeal.Facts) (hPadRefIdeal : Cert.PadRefIdeal.Facts) (hPre_finite : Cert.Pre_finite.Facts) (hPre_laid_out : Cert.Pre_laid_out.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Token (hToken := hToken)
    ∧ quiescent_TokenIdeal (hTokenIdeal := hTokenIdeal)
    ∧ quiescent_TokenIdeal_pre_laid_out (hTokenIdeal := hTokenIdeal) (hPre_laid_out := hPre_laid_out)
    ∧ quiescent_TokenRefIdeal (hTokenRefIdeal := hTokenRefIdeal)
    ∧ quiescent_TokenRefIdeal_pre_laid_out (hTokenRefIdeal := hTokenRefIdeal) (hPre_laid_out := hPre_laid_out)
    ∧ quiescent_Pad (hPad := hPad)
    ∧ quiescent_PadIdeal (hPadIdeal := hPadIdeal)
    ∧ quiescent_PadRefIdeal (hPadRefIdeal := hPadRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Token_TokenIdeal
    ∧ algebraic_TokenIdeal_TokenRefIdeal_pre_laid_out (hTokenIdeal := hTokenIdeal) (hTokenRefIdeal := hTokenRefIdeal) (hPre_laid_out := hPre_laid_out)
    ∧ preserves_Pad_PadIdeal
    ∧ algebraic_PadIdeal_PadRefIdeal (hPadIdeal := hPadIdeal) (hPadRefIdeal := hPadRefIdeal)
-- ==== Pre_finite.lean ====
abbrev S16x256x1024 : Shape := ⟨3, ![16, 256, 1024]⟩
abbrev S8x1x3072 : Shape := ⟨3, ![8, 1, 3072]⟩
abbrev S1024x4096 : Shape := ⟨2, ![1024, 4096]⟩
abbrev S1x256x768 : Shape := ⟨3, ![1, 256, 768]⟩
abbrev S1x256 : Shape := ⟨2, ![1, 256]⟩
abbrev S1x128 : Shape := ⟨2, ![1, 128]⟩
abbrev S1x128x1024 : Shape := ⟨3, ![1, 128, 1024]⟩
abbrev S1x512x1024 : Shape := ⟨3, ![1, 512, 1024]⟩
abbrev S1x1024x1024 : Shape := ⟨3, ![1, 1024, 1024]⟩
abbrev S1024 : Shape := ⟨1, ![1024]⟩
abbrev S_ : Shape := ⟨0, ![]⟩

class Facts : Prop where
  bcast_S_S16x256x1024 : S_.BroadcastsInDim S16x256x1024 (![] : Fin 0 → Fin S16x256x1024.rank)
  reducesTo_S16x256x1024_S_d0_1_2 : S16x256x1024.ReducesTo [0, 1, 2] S_
  h_S_ : 0 < S_.numel
  bitsLt_bf16_f32 : FTy.bits .bf16 < FTy.bits .f32
  bcast_S_S8x1x3072 : S_.BroadcastsInDim S8x1x3072 (![] : Fin 0 → Fin S8x1x3072.rank)
  reducesTo_S8x1x3072_S_d0_1_2 : S8x1x3072.ReducesTo [0, 1, 2] S_
  bcast_S_S1024x4096 : S_.BroadcastsInDim S1024x4096 (![] : Fin 0 → Fin S1024x4096.rank)
  reducesTo_S1024x4096_S_d0_1 : S1024x4096.ReducesTo [0, 1] S_
  bcast_S_S1x256x768 : S_.BroadcastsInDim S1x256x768 (![] : Fin 0 → Fin S1x256x768.rank)
  reducesTo_S1x256x768_S_d0_1_2 : S1x256x768.ReducesTo [0, 1, 2] S_
  bcast_S_S1x256 : S_.BroadcastsInDim S1x256 (![] : Fin 0 → Fin S1x256.rank)
  reducesTo_S1x256_S_d0_1 : S1x256.ReducesTo [0, 1] S_
  bcast_S_S1x128 : S_.BroadcastsInDim S1x128 (![] : Fin 0 → Fin S1x128.rank)
  reducesTo_S1x128_S_d0_1 : S1x128.ReducesTo [0, 1] S_
  bcast_S_S1x128x1024 : S_.BroadcastsInDim S1x128x1024 (![] : Fin 0 → Fin S1x128x1024.rank)
  reducesTo_S1x128x1024_S_d0_1_2 : S1x128x1024.ReducesTo [0, 1, 2] S_
  bcast_S_S1x512x1024 : S_.BroadcastsInDim S1x512x1024 (![] : Fin 0 → Fin S1x512x1024.rank)
  reducesTo_S1x512x1024_S_d0_1_2 : S1x512x1024.ReducesTo [0, 1, 2] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1024 : S_.BroadcastsInDim S1024 (![] : Fin 0 → Fin S1024.rank)
  reducesTo_S1024_S_d0 : S1024.ReducesTo [0] S_

variable [Facts]

def fn_part3 {F : FTy → Type} [FloatOps F] (main_v49 : IVec S_ 1) (main_v50 : FVec F S1024 .f32) (main_cst_18 : FVec F S_ .f32) : IVec S_ 1 :=
  let main_v51 : FVec F S1024 .f32 := broadcastInDim S1024 ![] bcast_S_S1024 main_cst_18
  let main_v52 : IVec S1024 1 := cmpf .olt main_v50 main_v51
  let main_c_19 : IVec S_ 1 := constantI S_ 1 1#1
  let main_v53 : IVec S_ 1 := (fun x v => Host.reduce IntOp.andi x v reducesTo_S1024_S_d0 h_S_) main_v52 main_c_19
  let main_v54 : IVec S_ 1 := andi main_v49 main_v53
  main_v54

def fn_part2 {F : FTy → Type} [FloatOps F] (main_arg7 : FVec F S1x512x1024 .f32) (main_arg8 : FVec F S1x512x1024 .f32) (main_arg9 : FVec F S1x1024x1024 .f32) (main_arg10 : FVec F S1024 .f32) (main_v29 : IVec S_ 1) (main_v33 : IVec S_ 1) : IVec S_ 1 :=
  let main_v34 : IVec S_ 1 := andi main_v29 main_v33
  let main_v35 : FVec F S1x512x1024 .f32 := Host.absf main_arg7
  let main_cst_12 : FVec F S_ .f32 := constant S_ .f32 0x7F800000#32
  let main_v36 : FVec F S1x512x1024 .f32 := broadcastInDim S1x512x1024 ![] bcast_S_S1x512x1024 main_cst_12
  let main_v37 : IVec S1x512x1024 1 := cmpf .olt main_v35 main_v36
  let main_c_13 : IVec S_ 1 := constantI S_ 1 1#1
  let main_v38 : IVec S_ 1 := (fun x v => Host.reduce IntOp.andi x v reducesTo_S1x512x1024_S_d0_1_2 h_S_) main_v37 main_c_13
  let main_v39 : IVec S_ 1 := andi main_v34 main_v38
  let main_v40 : FVec F S1x512x1024 .f32 := Host.absf main_arg8
  let main_cst_14 : FVec F S_ .f32 := constant S_ .f32 0x7F800000#32
  let main_v41 : FVec F S1x512x1024 .f32 := broadcastInDim S1x512x1024 ![] bcast_S_S1x512x1024 main_cst_14
  let main_v42 : IVec S1x512x1024 1 := cmpf .olt main_v40 main_v41
  let main_c_15 : IVec S_ 1 := constantI S_ 1 1#1
  let main_v43 : IVec S_ 1 := (fun x v => Host.reduce IntOp.andi x v reducesTo_S1x512x1024_S_d0_1_2 h_S_) main_v42 main_c_15
  let main_v44 : IVec S_ 1 := andi main_v39 main_v43
  let main_v45 : FVec F S1x1024x1024 .f32 := Host.absf main_arg9
  let main_cst_16 : FVec F S_ .f32 := constant S_ .f32 0x7F800000#32
  let main_v46 : FVec F S1x1024x1024 .f32 := broadcastInDim S1x1024x1024 ![] bcast_S_S1x1024x1024 main_cst_16
  let main_v47 : IVec S1x1024x1024 1 := cmpf .olt main_v45 main_v46
  let main_c_17 : IVec S_ 1 := constantI S_ 1 1#1
  let main_v48 : IVec S_ 1 := (fun x v => Host.reduce IntOp.andi x v reducesTo_S1x1024x1024_S_d0_1_2 h_S_) main_v47 main_c_17
  let main_v49 : IVec S_ 1 := andi main_v44 main_v48
  let main_v50 : FVec F S1024 .f32 := Host.absf main_arg10
  let main_cst_18 : FVec F S_ .f32 := constant S_ .f32 0x7F800000#32
  fn_part3 (F := F) main_v49 main_v50 main_cst_18

def fn_part1 {F : FTy → Type} [FloatOps F] (main_arg4 : FVec F S1x256 .f32) (main_arg5 : FVec F S1x128 .f32) (main_arg6 : FVec F S1x128x1024 .f32) (main_arg7 : FVec F S1x512x1024 .f32) (main_arg8 : FVec F S1x512x1024 .f32) (main_arg9 : FVec F S1x1024x1024 .f32) (main_arg10 : FVec F S1024 .f32) (main_v14 : IVec S_ 1) (main_v15 : FVec F S1x256x768 .f32) (main_v16 : FVec F S1x256x768 .f32) : IVec S_ 1 :=
  let main_v17 : IVec S1x256x768 1 := cmpf .olt main_v15 main_v16
  let main_c_5 : IVec S_ 1 := constantI S_ 1 1#1
  let main_v18 : IVec S_ 1 := (fun x v => Host.reduce IntOp.andi x v reducesTo_S1x256x768_S_d0_1_2 h_S_) main_v17 main_c_5
  let main_v19 : IVec S_ 1 := andi main_v14 main_v18
  let main_v20 : FVec F S1x256 .f32 := Host.absf main_arg4
  let main_cst_6 : FVec F S_ .f32 := constant S_ .f32 0x7F800000#32
  let main_v21 : FVec F S1x256 .f32 := broadcastInDim S1x256 ![] bcast_S_S1x256 main_cst_6
  let main_v22 : IVec S1x256 1 := cmpf .olt main_v20 main_v21
  let main_c_7 : IVec S_ 1 := constantI S_ 1 1#1
  let main_v23 : IVec S_ 1 := (fun x v => Host.reduce IntOp.andi x v reducesTo_S1x256_S_d0_1 h_S_) main_v22 main_c_7
  let main_v24 : IVec S_ 1 := andi main_v19 main_v23
  let main_v25 : FVec F S1x128 .f32 := Host.absf main_arg5
  let main_cst_8 : FVec F S_ .f32 := constant S_ .f32 0x7F800000#32
  let main_v26 : FVec F S1x128 .f32 := broadcastInDim S1x128 ![] bcast_S_S1x128 main_cst_8
  let main_v27 : IVec S1x128 1 := cmpf .olt main_v25 main_v26
  let main_c_9 : IVec S_ 1 := constantI S_ 1 1#1
  let main_v28 : IVec S_ 1 := (fun x v => Host.reduce IntOp.andi x v reducesTo_S1x128_S_d0_1 h_S_) main_v27 main_c_9
  let main_v29 : IVec S_ 1 := andi main_v24 main_v28
  let main_v30 : FVec F S1x128x1024 .f32 := Host.absf main_arg6
  let main_cst_10 : FVec F S_ .f32 := constant S_ .f32 0x7F800000#32
  let main_v31 : FVec F S1x128x1024 .f32 := broadcastInDim S1x128x1024 ![] bcast_S_S1x128x1024 main_cst_10
  let main_v32 : IVec S1x128x1024 1 := cmpf .olt main_v30 main_v31
  let main_c_11 : IVec S_ 1 := constantI S_ 1 1#1
  let main_v33 : IVec S_ 1 := (fun x v => Host.reduce IntOp.andi x v reducesTo_S1x128x1024_S_d0_1_2 h_S_) main_v32 main_c_11
  fn_part2 (F := F) main_arg7 main_arg8 main_arg9 main_arg10 main_v29 main_v33

def fn {F : FTy → Type} [FloatOps F] (main_arg0 : FVec F S16x256x1024 .f32) (main_arg1 : FVec F S8x1x3072 .f32) (main_arg2 : FVec F S1024x4096 .bf16) (main_arg3 : FVec F S1x256x768 .f32) (main_arg4 : FVec F S1x256 .f32) (main_arg5 : FVec F S1x128 .f32) (main_arg6 : FVec F S1x128x1024 .f32) (main_arg7 : FVec F S1x512x1024 .f32) (main_arg8 : FVec F S1x512x1024 .f32) (main_arg9 : FVec F S1x1024x1024 .f32) (main_arg10 : FVec F S1024 .f32) : IVec S_ 1 :=
  let main_v0 : FVec F S16x256x1024 .f32 := Host.absf main_arg0
  let main_cst : FVec F S_ .f32 := constant S_ .f32 0x7F800000#32
  let main_v1 : FVec F S16x256x1024 .f32 := broadcastInDim S16x256x1024 ![] bcast_S_S16x256x1024 main_cst
  let main_v2 : IVec S16x256x1024 1 := cmpf .olt main_v0 main_v1
  let main_c : IVec S_ 1 := constantI S_ 1 1#1
  let main_v3 : IVec S_ 1 := (fun x v => Host.reduce IntOp.andi x v reducesTo_S16x256x1024_S_d0_1_2 h_S_) main_v2 main_c
  let main_v4 : FVec F S1024x4096 .f32 := (extf .f32 · bitsLt_bf16_f32) main_arg2
  let main_v5 : FVec F S8x1x3072 .f32 := Host.absf main_arg1
  let main_cst_0 : FVec F S_ .f32 := constant S_ .f32 0x7F800000#32
  let main_v6 : FVec F S8x1x3072 .f32 := broadcastInDim S8x1x3072 ![] bcast_S_S8x1x3072 main_cst_0
  let main_v7 : IVec S8x1x3072 1 := cmpf .olt main_v5 main_v6
  let main_c_1 : IVec S_ 1 := constantI S_ 1 1#1
  let main_v8 : IVec S_ 1 := (fun x v => Host.reduce IntOp.andi x v reducesTo_S8x1x3072_S_d0_1_2 h_S_) main_v7 main_c_1
  let main_v9 : IVec S_ 1 := andi main_v3 main_v8
  let main_v10 : FVec F S1024x4096 .f32 := Host.absf main_v4
  let main_cst_2 : FVec F S_ .f32 := constant S_ .f32 0x7F800000#32
  let main_v11 : FVec F S1024x4096 .f32 := broadcastInDim S1024x4096 ![] bcast_S_S1024x4096 main_cst_2
  let main_v12 : IVec S1024x4096 1 := cmpf .olt main_v10 main_v11
  let main_c_3 : IVec S_ 1 := constantI S_ 1 1#1
  let main_v13 : IVec S_ 1 := (fun x v => Host.reduce IntOp.andi x v reducesTo_S1024x4096_S_d0_1 h_S_) main_v12 main_c_3
  let main_v14 : IVec S_ 1 := andi main_v9 main_v13
  let main_v15 : FVec F S1x256x768 .f32 := Host.absf main_arg3
  let main_cst_4 : FVec F S_ .f32 := constant S_ .f32 0x7F800000#32
  let main_v16 : FVec F S1x256x768 .f32 := broadcastInDim S1x256x768 ![] bcast_S_S1x256x768 main_cst_4
  fn_part1 (F := F) main_arg4 main_arg5 main_arg6 main_arg7 main_arg8 main_arg9 main_arg10 main_v14 main_v15 main_v16
-- ==== Pre_laid_out.lean ====
abbrev S4x2048x1024 : Shape := ⟨3, ![4, 2048, 1024]⟩
abbrev S8x1x3072 : Shape := ⟨3, ![8, 1, 3072]⟩
abbrev S1024x4096 : Shape := ⟨2, ![1024, 4096]⟩
abbrev S1x256x768 : Shape := ⟨3, ![1, 256, 768]⟩
abbrev S1x256 : Shape := ⟨2, ![1, 256]⟩
abbrev S1x128 : Shape := ⟨2, ![1, 128]⟩
abbrev S1024x32 : Shape := ⟨2, ![1024, 32]⟩
abbrev S1024x8 : Shape := ⟨2, ![1024, 8]⟩
abbrev S_ : Shape := ⟨0, ![]⟩

class Facts : Prop where
  bitsLt_bf16_f32 : FTy.bits .bf16 < FTy.bits .f32
  slices_S1024x4096_S1024x32_0_1408 : S1024x4096.Slices ![0, 1408] S1024x32
  slices_S1024x4096_S1024x32_0_1472 : S1024x4096.Slices ![0, 1472] S1024x32
  slices_S1024x32_S1024x8_0_8 : S1024x32.Slices ![0, 8] S1024x8
  slices_S1024x32_S1024x8_0_0 : S1024x32.Slices ![0, 0] S1024x8
  slices_S1024x32_S1024x8_0_24 : S1024x32.Slices ![0, 24] S1024x8
  slices_S1024x32_S1024x8_0_16 : S1024x32.Slices ![0, 16] S1024x8
  concatenates_S1024x8_S1024x8_S1024x8_S1024x8_S1024x32_d1 : Shape.Concatenates [S1024x8, S1024x8, S1024x8, S1024x8] S1024x32 1
  reducesTo_S1024x32_S_d0_1 : S1024x32.ReducesTo [0, 1] S_
  h_S_ : 0 < S_.numel
  bcast_S_S4x2048x1024 : S_.BroadcastsInDim S4x2048x1024 (![] : Fin 0 → Fin S4x2048x1024.rank)
  reducesTo_S4x2048x1024_S_d0_1_2 : S4x2048x1024.ReducesTo [0, 1, 2] S_
  bcast_S_S8x1x3072 : S_.BroadcastsInDim S8x1x3072 (![] : Fin 0 → Fin S8x1x3072.rank)
  reducesTo_S8x1x3072_S_d0_1_2 : S8x1x3072.ReducesTo [0, 1, 2] S_
  bcast_S_S1024x4096 : S_.BroadcastsInDim S1024x4096 (![] : Fin 0 → Fin S1024x4096.rank)
  reducesTo_S1024x4096_S_d0_1 : S1024x4096.ReducesTo [0, 1] S_
  bcast_S_S1x256x768 : S_.BroadcastsInDim S1x256x768 (![] : Fin 0 → Fin S1x256x768.rank)
  reducesTo_S1x256x768_S_d0_1_2 : S1x256x768.ReducesTo [0, 1, 2] S_
  bcast_S_S1x256 : S_.BroadcastsInDim S1x256 (![] : Fin 0 → Fin S1x256.rank)
  reducesTo_S1x256_S_d0_1 : S1x256.ReducesTo [0, 1] S_
  bcast_S_S1x128 : S_.BroadcastsInDim S1x128 (![] : Fin 0 → Fin S1x128.rank)
  reducesTo_S1x128_S_d0_1 : S1x128.ReducesTo [0, 1] S_

variable [Facts]

def fn_part2 {F : FTy → Type} [FloatOps F] (main_arg5 : FVec F S1x128 .f32) (main_v36 : IVec S_ 1) : IVec S_ 1 :=
  let main_v37 : FVec F S1x128 .f32 := Host.absf main_arg5
  let main_cst_9 : FVec F S_ .f32 := constant S_ .f32 0x7F800000#32
  let main_v38 : FVec F S1x128 .f32 := broadcastInDim S1x128 ![] bcast_S_S1x128 main_cst_9
  let main_v39 : IVec S1x128 1 := cmpf .olt main_v37 main_v38
  let main_c_10 : IVec S_ 1 := constantI S_ 1 1#1
  let main_v40 : IVec S_ 1 := (fun x v => Host.reduce IntOp.andi x v reducesTo_S1x128_S_d0_1 h_S_) main_v39 main_c_10
  let main_v41 : IVec S_ 1 := andi main_v36 main_v40
  main_v41

def fn_part1 {F : FTy → Type} [FloatOps F] (main_arg3 : FVec F S1x256x768 .f32) (main_arg4 : FVec F S1x256 .f32) (main_arg5 : FVec F S1x128 .f32) (main_v0 : FVec F S1024x4096 .f32) (main_v16 : IVec S_ 1) (main_v19 : IVec S8x1x3072 1) : IVec S_ 1 :=
  let main_c_2 : IVec S_ 1 := constantI S_ 1 1#1
  let main_v20 : IVec S_ 1 := (fun x v => Host.reduce IntOp.andi x v reducesTo_S8x1x3072_S_d0_1_2 h_S_) main_v19 main_c_2
  let main_v21 : IVec S_ 1 := andi main_v16 main_v20
  let main_v22 : FVec F S1024x4096 .f32 := Host.absf main_v0
  let main_cst_3 : FVec F S_ .f32 := constant S_ .f32 0x7F800000#32
  let main_v23 : FVec F S1024x4096 .f32 := broadcastInDim S1024x4096 ![] bcast_S_S1024x4096 main_cst_3
  let main_v24 : IVec S1024x4096 1 := cmpf .olt main_v22 main_v23
  let main_c_4 : IVec S_ 1 := constantI S_ 1 1#1
  let main_v25 : IVec S_ 1 := (fun x v => Host.reduce IntOp.andi x v reducesTo_S1024x4096_S_d0_1 h_S_) main_v24 main_c_4
  let main_v26 : IVec S_ 1 := andi main_v21 main_v25
  let main_v27 : FVec F S1x256x768 .f32 := Host.absf main_arg3
  let main_cst_5 : FVec F S_ .f32 := constant S_ .f32 0x7F800000#32
  let main_v28 : FVec F S1x256x768 .f32 := broadcastInDim S1x256x768 ![] bcast_S_S1x256x768 main_cst_5
  let main_v29 : IVec S1x256x768 1 := cmpf .olt main_v27 main_v28
  let main_c_6 : IVec S_ 1 := constantI S_ 1 1#1
  let main_v30 : IVec S_ 1 := (fun x v => Host.reduce IntOp.andi x v reducesTo_S1x256x768_S_d0_1_2 h_S_) main_v29 main_c_6
  let main_v31 : IVec S_ 1 := andi main_v26 main_v30
  let main_v32 : FVec F S1x256 .f32 := Host.absf main_arg4
  let main_cst_7 : FVec F S_ .f32 := constant S_ .f32 0x7F800000#32
  let main_v33 : FVec F S1x256 .f32 := broadcastInDim S1x256 ![] bcast_S_S1x256 main_cst_7
  let main_v34 : IVec S1x256 1 := cmpf .olt main_v32 main_v33
  let main_c_8 : IVec S_ 1 := constantI S_ 1 1#1
  let main_v35 : IVec S_ 1 := (fun x v => Host.reduce IntOp.andi x v reducesTo_S1x256_S_d0_1 h_S_) main_v34 main_c_8
  let main_v36 : IVec S_ 1 := andi main_v31 main_v35
  fn_part2 (F := F) main_arg5 main_v36

def fn {F : FTy → Type} [FloatOps F] (main_arg0 : FVec F S4x2048x1024 .f32) (main_arg1 : FVec F S8x1x3072 .f32) (main_arg2 : FVec F S1024x4096 .bf16) (main_arg3 : FVec F S1x256x768 .f32) (main_arg4 : FVec F S1x256 .f32) (main_arg5 : FVec F S1x128 .f32) : IVec S_ 1 :=
  let main_v0 : FVec F S1024x4096 .f32 := (extf .f32 · bitsLt_bf16_f32) main_arg2
  let main_v1 : FVec F S1024x32 .f32 := (extractStridedSlice S1024x32 ![0, 1408] · slices_S1024x4096_S1024x32_0_1408) main_v0
  let main_v2 : FVec F S1024x32 .f32 := (extractStridedSlice S1024x32 ![0, 1472] · slices_S1024x4096_S1024x32_0_1472) main_v0
  let main_v3 : FVec F S1024x8 .f32 := (extractStridedSlice S1024x8 ![0, 8] · slices_S1024x32_S1024x8_0_8) main_v1
  let main_v4 : FVec F S1024x8 .f32 := Host.negf main_v3
  let main_v5 : FVec F S1024x8 .f32 := (extractStridedSlice S1024x8 ![0, 0] · slices_S1024x32_S1024x8_0_0) main_v1
  let main_v6 : FVec F S1024x8 .f32 := (extractStridedSlice S1024x8 ![0, 24] · slices_S1024x32_S1024x8_0_24) main_v1
  let main_v7 : FVec F S1024x8 .f32 := Host.negf main_v6
  let main_v8 : FVec F S1024x8 .f32 := (extractStridedSlice S1024x8 ![0, 16] · slices_S1024x32_S1024x8_0_16) main_v1
  let main_v9 : FVec F S1024x32 .f32 := concatenate S1024x32 1 [⟨S1024x8, main_v4⟩, ⟨S1024x8, main_v5⟩, ⟨S1024x8, main_v7⟩, ⟨S1024x8, main_v8⟩] concatenates_S1024x8_S1024x8_S1024x8_S1024x8_S1024x32_d1
  let main_v10 : IVec S1024x32 1 := cmpf .oeq main_v2 main_v9
  let main_c : IVec S_ 1 := constantI S_ 1 1#1
  let main_v11 : IVec S_ 1 := (fun x v => Host.reduce IntOp.andi x v reducesTo_S1024x32_S_d0_1 h_S_) main_v10 main_c
  let main_v12 : FVec F S4x2048x1024 .f32 := Host.absf main_arg0
  let main_cst : FVec F S_ .f32 := constant S_ .f32 0x7F800000#32
  let main_v13 : FVec F S4x2048x1024 .f32 := broadcastInDim S4x2048x1024 ![] bcast_S_S4x2048x1024 main_cst
  let main_v14 : IVec S4x2048x1024 1 := cmpf .olt main_v12 main_v13
  let main_c_0 : IVec S_ 1 := constantI S_ 1 1#1
  let main_v15 : IVec S_ 1 := (fun x v => Host.reduce IntOp.andi x v reducesTo_S4x2048x1024_S_d0_1_2 h_S_) main_v14 main_c_0
  let main_v16 : IVec S_ 1 := andi main_v11 main_v15
  let main_v17 : FVec F S8x1x3072 .f32 := Host.absf main_arg1
  let main_cst_1 : FVec F S_ .f32 := constant S_ .f32 0x7F800000#32
  let main_v18 : FVec F S8x1x3072 .f32 := broadcastInDim S8x1x3072 ![] bcast_S_S8x1x3072 main_cst_1
  let main_v19 : IVec S8x1x3072 1 := cmpf .olt main_v17 main_v18
  fn_part1 (F := F) main_arg3 main_arg4 main_arg5 main_v0 main_v16 main_v19
-- ==== Kernel.lean ====
abbrev S16x256x1024 : Shape := ⟨3, ![16, 256, 1024]⟩
abbrev S8x1x3072 : Shape := ⟨3, ![8, 1, 3072]⟩
abbrev S1024x4096 : Shape := ⟨2, ![1024, 4096]⟩
abbrev S1x256x768 : Shape := ⟨3, ![1, 256, 768]⟩
abbrev S1x256 : Shape := ⟨2, ![1, 256]⟩
abbrev S1x128 : Shape := ⟨2, ![1, 128]⟩
abbrev S1x128x1024 : Shape := ⟨3, ![1, 128, 1024]⟩
abbrev S1x512x1024 : Shape := ⟨3, ![1, 512, 1024]⟩
abbrev S1x1024x1024 : Shape := ⟨3, ![1, 1024, 1024]⟩
abbrev S1024 : Shape := ⟨1, ![1024]⟩
abbrev S256x768 : Shape := ⟨2, ![256, 768]⟩
abbrev S128x1024 : Shape := ⟨2, ![128, 1024]⟩
abbrev S256x8x96 : Shape := ⟨3, ![256, 8, 96]⟩
abbrev S_ : Shape := ⟨0, ![]⟩
abbrev S256x8x128 : Shape := ⟨3, ![256, 8, 128]⟩
abbrev S256x1024 : Shape := ⟨2, ![256, 1024]⟩
abbrev S128x8x128 : Shape := ⟨3, ![128, 8, 128]⟩
abbrev S128x8x64 : Shape := ⟨3, ![128, 8, 64]⟩
abbrev S32x32 : Shape := ⟨2, ![32, 32]⟩
abbrev S32x128 : Shape := ⟨2, ![32, 128]⟩
abbrev S32x1x128 : Shape := ⟨3, ![32, 1, 128]⟩
abbrev S32x8x128 : Shape := ⟨3, ![32, 8, 128]⟩
abbrev S96x8x128 : Shape := ⟨3, ![96, 8, 128]⟩
abbrev S8x64x128 : Shape := ⟨3, ![8, 64, 128]⟩
abbrev S8x80x256 : Shape := ⟨3, ![8, 80, 256]⟩
abbrev S1 : Shape := ⟨1, ![1]⟩
abbrev S2 : Shape := ⟨1, ![2]⟩
abbrev S8 : Shape := ⟨1, ![8]⟩
abbrev S640x256 : Shape := ⟨2, ![640, 256]⟩
abbrev S512x1024 : Shape := ⟨2, ![512, 1024]⟩
abbrev S1024x1024 : Shape := ⟨2, ![1024, 1024]⟩
abbrev S256 : Shape := ⟨1, ![256]⟩
abbrev S128 : Shape := ⟨1, ![128]⟩
abbrev S1x1024 : Shape := ⟨2, ![1, 1024]⟩
abbrev S128x128 : Shape := ⟨2, ![128, 128]⟩
abbrev S128x256 : Shape := ⟨2, ![128, 256]⟩
abbrev S128x512 : Shape := ⟨2, ![128, 512]⟩
abbrev S256x512 : Shape := ⟨2, ![256, 512]⟩
abbrev S256x128 : Shape := ⟨2, ![256, 128]⟩
abbrev S256x256 : Shape := ⟨2, ![256, 256]⟩
abbrev S16x256x128 : Shape := ⟨3, ![16, 256, 128]⟩
abbrev S16x32x256 : Shape := ⟨3, ![16, 32, 256]⟩
abbrev S2x256x1024 : Shape := ⟨3, ![2, 256, 1024]⟩
abbrev S1x1x3072 : Shape := ⟨3, ![1, 1, 3072]⟩
abbrev S2x256x128 : Shape := ⟨3, ![2, 256, 128]⟩
abbrev S2x32x256 : Shape := ⟨3, ![2, 32, 256]⟩
abbrev S1x3072 : Shape := ⟨2, ![1, 3072]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S512x256 : Shape := ⟨2, ![512, 256]⟩
abbrev S512x128 : Shape := ⟨2, ![512, 128]⟩
abbrev S1x256x128 : Shape := ⟨3, ![1, 256, 128]⟩
abbrev S32x256 : Shape := ⟨2, ![32, 256]⟩
abbrev S1x32x256 : Shape := ⟨3, ![1, 32, 256]⟩
abbrev S80x256 : Shape := ⟨2, ![80, 256]⟩
abbrev S64x256 : Shape := ⟨2, ![64, 256]⟩
abbrev S1x512 : Shape := ⟨2, ![1, 512]⟩

abbrev nBuf : Space → Nat
  | .hbm => 136
  | .vmem => 22
  | .smem => 0
  | _ => 0

abbrev hbmTy0_0 (i : Nat) : BufTy := match i % 128 with
  | 0 => ⟨S16x256x1024, .f32⟩
  | 1 => ⟨S8x1x3072, .f32⟩
  | 2 => ⟨S1024x4096, .bf16⟩
  | 3 => ⟨S1x256x768, .f32⟩
  | 4 => ⟨S1x256, .f32⟩
  | 5 => ⟨S1x128, .f32⟩
  | 6 => ⟨S1x128x1024, .f32⟩
  | 7 => ⟨S1x512x1024, .f32⟩
  | 8 => ⟨S1x512x1024, .f32⟩
  | 9 => ⟨S1x1024x1024, .f32⟩
  | 10 => ⟨S1024, .f32⟩
  | 11 => ⟨S256x768, .f32⟩
  | 12 => ⟨S128x1024, .f32⟩
  | 13 => ⟨S256x8x96, .f32⟩
  | 14 => ⟨S_, .i32⟩
  | 15 => ⟨S_, .f32⟩
  | 16 => ⟨S256x8x128, .f32⟩
  | 17 => ⟨S256x1024, .f32⟩
  | 18 => ⟨S128x8x128, .f32⟩
  | 19 => ⟨S128x8x64, .f32⟩
  | 20 => ⟨S_, .i32⟩
  | 21 => ⟨S_, .f32⟩
  | 22 => ⟨S128x8x128, .f32⟩
  | 23 => ⟨S32x32, .i32⟩
  | 24 => ⟨S32x32, .i32⟩
  | 25 => ⟨S_, .i32⟩
  | 26 => ⟨S32x32, .i32⟩
  | 27 => ⟨S32x32, .i32⟩
  | 28 => ⟨S32x32, .i1⟩
  | 29 => ⟨S32x32, .f32⟩
  | 30 => ⟨S_, .i32⟩
  | 31 => ⟨S_, .f32⟩
  | 32 => ⟨S32x128, .f32⟩
  | 33 => ⟨S32x1x128, .f32⟩
  | 34 => ⟨S32x8x128, .f32⟩
  | 35 => ⟨S_, .f32⟩
  | 36 => ⟨S96x8x128, .f32⟩
  | 37 => ⟨S256x8x128, .f32⟩
  | 38 => ⟨S256x1024, .f32⟩
  | 39 => ⟨S128x8x64, .f32⟩
  | 40 => ⟨S8x64x128, .f32⟩
  | 41 => ⟨S_, .i32⟩
  | 42 => ⟨S_, .f32⟩
  | 43 => ⟨S8x80x256, .f32⟩
  | 44 => ⟨S_, .i32⟩
  | 45 => ⟨S1, .i32⟩
  | 46 => ⟨S_, .i32⟩
  | 47 => ⟨S1, .i32⟩
  | 48 => ⟨S2, .i32⟩
  | 49 => ⟨S_, .f32⟩
  | 50 => ⟨S8, .f32⟩
  | 51 => ⟨S8x80x256, .f32⟩
  | 52 => ⟨S640x256, .f32⟩
  | 53 => ⟨S256x1024, .bf16⟩
  | 54 => ⟨S256x1024, .bf16⟩
  | 55 => ⟨S640x256, .bf16⟩
  | 56 => ⟨S512x1024, .f32⟩
  | 57 => ⟨S512x1024, .bf16⟩
  | 58 => ⟨S512x1024, .f32⟩
  | 59 => ⟨S512x1024, .bf16⟩
  | 60 => ⟨S1024x1024, .f32⟩
  | 61 => ⟨S1024x1024, .bf16⟩
  | 62 => ⟨S256, .f32⟩
  | 63 => ⟨S1x256, .f32⟩
  | 64 => ⟨S128, .f32⟩
  | 65 => ⟨S1x128, .f32⟩
  | 66 => ⟨S1x1024, .f32⟩
  | 67 => ⟨S128x128, .i32⟩
  | 68 => ⟨S128x128, .i32⟩
  | 69 => ⟨S128x128, .i32⟩
  | 70 => ⟨S_, .i32⟩
  | 71 => ⟨S128x128, .i32⟩
  | 72 => ⟨S128x128, .i32⟩
  | 73 => ⟨S128x128, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S128x128, .f32⟩
  | 82 => ⟨S128x128, .f32⟩
  | 83 => ⟨S128x128, .f32⟩
  | 84 => ⟨S128x128, .f32⟩
  | 85 => ⟨S128x256, .f32⟩
  | 86 => ⟨S_, .f32⟩
  | 87 => ⟨S_, .f32⟩
  | 88 => ⟨S_, .f32⟩
  | 89 => ⟨S128x256, .f32⟩
  | 90 => ⟨S128x256, .f32⟩
  | 91 => ⟨S_, .f32⟩
  | 92 => ⟨S128x256, .f32⟩
  | 93 => ⟨S128x512, .f32⟩
  | 94 => ⟨S128x512, .f32⟩
  | 95 => ⟨S256x512, .f32⟩
  | 96 => ⟨S256x512, .bf16⟩
  | 97 => ⟨S256x128, .i32⟩
  | 98 => ⟨S256x128, .i32⟩
  | 99 => ⟨S256x128, .i32⟩
  | 100 => ⟨S_, .i32⟩
  | 101 => ⟨S256x128, .i32⟩
  | 102 => ⟨S256x128, .i32⟩
  | 103 => ⟨S256x128, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S256x128, .f32⟩
  | 112 => ⟨S256x128, .f32⟩
  | 113 => ⟨S256x128, .f32⟩
  | 114 => ⟨S256x128, .f32⟩
  | 115 => ⟨S256x128, .f32⟩
  | 116 => ⟨S256x256, .f32⟩
  | 117 => ⟨S_, .f32⟩
  | 118 => ⟨S256x256, .f32⟩
  | 119 => ⟨S256x256, .f32⟩
  | 120 => ⟨S256x256, .bf16⟩
  | 121 => ⟨S128x128, .i32⟩
  | 122 => ⟨S128x128, .i32⟩
  | 123 => ⟨S128x128, .i32⟩
  | 124 => ⟨S_, .i32⟩
  | 125 => ⟨S128x128, .i32⟩
  | 126 => ⟨S128x128, .i1⟩
  | 127 => ⟨S_, .f32⟩
  | _ => ⟨S16x256x1024, .f32⟩

abbrev hbmTy0_1 (i : Nat) : BufTy := match i % 128 with
  | 0 => ⟨S_, .f32⟩
  | 1 => ⟨S128x128, .f32⟩
  | 2 => ⟨S128x128, .f32⟩
  | 3 => ⟨S128x128, .f32⟩
  | 4 => ⟨S128x128, .bf16⟩
  | 5 => ⟨S16x256x1024, .f32⟩
  | 6 => ⟨S16x256x128, .f32⟩
  | 7 => ⟨S16x32x256, .f32⟩
  | _ => ⟨S16x256x1024, .f32⟩

abbrev hbmTy (i : Nat) : BufTy := match i / 128 with
  | 0 => hbmTy0_0 i
  | 1 => hbmTy0_1 i
  | _ => ⟨S16x256x1024, .f32⟩

abbrev bufTy : (tb : Table) → Fin (tcTables nBuf tb) → BufTy
  | .hbm, ⟨i, _⟩ => hbmTy i
  | .local _ .vmem, ⟨0, _⟩ => ⟨S2x256x1024, .f32⟩
  | .local _ .vmem, ⟨1, _⟩ => ⟨S2x256x1024, .f32⟩
  | .local _ .vmem, ⟨2, _⟩ => ⟨S1x1x3072, .f32⟩
  | .local _ .vmem, ⟨3, _⟩ => ⟨S1024x4096, .bf16⟩
  | .local _ .vmem, ⟨4, _⟩ => ⟨S1x256, .f32⟩
  | .local _ .vmem, ⟨5, _⟩ => ⟨S1x128, .f32⟩
  | .local _ .vmem, ⟨6, _⟩ => ⟨S256x512, .bf16⟩
  | .local _ .vmem, ⟨7, _⟩ => ⟨S256x1024, .bf16⟩
  | .local _ .vmem, ⟨8, _⟩ => ⟨S256x256, .bf16⟩
  | .local _ .vmem, ⟨9, _⟩ => ⟨S128x128, .bf16⟩
  | .local _ .vmem, ⟨10, _⟩ => ⟨S256x1024, .bf16⟩
  | .local _ .vmem, ⟨11, _⟩ => ⟨S640x256, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S2x256x1024, .f32⟩
  | .local _ .vmem, ⟨17, _⟩ => ⟨S2x256x1024, .f32⟩
  | .local _ .vmem, ⟨18, _⟩ => ⟨S2x256x128, .f32⟩
  | .local _ .vmem, ⟨19, _⟩ => ⟨S2x256x128, .f32⟩
  | .local _ .vmem, ⟨20, _⟩ => ⟨S2x32x256, .f32⟩
  | .local _ .vmem, ⟨21, _⟩ => ⟨S2x32x256, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_call0_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_call1_v0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_call2_v0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_3 : Ref sig .tc := ⟨.hbm, 41, rfl⟩
abbrev main_call3_v0 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_cst_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_7 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_8 : Ref sig .tc := ⟨.hbm, 74, rfl⟩
abbrev main_v49 : Ref sig .tc := ⟨.hbm, 75, rfl⟩
abbrev main_cst_9 : Ref sig .tc := ⟨.hbm, 76, rfl⟩
abbrev main_v50 : Ref sig .tc := ⟨.hbm, 77, rfl⟩
abbrev main_cst_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_12 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_13 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_14 : Ref sig .tc := ⟨.hbm, 104, rfl⟩
abbrev main_v73 : Ref sig .tc := ⟨.hbm, 105, rfl⟩
abbrev main_cst_15 : Ref sig .tc := ⟨.hbm, 106, rfl⟩
abbrev main_v74 : Ref sig .tc := ⟨.hbm, 107, rfl⟩
abbrev main_cst_16 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_17 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_c_18 : Ref sig .tc := ⟨.hbm, 124, rfl⟩
abbrev main_v89 : Ref sig .tc := ⟨.hbm, 125, rfl⟩
abbrev main_v90 : Ref sig .tc := ⟨.hbm, 126, rfl⟩
abbrev main_cst_19 : Ref sig .tc := ⟨.hbm, 127, rfl⟩
abbrev main_cst_20 : Ref sig .tc := ⟨.hbm, 128, rfl⟩
abbrev main_call4_v0 : Ref sig .tc := ⟨.hbm, 129, rfl⟩
abbrev main_call4_v1 : Ref sig .tc := ⟨.hbm, 130, rfl⟩
abbrev main_v91 : Ref sig .tc := ⟨.hbm, 131, rfl⟩
abbrev main_v92 : Ref sig .tc := ⟨.hbm, 132, rfl⟩
abbrev main_v93_0 : Ref sig .tc := ⟨.hbm, 133, rfl⟩
abbrev main_v93_1 : Ref sig .tc := ⟨.hbm, 134, rfl⟩
abbrev main_v93_2 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17
abbrev cc0_sem16_0 : DmaSem sig := 18
abbrev cc0_sem16_1 : DmaSem sig := 19
abbrev cc0_sem17_0 : DmaSem sig := 20
abbrev cc0_sem17_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S640x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S2x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x32x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== KernelIdeal.lean ====
variable {F : FTy → Type} [FloatOps F] [Named F]
def κ : String → Option EReal := fun
  | "qs" => some (((Real.sqrt 96)⁻¹ * (Real.log 2)⁻¹ : ℝ) : EReal)
  | _ => none
-- ==== ReferenceIdeal.lean ====
abbrev S16x256x1024 : Shape := ⟨3, ![16, 256, 1024]⟩
abbrev S8x1x3072 : Shape := ⟨3, ![8, 1, 3072]⟩
abbrev S1024x4096 : Shape := ⟨2, ![1024, 4096]⟩
abbrev S1x256x768 : Shape := ⟨3, ![1, 256, 768]⟩
abbrev S1x256 : Shape := ⟨2, ![1, 256]⟩
abbrev S1x128 : Shape := ⟨2, ![1, 128]⟩
abbrev S1x128x1024 : Shape := ⟨3, ![1, 128, 1024]⟩
abbrev S1x512x1024 : Shape := ⟨3, ![1, 512, 1024]⟩
abbrev S1x1024x1024 : Shape := ⟨3, ![1, 1024, 1024]⟩
abbrev S1024 : Shape := ⟨1, ![1024]⟩
abbrev S1x1x3072 : Shape := ⟨3, ![1, 1, 3072]⟩
abbrev S3072 : Shape := ⟨1, ![3072]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S16x256x4096 : Shape := ⟨3, ![16, 256, 4096]⟩
abbrev S16x256x512 : Shape := ⟨3, ![16, 256, 512]⟩
abbrev S16x256x256 : Shape := ⟨3, ![16, 256, 256]⟩
abbrev S16x256x128 : Shape := ⟨3, ![16, 256, 128]⟩
abbrev S16x256x32 : Shape := ⟨3, ![16, 256, 32]⟩
abbrev S256 : Shape := ⟨1, ![256]⟩
abbrev S1x1x256 : Shape := ⟨3, ![1, 1, 256]⟩
abbrev S256x768 : Shape := ⟨2, ![256, 768]⟩
abbrev S16x256x768 : Shape := ⟨3, ![16, 256, 768]⟩
abbrev S16x256x8x96 : Shape := ⟨4, ![16, 256, 8, 96]⟩
abbrev S16x256x8x64 : Shape := ⟨4, ![16, 256, 8, 64]⟩
abbrev S16x256x8x32 : Shape := ⟨4, ![16, 256, 8, 32]⟩
abbrev S128 : Shape := ⟨1, ![128]⟩
abbrev S1x1x128 : Shape := ⟨3, ![1, 1, 128]⟩
abbrev S128x1024 : Shape := ⟨2, ![128, 1024]⟩
abbrev S16x256x8x128 : Shape := ⟨4, ![16, 256, 8, 128]⟩
abbrev S16x8x256x256 : Shape := ⟨4, ![16, 8, 256, 256]⟩
abbrev S16x256x256x8 : Shape := ⟨4, ![16, 256, 256, 8]⟩
abbrev S16x8x256 : Shape := ⟨3, ![16, 8, 256]⟩
abbrev S16x8x256x1 : Shape := ⟨4, ![16, 8, 256, 1]⟩
abbrev S16x8x64x256 : Shape := ⟨4, ![16, 8, 64, 256]⟩
abbrev S128x128 : Shape := ⟨2, ![128, 128]⟩
abbrev S256x256 : Shape := ⟨2, ![256, 256]⟩
abbrev S16x256x4x128 : Shape := ⟨4, ![16, 256, 4, 128]⟩
abbrev S16x4x128x256 : Shape := ⟨4, ![16, 4, 128, 256]⟩
abbrev S512x1024 : Shape := ⟨2, ![512, 1024]⟩
abbrev S1024x1024 : Shape := ⟨2, ![1024, 1024]⟩
abbrev S16x32x256 : Shape := ⟨3, ![16, 32, 256]⟩

abbrev nBuf : Space → Nat
  | .hbm => 243
  | .vmem => 0
  | .smem => 0
  | _ => 0

abbrev hbmTy0_0 (i : Nat) : BufTy := match i % 128 with
  | 0 => ⟨S16x256x1024, .f32⟩
  | 1 => ⟨S8x1x3072, .f32⟩
  | 2 => ⟨S1024x4096, .bf16⟩
  | 3 => ⟨S1x256x768, .f32⟩
  | 4 => ⟨S1x256, .f32⟩
  | 5 => ⟨S1x128, .f32⟩
  | 6 => ⟨S1x128x1024, .f32⟩
  | 7 => ⟨S1x512x1024, .f32⟩
  | 8 => ⟨S1x512x1024, .f32⟩
  | 9 => ⟨S1x1024x1024, .f32⟩
  | 10 => ⟨S1024, .f32⟩
  | 11 => ⟨S1x1x3072, .f32⟩
  | 12 => ⟨S3072, .f32⟩
  | 13 => ⟨S1024, .f32⟩
  | 14 => ⟨S1024, .f32⟩
  | 15 => ⟨S1024, .f32⟩
  | 16 => ⟨S16x256x1024, .f32⟩
  | 17 => ⟨S_, .f32⟩
  | 18 => ⟨S16x256, .f32⟩
  | 19 => ⟨S16x256x1, .f32⟩
  | 20 => ⟨S_, .f32⟩
  | 21 => ⟨S16x256x1, .f32⟩
  | 22 => ⟨S16x256x1, .f32⟩
  | 23 => ⟨S_, .f32⟩
  | 24 => ⟨S16x256x1, .f32⟩
  | 25 => ⟨S16x256x1, .f32⟩
  | 26 => ⟨S16x256x1, .f32⟩
  | 27 => ⟨S16x256x1024, .f32⟩
  | 28 => ⟨S16x256x1024, .f32⟩
  | 29 => ⟨S_, .f32⟩
  | 30 => ⟨S1024, .f32⟩
  | 31 => ⟨S1024, .f32⟩
  | 32 => ⟨S1x1x1024, .f32⟩
  | 33 => ⟨S16x256x1024, .f32⟩
  | 34 => ⟨S16x256x1024, .f32⟩
  | 35 => ⟨S1x1x1024, .f32⟩
  | 36 => ⟨S16x256x1024, .f32⟩
  | 37 => ⟨S16x256x1024, .f32⟩
  | 38 => ⟨S1024x4096, .f32⟩
  | 39 => ⟨S16x256x4096, .f32⟩
  | 40 => ⟨S16x256x512, .f32⟩
  | 41 => ⟨S16x256x512, .f32⟩
  | 42 => ⟨S16x256x256, .f32⟩
  | 43 => ⟨S16x256x128, .f32⟩
  | 44 => ⟨S16x256x32, .f32⟩
  | 45 => ⟨S16x256x512, .f32⟩
  | 46 => ⟨S16x256x1024, .f32⟩
  | 47 => ⟨S16x256x1024, .f32⟩
  | 48 => ⟨S256, .f32⟩
  | 49 => ⟨S16x256x256, .f32⟩
  | 50 => ⟨S_, .f32⟩
  | 51 => ⟨S16x256, .f32⟩
  | 52 => ⟨S16x256x1, .f32⟩
  | 53 => ⟨S_, .f32⟩
  | 54 => ⟨S16x256x1, .f32⟩
  | 55 => ⟨S16x256x1, .f32⟩
  | 56 => ⟨S_, .f32⟩
  | 57 => ⟨S16x256x1, .f32⟩
  | 58 => ⟨S16x256x1, .f32⟩
  | 59 => ⟨S16x256x1, .f32⟩
  | 60 => ⟨S16x256x256, .f32⟩
  | 61 => ⟨S16x256x256, .f32⟩
  | 62 => ⟨S1x1x256, .f32⟩
  | 63 => ⟨S16x256x256, .f32⟩
  | 64 => ⟨S16x256x256, .f32⟩
  | 65 => ⟨S256x768, .f32⟩
  | 66 => ⟨S16x256x768, .f32⟩
  | 67 => ⟨S16x256x8x96, .f32⟩
  | 68 => ⟨S16x256x8x64, .f32⟩
  | 69 => ⟨S16x256x8x32, .f32⟩
  | 70 => ⟨S128, .f32⟩
  | 71 => ⟨S16x256x128, .f32⟩
  | 72 => ⟨S_, .f32⟩
  | 73 => ⟨S16x256, .f32⟩
  | 74 => ⟨S16x256x1, .f32⟩
  | 75 => ⟨S_, .f32⟩
  | 76 => ⟨S16x256x1, .f32⟩
  | 77 => ⟨S16x256x1, .f32⟩
  | 78 => ⟨S_, .f32⟩
  | 79 => ⟨S16x256x1, .f32⟩
  | 80 => ⟨S16x256x1, .f32⟩
  | 81 => ⟨S16x256x1, .f32⟩
  | 82 => ⟨S16x256x128, .f32⟩
  | 83 => ⟨S16x256x128, .f32⟩
  | 84 => ⟨S1x1x128, .f32⟩
  | 85 => ⟨S16x256x128, .f32⟩
  | 86 => ⟨S16x256x128, .f32⟩
  | 87 => ⟨S128x1024, .f32⟩
  | 88 => ⟨S16x256x1024, .f32⟩
  | 89 => ⟨S16x256x8x128, .f32⟩
  | 90 => ⟨S16x256x8x64, .f32⟩
  | 91 => ⟨S16x256x8x64, .f32⟩
  | 92 => ⟨S16x8x256x256, .f32⟩
  | 93 => ⟨S16x256x256x8, .f32⟩
  | 94 => ⟨S16x8x256x256, .f32⟩
  | 95 => ⟨S16x8x256x256, .f32⟩
  | 96 => ⟨S_, .f32⟩
  | 97 => ⟨S_, .f32⟩
  | 98 => ⟨S_, .f32⟩
  | 99 => ⟨S16x8x256x256, .f32⟩
  | 100 => ⟨S16x8x256x256, .f32⟩
  | 101 => ⟨S_, .f32⟩
  | 102 => ⟨S16x8x256, .f32⟩
  | 103 => ⟨S_, .f32⟩
  | 104 => ⟨S16x8x256, .f32⟩
  | 105 => ⟨S16x8x256, .f32⟩
  | 106 => ⟨S16x8x256x1, .f32⟩
  | 107 => ⟨S16x8x256x256, .f32⟩
  | 108 => ⟨S16x8x256x256, .f32⟩
  | 109 => ⟨S16x8x256x256, .f32⟩
  | 110 => ⟨S_, .f32⟩
  | 111 => ⟨S16x8x256, .f32⟩
  | 112 => ⟨S16x8x256x1, .f32⟩
  | 113 => ⟨S16x8x256x256, .f32⟩
  | 114 => ⟨S16x8x256x256, .f32⟩
  | 115 => ⟨S16x8x64x256, .f32⟩
  | 116 => ⟨S16x256x8x64, .f32⟩
  | 117 => ⟨S16x256x512, .f32⟩
  | 118 => ⟨S128x128, .i32⟩
  | 119 => ⟨S128x128, .i32⟩
  | 120 => ⟨S128x128, .i32⟩
  | 121 => ⟨S128x128, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S16x256x1024, .f32⟩

abbrev hbmTy0_1 (i : Nat) : BufTy := match i % 128 with
  | 0 => ⟨S_, .f32⟩
  | 1 => ⟨S128x128, .f32⟩
  | 2 => ⟨S128x128, .f32⟩
  | 3 => ⟨S128x128, .f32⟩
  | 4 => ⟨S_, .f32⟩
  | 5 => ⟨S_, .f32⟩
  | 6 => ⟨S_, .f32⟩
  | 7 => ⟨S128x128, .f32⟩
  | 8 => ⟨S128x128, .f32⟩
  | 9 => ⟨S128x128, .f32⟩
  | 10 => ⟨S_, .f32⟩
  | 11 => ⟨S_, .f32⟩
  | 12 => ⟨S_, .f32⟩
  | 13 => ⟨S128x128, .f32⟩
  | 14 => ⟨S128x128, .f32⟩
  | 15 => ⟨S256x256, .i32⟩
  | 16 => ⟨S256x256, .i32⟩
  | 17 => ⟨S256x256, .i32⟩
  | 18 => ⟨S256x256, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S256x256, .f32⟩
  | 27 => ⟨S256x256, .f32⟩
  | 28 => ⟨S256x256, .f32⟩
  | 29 => ⟨S_, .f32⟩
  | 30 => ⟨S_, .f32⟩
  | 31 => ⟨S_, .f32⟩
  | 32 => ⟨S256x256, .f32⟩
  | 33 => ⟨S256x256, .f32⟩
  | 34 => ⟨S256x256, .f32⟩
  | 35 => ⟨S_, .f32⟩
  | 36 => ⟨S_, .f32⟩
  | 37 => ⟨S_, .f32⟩
  | 38 => ⟨S256x256, .f32⟩
  | 39 => ⟨S256x256, .f32⟩
  | 40 => ⟨S16x256x4x128, .f32⟩
  | 41 => ⟨S16x256x4x128, .f32⟩
  | 42 => ⟨S16x4x128x256, .f32⟩
  | 43 => ⟨S16x256x4x128, .f32⟩
  | 44 => ⟨S16x256x4x128, .f32⟩
  | 45 => ⟨S16x4x128x256, .f32⟩
  | 46 => ⟨S16x256x4x128, .f32⟩
  | 47 => ⟨S16x256x4x128, .f32⟩
  | 48 => ⟨S16x256x512, .f32⟩
  | 49 => ⟨S16x256x512, .f32⟩
  | 50 => ⟨S16x256x512, .f32⟩
  | 51 => ⟨S_, .f32⟩
  | 52 => ⟨S16x256x512, .f32⟩
  | 53 => ⟨S16x256x512, .f32⟩
  | 54 => ⟨S_, .f32⟩
  | 55 => ⟨S16x256x512, .f32⟩
  | 56 => ⟨S16x256x512, .f32⟩
  | 57 => ⟨S16x256x512, .f32⟩
  | 58 => ⟨S16x256x512, .f32⟩
  | 59 => ⟨S512x1024, .f32⟩
  | 60 => ⟨S16x256x1024, .f32⟩
  | 61 => ⟨S16x256x512, .f32⟩
  | 62 => ⟨S16x256x512, .f32⟩
  | 63 => ⟨S_, .f32⟩
  | 64 => ⟨S16x256x512, .f32⟩
  | 65 => ⟨S16x256x512, .f32⟩
  | 66 => ⟨S_, .f32⟩
  | 67 => ⟨S16x256x512, .f32⟩
  | 68 => ⟨S16x256x512, .f32⟩
  | 69 => ⟨S16x256x512, .f32⟩
  | 70 => ⟨S16x256x512, .f32⟩
  | 71 => ⟨S512x1024, .f32⟩
  | 72 => ⟨S16x256x1024, .f32⟩
  | 73 => ⟨S16x256x1024, .f32⟩
  | 74 => ⟨S16x256x1024, .f32⟩
  | 75 => ⟨S_, .f32⟩
  | 76 => ⟨S16x256x1024, .f32⟩
  | 77 => ⟨S16x256x1024, .f32⟩
  | 78 => ⟨S_, .f32⟩
  | 79 => ⟨S16x256x1024, .f32⟩
  | 80 => ⟨S16x256x1024, .f32⟩
  | 81 => ⟨S16x256x1024, .f32⟩
  | 82 => ⟨S16x256x1024, .f32⟩
  | 83 => ⟨S16x256x1024, .f32⟩
  | 84 => ⟨S_, .f32⟩
  | 85 => ⟨S16x256x1024, .f32⟩
  | 86 => ⟨S16x256x1024, .f32⟩
  | 87 => ⟨S_, .f32⟩
  | 88 => ⟨S16x256x1024, .f32⟩
  | 89 => ⟨S16x256x1024, .f32⟩
  | 90 => ⟨S16x256x1024, .f32⟩
  | 91 => ⟨S16x256x1024, .f32⟩
  | 92 => ⟨S1024x1024, .f32⟩
  | 93 => ⟨S16x256x1024, .f32⟩
  | 94 => ⟨S1x1x1024, .f32⟩
  | 95 => ⟨S16x256x1024, .f32⟩
  | 96 => ⟨S16x256x1024, .f32⟩
  | 97 => ⟨S16x256x1024, .f32⟩
  | 98 => ⟨S16x256x1024, .f32⟩
  | 99 => ⟨S_, .f32⟩
  | 100 => ⟨S16x256, .f32⟩
  | 101 => ⟨S16x256x1, .f32⟩
  | 102 => ⟨S_, .f32⟩
  | 103 => ⟨S16x256x1, .f32⟩
  | 104 => ⟨S16x256x1, .f32⟩
  | 105 => ⟨S_, .f32⟩
  | 106 => ⟨S16x256x1, .f32⟩
  | 107 => ⟨S16x256x1, .f32⟩
  | 108 => ⟨S16x256x1, .f32⟩
  | 109 => ⟨S16x256x1024, .f32⟩
  | 110 => ⟨S16x256x1024, .f32⟩
  | 111 => ⟨S1x1x1024, .f32⟩
  | 112 => ⟨S16x256x1024, .f32⟩
  | 113 => ⟨S16x256x1024, .f32⟩
  | 114 => ⟨S16x32x256, .f32⟩
  | _ => ⟨S16x256x1024, .f32⟩

abbrev hbmTy (i : Nat) : BufTy := match i / 128 with
  | 0 => hbmTy0_0 i
  | 1 => hbmTy0_1 i
  | _ => ⟨S16x256x1024, .f32⟩

abbrev bufTy : (tb : Table) → Fin (tcTables nBuf tb) → BufTy
  | .hbm, ⟨i, _⟩ => hbmTy i
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_6 : Ref sig .tc := ⟨.hbm, 72, rfl⟩
abbrev main_v54 : Ref sig .tc := ⟨.hbm, 73, rfl⟩
abbrev main_v55 : Ref sig .tc := ⟨.hbm, 74, rfl⟩
abbrev main_cst_7 : Ref sig .tc := ⟨.hbm, 75, rfl⟩
abbrev main_v56 : Ref sig .tc := ⟨.hbm, 76, rfl⟩
abbrev main_v57 : Ref sig .tc := ⟨.hbm, 77, rfl⟩
abbrev main_cst_8 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_9 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_10 : Ref sig .tc := ⟨.hbm, 101, rfl⟩
abbrev main_v79 : Ref sig .tc := ⟨.hbm, 102, rfl⟩
abbrev main_cst_11 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_12 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_cst_13 : Ref sig .tc := ⟨.hbm, 122, rfl⟩
abbrev main_v97 : Ref sig .tc := ⟨.hbm, 123, rfl⟩
abbrev main_cst_14 : Ref sig .tc := ⟨.hbm, 124, rfl⟩
abbrev main_v98 : Ref sig .tc := ⟨.hbm, 125, rfl⟩
abbrev main_cst_15 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_cst_16 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_cst_17 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_cst_18 : Ref sig .tc := ⟨.hbm, 147, rfl⟩
abbrev main_v117 : Ref sig .tc := ⟨.hbm, 148, rfl⟩
abbrev main_cst_19 : Ref sig .tc := ⟨.hbm, 149, rfl⟩
abbrev main_v118 : Ref sig .tc := ⟨.hbm, 150, rfl⟩
abbrev main_cst_20 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_cst_21 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_cst_22 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_call0_v0 : Ref sig .tc := ⟨.hbm, 177, rfl⟩
abbrev main_call0_v1 : Ref sig .tc := ⟨.hbm, 178, rfl⟩
abbrev main_call0_cst : Ref sig .tc := ⟨.hbm, 179, rfl⟩
abbrev main_call0_v2 : Ref sig .tc := ⟨.hbm, 180, rfl⟩
abbrev main_call0_v3 : Ref sig .tc := ⟨.hbm, 181, rfl⟩
abbrev main_call0_cst_0 : Ref sig .tc := ⟨.hbm, 182, rfl⟩
abbrev main_call0_v4 : Ref sig .tc := ⟨.hbm, 183, rfl⟩
abbrev main_call0_v5 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_call1_v0 : Ref sig .tc := ⟨.hbm, 189, rfl⟩
abbrev main_call1_v1 : Ref sig .tc := ⟨.hbm, 190, rfl⟩
abbrev main_call1_cst : Ref sig .tc := ⟨.hbm, 191, rfl⟩
abbrev main_call1_v2 : Ref sig .tc := ⟨.hbm, 192, rfl⟩
abbrev main_call1_v3 : Ref sig .tc := ⟨.hbm, 193, rfl⟩
abbrev main_call1_cst_0 : Ref sig .tc := ⟨.hbm, 194, rfl⟩
abbrev main_call1_v4 : Ref sig .tc := ⟨.hbm, 195, rfl⟩
abbrev main_call1_v5 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_cst_23 : Ref sig .tc := ⟨.hbm, 203, rfl⟩
abbrev main_v152 : Ref sig .tc := ⟨.hbm, 204, rfl⟩
abbrev main_v153 : Ref sig .tc := ⟨.hbm, 205, rfl⟩
abbrev main_cst_24 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_cst_25 : Ref sig .tc := ⟨.hbm, 212, rfl⟩
abbrev main_v159 : Ref sig .tc := ⟨.hbm, 213, rfl⟩
abbrev main_v160 : Ref sig .tc := ⟨.hbm, 214, rfl⟩
abbrev main_cst_26 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_cst_27 : Ref sig .tc := ⟨.hbm, 227, rfl⟩
abbrev main_v172 : Ref sig .tc := ⟨.hbm, 228, rfl⟩
abbrev main_v173 : Ref sig .tc := ⟨.hbm, 229, rfl⟩
abbrev main_cst_28 : Ref sig .tc := ⟨.hbm, 230, rfl⟩
abbrev main_v174 : Ref sig .tc := ⟨.hbm, 231, rfl⟩
abbrev main_v175 : Ref sig .tc := ⟨.hbm, 232, rfl⟩
abbrev main_cst_29 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩

abbrev nD : Nat := 1
abbrev τ : Topo := Topo.v7x

variable {F : FTy → Type} [FloatOps F]
-- ==== Token.lean ====
abbrev S4x2048x1024 : Shape := ⟨3, ![4, 2048, 1024]⟩
abbrev S8x1x3072 : Shape := ⟨3, ![8, 1, 3072]⟩
abbrev S1024x4096 : Shape := ⟨2, ![1024, 4096]⟩
abbrev S1x256x768 : Shape := ⟨3, ![1, 256, 768]⟩
abbrev S1x256 : Shape := ⟨2, ![1, 256]⟩
abbrev S1x128 : Shape := ⟨2, ![1, 128]⟩
abbrev S256x768 : Shape := ⟨2, ![256, 768]⟩
abbrev S256x8x96 : Shape := ⟨3, ![256, 8, 96]⟩
abbrev S_ : Shape := ⟨0, ![]⟩
abbrev S256x8x128 : Shape := ⟨3, ![256, 8, 128]⟩
abbrev S256x1024 : Shape := ⟨2, ![256, 1024]⟩
abbrev S256x8x32 : Shape := ⟨3, ![256, 8, 32]⟩
abbrev S256x8x8 : Shape := ⟨3, ![256, 8, 8]⟩
abbrev S256 : Shape := ⟨1, ![256]⟩
abbrev S128 : Shape := ⟨1, ![128]⟩
abbrev S8192x1024 : Shape := ⟨2, ![8192, 1024]⟩
abbrev S128x128 : Shape := ⟨2, ![128, 128]⟩
abbrev S128x256 : Shape := ⟨2, ![128, 256]⟩
abbrev S128x512 : Shape := ⟨2, ![128, 512]⟩
abbrev S256x512 : Shape := ⟨2, ![256, 512]⟩
abbrev S2048 : Shape := ⟨1, ![2048]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S2048x32 : Shape := ⟨2, ![2048, 32]⟩
abbrev S2048x64 : Shape := ⟨2, ![2048, 64]⟩
abbrev S2048x128 : Shape := ⟨2, ![2048, 128]⟩
abbrev S2048x96 : Shape := ⟨2, ![2048, 96]⟩
abbrev S8192x512 : Shape := ⟨2, ![8192, 512]⟩
abbrev S8192x256 : Shape := ⟨2, ![8192, 256]⟩
abbrev S16x8x128 : Shape := ⟨3, ![16, 8, 128]⟩
abbrev S512x1024 : Shape := ⟨2, ![512, 1024]⟩
abbrev S1x1x3072 : Shape := ⟨3, ![1, 1, 3072]⟩
abbrev S512x128 : Shape := ⟨2, ![512, 128]⟩
abbrev S512x512 : Shape := ⟨2, ![512, 512]⟩
abbrev S512x256 : Shape := ⟨2, ![512, 256]⟩
abbrev S1x8x128 : Shape := ⟨3, ![1, 8, 128]⟩
abbrev S1x3072 : Shape := ⟨2, ![1, 3072]⟩
abbrev S1x1024 : Shape := ⟨2, ![1, 1024]⟩
abbrev S512 : Shape := ⟨1, ![512]⟩
abbrev S512x1 : Shape := ⟨2, ![512, 1]⟩
abbrev S1024x512 : Shape := ⟨2, ![1024, 512]⟩
abbrev S1024x1024 : Shape := ⟨2, ![1024, 1024]⟩
abbrev S1 : Shape := ⟨1, ![1]⟩
abbrev S1x1 : Shape := ⟨2, ![1, 1]⟩
abbrev S8x128 : Shape := ⟨2, ![8, 128]⟩

abbrev nBuf : Space → Nat
  | .hbm => 130
  | .vmem => 34
  | .smem => 0
  | _ => 0

abbrev hbmTy0_0 (i : Nat) : BufTy := match i % 128 with
  | 0 => ⟨S4x2048x1024, .f32⟩
  | 1 => ⟨S8x1x3072, .f32⟩
  | 2 => ⟨S1024x4096, .bf16⟩
  | 3 => ⟨S1x256x768, .f32⟩
  | 4 => ⟨S1x256, .f32⟩
  | 5 => ⟨S1x128, .f32⟩
  | 6 => ⟨S256x768, .f32⟩
  | 7 => ⟨S256x8x96, .f32⟩
  | 8 => ⟨S_, .i32⟩
  | 9 => ⟨S_, .f32⟩
  | 10 => ⟨S256x8x128, .f32⟩
  | 11 => ⟨S256x1024, .f32⟩
  | 12 => ⟨S256x8x32, .f32⟩
  | 13 => ⟨S256x8x8, .f32⟩
  | 14 => ⟨S256x8x8, .f32⟩
  | 15 => ⟨S256x8x8, .f32⟩
  | 16 => ⟨S256x8x8, .f32⟩
  | 17 => ⟨S256x8x8, .f32⟩
  | 18 => ⟨S256x8x8, .f32⟩
  | 19 => ⟨S256x8x32, .f32⟩
  | 20 => ⟨S_, .i32⟩
  | 21 => ⟨S_, .f32⟩
  | 22 => ⟨S256x8x128, .f32⟩
  | 23 => ⟨S256x1024, .f32⟩
  | 24 => ⟨S256x1024, .bf16⟩
  | 25 => ⟨S256x1024, .bf16⟩
  | 26 => ⟨S256, .f32⟩
  | 27 => ⟨S1x256, .f32⟩
  | 28 => ⟨S128, .f32⟩
  | 29 => ⟨S1x128, .f32⟩
  | 30 => ⟨S8192x1024, .f32⟩
  | 31 => ⟨S128x128, .i32⟩
  | 32 => ⟨S128x128, .i32⟩
  | 33 => ⟨S128x128, .i32⟩
  | 34 => ⟨S_, .i32⟩
  | 35 => ⟨S128x128, .i32⟩
  | 36 => ⟨S128x128, .i32⟩
  | 37 => ⟨S128x128, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S128x128, .f32⟩
  | 46 => ⟨S128x128, .f32⟩
  | 47 => ⟨S128x128, .f32⟩
  | 48 => ⟨S128x128, .f32⟩
  | 49 => ⟨S128x256, .f32⟩
  | 50 => ⟨S_, .f32⟩
  | 51 => ⟨S_, .f32⟩
  | 52 => ⟨S_, .f32⟩
  | 53 => ⟨S128x256, .f32⟩
  | 54 => ⟨S128x256, .f32⟩
  | 55 => ⟨S_, .f32⟩
  | 56 => ⟨S128x256, .f32⟩
  | 57 => ⟨S128x512, .f32⟩
  | 58 => ⟨S128x512, .f32⟩
  | 59 => ⟨S256x512, .f32⟩
  | 60 => ⟨S256x512, .bf16⟩
  | 61 => ⟨S2048, .i32⟩
  | 62 => ⟨S_, .i32⟩
  | 63 => ⟨S2048, .i32⟩
  | 64 => ⟨S2048, .i32⟩
  | 65 => ⟨S2048, .f32⟩
  | 66 => ⟨S_, .i32⟩
  | 67 => ⟨S2048, .i32⟩
  | 68 => ⟨S2048, .i32⟩
  | 69 => ⟨S2048, .f32⟩
  | 70 => ⟨S8, .f32⟩
  | 71 => ⟨S_, .f32⟩
  | 72 => ⟨S8, .f32⟩
  | 73 => ⟨S8, .f32⟩
  | 74 => ⟨S_, .f32⟩
  | 75 => ⟨S8, .f32⟩
  | 76 => ⟨S8, .f32⟩
  | 77 => ⟨S8, .f32⟩
  | 78 => ⟨S_, .f32⟩
  | 79 => ⟨S8, .f32⟩
  | 80 => ⟨S8, .f32⟩
  | 81 => ⟨S_, .f32⟩
  | 82 => ⟨S8, .f32⟩
  | 83 => ⟨S8, .f32⟩
  | 84 => ⟨S2048x1, .f32⟩
  | 85 => ⟨S1x8, .f32⟩
  | 86 => ⟨S2048x8, .f32⟩
  | 87 => ⟨S2048x8, .f32⟩
  | 88 => ⟨S2048x8, .f32⟩
  | 89 => ⟨S2048x1, .f32⟩
  | 90 => ⟨S1x8, .f32⟩
  | 91 => ⟨S2048x8, .f32⟩
  | 92 => ⟨S2048x8, .f32⟩
  | 93 => ⟨S2048x8, .f32⟩
  | 94 => ⟨S2048x32, .f32⟩
  | 95 => ⟨S2048x32, .f32⟩
  | 96 => ⟨S2048x32, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S2048x32, .f32⟩
  | 106 => ⟨S2048x64, .f32⟩
  | 107 => ⟨S_, .f32⟩
  | 108 => ⟨S2048x32, .f32⟩
  | 109 => ⟨S2048x32, .f32⟩
  | 110 => ⟨S2048x64, .f32⟩
  | 111 => ⟨S2048x128, .f32⟩
  | 112 => ⟨S_, .f32⟩
  | 113 => ⟨S2048x64, .f32⟩
  | 114 => ⟨S_, .f32⟩
  | 115 => ⟨S2048x32, .f32⟩
  | 116 => ⟨S2048x32, .f32⟩
  | 117 => ⟨S2048x128, .f32⟩
  | 118 => ⟨S_, .f32⟩
  | 119 => ⟨S2048x96, .f32⟩
  | 120 => ⟨S2048x128, .f32⟩
  | 121 => ⟨S2048x128, .f32⟩
  | 122 => ⟨S8192x1024, .bf16⟩
  | 123 => ⟨S8192x512, .bf16⟩
  | 124 => ⟨S8192x1024, .bf16⟩
  | 125 => ⟨S8192x256, .bf16⟩
  | 126 => ⟨S8192x512, .bf16⟩
  | 127 => ⟨S8192x1024, .bf16⟩
  | _ => ⟨S4x2048x1024, .f32⟩

abbrev hbmTy0_1 (i : Nat) : BufTy := match i % 128 with
  | 0 => ⟨S8192x1024, .bf16⟩
  | 1 => ⟨S16x8x128, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1x3072, .f32⟩
  | .local _ .vmem, ⟨3, _⟩ => ⟨S1x1x3072, .f32⟩
  | .local _ .vmem, ⟨4, _⟩ => ⟨S1024x4096, .bf16⟩
  | .local _ .vmem, ⟨5, _⟩ => ⟨S1x256, .f32⟩
  | .local _ .vmem, ⟨6, _⟩ => ⟨S1x128, .f32⟩
  | .local _ .vmem, ⟨7, _⟩ => ⟨S256x512, .bf16⟩
  | .local _ .vmem, ⟨8, _⟩ => ⟨S256x1024, .bf16⟩
  | .local _ .vmem, ⟨9, _⟩ => ⟨S256x1024, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x1024, .bf16⟩
  | .local _ .vmem, ⟨19, _⟩ => ⟨S512x1024, .bf16⟩
  | .local _ .vmem, ⟨20, _⟩ => ⟨S512x512, .bf16⟩
  | .local _ .vmem, ⟨21, _⟩ => ⟨S512x512, .bf16⟩
  | .local _ .vmem, ⟨22, _⟩ => ⟨S512x1024, .bf16⟩
  | .local _ .vmem, ⟨23, _⟩ => ⟨S512x1024, .bf16⟩
  | .local _ .vmem, ⟨24, _⟩ => ⟨S512x256, .bf16⟩
  | .local _ .vmem, ⟨25, _⟩ => ⟨S512x256, .bf16⟩
  | .local _ .vmem, ⟨26, _⟩ => ⟨S512x512, .bf16⟩
  | .local _ .vmem, ⟨27, _⟩ => ⟨S512x512, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S1x8x128, .f32⟩
  | .local _ .vmem, ⟨33, _⟩ => ⟨S1x8x128, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_call1_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_6 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c_7 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_8 : Ref sig .tc := ⟨.hbm, 71, rfl⟩
abbrev main_v53 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_12 : Ref sig .tc := ⟨.hbm, 97, rfl⟩
abbrev main_v75 : Ref sig .tc := ⟨.hbm, 98, rfl⟩
abbrev main_cst_13 : Ref sig .tc := ⟨.hbm, 99, rfl⟩
abbrev main_v76 : Ref sig .tc := ⟨.hbm, 100, rfl⟩
abbrev main_v77 : Ref sig .tc := ⟨.hbm, 101, rfl⟩
abbrev main_cst_14 : Ref sig .tc := ⟨.hbm, 102, rfl⟩
abbrev main_v78 : Ref sig .tc := ⟨.hbm, 103, rfl⟩
abbrev main_cst_15 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_16 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_cst_17 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94_0 : Ref sig .tc := ⟨.hbm, 122, rfl⟩
abbrev main_v94_1 : Ref sig .tc := ⟨.hbm, 123, rfl⟩
abbrev main_v94_2 : Ref sig .tc := ⟨.hbm, 124, rfl⟩
abbrev main_v94_3 : Ref sig .tc := ⟨.hbm, 125, rfl⟩
abbrev main_v94_4 : Ref sig .tc := ⟨.hbm, 126, rfl⟩
abbrev main_v94_5 : Ref sig .tc := ⟨.hbm, 127, rfl⟩
abbrev main_v94_6 : Ref sig .tc := ⟨.hbm, 128, rfl⟩
abbrev main_v94_7 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x8x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== TokenRefIdeal.lean ====
abbrev S4x2048x1024 : Shape := ⟨3, ![4, 2048, 1024]⟩
abbrev S8x1x3072 : Shape := ⟨3, ![8, 1, 3072]⟩
abbrev S1024x4096 : Shape := ⟨2, ![1024, 4096]⟩
abbrev S1x256x768 : Shape := ⟨3, ![1, 256, 768]⟩
abbrev S1x256 : Shape := ⟨2, ![1, 256]⟩
abbrev S1x128 : Shape := ⟨2, ![1, 128]⟩
abbrev S_ : Shape := ⟨0, ![]⟩
abbrev S4x2048 : Shape := ⟨2, ![4, 2048]⟩
abbrev S4x2048x1 : Shape := ⟨3, ![4, 2048, 1]⟩
abbrev S4x1x1024 : Shape := ⟨3, ![4, 1, 1024]⟩
abbrev S4x2048x4096 : Shape := ⟨3, ![4, 2048, 4096]⟩
abbrev S4x2048x512 : Shape := ⟨3, ![4, 2048, 512]⟩
abbrev S4x2048x256 : Shape := ⟨3, ![4, 2048, 256]⟩
abbrev S4x2048x128 : Shape := ⟨3, ![4, 2048, 128]⟩
abbrev S4x2048x32 : Shape := ⟨3, ![4, 2048, 32]⟩
abbrev S128x128 : Shape := ⟨2, ![128, 128]⟩
abbrev S4x2048x4x128 : Shape := ⟨4, ![4, 2048, 4, 128]⟩
abbrev S256 : Shape := ⟨1, ![256]⟩
abbrev S1x1x256 : Shape := ⟨3, ![1, 1, 256]⟩
abbrev S256x768 : Shape := ⟨2, ![256, 768]⟩
abbrev S4x2048x768 : Shape := ⟨3, ![4, 2048, 768]⟩
abbrev S4x2048x8x96 : Shape := ⟨4, ![4, 2048, 8, 96]⟩
abbrev S4x2048x8x64 : Shape := ⟨4, ![4, 2048, 8, 64]⟩
abbrev S4x2048x8x32 : Shape := ⟨4, ![4, 2048, 8, 32]⟩
abbrev S2048 : Shape := ⟨1, ![2048]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S2048x32 : Shape := ⟨2, ![2048, 32]⟩
abbrev S2048x1x32 : Shape := ⟨3, ![2048, 1, 32]⟩
abbrev S4x2048x8x8 : Shape := ⟨4, ![4, 2048, 8, 8]⟩
abbrev S1x2048x1x32 : Shape := ⟨4, ![1, 2048, 1, 32]⟩
abbrev S4x2048x8x128 : Shape := ⟨4, ![4, 2048, 8, 128]⟩
abbrev S128 : Shape := ⟨1, ![128]⟩
abbrev S1x1x128 : Shape := ⟨3, ![1, 1, 128]⟩
abbrev S4x2048x8 : Shape := ⟨3, ![4, 2048, 8]⟩
abbrev S1x2048x32 : Shape := ⟨3, ![1, 2048, 32]⟩
abbrev S4x2048x95 : Shape := ⟨3, ![4, 2048, 95]⟩
abbrev S16x512 : Shape := ⟨2, ![16, 512]⟩
abbrev S16 : Shape := ⟨1, ![16]⟩
abbrev S16x1x1 : Shape := ⟨3, ![16, 1, 1]⟩
abbrev S16x8x128 : Shape := ⟨3, ![16, 8, 128]⟩
abbrev S8192x1024 : Shape := ⟨2, ![8192, 1024]⟩
abbrev S8192x512 : Shape := ⟨2, ![8192, 512]⟩
abbrev S8192x256 : Shape := ⟨2, ![8192, 256]⟩

abbrev nBuf : Space → Nat
  | .hbm => 285
  | .vmem => 0
  | .smem => 0
  | _ => 0

abbrev hbmTy0_0 (i : Nat) : BufTy := match i % 128 with
  | 0 => ⟨S4x2048x1024, .f32⟩
  | 1 => ⟨S8x1x3072, .f32⟩
  | 2 => ⟨S1024x4096, .bf16⟩
  | 3 => ⟨S1x256x768, .f32⟩
  | 4 => ⟨S1x256, .f32⟩
  | 5 => ⟨S1x128, .f32⟩
  | 6 => ⟨S4x2048x1024, .f32⟩
  | 7 => ⟨S_, .f32⟩
  | 8 => ⟨S4x2048, .f32⟩
  | 9 => ⟨S4x2048x1, .f32⟩
  | 10 => ⟨S_, .f32⟩
  | 11 => ⟨S4x2048x1, .f32⟩
  | 12 => ⟨S4x2048x1, .f32⟩
  | 13 => ⟨S_, .f32⟩
  | 14 => ⟨S4x2048x1, .f32⟩
  | 15 => ⟨S4x2048x1, .f32⟩
  | 16 => ⟨S4x2048x1, .f32⟩
  | 17 => ⟨S4x2048x1024, .f32⟩
  | 18 => ⟨S4x2048x1024, .f32⟩
  | 19 => ⟨S4x1x1024, .f32⟩
  | 20 => ⟨S_, .f32⟩
  | 21 => ⟨S4x1x1024, .f32⟩
  | 22 => ⟨S4x1x1024, .f32⟩
  | 23 => ⟨S4x2048x1024, .f32⟩
  | 24 => ⟨S4x2048x1024, .f32⟩
  | 25 => ⟨S4x1x1024, .f32⟩
  | 26 => ⟨S4x2048x1024, .f32⟩
  | 27 => ⟨S4x2048x1024, .f32⟩
  | 28 => ⟨S1024x4096, .f32⟩
  | 29 => ⟨S4x2048x4096, .f32⟩
  | 30 => ⟨S4x2048x512, .f32⟩
  | 31 => ⟨S4x2048x512, .f32⟩
  | 32 => ⟨S4x2048x256, .f32⟩
  | 33 => ⟨S4x2048x128, .f32⟩
  | 34 => ⟨S4x2048x32, .f32⟩
  | 35 => ⟨S4x2048x512, .f32⟩
  | 36 => ⟨S4x2048x1024, .f32⟩
  | 37 => ⟨S4x2048x1024, .f32⟩
  | 38 => ⟨S128x128, .i32⟩
  | 39 => ⟨S128x128, .i32⟩
  | 40 => ⟨S128x128, .i32⟩
  | 41 => ⟨S128x128, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S128x128, .f32⟩
  | 50 => ⟨S128x128, .f32⟩
  | 51 => ⟨S4x2048x4x128, .f32⟩
  | 52 => ⟨S128x128, .f32⟩
  | 53 => ⟨S_, .f32⟩
  | 54 => ⟨S_, .f32⟩
  | 55 => ⟨S_, .f32⟩
  | 56 => ⟨S128x128, .f32⟩
  | 57 => ⟨S128x128, .f32⟩
  | 58 => ⟨S4x2048x4x128, .f32⟩
  | 59 => ⟨S4x2048x512, .f32⟩
  | 60 => ⟨S128x128, .f32⟩
  | 61 => ⟨S_, .f32⟩
  | 62 => ⟨S_, .f32⟩
  | 63 => ⟨S_, .f32⟩
  | 64 => ⟨S128x128, .f32⟩
  | 65 => ⟨S128x128, .f32⟩
  | 66 => ⟨S4x2048x4x128, .f32⟩
  | 67 => ⟨S4x2048x512, .f32⟩
  | 68 => ⟨S256, .f32⟩
  | 69 => ⟨S4x2048x256, .f32⟩
  | 70 => ⟨S_, .f32⟩
  | 71 => ⟨S4x2048, .f32⟩
  | 72 => ⟨S4x2048x1, .f32⟩
  | 73 => ⟨S_, .f32⟩
  | 74 => ⟨S4x2048x1, .f32⟩
  | 75 => ⟨S4x2048x1, .f32⟩
  | 76 => ⟨S_, .f32⟩
  | 77 => ⟨S4x2048x1, .f32⟩
  | 78 => ⟨S4x2048x1, .f32⟩
  | 79 => ⟨S4x2048x1, .f32⟩
  | 80 => ⟨S4x2048x256, .f32⟩
  | 81 => ⟨S4x2048x256, .f32⟩
  | 82 => ⟨S1x1x256, .f32⟩
  | 83 => ⟨S4x2048x256, .f32⟩
  | 84 => ⟨S4x2048x256, .f32⟩
  | 85 => ⟨S256x768, .f32⟩
  | 86 => ⟨S4x2048x768, .f32⟩
  | 87 => ⟨S4x2048x8x96, .f32⟩
  | 88 => ⟨S4x2048x8x64, .f32⟩
  | 89 => ⟨S4x2048x8x32, .f32⟩
  | 90 => ⟨S2048, .i32⟩
  | 91 => ⟨S_, .i32⟩
  | 92 => ⟨S2048, .i32⟩
  | 93 => ⟨S2048, .i32⟩
  | 94 => ⟨S2048, .f32⟩
  | 95 => ⟨S_, .i32⟩
  | 96 => ⟨S2048, .i32⟩
  | 97 => ⟨S2048, .i32⟩
  | 98 => ⟨S2048, .f32⟩
  | 99 => ⟨S8, .f32⟩
  | 100 => ⟨S_, .f32⟩
  | 101 => ⟨S8, .f32⟩
  | 102 => ⟨S8, .f32⟩
  | 103 => ⟨S_, .f32⟩
  | 104 => ⟨S8, .f32⟩
  | 105 => ⟨S8, .f32⟩
  | 106 => ⟨S8, .f32⟩
  | 107 => ⟨S_, .f32⟩
  | 108 => ⟨S8, .f32⟩
  | 109 => ⟨S8, .f32⟩
  | 110 => ⟨S_, .f32⟩
  | 111 => ⟨S8, .f32⟩
  | 112 => ⟨S8, .f32⟩
  | 113 => ⟨S2048x1, .f32⟩
  | 114 => ⟨S1x8, .f32⟩
  | 115 => ⟨S2048x8, .f32⟩
  | 116 => ⟨S2048x8, .f32⟩
  | 117 => ⟨S2048x8, .f32⟩
  | 118 => ⟨S2048x1, .f32⟩
  | 119 => ⟨S1x8, .f32⟩
  | 120 => ⟨S2048x8, .f32⟩
  | 121 => ⟨S2048x8, .f32⟩
  | 122 => ⟨S2048x8, .f32⟩
  | 123 => ⟨S2048x32, .f32⟩
  | 124 => ⟨S2048x1x32, .f32⟩
  | 125 => ⟨S4x2048x8x8, .f32⟩
  | 126 => ⟨S4x2048x8x8, .f32⟩
  | 127 => ⟨S4x2048x8x8, .f32⟩
  | _ => ⟨S4x2048x1024, .f32⟩

abbrev hbmTy0_1 (i : Nat) : BufTy := match i % 128 with
  | 0 => ⟨S4x2048x8x8, .f32⟩
  | 1 => ⟨S4x2048x8x8, .f32⟩
  | 2 => ⟨S4x2048x8x8, .f32⟩
  | 3 => ⟨S4x2048x8x32, .f32⟩
  | 4 => ⟨S2048x1x32, .f32⟩
  | 5 => ⟨S1x2048x1x32, .f32⟩
  | 6 => ⟨S4x2048x8x32, .f32⟩
  | 7 => ⟨S4x2048x8x32, .f32⟩
  | 8 => ⟨S2048x1x32, .f32⟩
  | 9 => ⟨S1x2048x1x32, .f32⟩
  | 10 => ⟨S4x2048x8x32, .f32⟩
  | 11 => ⟨S4x2048x8x32, .f32⟩
  | 12 => ⟨S4x2048x8x32, .f32⟩
  | 13 => ⟨S4x2048x8x96, .f32⟩
  | 14 => ⟨S_, .f32⟩
  | 15 => ⟨S_, .f32⟩
  | 16 => ⟨S_, .f32⟩
  | 17 => ⟨S4x2048x8x96, .f32⟩
  | 18 => ⟨S4x2048x8x96, .f32⟩
  | 19 => ⟨S_, .f32⟩
  | 20 => ⟨S_, .f32⟩
  | 21 => ⟨S_, .f32⟩
  | 22 => ⟨S4x2048x8x96, .f32⟩
  | 23 => ⟨S4x2048x8x96, .f32⟩
  | 24 => ⟨S_, .i32⟩
  | 25 => ⟨S_, .f32⟩
  | 26 => ⟨S4x2048x8x128, .f32⟩
  | 27 => ⟨S4x2048x1024, .f32⟩
  | 28 => ⟨S128, .f32⟩
  | 29 => ⟨S4x2048x128, .f32⟩
  | 30 => ⟨S_, .f32⟩
  | 31 => ⟨S4x2048, .f32⟩
  | 32 => ⟨S4x2048x1, .f32⟩
  | 33 => ⟨S_, .f32⟩
  | 34 => ⟨S4x2048x1, .f32⟩
  | 35 => ⟨S4x2048x1, .f32⟩
  | 36 => ⟨S_, .f32⟩
  | 37 => ⟨S4x2048x1, .f32⟩
  | 38 => ⟨S4x2048x1, .f32⟩
  | 39 => ⟨S4x2048x1, .f32⟩
  | 40 => ⟨S4x2048x128, .f32⟩
  | 41 => ⟨S4x2048x128, .f32⟩
  | 42 => ⟨S1x1x128, .f32⟩
  | 43 => ⟨S4x2048x128, .f32⟩
  | 44 => ⟨S4x2048x128, .f32⟩
  | 45 => ⟨S2048, .i32⟩
  | 46 => ⟨S_, .i32⟩
  | 47 => ⟨S2048, .i32⟩
  | 48 => ⟨S2048, .i32⟩
  | 49 => ⟨S2048, .f32⟩
  | 50 => ⟨S_, .i32⟩
  | 51 => ⟨S2048, .i32⟩
  | 52 => ⟨S2048, .i32⟩
  | 53 => ⟨S2048, .f32⟩
  | 54 => ⟨S8, .f32⟩
  | 55 => ⟨S_, .f32⟩
  | 56 => ⟨S8, .f32⟩
  | 57 => ⟨S8, .f32⟩
  | 58 => ⟨S_, .f32⟩
  | 59 => ⟨S8, .f32⟩
  | 60 => ⟨S8, .f32⟩
  | 61 => ⟨S8, .f32⟩
  | 62 => ⟨S_, .f32⟩
  | 63 => ⟨S8, .f32⟩
  | 64 => ⟨S8, .f32⟩
  | 65 => ⟨S_, .f32⟩
  | 66 => ⟨S8, .f32⟩
  | 67 => ⟨S8, .f32⟩
  | 68 => ⟨S2048x1, .f32⟩
  | 69 => ⟨S1x8, .f32⟩
  | 70 => ⟨S2048x8, .f32⟩
  | 71 => ⟨S2048x8, .f32⟩
  | 72 => ⟨S2048x8, .f32⟩
  | 73 => ⟨S2048x1, .f32⟩
  | 74 => ⟨S1x8, .f32⟩
  | 75 => ⟨S2048x8, .f32⟩
  | 76 => ⟨S2048x8, .f32⟩
  | 77 => ⟨S2048x8, .f32⟩
  | 78 => ⟨S2048x32, .f32⟩
  | 79 => ⟨S4x2048x8, .f32⟩
  | 80 => ⟨S4x2048x8, .f32⟩
  | 81 => ⟨S4x2048x8, .f32⟩
  | 82 => ⟨S4x2048x8, .f32⟩
  | 83 => ⟨S4x2048x8, .f32⟩
  | 84 => ⟨S4x2048x8, .f32⟩
  | 85 => ⟨S4x2048x32, .f32⟩
  | 86 => ⟨S2048x32, .f32⟩
  | 87 => ⟨S1x2048x32, .f32⟩
  | 88 => ⟨S4x2048x32, .f32⟩
  | 89 => ⟨S4x2048x32, .f32⟩
  | 90 => ⟨S2048x32, .f32⟩
  | 91 => ⟨S1x2048x32, .f32⟩
  | 92 => ⟨S4x2048x32, .f32⟩
  | 93 => ⟨S4x2048x32, .f32⟩
  | 94 => ⟨S4x2048x32, .f32⟩
  | 95 => ⟨S_, .f32⟩
  | 96 => ⟨S4x2048x1, .f32⟩
  | 97 => ⟨S_, .f32⟩
  | 98 => ⟨S4x2048x95, .f32⟩
  | 99 => ⟨S4x2048x256, .f32⟩
  | 100 => ⟨S4x2048x1024, .f32⟩
  | 101 => ⟨S_, .f32⟩
  | 102 => ⟨S4x2048, .f32⟩
  | 103 => ⟨S16x512, .f32⟩
  | 104 => ⟨S_, .f32⟩
  | 105 => ⟨S16, .f32⟩
  | 106 => ⟨S16x1x1, .f32⟩
  | 107 => ⟨S16x8x128, .f32⟩
  | 108 => ⟨S4x2048x1024, .f32⟩
  | 109 => ⟨S8192x1024, .f32⟩
  | 110 => ⟨S8192x1024, .bf16⟩
  | 111 => ⟨S4x2048x512, .f32⟩
  | 112 => ⟨S4x2048x512, .f32⟩
  | 113 => ⟨S_, .f32⟩
  | 114 => ⟨S4x2048x512, .f32⟩
  | 115 => ⟨S4x2048x512, .f32⟩
  | 116 => ⟨S_, .f32⟩
  | 117 => ⟨S4x2048x512, .f32⟩
  | 118 => ⟨S4x2048x512, .f32⟩
  | 119 => ⟨S4x2048x512, .f32⟩
  | 120 => ⟨S8192x512, .f32⟩
  | 121 => ⟨S8192x512, .bf16⟩
  | 122 => ⟨S8192x1024, .f32⟩
  | 123 => ⟨S8192x1024, .bf16⟩
  | 124 => ⟨S8192x256, .f32⟩
  | 125 => ⟨S8192x256, .bf16⟩
  | 126 => ⟨S4x2048x512, .f32⟩
  | 127 => ⟨S4x2048x512, .f32⟩
  | _ => ⟨S4x2048x1024, .f32⟩

abbrev hbmTy0_2 (i : Nat) : BufTy := match i % 128 with
  | 0 => ⟨S_, .f32⟩
  | 1 => ⟨S4x2048x512, .f32⟩
  | 2 => ⟨S4x2048x512, .f32⟩
  | 3 => ⟨S_, .f32⟩
  | 4 => ⟨S4x2048x512, .f32⟩
  | 5 => ⟨S4x2048x512, .f32⟩
  | 6 => ⟨S4x2048x512, .f32⟩
  | 7 => ⟨S8192x512, .f32⟩
  | 8 => ⟨S8192x512, .bf16⟩
  | 9 => ⟨S4x2048x1024, .f32⟩
  | 10 => ⟨S4x2048x1024, .f32⟩
  | 11 => ⟨S_, .f32⟩
  | 12 => ⟨S4x2048x1024, .f32⟩
  | 13 => ⟨S4x2048x1024, .f32⟩
  | 14 => ⟨S_, .f32⟩
  | 15 => ⟨S4x2048x1024, .f32⟩
  | 16 => ⟨S4x2048x1024, .f32⟩
  | 17 => ⟨S8192x1024, .f32⟩
  | 18 => ⟨S8192x1024, .bf16⟩
  | 19 => ⟨S4x2048x1024, .f32⟩
  | 20 => ⟨S4x2048x1024, .f32⟩
  | 21 => ⟨S_, .f32⟩
  | 22 => ⟨S4x2048x1024, .f32⟩
  | 23 => ⟨S4x2048x1024, .f32⟩
  | 24 => ⟨S_, .f32⟩
  | 25 => ⟨S4x2048x1024, .f32⟩
  | 26 => ⟨S4x2048x1024, .f32⟩
  | 27 => ⟨S8192x1024, .f32⟩
  | 28 => ⟨S8192x1024, .bf16⟩
  | _ => ⟨S4x2048x1024, .f32⟩

abbrev hbmTy (i : Nat) : BufTy := match i / 128 with
  | 0 => hbmTy0_0 i
  | 1 => hbmTy0_1 i
  | 2 => hbmTy0_2 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_8 : Ref sig .tc := ⟨.hbm, 70, rfl⟩
abbrev main_v55 : Ref sig .tc := ⟨.hbm, 71, rfl⟩
abbrev main_v56 : Ref sig .tc := ⟨.hbm, 72, rfl⟩
abbrev main_cst_9 : Ref sig .tc := ⟨.hbm, 73, rfl⟩
abbrev main_v57 : Ref sig .tc := ⟨.hbm, 74, rfl⟩
abbrev main_v58 : Ref sig .tc := ⟨.hbm, 75, rfl⟩
abbrev main_cst_10 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_c : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_c_11 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_12 : Ref sig .tc := ⟨.hbm, 100, rfl⟩
abbrev main_v80 : Ref sig .tc := ⟨.hbm, 101, rfl⟩
abbrev main_v81 : Ref sig .tc := ⟨.hbm, 102, rfl⟩
abbrev main_cst_13 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_cst_14 : Ref sig .tc := ⟨.hbm, 107, rfl⟩
abbrev main_v85 : Ref sig .tc := ⟨.hbm, 108, rfl⟩
abbrev main_v86 : Ref sig .tc := ⟨.hbm, 109, rfl⟩
abbrev main_cst_15 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_cst_16 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_cst_17 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_c_18 : Ref sig .tc := ⟨.hbm, 152, rfl⟩
abbrev main_call0_v0 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_cst_19 : Ref sig .tc := ⟨.hbm, 158, rfl⟩
abbrev main_v130 : Ref sig .tc := ⟨.hbm, 159, rfl⟩
abbrev main_v131 : Ref sig .tc := ⟨.hbm, 160, rfl⟩
abbrev main_cst_20 : Ref sig .tc := ⟨.hbm, 161, rfl⟩
abbrev main_v132 : Ref sig .tc := ⟨.hbm, 162, rfl⟩
abbrev main_v133 : Ref sig .tc := ⟨.hbm, 163, rfl⟩
abbrev main_cst_21 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_c_22 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_c_23 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_cst_24 : Ref sig .tc := ⟨.hbm, 183, rfl⟩
abbrev main_v150 : Ref sig .tc := ⟨.hbm, 184, rfl⟩
abbrev main_v151 : Ref sig .tc := ⟨.hbm, 185, rfl⟩
abbrev main_cst_25 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_cst_26 : Ref sig .tc := ⟨.hbm, 190, rfl⟩
abbrev main_v155 : Ref sig .tc := ⟨.hbm, 191, rfl⟩
abbrev main_v156 : Ref sig .tc := ⟨.hbm, 192, rfl⟩
abbrev main_cst_27 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_cst_28 : Ref sig .tc := ⟨.hbm, 223, rfl⟩
abbrev main_v186 : Ref sig .tc := ⟨.hbm, 224, rfl⟩
abbrev main_cst_29 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_cst_30 : Ref sig .tc := ⟨.hbm, 229, rfl⟩
abbrev main_v190 : Ref sig .tc := ⟨.hbm, 230, rfl⟩
abbrev main_v191 : Ref sig .tc := ⟨.hbm, 231, rfl⟩
abbrev main_cst_31 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_v196 : Ref sig .tc := ⟨.hbm, 237, rfl⟩
abbrev main_v197 : Ref sig .tc := ⟨.hbm, 238, rfl⟩
abbrev main_call1_v0 : Ref sig .tc := ⟨.hbm, 239, rfl⟩
abbrev main_call1_v1 : Ref sig .tc := ⟨.hbm, 240, rfl⟩
abbrev main_call1_cst : Ref sig .tc := ⟨.hbm, 241, rfl⟩
abbrev main_call1_v2 : Ref sig .tc := ⟨.hbm, 242, rfl⟩
abbrev main_call1_v3 : Ref sig .tc := ⟨.hbm, 243, rfl⟩
abbrev main_call1_cst_0 : Ref sig .tc := ⟨.hbm, 244, rfl⟩
abbrev main_call1_v4 : Ref sig .tc := ⟨.hbm, 245, rfl⟩
abbrev main_call1_v5 : Ref sig .tc := ⟨.hbm, 246, rfl⟩
abbrev main_v198 : Ref sig .tc := ⟨.hbm, 247, rfl⟩
abbrev main_v199 : Ref sig .tc := ⟨.hbm, 248, rfl⟩
abbrev main_v200 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_call2_v0 : Ref sig .tc := ⟨.hbm, 254, rfl⟩
abbrev main_call2_v1 : Ref sig .tc := ⟨.hbm, 255, rfl⟩
abbrev main_call2_cst : Ref sig .tc := ⟨.hbm, 256, rfl⟩
abbrev main_call2_v2 : Ref sig .tc := ⟨.hbm, 257, rfl⟩
abbrev main_call2_v3 : Ref sig .tc := ⟨.hbm, 258, rfl⟩
abbrev main_call2_cst_0 : Ref sig .tc := ⟨.hbm, 259, rfl⟩
abbrev main_call2_v4 : Ref sig .tc := ⟨.hbm, 260, rfl⟩
abbrev main_call2_v5 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_cst_32 : Ref sig .tc := ⟨.hbm, 267, rfl⟩
abbrev main_v210 : Ref sig .tc := ⟨.hbm, 268, rfl⟩
abbrev main_v211 : Ref sig .tc := ⟨.hbm, 269, rfl⟩
abbrev main_cst_33 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_v215 : Ref sig .tc := ⟨.hbm, 274, rfl⟩
abbrev main_v216 : Ref sig .tc := ⟨.hbm, 275, rfl⟩
abbrev main_v217 : Ref sig .tc := ⟨.hbm, 276, rfl⟩
abbrev main_cst_34 : Ref sig .tc := ⟨.hbm, 277, rfl⟩
abbrev main_v218 : Ref sig .tc := ⟨.hbm, 278, rfl⟩
abbrev main_v219 : Ref sig .tc := ⟨.hbm, 279, rfl⟩
abbrev main_cst_35 : Ref sig .tc := ⟨.hbm, 280, rfl⟩
abbrev main_v220 : Ref sig .tc := ⟨.hbm, 281, rfl⟩
abbrev main_v221 : Ref sig .tc := ⟨.hbm, 282, rfl⟩
abbrev main_v222 : Ref sig .tc := ⟨.hbm, 283, rfl⟩
abbrev main_v223 : Ref sig .tc := ⟨.hbm, 284, rfl⟩

abbrev nD : Nat := 1
abbrev τ : Topo := Topo.v7x

variable {F : FTy → Type} [FloatOps F]
-- ==== Pad.lean ====
abbrev S4x1024 : Shape := ⟨2, ![4, 1024]⟩
abbrev S1024 : Shape := ⟨1, ![1024]⟩
abbrev S1x1024x3072 : Shape := ⟨3, ![1, 1024, 3072]⟩
abbrev S1x3072 : Shape := ⟨2, ![1, 3072]⟩
abbrev S1x1024x4000 : Shape := ⟨3, ![1, 1024, 4000]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S1024x4000 : Shape := ⟨2, ![1024, 4000]⟩
abbrev S4000x1024 : Shape := ⟨2, ![4000, 1024]⟩
abbrev S1024x3072 : Shape := ⟨2, ![1024, 3072]⟩
abbrev S3072 : Shape := ⟨1, ![3072]⟩
abbrev S1024x4096 : Shape := ⟨2, ![1024, 4096]⟩
abbrev S8x1x3072 : Shape := ⟨3, ![8, 1, 3072]⟩
abbrev S4000x256 : Shape := ⟨2, ![4000, 256]⟩
abbrev S8x256 : Shape := ⟨2, ![8, 256]⟩
abbrev S256x3072 : Shape := ⟨2, ![256, 3072]⟩
abbrev S256x4096 : Shape := ⟨2, ![256, 4096]⟩
abbrev S8x3072 : Shape := ⟨2, ![8, 3072]⟩
abbrev S32x256 : Shape := ⟨2, ![32, 256]⟩
abbrev S1440x256 : Shape := ⟨2, ![1440, 256]⟩
abbrev S2560x256 : Shape := ⟨2, ![2560, 256]⟩
abbrev S4096x256 : Shape := ⟨2, ![4096, 256]⟩
abbrev S512x256 : Shape := ⟨2, ![512, 256]⟩
abbrev S256x512 : Shape := ⟨2, ![256, 512]⟩

abbrev nBuf : Space → Nat
  | .hbm => 16
  | .vmem => 10
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S1x1024x3072, .f32⟩
  | .hbm, ⟨3, _⟩ => ⟨S1x3072, .f32⟩
  | .hbm, ⟨4, _⟩ => ⟨S1x1024x4000, .f32⟩
  | .hbm, ⟨5, _⟩ => ⟨S1x1024, .f32⟩
  | .hbm, ⟨6, _⟩ => ⟨S_, .f32⟩
  | .hbm, ⟨7, _⟩ => ⟨S3x1024, .f32⟩
  | .hbm, ⟨8, _⟩ => ⟨S8x1024, .f32⟩
  | .hbm, ⟨9, _⟩ => ⟨S1024x4000, .f32⟩
  | .hbm, ⟨10, _⟩ => ⟨S4000x1024, .f32⟩
  | .hbm, ⟨11, _⟩ => ⟨S1024x3072, .f32⟩
  | .hbm, ⟨12, _⟩ => ⟨S3072, .f32⟩
  | .hbm, ⟨13, _⟩ => ⟨S1x3072, .f32⟩
  | .hbm, ⟨14, _⟩ => ⟨S1024x4096, .bf16⟩
  | .hbm, ⟨15, _⟩ => ⟨S8x1x3072, .f32⟩
  | .local _ .vmem, ⟨0, _⟩ => ⟨S4000x256, .f32⟩
  | .local _ .vmem, ⟨1, _⟩ => ⟨S4000x256, .f32⟩
  | .local _ .vmem, ⟨2, _⟩ => ⟨S8x256, .f32⟩
  | .local _ .vmem, ⟨3, _⟩ => ⟨S8x256, .f32⟩
  | .local _ .vmem, ⟨4, _⟩ => ⟨S256x3072, .f32⟩
  | .local _ .vmem, ⟨5, _⟩ => ⟨S256x3072, .f32⟩
  | .local _ .vmem, ⟨6, _⟩ => ⟨S1x3072, .f32⟩
  | .local _ .vmem, ⟨7, _⟩ => ⟨S256x4096, .bf16⟩
  | .local _ .vmem, ⟨8, _⟩ => ⟨S256x4096, .bf16⟩
  | .local _ .vmem, ⟨9, _⟩ => ⟨S8x1x3072, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_6 : BitVec 32 := 0#32
  let v17 : BitVec 1 := Scalar.cmpi .ne v16 c0_i32_6
  v17

def k0_cond2 (i : grid0.Coords) : BitVec 1 :=
  let arg0 : BitVec 32 := BitVec.ofNat 32 (i 0).val
  let c0_i32_7 : BitVec 32 := 0#32
  let v18 : BitVec 1 := Scalar.cmpi .sgt arg0 c0_i32_7
  let v19 : BitVec 32 := Scalar.extui v18
  let c0_i32_8 : BitVec 32 := 0#32
  let v20 : BitVec 1 := Scalar.cmpi .ne v19 c0_i32_8
  v20

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== PadRefIdeal.lean ====
abbrev S4x1024 : Shape := ⟨2, ![4, 1024]⟩
abbrev S1024 : Shape := ⟨1, ![1024]⟩
abbrev S1x1024x3072 : Shape := ⟨3, ![1, 1024, 3072]⟩
abbrev S1x3072 : Shape := ⟨2, ![1, 3072]⟩
abbrev S1x1024x4000 : Shape := ⟨3, ![1, 1024, 4000]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S1024x3072 : Shape := ⟨2, ![1024, 3072]⟩
abbrev S8x3072 : Shape := ⟨2, ![8, 3072]⟩
abbrev S3072 : Shape := ⟨1, ![3072]⟩
abbrev S8x1x3072 : Shape := ⟨3, ![8, 1, 3072]⟩
abbrev S1024x4000 : Shape := ⟨2, ![1024, 4000]⟩
abbrev S1024x32 : Shape := ⟨2, ![1024, 32]⟩
abbrev S1024x8 : Shape := ⟨2, ![1024, 8]⟩
abbrev S1024x1440 : Shape := ⟨2, ![1024, 1440]⟩
abbrev S1024x2560 : Shape := ⟨2, ![1024, 2560]⟩
abbrev S1024x4096 : Shape := ⟨2, ![1024, 4096]⟩

abbrev nBuf : Space → Nat
  | .hbm => 40
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S1x1024x3072, .f32⟩
  | .hbm, ⟨3, _⟩ => ⟨S1x3072, .f32⟩
  | .hbm, ⟨4, _⟩ => ⟨S1x1024x4000, .f32⟩
  | .hbm, ⟨5, _⟩ => ⟨S1x1024, .f32⟩
  | .hbm, ⟨6, _⟩ => ⟨S_, .f32⟩
  | .hbm, ⟨7, _⟩ => ⟨S3x1024, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S_, .f32⟩
  | .hbm, ⟨15, _⟩ => ⟨S8x1024, .f32⟩
  | .hbm, ⟨16, _⟩ => ⟨S8x1024, .f32⟩
  | .hbm, ⟨17, _⟩ => ⟨S8x1024, .f32⟩
  | .hbm, ⟨18, _⟩ => ⟨S1024x3072, .f32⟩
  | .hbm, ⟨19, _⟩ => ⟨S8x3072, .f32⟩
  | .hbm, ⟨20, _⟩ => ⟨S3072, .f32⟩
  | .hbm, ⟨21, _⟩ => ⟨S1x3072, .f32⟩
  | .hbm, ⟨22, _⟩ => ⟨S8x3072, .f32⟩
  | .hbm, ⟨23, _⟩ => ⟨S8x3072, .f32⟩
  | .hbm, ⟨24, _⟩ => ⟨S8x1x3072, .f32⟩
  | .hbm, ⟨25, _⟩ => ⟨S1024x4000, .f32⟩
  | .hbm, ⟨26, _⟩ => ⟨S1024x32, .f32⟩
  | .hbm, ⟨27, _⟩ => ⟨S1024x8, .f32⟩
  | .hbm, ⟨28, _⟩ => ⟨S1024x8, .f32⟩
  | .hbm, ⟨29, _⟩ => ⟨S1024x8, .f32⟩
  | .hbm, ⟨30, _⟩ => ⟨S1024x8, .f32⟩
  | .hbm, ⟨31, _⟩ => ⟨S1024x8, .f32⟩
  | .hbm, ⟨32, _⟩ => ⟨S1024x8, .f32⟩
  | .hbm, ⟨33, _⟩ => ⟨S1024x32, .f32⟩
  | .hbm, ⟨34, _⟩ => ⟨S_, .f32⟩
  | .hbm, ⟨35, _⟩ => ⟨S1024x32, .f32⟩
  | .hbm, ⟨36, _⟩ => ⟨S1024x1440, .f32⟩
  | .hbm, ⟨37, _⟩ => ⟨S1024x2560, .f32⟩
  | .hbm, ⟨38, _⟩ => ⟨S1024x4096, .f32⟩
  | .hbm, ⟨39, _⟩ => ⟨S1024x4096, .bf16⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]
-- ==== Proof.Ops.lean ====
/- The vector operations of the programs at real values.  `Mat v f` says that every element of the matrix `v` of extended
   reals is the real number `f i j` at its row and column; each lemma below says which real function an operation's
   result holds when its operands hold real functions.  The functions are indexed by natural numbers, so that a slice is
   a shift of the index and a concatenation is a case on it. -/
module

public import Idealize.ShloMosaic.Lib.MatmulPlain
public import Idealize.ShloMosaic.Lib.Pipeline.Value
public import Idealize.ShloMosaic.Lib.Pointwise
public import Idealize.ShloMosaic.Lib.ValueIdx
public import Idealize.ShloMosaic.Lib.IdealHost
public import Idealize.ShloMosaic.PureOps.Ideal.Laws

@[expose] public section

noncomputable section

namespace Cert.Layer

open Idealize.ShloMosaic hiding ix1 ix2 ix3 eq_ix1 eq_ix2 eq_ix3
open Idealize.ShloMosaic.ValueIdx
open Finset (range)

/-- The matrix `v` holds the real function `f`. -/
def Mat {a b : ℕ} (v : (⟨2, ![a, b]⟩ : Shape).Idx → EReal) (f : ℕ → ℕ → ℝ) : Prop :=
  ∀ i, v i = ((f (i 0).val (i 1).val : ℝ) : EReal)

/-- The vector `v` holds the real function `f`. -/
def Row {a : ℕ} (v : (⟨1, ![a]⟩ : Shape).Idx → EReal) (f : ℕ → ℝ) : Prop :=
  ∀ i, v i = ((f (i 0).val : ℝ) : EReal)

/-- The rank-three array `v` holds the real function `f`. -/
def Cube {a b c : ℕ} (v : (⟨3, ![a, b, c]⟩ : Shape).Idx → EReal) (f : ℕ → ℕ → ℕ → ℝ) : Prop :=
  ∀ i, v i = ((f (i 0).val (i 1).val (i 2).val : ℝ) : EReal)

/-- A sum of reals taken among the extended reals is the real sum. -/
theorem coe_sum_fin (n : ℕ) (f : Fin n → ℝ) : (∑ k, ((f k : ℝ) : EReal)) = ((∑ k, f k : ℝ) : EReal) := by
  induction n with
  | zero => simp
  | succ n ih => rw [Fin.sum_univ_succ, Fin.sum_univ_succ, ih, EReal.coe_add]

/-- The same for a function on the natural numbers, as a sum over `range n`. -/
theorem coe_sum_range (n : ℕ) (f : ℕ → ℝ) : (∑ k : Fin n, ((f k.val : ℝ) : EReal)) = ((∑ k ∈ range n, f k : ℝ) : EReal) := by
  rw [coe_sum_fin, Finset.sum_range]

/-- A sum whose terms are products of reals. -/
theorem coe_sum_mul (n : ℕ) (f g : ℕ → ℝ) :
    (∑ k : Fin n, ((f k.val : ℝ) : EReal) * ((g k.val : ℝ) : EReal)) = ((∑ k ∈ range n, f k * g k : ℝ) : EReal) := by
  rw [← coe_sum_range n fun k => f k * g k]
  exact Finset.sum_congr rfl fun k _ => (EReal.coe_mul _ _).symm

variable {a b c : ℕ} {φ φ' : FTy}

/-- A held function may be replaced by one equal to it within the matrix. -/
theorem Mat.congr {v : (⟨2, ![a, b]⟩ : Shape).Idx → EReal} {f g : ℕ → ℕ → ℝ} (h : Mat v f)
    (e : ∀ i j, i < a → j < b → f i j = g i j) : Mat v g :=
  fun i => (h i).trans (congrArg _ (e _ _ (i 0).isLt (i 1).isLt))

theorem Mat.mulf {x y : FVec Ideal ⟨2, ![a, b]⟩ φ} {f g : ℕ → ℕ → ℝ} (hx : Mat x f) (hy : Mat y g) :
    Mat (mulf x y) (fun i j => f i j * g i j) := fun i => by
  show x i * y i = _
  rw [hx i, hy i, EReal.coe_mul]

theorem Mat.addf {x y : FVec Ideal ⟨2, ![a, b]⟩ φ} {f g : ℕ → ℕ → ℝ} (hx : Mat x f) (hy : Mat y g) :
    Mat (addf x y) (fun i j => f i j + g i j) := fun i => by
  show x i + y i = _
  rw [hx i, hy i, EReal.coe_add]

theorem Mat.subf {x y : FVec Ideal ⟨2, ![a, b]⟩ φ} {f g : ℕ → ℕ → ℝ} (hx : Mat x f) (hy : Mat y g) :
    Mat (subf x y) (fun i j => f i j - g i j) := fun i => by
  show x i - y i = _
  rw [hx i, hy i, EReal.coe_sub]

/-- Division, the divisor being nonzero throughout the matrix. -/
theorem Mat.divf {x y : FVec Ideal ⟨2, ![a, b]⟩ φ} {f g : ℕ → ℕ → ℝ} (hx : Mat x f) (hy : Mat y g)
    (hg : ∀ i j, i < a → j < b → g i j ≠ 0) : Mat (divf x y) (fun i j => f i j / g i j) := fun i => by
  show Ideal.div (x i) (y i) = _
  rw [hx i, hy i, Ideal.div_coe (hg _ _ (i 0).isLt (i 1).isLt), ← EReal.coe_mul, mul_one_div]

theorem ideal_rsqrt_pos {r : ℝ} (h : 0 < r) : Ideal.rsqrt (r : EReal) = (((Real.sqrt r)⁻¹ : ℝ) : EReal) := by
  show (if r < 0 then ⊥ else if r = 0 then ⊤ else (((Real.sqrt r)⁻¹ : ℝ) : EReal)) = _
  rw [if_neg h.not_gt, if_neg h.ne']

/-- The reciprocal square root of a positive matrix. -/
theorem Mat.rsqrt {x : FVec Ideal ⟨2, ![a, b]⟩ φ} {f : ℕ → ℕ → ℝ} (hx : Mat x f)
    (hf : ∀ i j, i < a → j < b → 0 < f i j) : Mat (rsqrt x) (fun i j => (Real.sqrt (f i j))⁻¹) := fun i => by
  show Ideal.rsqrt (x i) = _
  rw [hx i, ideal_rsqrt_pos (hf _ _ (i 0).isLt (i 1).isLt)]

theorem Mat.tanh {x : FVec Ideal ⟨2, ![a, b]⟩ φ} {f : ℕ → ℕ → ℝ} (hx : Mat x f) :
    Mat (tanh x) (fun i j => Real.tanh (f i j)) := fun i => by
  show Ideal.tanh (x i) = _
  rw [hx i]; rfl

theorem Mat.exp2 {x : FVec Ideal ⟨2, ![a, b]⟩ φ} {f : ℕ → ℕ → ℝ} (hx : Mat x f) :
    Mat (exp2 x) (fun i j => (2 : ℝ) ^ f i j) := fun i => by
  show Ideal.exp2 (x i) = _
  rw [hx i]; rfl

theorem Mat.truncf {x : FVec Ideal ⟨2, ![a, b]⟩ φ} {f : ℕ → ℕ → ℝ} (hx : Mat x f) (h : φ'.bits < φ.bits) :
    Mat (truncf φ' x h) f := hx

theorem Mat.extf {x : FVec Ideal ⟨2, ![a, b]⟩ φ} {f : ℕ → ℕ → ℝ} (hx : Mat x f) (h : φ.bits < φ'.bits) :
    Mat (extf φ' x h) f := hx

/-- One number at every place. -/
theorem Mat.const {r : ℝ} {v : EReal} (h : v = (r : EReal)) :
    Mat (broadcast (⟨2, ![a, b]⟩ : Shape) v) (fun _ _ => r) := fun _ => h

theorem Mat.slice {p q : ℕ} {x : (⟨2, ![a, b]⟩ : Shape).Idx → EReal} {f : ℕ → ℕ → ℝ} (o u : ℕ) (hx : Mat x f)
    (h : (⟨2, ![a, b]⟩ : Shape).Slices ![o, u] ⟨2, ![p, q]⟩) :
    Mat (extractStridedSlice ⟨2, ![p, q]⟩ ![o, u] x h) (fun i j => f (o + i) (u + j)) := fun i => by
  have e : ∀ d : Fin 2, _ := fun d => h.2 d
  have e0 : o + p ≤ a := e 0
  have e1 : u + q ≤ b := e 1
  have h0 : (i 0).val < p := (i 0).isLt
  have h1 : (i 1).val < q := (i 1).isLt
  rw [extractStridedSlice_apply ![o, u] x h i (ix2 ⟨o + (i 0).val, by omega⟩ ⟨u + (i 1).val, by omega⟩)
    (fun d => match d with | ⟨0, _⟩ => rfl | ⟨1, _⟩ => rfl)]
  exact hx _

theorem Mat.transpose {x : (⟨2, ![a, b]⟩ : Shape).Idx → EReal} {f : ℕ → ℕ → ℝ} (hx : Mat x f)
    (h : (⟨2, ![a, b]⟩ : Shape).Transposes [1, 0] ⟨2, ![b, a]⟩) :
    Mat (Idealize.ShloMosaic.transpose ⟨2, ![b, a]⟩ [1, 0] x h) (fun i j => f j i) := fun i => by
  rw [transpose_apply [1, 0] x h i (ix2 (i 1) (i 0)) (fun d => match d with | ⟨0, _⟩ => rfl | ⟨1, _⟩ => rfl)]
  exact hx _

/-- A single row repeated. -/
theorem Mat.bcastRow {x : (⟨2, ![1, b]⟩ : Shape).Idx → EReal} {f : ℕ → ℕ → ℝ} (hx : Mat x f)
    (h : (⟨2, ![1, b]⟩ : Shape).Broadcasts ⟨2, ![a, b]⟩) :
    Mat (broadcastTo ⟨2, ![a, b]⟩ x h) (fun _ j => f 0 j) := fun i => by
  rw [broadcastTo_apply x h i (ix2 0 (i 1)) (fun d => match d with
    | ⟨0, _⟩ => rfl
    | ⟨1, _⟩ => by
      show (i 1).val = if b = 1 then 0 else (i 1).val
      have h1 : (i 1).val < b := (i 1).isLt
      split <;> omega)]
  exact hx _

/-- A single column repeated. -/
theorem Mat.bcastCol {x : (⟨2, ![a, 1]⟩ : Shape).Idx → EReal} {f : ℕ → ℕ → ℝ} (hx : Mat x f)
    (h : (⟨2, ![a, 1]⟩ : Shape).Broadcasts ⟨2, ![a, b]⟩) :
    Mat (broadcastTo ⟨2, ![a, b]⟩ x h) (fun i _ => f i 0) := fun i => by
  rw [broadcastTo_apply x h i (ix2 (i 0) 0) (fun d => match d with
    | ⟨0, _⟩ => by
      show (i 0).val = if a = 1 then 0 else (i 0).val
      have h1 : (i 0).val < a := (i 0).isLt
      split <;> omega
    | ⟨1, _⟩ => rfl)]
  exact hx _

/-- A cast to the same shape. -/
theorem Mat.cast {x : (⟨2, ![a, b]⟩ : Shape).Idx → EReal} {f : ℕ → ℕ → ℝ} (hx : Mat x f)
    (h : (⟨2, ![a, b]⟩ : Shape).ShapeCasts ⟨2, ![a, b]⟩) : Mat (shapeCast ⟨2, ![a, b]⟩ x h) f := by
  rw [shapeCast_self]; exact hx

/-- A vector stood up as a column. -/
theorem Row.col {x : (⟨1, ![a]⟩ : Shape).Idx → EReal} {f : ℕ → ℝ} (hx : Row x f)
    (h : (⟨1, ![a]⟩ : Shape).ShapeCasts ⟨2, ![a, 1]⟩) : Mat (shapeCast ⟨2, ![a, 1]⟩ x h) (fun i _ => f i) := fun i => by
  have h1 : (i 1).val < 1 := (i 1).isLt
  rw [shapeCast_apply x h i (ix1 (i 0)) (by
    rw [Shape.rowMajor_val_one, Shape.rowMajor_val_two]
    show (i 0).val = (i 0).val * 1 + (i 1).val; omega)]
  exact hx _

/-- A vector laid as a row. -/
theorem Row.row {x : (⟨1, ![a]⟩ : Shape).Idx → EReal} {f : ℕ → ℝ} (hx : Row x f)
    (h : (⟨1, ![a]⟩ : Shape).ShapeCasts ⟨2, ![1, a]⟩) : Mat (shapeCast ⟨2, ![1, a]⟩ x h) (fun _ j => f j) := fun i => by
  have h1 : (i 0).val < 1 := (i 0).isLt
  rw [shapeCast_apply x h i (ix1 (i 1)) (by
    rw [Shape.rowMajor_val_one, Shape.rowMajor_val_two]
    show (i 1).val = (i 0).val * a + (i 1).val
    have : (i 0).val = 0 := by omega
    rw [this]; omega)]
  exact hx _

/-- The first two axes joined. -/
theorem Cube.join {n : ℕ} {x : (⟨3, ![a, b, c]⟩ : Shape).Idx → EReal} {f : ℕ → ℕ → ℕ → ℝ} (hx : Cube x f) (hn : n = a * b)
    (h : (⟨3, ![a, b, c]⟩ : Shape).ShapeCasts ⟨2, ![n, c]⟩) :
    Mat (shapeCast ⟨2, ![n, c]⟩ x h) (fun i j => f (i / b) (i % b) j) := fun i => by
  have h0 : (i 0).val < n := (i 0).isLt
  have hb : 0 < b := Nat.pos_of_ne_zero (by rintro rfl; omega)
  rw [shapeCast_apply x h i (ix3 ⟨(i 0).val / b, Nat.div_lt_of_lt_mul (by rw [Nat.mul_comm]; omega)⟩
    ⟨(i 0).val % b, Nat.mod_lt _ hb⟩ (i 1)) (by
    rw [Shape.rowMajor_val_three, Shape.rowMajor_val_two]
    show ((i 0).val / b * b + (i 0).val % b) * c + (i 1).val = (i 0).val * c + (i 1).val
    rw [Nat.div_add_mod' (i 0).val b])]
  exact hx _

/-- The rows split over two axes. -/
theorem Mat.split {n : ℕ} {x : (⟨2, ![n, c]⟩ : Shape).Idx → EReal} {f : ℕ → ℕ → ℝ} (hx : Mat x f) (hn : n = a * b)
    (h : (⟨2, ![n, c]⟩ : Shape).ShapeCasts ⟨3, ![a, b, c]⟩) :
    Cube (shapeCast ⟨3, ![a, b, c]⟩ x h) (fun i j k => f (i * b + j) k) := fun i => by
  have h0 : (i 0).val < a := (i 0).isLt
  have h1 : (i 1).val < b := (i 1).isLt
  have hlt : (i 0).val * b + (i 1).val < n := by
    have := Nat.mul_le_mul_right b (Nat.succ_le_of_lt h0)
    rw [Nat.succ_mul] at this; omega
  rw [shapeCast_apply x h i (ix2 ⟨(i 0).val * b + (i 1).val, hlt⟩ (i 2)) (by
    rw [Shape.rowMajor_val_three, Shape.rowMajor_val_two]; rfl)]
  exact hx _

/-- The sum along the rows. -/
theorem Mat.sumRows {x : FVec Ideal ⟨2, ![a, b]⟩ φ} {f : ℕ → ℕ → ℝ} (hx : Mat x f) (acc : BitVec φ.bits)
    (h : (⟨2, ![a, b]⟩ : Shape).Reduces [1] ⟨1, ![a]⟩) (hφ : FKind.Formats φ) (hacc : acc = FKind.add.neutral φ hφ) :
    Row (multiReduction .add [1] ⟨1, ![a]⟩ x acc h hφ hacc) (fun i => ∑ k ∈ range b, f i k) := fun i => by
  rw [multiReduction_add_apply]
  show Ideal.reduceAdd h x i = _
  rw [Ideal.reduceAdd_r2_a1, ← coe_sum_range]
  exact Finset.sum_congr rfl fun k _ => hx _

/-- The product of two matrices. -/
theorem Mat.mm {m k n : ℕ} {φ₁ φ₂ : FTy} {D : DotDims ⟨2, ![m, k]⟩ ⟨2, ![k, n]⟩ ⟨2, ![m, n]⟩} (hD : D = DotDims.plain m k n)
    {x : FVec Ideal ⟨2, ![m, k]⟩ φ₁} {y : FVec Ideal ⟨2, ![k, n]⟩ φ₂} {f g : ℕ → ℕ → ℝ} (hx : Mat x f) (hy : Mat y g) :
    Mat (matmul D none x y (constant ⟨2, ![m, n]⟩ .f32 0x00000000#32)) (fun i j => ∑ r ∈ range k, f i r * g r j) := fun i => by
  subst hD
  obtain ⟨p, q, rfl⟩ : ∃ p q, i = ix2 p q := ⟨i 0, i 1, eq_ix2 i⟩
  refine (Ideal.matmul_plain_apply none x y _ p q).trans ?_
  have h0 : (constant (F := Ideal) ⟨2, ![m, n]⟩ .f32 0x00000000#32) (ix2 p q) = 0 := Ideal.ofBits_zero_f32
  rw [h0, zero_add, ← coe_sum_mul]
  exact Finset.sum_congr rfl fun r _ => by rw [hx, hy]; rfl

/-- The product of a matrix and the transpose of another. -/
theorem Mat.mmT {m k n : ℕ} {φ₁ φ₂ : FTy} {D : DotDims ⟨2, ![m, k]⟩ ⟨2, ![n, k]⟩ ⟨2, ![m, n]⟩} (hD : D = DotDims.transposedRhs m k n)
    {x : FVec Ideal ⟨2, ![m, k]⟩ φ₁} {y : FVec Ideal ⟨2, ![n, k]⟩ φ₂} {f g : ℕ → ℕ → ℝ} (hx : Mat x f) (hy : Mat y g) :
    Mat (matmul D none x y (constant ⟨2, ![m, n]⟩ .f32 0x00000000#32)) (fun i j => ∑ r ∈ range k, f i r * g j r) := fun i => by
  subst hD
  obtain ⟨p, q, rfl⟩ : ∃ p q, i = ix2 p q := ⟨i 0, i 1, eq_ix2 i⟩
  refine (Ideal.matmul_transposedRhs_apply none x y _ p q).trans ?_
  have h0 : (constant (F := Ideal) ⟨2, ![m, n]⟩ .f32 0x00000000#32) (ix2 p q) = 0 := Ideal.ofBits_zero_f32
  rw [h0, zero_add, ← coe_sum_mul]
  exact Finset.sum_congr rfl fun r _ => by rw [hx, hy]; rfl

/-- Two pieces side by side. -/
theorem Mat.beside {p q n : ℕ} {x : (⟨2, ![a, p]⟩ : Shape).Idx → EReal} {y : (⟨2, ![a, q]⟩ : Shape).Idx → EReal}
    {f g : ℕ → ℕ → ℝ} (hx : Mat x f) (hy : Mat y g) (hn : n = p + q)
    (h : Shape.Concatenates [⟨2, ![a, p]⟩, ⟨2, ![a, q]⟩] ⟨2, ![a, n]⟩ 1) :
    Mat (concatenate ⟨2, ![a, n]⟩ 1 [⟨⟨2, ![a, p]⟩, x⟩, ⟨⟨2, ![a, q]⟩, y⟩] h)
      (fun i j => if j < p then f i j else g i (j - p)) := fun i => by
  have h1 : (i 1).val < n := (i 1).isLt
  by_cases hj : (i 1).val < p
  · rw [concatenate_pair_apply_left 1 x y h i rfl (ix2 (i 0) ⟨(i 1).val, hj⟩)
      (fun d => match d with | ⟨0, _⟩ => rfl | ⟨1, _⟩ => rfl)]
    refine (hx _).trans ?_
    simp only [if_pos hj]; rfl
  · rw [concatenate_pair_apply_right 1 x y h i rfl rfl (ix2 (i 0) ⟨(i 1).val - p, by omega⟩)
      (fun d hd => match d with | ⟨0, _⟩ => rfl | ⟨1, _⟩ => absurd rfl hd) (by
        show (i 1).val - p + p = (i 1).val; omega)]
    refine (hy _).trans ?_
    simp only [if_neg hj]; rfl

/-- Equal pieces side by side: column `j` is column `j % q` of piece `j / q`. -/
theorem Mat.besideN {N q n : ℕ} {x : Fin N → (⟨2, ![a, q]⟩ : Shape).Idx → EReal} {f : ℕ → ℕ → ℕ → ℝ}
    (hx : ∀ e : Fin N, Mat (x e) (f e.val)) (hn : n = N * q)
    (h : Shape.Concatenates ((List.ofFn fun e : Fin N => (⟨⟨2, ![a, q]⟩, x e⟩ : (s : Shape) × (s.Idx → EReal))).map (·.1)) ⟨2, ![a, n]⟩ 1) :
    Mat (concatenate ⟨2, ![a, n]⟩ 1 (List.ofFn fun e : Fin N => (⟨⟨2, ![a, q]⟩, x e⟩ : (s : Shape) × (s.Idx → EReal))) h)
      (fun i j => f (j / q) i (j % q)) := fun i => by
  have h1 : (i 1).val < n := (i 1).isLt
  have hq : 0 < q := Nat.pos_of_ne_zero (by rintro rfl; omega)
  rw [concatenate_ofFn_apply 1 x h rfl q rfl i ⟨(i 1).val / q, Nat.div_lt_of_lt_mul (by rw [Nat.mul_comm]; omega)⟩ rfl
    (ix2 (i 0) ⟨(i 1).val % q, Nat.mod_lt _ hq⟩) rfl (fun d hd => match d with | ⟨0, _⟩ => rfl | ⟨1, _⟩ => absurd rfl hd)]
  exact hx _ _

/-- Equal pieces one above the other. -/
theorem Mat.aboveN {N q n : ℕ} {x : Fin N → (⟨2, ![q, b]⟩ : Shape).Idx → EReal} {f : ℕ → ℕ → ℕ → ℝ}
    (hx : ∀ e : Fin N, Mat (x e) (f e.val)) (hn : n = N * q)
    (h : Shape.Concatenates ((List.ofFn fun e : Fin N => (⟨⟨2, ![q, b]⟩, x e⟩ : (s : Shape) × (s.Idx → EReal))).map (·.1)) ⟨2, ![n, b]⟩ 0) :
    Mat (concatenate ⟨2, ![n, b]⟩ 0 (List.ofFn fun e : Fin N => (⟨⟨2, ![q, b]⟩, x e⟩ : (s : Shape) × (s.Idx → EReal))) h)
      (fun i j => f (i / q) (i % q) j) := fun i => by
  have h1 : (i 0).val < n := (i 0).isLt
  have hq : 0 < q := Nat.pos_of_ne_zero (by rintro rfl; omega)
  rw [concatenate_ofFn_apply 0 x h rfl q rfl i ⟨(i 0).val / q, Nat.div_lt_of_lt_mul (by rw [Nat.mul_comm]; omega)⟩ rfl
    (ix2 ⟨(i 0).val % q, Nat.mod_lt _ hq⟩ (i 1)) rfl (fun d hd => match d with | ⟨1, _⟩ => rfl | ⟨0, _⟩ => absurd rfl hd)]
  exact hx _ _

/-- A fold of the maximum over reals, begun below them all, is a real. -/
theorem fold_max_real {n : ℕ} (hn : 0 < n) (f : Fin n → ℝ) :
    ∃ r : ℝ, (Finset.univ : Finset (Fin n)).fold max (⊥ : EReal) (fun k => ((f k : ℝ) : EReal)) = (r : EReal) := by
  set v := (Finset.univ : Finset (Fin n)).fold max (⊥ : EReal) (fun k => ((f k : ℝ) : EReal))
  have ht : v ≠ ⊤ := ((Finset.fold_max_lt _).2 ⟨bot_lt_top, fun k _ => EReal.coe_lt_top _⟩).ne
  have hb : v ≠ ⊥ := ((Finset.lt_fold_max _).2 (Or.inr ⟨(⟨0, hn⟩ : Fin n), Finset.mem_univ _, EReal.bot_lt_coe _⟩)).ne'
  exact ⟨v.toReal, (EReal.coe_toReal ht hb).symm⟩

theorem ofBits_neg_inf : Ideal.ofBits .f32 0xFF800000#32 = ⊥ := by
  simp [Ideal.ofBits, Ideal.ieee]

/-- The maximum down the columns of a real matrix is real: it holds some real function. -/
theorem Mat.maxCols {x : FVec Ideal ⟨2, ![a, b]⟩ .f32} {f : ℕ → ℕ → ℝ} (hx : Mat x f) (ha : 0 < a)
    (h : (⟨2, ![a, b]⟩ : Shape).Reduces [0] ⟨1, ![b]⟩) (hφ : FKind.Formats .f32)
    (hacc : 0xFF800000#32 = FKind.maximumf.neutral .f32 hφ) :
    ∃ M : ℕ → ℝ, Row (multiReduction .maximumf [0] ⟨1, ![b]⟩ x 0xFF800000#32 h hφ hacc) M := by
  have key : ∀ i : (⟨1, ![b]⟩ : Shape).Idx, ∃ r : ℝ, multiReduction .maximumf [0] ⟨1, ![b]⟩ x 0xFF800000#32 h hφ hacc i = (r : EReal) := by
    intro i
    rw [Ideal.multiReduction_maximumf_single]
    have e : FloatOps.ofBits (F := Ideal) .f32 0xFF800000#32 = (⊥ : EReal) := ofBits_neg_inf
    rw [e]
    have e2 : (x ∘ h.lift i) = fun k : Fin a => ((f (h.lift i k 0).val (h.lift i k 1).val : ℝ) : EReal) := funext fun k => hx _
    exact e2 ▸ fold_max_real ha _
  choose r hr using key
  refine ⟨fun n => if hn : n < b then r (ix1 ⟨n, hn⟩) else 0, fun i => ?_⟩
  have h0 : (i 0).val < b := (i 0).isLt
  rw [hr i]
  simp only [dif_pos h0]
  exact congrArg (fun z => ((r z : ℝ) : EReal)) (eq_ix1 i)

end Cert.Layer
-- ==== Proof.Spec.lean ====
/- The layer as real functions: from the input rows `x s d` of one batch element and the layer's parameters, its hidden
   rows, the projected columns, the latent attention, the Fourier mixing and the merged, normalised output.  Indices are
   natural numbers.  The second half holds the equations between real numbers that the kernel's way of computing rests
   on: the logistic function by the hyperbolic tangent, the softmax in base two with its normalisation taken last, and
   the Fourier sum folded at its middle. -/
module

public import Mathlib.Analysis.SpecialFunctions.Trigonometric.Basic
public import Mathlib.Analysis.SpecialFunctions.Pow.Real
public import Mathlib.Algebra.BigOperators.Field
public import Mathlib.Analysis.SpecialFunctions.Trigonometric.DerivHyp

@[expose] public section

noncomputable section

namespace Cert.Layer

open Finset (range)

/-- The layer's parameters: the modulation's three rows, the input projection, the two up-projections, the three output
    projections and the gains of the three norms. -/
structure Params where
  shift : ℕ → ℝ
  scale : ℕ → ℝ
  gate : ℕ → ℝ
  A : ℕ → ℕ → ℝ
  UQ : ℕ → ℕ → ℝ
  UKV : ℕ → ℕ → ℝ
  WF : ℕ → ℕ → ℝ
  WA : ℕ → ℕ → ℝ
  WO : ℕ → ℕ → ℝ
  qg : ℕ → ℝ
  kg : ℕ → ℝ
  fg : ℕ → ℝ

/-- The constant added to a mean square: the single-precision number nearest to a millionth. -/
def eps : ℝ := 8796093 * (2 : ℝ) ^ (-43 : ℤ)

theorem eps_pos : 0 < eps := by unfold eps; positivity

/-- A row of `n` numbers divided by its root mean square. -/
def rms (n : ℕ) (f : ℕ → ℝ) (d : ℕ) : ℝ := f d * (Real.sqrt ((∑ k ∈ range n, f k * f k) / n + eps))⁻¹

theorem rms_pos (n : ℕ) (f : ℕ → ℝ) : 0 < (∑ k ∈ range n, f k * f k) / n + eps :=
  add_pos_of_nonneg_of_pos (div_nonneg (Finset.sum_nonneg fun k _ => mul_self_nonneg (f k)) (Nat.cast_nonneg n)) eps_pos

/-- The logistic function. -/
def logistic (x : ℝ) : ℝ := 1 / (1 + Real.exp (-x))

variable (W : Params) (x : ℕ → ℕ → ℝ)

/-- The modulated hidden row. -/
def hid (s d : ℕ) : ℝ := rms 1024 (x s) d * (1 + W.scale d) + W.shift d

/-- The input projection's columns. -/
def proj (s c : ℕ) : ℝ := ∑ d ∈ range 1024, hid W x s d * W.A d c

/-- The normalised key-value latent. -/
def ckvn (s r : ℕ) : ℝ := rms 128 (fun r => proj W x s (1280 + r)) r * W.kg r

/-- The queries of the eight heads, 96 columns each. -/
def qv (s c : ℕ) : ℝ := ∑ r ∈ range 256, (rms 256 (fun r => proj W x s (1024 + r)) r * W.qg r) * W.UQ r c

/-- The keys and values of the eight heads, 64 columns of keys and 64 of values each. -/
def kvv (t c : ℕ) : ℝ := ∑ r ∈ range 128, ckvn W x t r * W.UKV r c

/-- The score of query row `s` against key row `t` in head `h`. -/
def score (h s t : ℕ) : ℝ :=
  ∑ d ∈ range 64, qv W x s (h * 96 + d) * kvv W x t (h * 128 + d)
    + ∑ r ∈ range 32, qv W x s (h * 96 + (64 + r)) * proj W x t (1408 + r)

/-- The attention's result: the softmax of the scores over the key rows, applied to the values. -/
def attn (h s v : ℕ) : ℝ :=
  (∑ t ∈ range 256, Real.exp (score W x h s t * (Real.sqrt 96)⁻¹) * kvv W x t (h * 128 + (64 + v)))
    / ∑ t ∈ range 256, Real.exp (score W x h s t * (Real.sqrt 96)⁻¹)

/-- The angle of the transform over `n` points at the product `p` of two indices. -/
def angle (n p : ℕ) : ℝ := p * (2 * Real.pi / n)

/-- The cosine transform over the 128 channels of a group. -/
def uc (s c : ℕ) : ℝ := ∑ j ∈ range 128, proj W x s (c / 128 * 128 + j) * (Real.cos (angle 128 (j * (c % 128))) * (Real.sqrt 128)⁻¹)

/-- The sine transform over the 128 channels of a group. -/
def us (s c : ℕ) : ℝ := ∑ j ∈ range 128, proj W x s (c / 128 * 128 + j) * (Real.sin (angle 128 (j * (c % 128))) * (Real.sqrt 128)⁻¹)

/-- The real part of the transform over positions and channels. -/
def four (n c : ℕ) : ℝ :=
  ∑ m ∈ range 256, Real.cos (angle 256 (n * m)) * (1 / 16) * uc W x m c
    - ∑ m ∈ range 256, Real.sin (angle 256 (n * m)) * (1 / 16) * us W x m c

/-- The Fourier branch. -/
def yF (s o : ℕ) : ℝ := ∑ c ∈ range 512, (four W x s c * (proj W x s (512 + c) * logistic (proj W x s (512 + c)))) * W.WF c o

/-- The attention branch. -/
def yA (s o : ℕ) : ℝ :=
  ∑ c ∈ range 512, (attn W x (c / 64) s (c % 64) * (proj W x s (1536 + c) * logistic (proj W x s (1536 + c)))) * W.WA c o

/-- The two branches merged by their gates. -/
def merged (s o : ℕ) : ℝ := logistic (proj W x s (2048 + o)) * yF W x s o + logistic (proj W x s (3072 + o)) * yA W x s o

/-- The layer's row before its last norm. -/
def resid (s o : ℕ) : ℝ := x s o + W.gate o * ∑ j ∈ range 1024, merged W x s j * W.WO j o

/-- The layer's output row. -/
def out (s o : ℕ) : ℝ := rms 1024 (resid W x s) o * W.fg o

/-! ### Equations between real numbers -/

/-- The logistic function by the hyperbolic tangent. -/
theorem half_tanh (x : ℝ) : 1 / 2 * Real.tanh (1 / 2 * x) + 1 / 2 = logistic x := by
  have hx : 1 / 2 * x = x / 2 := by ring
  have e : Real.exp (-x) = Real.exp (-(x / 2)) * Real.exp (-(x / 2)) := by rw [← Real.exp_add]; ring_nf
  have e1 : Real.exp (x / 2) * Real.exp (-(x / 2)) = 1 := by rw [← Real.exp_add]; simp
  have p1 := Real.exp_pos (x / 2)
  have p2 := Real.exp_pos (-(x / 2))
  rw [logistic, hx, Real.tanh_eq_sinh_div_cosh, Real.sinh_eq, Real.cosh_eq, e]
  generalize Real.exp (x / 2) = a at *
  generalize Real.exp (-(x / 2)) = b at *
  have n1 : a + b ≠ 0 := by positivity
  have n2 : 1 + b * b ≠ 0 := by positivity
  field_simp
  linear_combination (2 : ℝ) * b * e1

/-- A power of two at a scaled exponent is an exponential. -/
theorem two_rpow_scaled (y c : ℝ) : (2 : ℝ) ^ (y * (c * (Real.log 2)⁻¹)) = Real.exp (y * c) := by
  have h2 : Real.log 2 ≠ 0 := (Real.log_pos (by norm_num)).ne'
  rw [Real.rpow_def_of_pos (by norm_num)]
  congr 1
  field_simp

/-- A quotient of weighted sums of powers does not see a shift of the exponents. -/
theorem shift_quotient (n : ℕ) (g s : ℕ → ℝ) (M : ℝ) :
    (∑ t ∈ range n, g t * (2 : ℝ) ^ (s t - M)) * (1 / ∑ t ∈ range n, (2 : ℝ) ^ (s t - M))
      = (∑ t ∈ range n, g t * (2 : ℝ) ^ s t) / ∑ t ∈ range n, (2 : ℝ) ^ s t := by
  have e : ∀ t, (2 : ℝ) ^ (s t - M) = (2 : ℝ) ^ s t * ((2 : ℝ) ^ M)⁻¹ := fun t => by
    rw [Real.rpow_sub (by norm_num), div_eq_mul_inv]
  have hM : ((2 : ℝ) ^ M)⁻¹ ≠ 0 := inv_ne_zero (Real.rpow_pos_of_pos (by norm_num) M).ne'
  simp only [e, ← mul_assoc, ← Finset.sum_mul]
  rw [mul_one_div, mul_div_mul_right _ _ hM]

/-- The softmax written out row by row, each exponent shifted by the same number, applied to values. -/
theorem softmax_apply (n : ℕ) (g s : ℕ → ℝ) (M : ℝ) :
    ∑ t ∈ range n, Real.exp (s t - M) / (∑ t' ∈ range n, Real.exp (s t' - M)) * g t
      = (∑ t ∈ range n, Real.exp (s t) * g t) / ∑ t ∈ range n, Real.exp (s t) := by
  have e : ∀ t, Real.exp (s t - M) = Real.exp (s t) * (Real.exp M)⁻¹ := fun t => by
    rw [Real.exp_sub, div_eq_mul_inv]
  have hM : (Real.exp M)⁻¹ ≠ 0 := inv_ne_zero (Real.exp_pos M).ne'
  simp only [e, ← Finset.sum_mul]
  rw [Finset.sum_div]
  refine Finset.sum_congr rfl fun t _ => ?_
  rw [mul_div_mul_right _ _ hM, div_mul_eq_mul_div]

theorem angle_mod_cos (n p : ℕ) (hn : n ≠ 0) : Real.cos (angle n (p % n)) = Real.cos (angle n p) := by
  have h : angle n p = angle n (p % n) + (p / n : ℕ) * (2 * Real.pi) := by
    have hp : (p : ℝ) = (p % n : ℕ) + n * (p / n : ℕ) := by exact_mod_cast (Nat.mod_add_div p n).symm
    have hn' : (n : ℝ) ≠ 0 := by exact_mod_cast hn
    unfold angle
    rw [hp]; push_cast; field_simp
  rw [h, Real.cos_add_nat_mul_two_pi]

theorem angle_mod_sin (n p : ℕ) (hn : n ≠ 0) : Real.sin (angle n (p % n)) = Real.sin (angle n p) := by
  have h : angle n p = angle n (p % n) + (p / n : ℕ) * (2 * Real.pi) := by
    have hp : (p : ℝ) = (p % n : ℕ) + n * (p / n : ℕ) := by exact_mod_cast (Nat.mod_add_div p n).symm
    have hn' : (n : ℝ) ≠ 0 := by exact_mod_cast hn
    unfold angle
    rw [hp]; push_cast; field_simp
  rw [h, Real.sin_add_nat_mul_two_pi]

/-- The mirrored point's angle is a whole number of turns less the point's. -/
theorem angle_mirror (k m : ℕ) (hm : m ≤ 256) : angle 256 (k * (256 - m)) = k * (2 * Real.pi) - angle 256 (k * m) := by
  unfold angle
  rw [Nat.cast_mul, Nat.cast_sub hm]; push_cast; ring

theorem angle_half (k : ℕ) : angle 256 (k * 128) = k * Real.pi := by
  unfold angle; push_cast; ring

/-- A sum over 256 points folded at the middle. -/
theorem fold_sum (F : ℕ → ℝ) :
    ∑ m ∈ range 256, F m = ∑ m ∈ range 128, (F m + if m = 0 then 0 else F (256 - m)) + F 128 := by
  have h1 : ∑ m ∈ range 256, F m = ∑ m ∈ range 128, F m + ∑ r ∈ range 128, F (128 + r) := Finset.sum_range_add F 128 128
  have h2 : ∑ r ∈ range 128, F (128 + r) = ∑ r ∈ range 127, F (129 + r) + F 128 := by
    rw [Finset.sum_range_succ' (fun r => F (128 + r)) 127]
    exact congrArg (· + F 128) (Finset.sum_congr rfl fun r _ => by congr 1; omega)
  have h3 : ∑ m ∈ range 128, (if m = 0 then 0 else F (256 - m)) = ∑ r ∈ range 127, F (129 + r) := by
    rw [Finset.sum_range_succ' (fun m => if m = 0 then 0 else F (256 - m)) 127, if_pos rfl, add_zero,
      ← Finset.sum_range_reflect (fun r => F (129 + r)) 127]
    refine Finset.sum_congr rfl fun m hm => ?_
    have := Finset.mem_range.1 hm
    rw [if_neg (by omega)]
    congr 1; omega
  rw [h1, h2, Finset.sum_add_distrib, h3, add_assoc]

/-- The transform over positions from the folded rows: the cosine part over sums of mirrored rows, the sine part over
    their differences, and the middle row with the sign of the position's parity. -/
theorem four_fold (k : ℕ) (u v : ℕ → ℝ) :
    ∑ m ∈ range 128, Real.cos (angle 256 (k * m)) * (1 / 16) * (u m + if m = 0 then 0 else u (256 - m))
      + ∑ m ∈ range 128, -Real.sin (angle 256 (k * m)) * (1 / 16) * (v m - if m = 0 then 0 else v (256 - m))
      + (if k % 2 = 1 then 0 - u 128 * (1 / 16) else u 128 * (1 / 16))
    = ∑ m ∈ range 256, Real.cos (angle 256 (k * m)) * (1 / 16) * u m
      - ∑ m ∈ range 256, Real.sin (angle 256 (k * m)) * (1 / 16) * v m := by
  rw [fold_sum fun m => Real.cos (angle 256 (k * m)) * (1 / 16) * u m,
    fold_sum fun m => Real.sin (angle 256 (k * m)) * (1 / 16) * v m]
  have hc : ∀ m, m ≤ 256 → Real.cos (angle 256 (k * (256 - m))) = Real.cos (angle 256 (k * m)) := fun m hm => by
    rw [angle_mirror k m hm, Real.cos_nat_mul_two_pi_sub]
  have hs : ∀ m, m ≤ 256 → Real.sin (angle 256 (k * (256 - m))) = -Real.sin (angle 256 (k * m)) := fun m hm => by
    rw [angle_mirror k m hm, Real.sin_nat_mul_two_pi_sub]
  have hmid : Real.cos (angle 256 (k * 128)) = if k % 2 = 1 then -1 else 1 := by
    rw [angle_half, Real.cos_nat_mul_pi]
    split
    · next h => exact (Nat.odd_iff.2 h).neg_one_pow
    · next h => exact (Nat.even_iff.2 (by omega)).neg_one_pow
  have hsmid : Real.sin (angle 256 (k * 128)) = 0 := by rw [angle_half, Real.sin_nat_mul_pi]
  have e1 : ∀ m ∈ range 128, (Real.cos (angle 256 (k * m)) * (1 / 16) * u m
        + if m = 0 then 0 else Real.cos (angle 256 (k * (256 - m))) * (1 / 16) * u (256 - m))
      = Real.cos (angle 256 (k * m)) * (1 / 16) * (u m + if m = 0 then 0 else u (256 - m)) := fun m hm => by
    have := Finset.mem_range.1 hm
    rw [hc m (by omega)]; split <;> ring
  have e2 : ∀ m ∈ range 128, (Real.sin (angle 256 (k * m)) * (1 / 16) * v m
        + if m = 0 then 0 else Real.sin (angle 256 (k * (256 - m))) * (1 / 16) * v (256 - m))
      = -(-Real.sin (angle 256 (k * m)) * (1 / 16) * (v m - if m = 0 then 0 else v (256 - m))) := fun m hm => by
    have := Finset.mem_range.1 hm
    rw [hs m (by omega)]; split <;> ring
  rw [Finset.sum_congr rfl e1, Finset.sum_congr rfl e2, Finset.sum_neg_distrib, hmid, hsmid]
  split <;> ring

end Cert.Layer
-- ==== Proof.Stages.lean ====
/- Stages of the kernel's block body at real values, each a few vector operations long: the logistic function by the
   hyperbolic tangent, a row norm, one attention head, the folded Fourier sum's middle row, and the constants. -/
module

public import proofs.«01_k».proof.Proof.Ops
public import proofs.«01_k».proof.Proof.Spec

@[expose] public section

noncomputable section

namespace Cert.Layer

open Idealize.ShloMosaic hiding ix1 ix2 ix3 eq_ix1 eq_ix2 eq_ix3
open Idealize.ShloMosaic.ValueIdx
open Finset (range)

/-! ### Constants -/

theorem ofBits_half : Ideal.ofBits .f32 0x3F000000#32 = ((1 / 2 : ℝ) : EReal) := by
  simp [Ideal.ofBits, Ideal.ieee]; rw [← EReal.coe_mul]; norm_num

theorem ofBits_one : Ideal.ofBits .f32 0x3F800000#32 = ((1 : ℝ) : EReal) := by
  simp [Ideal.ofBits, Ideal.ieee]; rw [← EReal.coe_mul]; norm_num

theorem ofBits_zero : Ideal.ofBits .f32 0x00000000#32 = ((0 : ℝ) : EReal) := by
  simp [Ideal.ofBits, Ideal.ieee]

theorem ofBits_sixteenth : Ideal.ofBits .f32 0x3D800000#32 = ((1 / 16 : ℝ) : EReal) := by
  simp [Ideal.ofBits, Ideal.ieee]; rw [← EReal.coe_mul]; norm_num

theorem ofBits_1024 : Ideal.ofBits .f32 0x44800000#32 = ((1024 : ℕ) : ℝ) := by
  simp [Ideal.ofBits, Ideal.ieee]; rw [← EReal.coe_mul]; norm_num

theorem ofBits_256 : Ideal.ofBits .f32 0x43800000#32 = ((256 : ℕ) : ℝ) := by
  simp [Ideal.ofBits, Ideal.ieee]; rw [← EReal.coe_mul]; norm_num

theorem ofBits_128 : Ideal.ofBits .f32 0x43000000#32 = ((128 : ℕ) : ℝ) := by
  simp [Ideal.ofBits, Ideal.ieee]; rw [← EReal.coe_mul]; norm_num

theorem ofBits_eps : Ideal.ofBits .f32 0x358637BD#32 = (eps : EReal) := by
  simp [Ideal.ofBits, Ideal.ieee, eps]

variable {a b : ℕ} {φ : FTy}

/-! ### Stages -/

/-- The logistic function as the kernel takes it. -/
theorem sigm_mat {v : FVec Ideal ⟨2, ![a, b]⟩ .f32} {f : ℕ → ℕ → ℝ} (hv : Mat v f) {h1 h2 h3 : EReal}
    (e1 : h1 = ((1 / 2 : ℝ) : EReal)) (e2 : h2 = ((1 / 2 : ℝ) : EReal)) (e3 : h3 = ((1 / 2 : ℝ) : EReal)) :
    Mat (addf (mulf (broadcast (⟨2, ![a, b]⟩ : Shape) h2 : FVec Ideal ⟨2, ![a, b]⟩ .f32)
      (tanh (mulf (broadcast (⟨2, ![a, b]⟩ : Shape) h1 : FVec Ideal ⟨2, ![a, b]⟩ .f32) v)))
      (broadcast (⟨2, ![a, b]⟩ : Shape) h3 : FVec Ideal ⟨2, ![a, b]⟩ .f32)) (fun i j => logistic (f i j)) :=
  (Mat.addf (Mat.mulf (Mat.const e2) (Mat.tanh (Mat.mulf (Mat.const e1) hv))) (Mat.const e3)).congr
    fun i j _ _ => half_tanh (f i j)

/-- A row norm as the kernel takes it. -/
theorem rmsn_mat {v : FVec Ideal ⟨2, ![a, b]⟩ .f32} {f : ℕ → ℕ → ℝ} (hv : Mat v f) {n c : EReal}
    (hn : n = ((b : ℝ) : EReal)) (hb : 0 < b) (hc : c = (eps : EReal)) (acc : BitVec FTy.f32.bits)
    (h : (⟨2, ![a, b]⟩ : Shape).Reduces [1] ⟨1, ![a]⟩) (hφ : FKind.Formats .f32) (hacc : acc = FKind.add.neutral .f32 hφ)
    (hs : (⟨1, ![a]⟩ : Shape).ShapeCasts ⟨2, ![a, 1]⟩) (hw : (⟨2, ![a, 1]⟩ : Shape).Broadcasts ⟨2, ![a, b]⟩) :
    Mat (mulf v (broadcastTo ⟨2, ![a, b]⟩ (rsqrt (addf (divf (shapeCast ⟨2, ![a, 1]⟩
      (multiReduction .add [1] ⟨1, ![a]⟩ (mulf v v) acc h hφ hacc) hs)
      (broadcast (⟨2, ![a, 1]⟩ : Shape) n : FVec Ideal ⟨2, ![a, 1]⟩ .f32))
      (broadcast (⟨2, ![a, 1]⟩ : Shape) c : FVec Ideal ⟨2, ![a, 1]⟩ .f32))) hw)) (fun i j => rms b (f i) j) := by
  refine Mat.mulf hv (Mat.bcastCol (Mat.rsqrt (f := fun i _ => (∑ k ∈ range b, f i k * f i k) / b + eps) ?_ fun i _ _ _ => rms_pos b (f i)) hw)
  refine Mat.addf (Mat.divf ?_ (Mat.const hn) fun _ _ _ _ => Nat.cast_ne_zero.2 hb.ne') (Mat.const hc)
  exact Row.col (Mat.sumRows (Mat.mulf hv hv) acc h hφ hacc) hs

/-- Two matrices one above the other. -/
theorem above_mat {q n : ℕ} {x y : (⟨2, ![q, b]⟩ : Shape).Idx → EReal} {f : ℕ → ℕ → ℕ → ℝ} (hx : Mat x (f 0)) (hy : Mat y (f 1))
    (hn : n = 2 * q) (h : Shape.Concatenates [⟨2, ![q, b]⟩, ⟨2, ![q, b]⟩] ⟨2, ![n, b]⟩ 0) :
    Mat (concatenate ⟨2, ![n, b]⟩ 0 [⟨⟨2, ![q, b]⟩, x⟩, ⟨⟨2, ![q, b]⟩, y⟩] h) (fun i j => f (i / q) (i % q) j) :=
  Mat.aboveN (N := 2) (x := ![x, y]) (f := f) (fun e => match e with | ⟨0, _⟩ => hx | ⟨1, _⟩ => hy) hn h

/-- A choice by a mask whose bits are known. -/
theorem sel_mat {c : IVec ⟨2, ![a, b]⟩ 1} {x y : (⟨2, ![a, b]⟩ : Shape).Idx → EReal} {f g : ℕ → ℕ → ℝ} (p : ℕ → ℕ → Prop)
    [∀ i j, Decidable (p i j)] (hc : ∀ i, c i = if p (i 0).val (i 1).val then 1#1 else 0#1) (hx : Mat x f) (hy : Mat y g) :
    Mat (select c x y) (fun i j => if p i j then f i j else g i j) := fun i => by
  show (if c i = 1 then x i else y i) = _
  rw [hc i]
  split
  · next h1 => exact (hx i).trans (congrArg _ (if_pos (by simpa using h1)).symm)
  · next h1 => exact (hy i).trans (congrArg _ (if_neg (by simpa using h1)).symm)

/-- One attention head: the scores `s`, key rows down and query rows across, shifted by their columns' maxima, raised
    to powers of two, and applied to the values below which a row of ones takes the sum. -/
theorem head_mat {s : FVec Ideal ⟨2, ![256, 256]⟩ .f32} {w : FVec Ideal ⟨2, ![80, 256]⟩ .bf16} {m1 : EReal}
    {S V : ℕ → ℕ → ℝ} (hs : Mat s S) (hw : Mat w V) (hone : ∀ t, t < 256 → V 64 t = 1) (e1 : m1 = ((1 : ℝ) : EReal))
    {D : DotDims ⟨2, ![80, 256]⟩ ⟨2, ![256, 256]⟩ ⟨2, ![80, 256]⟩} (hD : D = DotDims.plain 80 256 256)
    (h : (⟨2, ![256, 256]⟩ : Shape).Reduces [0] ⟨1, ![256]⟩) (hφ : FKind.Formats .f32)
    (hacc : 0xFF800000#32 = FKind.maximumf.neutral .f32 hφ) (hc : (⟨1, ![256]⟩ : Shape).ShapeCasts ⟨2, ![1, 256]⟩)
    (hb : (⟨2, ![1, 256]⟩ : Shape).Broadcasts ⟨2, ![256, 256]⟩) (ht : FTy.bf16.bits < FTy.f32.bits)
    (h0 : (⟨2, ![80, 256]⟩ : Shape).Slices ![0, 0] ⟨2, ![64, 256]⟩) (h64 : (⟨2, ![80, 256]⟩ : Shape).Slices ![64, 0] ⟨2, ![1, 256]⟩)
    (hb' : (⟨2, ![1, 256]⟩ : Shape).Broadcasts ⟨2, ![64, 256]⟩)
    {o : FVec Ideal ⟨2, ![80, 256]⟩ .f32}
    (ho : o = matmul D none w (truncf .bf16 (exp2 (subf s (broadcastTo ⟨2, ![256, 256]⟩
      (shapeCast ⟨2, ![1, 256]⟩ (multiReduction .maximumf [0] ⟨1, ![256]⟩ s 0xFF800000#32 h hφ hacc) hc) hb))) ht)
      (constant ⟨2, ![80, 256]⟩ .f32 0x00000000#32)) :
    Mat (mulf (extractStridedSlice ⟨2, ![64, 256]⟩ ![0, 0] o h0) (broadcastTo ⟨2, ![64, 256]⟩
      (divf (broadcast (⟨2, ![1, 256]⟩ : Shape) m1 : FVec Ideal ⟨2, ![1, 256]⟩ .f32)
        (extractStridedSlice ⟨2, ![1, 256]⟩ ![64, 0] o h64)) hb'))
      (fun v i => (∑ t ∈ range 256, V v t * (2 : ℝ) ^ S t i) / ∑ t ∈ range 256, (2 : ℝ) ^ S t i) := by
  subst ho
  obtain ⟨M, hM⟩ := Mat.maxCols hs (by norm_num) h hφ hacc
  have hm := Mat.mm hD hw ((Mat.exp2 (Mat.subf hs (Mat.bcastRow (Row.row hM hc) hb))).truncf ht)
  have hpos : ∀ i, (∑ t ∈ range 256, (2 : ℝ) ^ (S t i - M i)) ≠ 0 := fun i =>
    (Finset.sum_pos (fun t _ => Real.rpow_pos_of_pos (by norm_num) _) ⟨0, by simp⟩).ne'
  have hsum : ∀ i, ∑ t ∈ range 256, V 64 t * (2 : ℝ) ^ (S t i - M i) = ∑ t ∈ range 256, (2 : ℝ) ^ (S t i - M i) := fun i =>
    Finset.sum_congr rfl fun t ht => by rw [hone t (Finset.mem_range.1 ht), one_mul]
  have hq : Mat (divf (broadcast (⟨2, ![1, 256]⟩ : Shape) m1 : FVec Ideal ⟨2, ![1, 256]⟩ .f32) _) _ :=
    Mat.divf (Mat.const e1) (hm.slice 64 0 h64) fun i j hi hj => by
      have : i = 0 := by omega
      subst this
      simp only [Nat.add_zero, Nat.zero_add]; rw [hsum]; exact hpos j
  have hd := Mat.bcastRow (a := 64) hq hb'
  refine (Mat.mulf (hm.slice 0 0 h0) hd).congr fun v i _ _ => ?_
  simp only [Nat.add_zero, Nat.zero_add]
  rw [hsum, ← shift_quotient 256 (fun t => V v t) (fun t => S t i) (M i)]

end Cert.Layer
-- ==== Proof.Tables.lean ====
/- The kernel's prepared weights and tables as real functions, and what a product with each of them gives in terms of the
   layer's own functions: the padded query weights, the keys' weights that also carry the rotary columns through, the
   transposed values' weights with a row of ones, the channel transform of two groups at once, the half transform over
   positions and the reversal. -/
module

public import proofs.«01_k».proof.Proof.Spec
public import Mathlib.Tactic.IntervalCases

@[expose] public section

noncomputable section

namespace Cert.Layer

open Finset (range)

variable (W : Params) (x : ℕ → ℕ → ℝ)

/-- The query weights, each head's 96 columns padded to 128. -/
def wq (r c : ℕ) : ℝ := if c % 128 < 96 then W.UQ r (c / 128 * 96 + c % 128) else 0

/-- The keys' weights: 64 latent columns of each head, then the 32 shared columns carried through, then zeros. -/
def wk (r c : ℕ) : ℝ :=
  if r < 128 then (if c % 128 < 64 then W.UKV r c else 0)
  else if 64 ≤ c % 128 ∧ c % 128 < 96 ∧ c % 128 - 64 = r - 128 then 1 else 0

/-- The values' weights, transposed: 64 rows of each head, then a row that picks the latent's unit column. -/
def wvt (c r : ℕ) : ℝ :=
  if c % 80 < 64 then (if r < 128 then W.UKV r (c / 80 * 128 + (64 + c % 80)) else 0)
  else if c % 80 = 64 ∧ r = 160 then 1 else 0

/-- The channel transform of two groups of 128: cosines and sines, group by group. -/
def dftc (r c : ℕ) : ℝ :=
  if r / 128 = c / 256 then
    (if c / 128 % 2 = 0 then Real.cos (angle 128 (r % 128 * (c % 128))) else Real.sin (angle 128 (r % 128 * (c % 128)))) * (Real.sqrt 128)⁻¹
  else 0

/-- Half of the transform over positions: cosines, then negated sines. -/
def cs (k m : ℕ) : ℝ :=
  if m < 128 then Real.cos (angle 256 (k * m)) * (1 / 16) else -Real.sin (angle 256 (k * (m - 128))) * (1 / 16)

/-- The reversal of the second half's rows. -/
def jrev (m r : ℕ) : ℝ := if m + r = 128 then 1 else 0

/-- The latent of a row with the shared key columns and a unit column beside it. -/
def lat (i r : ℕ) : ℝ :=
  if r < 128 then ckvn W x i r else if r < 160 then proj W x i (1408 + (r - 128)) else if r = 160 then 1 else 0

/-- A sum over 256 split at 128. -/
theorem sum_halves (f : ℕ → ℝ) : ∑ r ∈ range 256, f r = ∑ r ∈ range 128, f r + ∑ r ∈ range 128, f (128 + r) :=
  Finset.sum_range_add f 128 128

/-- The keys of all heads with the shared columns beside them. -/
theorem lat_wk (t c : ℕ) : ∑ r ∈ range 256, lat W x t r * wk W r c
    = if c % 128 < 64 then kvv W x t c else if c % 128 < 96 then proj W x t (1408 + (c % 128 - 64)) else 0 := by
  have h1 : ∑ r ∈ range 128, lat W x t r * wk W r c = if c % 128 < 64 then kvv W x t c else 0 := by
    split
    · next h =>
      refine Finset.sum_congr rfl fun r hr => ?_
      have := Finset.mem_range.1 hr
      rw [lat, wk, if_pos this, if_pos this, if_pos h]
    · next h =>
      refine Finset.sum_eq_zero fun r hr => ?_
      have := Finset.mem_range.1 hr
      rw [wk, if_pos this, if_neg h, mul_zero]
  have h2 : ∑ r ∈ range 128, lat W x t (128 + r) * wk W (128 + r) c
      = if 64 ≤ c % 128 ∧ c % 128 < 96 then proj W x t (1408 + (c % 128 - 64)) else 0 := by
    split
    · next h =>
      rw [Finset.sum_eq_single (c % 128 - 64)]
      · rw [lat, wk, if_neg (by omega), if_pos (by omega), if_neg (by omega), if_pos (by omega), mul_one]
        congr 1; omega
      · intro r _ hr
        rw [wk, if_neg (by omega), if_neg (by omega), mul_zero]
      · intro hr; exact absurd (Finset.mem_range.2 (by omega)) hr
    · next h =>
      refine Finset.sum_eq_zero fun r hr => ?_
      rw [wk, if_neg (by omega), if_neg (by omega), mul_zero]
  rw [sum_halves, h1, h2]
  by_cases ha : c % 128 < 64
  · rw [if_pos ha, if_pos ha, if_neg (by omega), add_zero]
  · rw [if_neg ha, if_neg ha, zero_add]
    by_cases hb : c % 128 < 96
    · rw [if_pos ⟨by omega, hb⟩, if_pos hb]
    · rw [if_neg (by omega), if_neg hb]

/-- The values of all heads, transposed, each head's rows above a row of ones. -/
theorem wvt_lat (c t : ℕ) (h : c % 80 < 64) : ∑ r ∈ range 256, wvt W c r * lat W x t r = kvv W x t (c / 80 * 128 + (64 + c % 80)) := by
  have h2 : ∑ r ∈ range 128, wvt W c (128 + r) * lat W x t (128 + r) = 0 := Finset.sum_eq_zero fun r _ => by
    rw [wvt, if_pos h, if_neg (by omega), zero_mul]
  rw [sum_halves, h2, add_zero]
  exact Finset.sum_congr rfl fun r hr => by
    have := Finset.mem_range.1 hr
    rw [wvt, if_pos h, if_pos this, lat, if_pos this, mul_comm]

theorem wvt_lat_one (c t : ℕ) (h : c % 80 = 64) : ∑ r ∈ range 256, wvt W c r * lat W x t r = 1 := by
  rw [Finset.sum_eq_single 160]
  · rw [wvt, if_neg (by omega), if_pos ⟨h, rfl⟩, lat, if_neg (by omega), if_neg (by omega), if_pos rfl, mul_one]
  · intro r _ hr
    rw [wvt, if_neg (by omega), if_neg (by omega), zero_mul]
  · intro hr; exact absurd (Finset.mem_range.2 (by omega)) hr

/-- The padded, scaled queries. -/
def qpad (qs : ℝ) (i c : ℕ) : ℝ := if c % 128 < 96 then qv W x i (c / 128 * 96 + c % 128) * qs else 0

theorem mm_wq (qs : ℝ) (i c : ℕ) :
    (∑ r ∈ range 256, (rms 256 (fun r => proj W x i (1024 + r)) r * W.qg r) * wq W r c) * qs = qpad W x qs i c := by
  unfold qpad
  split
  · next h => simp only [wq, if_pos h]; rfl
  · next h => simp only [wq, if_neg h, mul_zero, Finset.sum_const_zero, zero_mul]

/-- The padded keys. -/
def kpad (t c : ℕ) : ℝ :=
  if c % 128 < 64 then kvv W x t c else if c % 128 < 96 then proj W x t (1408 + (c % 128 - 64)) else 0

/-- A head's padded keys against its padded queries give its scaled scores. -/
theorem kpad_qpad (qs : ℝ) (h s t : ℕ) :
    ∑ c ∈ range 128, kpad W x t (128 * h + c) * qpad W x qs s (128 * h + c) = score W x h s t * qs := by
  have e1 : ∀ f : ℕ → ℝ, ∑ c ∈ range 128, f c = (∑ c ∈ range 64, f c + ∑ c ∈ range 32, f (64 + c)) + ∑ c ∈ range 32, f (96 + c) := fun f => by
    rw [← Finset.sum_range_add f 64 32]; exact Finset.sum_range_add f 96 32
  have m1 : ∀ c, c < 128 → (128 * h + c) % 128 = c := fun c hc => by omega
  have m2 : ∀ c, c < 128 → (128 * h + c) / 128 = h := fun c hc => by omega
  have h3 : ∑ c ∈ range 32, kpad W x t (128 * h + (96 + c)) * qpad W x qs s (128 * h + (96 + c)) = 0 := Finset.sum_eq_zero fun c hc => by
    have := Finset.mem_range.1 hc
    rw [qpad, m1 _ (by omega), if_neg (by omega), mul_zero]
  rw [e1, h3, add_zero, score, add_mul, Finset.sum_mul, Finset.sum_mul]
  congr 1
  · refine Finset.sum_congr rfl fun c hc => ?_
    have := Finset.mem_range.1 hc
    rw [kpad, qpad, m1 _ (by omega), m2 _ (by omega), if_pos (by omega), if_pos (by omega), mul_comm 128 h]; ring
  · refine Finset.sum_congr rfl fun c hc => ?_
    have := Finset.mem_range.1 hc
    rw [kpad, qpad, m1 _ (by omega), m2 _ (by omega), if_neg (by omega), if_pos (by omega), if_pos (by omega), Nat.add_sub_cancel_left]; ring

/-- Cosine and sine transforms beside each other. -/
def ucus (i c : ℕ) : ℝ := if c < 512 then uc W x i c else us W x i (c - 512)

/-- One group's transform out of a pair's: `p` the pair, `g` the group in it, `q` zero for the cosines, one for the sines. -/
theorem mm_dftc (i p g q k : ℕ) (hg : g < 2) (hp : 2 * p + g < 4) (hq : q < 2) (hk : k < 128) :
    ∑ r ∈ range 256, proj W x i (256 * p + r) * dftc r (256 * g + 128 * q + k)
      = ucus W x i (128 * (4 * q + (2 * p + g)) + k) := by
  have c1 : (256 * g + 128 * q + k) / 256 = g := by omega
  have c2 : (256 * g + 128 * q + k) / 128 % 2 = q := by omega
  have c3 : (256 * g + 128 * q + k) % 128 = k := by omega
  rw [sum_halves]
  have z : ∀ r, r < 256 → r / 128 ≠ g → proj W x i (256 * p + r) * dftc r (256 * g + 128 * q + k) = 0 := fun r _ h => by
    rw [dftc, if_neg (by rw [c1]; exact h), mul_zero]
  have v : ∀ j, j < 128 → proj W x i (256 * p + (128 * g + j)) * dftc (128 * g + j) (256 * g + 128 * q + k)
      = proj W x i (128 * (2 * p + g) + j)
        * ((if q = 0 then Real.cos (angle 128 (j * k)) else Real.sin (angle 128 (j * k))) * (Real.sqrt 128)⁻¹) := fun j hj => by
    have e1 : (128 * g + j) / 128 = g := by omega
    have e2 : (128 * g + j) % 128 = j := by omega
    rw [dftc, if_pos (by rw [c1, e1]), c2, c3, e2]
    congr 2; omega
  have key : ∑ j ∈ range 128, proj W x i (256 * p + (128 * g + j)) * dftc (128 * g + j) (256 * g + 128 * q + k)
      = ucus W x i (128 * (4 * q + (2 * p + g)) + k) := by
    rw [Finset.sum_congr rfl fun j hj => v j (Finset.mem_range.1 hj)]
    unfold ucus
    rcases (by omega : q = 0 ∨ q = 1) with rfl | rfl
    · rw [if_pos (by omega), uc]
      have d1 : (128 * (4 * 0 + (2 * p + g)) + k) / 128 * 128 = 128 * (2 * p + g) := by omega
      have d2 : (128 * (4 * 0 + (2 * p + g)) + k) % 128 = k := by omega
      rw [d1, d2]; rfl
    · rw [if_neg (by omega), us]
      have d1 : (128 * (4 * 1 + (2 * p + g)) + k - 512) / 128 * 128 = 128 * (2 * p + g) := by omega
      have d2 : (128 * (4 * 1 + (2 * p + g)) + k - 512) % 128 = k := by omega
      rw [d1, d2]; rfl
  rw [← key]
  rcases (by omega : g = 0 ∨ g = 1) with rfl | rfl
  · rw [Finset.sum_eq_zero (s := range 128) (f := fun r => proj W x i (256 * p + (128 + r)) * dftc (128 + r) (256 * 0 + 128 * q + k))
      (fun r hr => z _ (by have := Finset.mem_range.1 hr; omega) (by omega)), add_zero]
    exact Finset.sum_congr rfl fun j _ => by simp only [Nat.mul_zero, Nat.zero_add]
  · rw [Finset.sum_eq_zero (s := range 128) (f := fun r => proj W x i (256 * p + r) * dftc r (256 * 1 + 128 * q + k))
      (fun r hr => z _ (by have := Finset.mem_range.1 hr; omega) (by have := Finset.mem_range.1 hr; omega)), zero_add]

/-- The reversed second half: row `m` takes row `256 - m`, and row zero takes nothing. -/
theorem jrev_mm (m : ℕ) (hm : m < 128) (f : ℕ → ℝ) :
    ∑ r ∈ range 128, jrev m r * f (128 + r) = if m = 0 then 0 else f (256 - m) := by
  split
  · next h =>
      refine Finset.sum_eq_zero fun r hr => ?_
      have := Finset.mem_range.1 hr
      rw [jrev, if_neg (by omega), zero_mul]
  · next h =>
    rw [Finset.sum_eq_single (128 - m)]
    · rw [jrev, if_pos (by omega), one_mul]; congr 1; omega
    · intro r _ hr
      rw [jrev, if_neg (by omega), zero_mul]
    · intro hr; exact absurd (Finset.mem_range.2 (by omega)) hr

/-- The folded rows: sums of mirrored rows on the cosine side, differences on the sine side. -/
def fold (m c : ℕ) : ℝ :=
  if c < 512 then uc W x m c + (if m = 0 then 0 else uc W x (256 - m) c)
  else us W x m (c - 512) - (if m = 0 then 0 else us W x (256 - m) (c - 512))

/-- The Fourier mixing from the folded rows. -/
theorem cs_fold (k c : ℕ) (hc : c < 512) :
    ∑ m ∈ range 128, cs k m * fold W x m c + ∑ m ∈ range 128, cs k (128 + m) * fold W x m (512 + c)
      + (if k % 2 = 1 then 0 - uc W x 128 c * (1 / 16) else uc W x 128 c * (1 / 16)) = four W x k c := by
  rw [four, ← four_fold k (fun m => uc W x m c) (fun m => us W x m c)]
  congr 2
  · exact Finset.sum_congr rfl fun m hm => by
      rw [cs, if_pos (Finset.mem_range.1 hm), fold, if_pos hc]
  · exact Finset.sum_congr rfl fun m hm => by
      rw [cs, if_neg (by omega), fold, if_neg (by omega), Nat.add_sub_cancel_left, Nat.add_sub_cancel_left]

/-- The softmax quotient in base two. -/
theorem head_attn (h s v : ℕ) :
    (∑ t ∈ range 256, kvv W x t (h * 128 + (64 + v)) * (2 : ℝ) ^ (score W x h s t * ((Real.sqrt 96)⁻¹ * (Real.log 2)⁻¹)))
      / ∑ t ∈ range 256, (2 : ℝ) ^ (score W x h s t * ((Real.sqrt 96)⁻¹ * (Real.log 2)⁻¹)) = attn W x h s v := by
  simp only [two_rpow_scaled]
  unfold attn
  congr 1
  exact Finset.sum_congr rfl fun t _ => mul_comm _ _

/-- The rows of the `e`-th batch element of a block. -/
def elem (e : ℕ) : ℕ → ℕ → ℝ := fun s d => x (256 * e + s) d

theorem elem0 : elem x 0 = x := by
  funext s d
  show x (256 * 0 + s) d = _
  rw [Nat.mul_zero, Nat.zero_add]

theorem elem_row (i : ℕ) : elem x (i / 256) (i % 256) = x i := by
  show (fun d => x (256 * (i / 256) + i % 256) d) = x i
  rw [Nat.div_add_mod]

theorem proj_elem (i c : ℕ) : proj W (elem x (i / 256)) (i % 256) c = proj W x i c := by
  show proj W x (256 * (i / 256) + i % 256) c = _
  rw [Nat.div_add_mod]

end Cert.Layer
-- ==== Proof.Block.lean ====
/- What one grid step of the kernel computes: the body's values, from the blocks it loads to its three stores, as the
   layer's own functions of the block's rows. -/
module

public import proofs.«01_k».proof.Proof.Stages
public import proofs.«01_k».proof.Proof.Tables
public import proofs.«01_k».proof.Proof.Gen.KernelIdeal.Frame

@[expose] public section

noncomputable section

namespace Cert.KernelIdeal.Block

open Cert.KernelIdeal Cert.KernelIdeal.Gen Cert.Layer
open Idealize.ShloMosaic hiding ix1 ix2 ix3 eq_ix1 eq_ix2 eq_ix3
open Idealize.ShloMosaic.ValueIdx
open Finset (range)

variable {W : Params} {x : ℕ → ℕ → ℝ}

/-- The number the query scale stands for. -/
abbrev qs : ℝ := (Real.sqrt 96)⁻¹ * (Real.log 2)⁻¹

/-- The modulation row: shift, scale, gate. -/
def mo (W : Params) (c : ℕ) : ℝ := if c < 1024 then W.shift c else if c < 2048 then W.scale (c - 1024) else W.gate (c - 2048)

/-! ### The hidden rows and the projected columns -/

theorem pay1_mat {v0 : Vec Ideal S2x256x1024 .f32} (h0 : Cube v0 fun e s d => elem x e s d) : Mat (k0_pay1 v0) x :=
  (Cube.join h0 rfl _).congr fun i j _ _ => congrFun (elem_row x i) j

theorem pay2_mat {v2 : Vec Ideal S1x1x3072 .f32} (h1 : Cube v2 fun _ _ c => mo W c) : Mat (k0_pay2 v2) fun _ c => mo W c :=
  Cube.join h1 rfl _

theorem pay3_mat {v0 : Vec Ideal S2x256x1024 .f32} {v2 : Vec Ideal S1x1x3072 .f32} (h0 : Cube v0 fun e s d => elem x e s d)
    (h1 : Cube v2 fun _ _ c => mo W c) : Mat (k0_pay3 v0 v2) (hid W x) := by
  have hm := pay2_mat h1
  have hr := rmsn_mat (pay1_mat h0) ofBits_1024 (by norm_num) ofBits_eps 0x00000000#32 reduces_S512x1024_S512 (.inl rfl) rfl
    shapeCasts_S512_S512x1 broadcasts_S512x1_S512x1024
  refine Mat.truncf (Mat.congr (Mat.addf (Mat.mulf hr (Mat.bcastRow (Mat.addf (Mat.const ofBits_one)
    (Mat.slice 0 1024 hm slices_S1x3072_o0_1024_S1x1024)) broadcasts_S1x1024_S512x1024))
    (Mat.bcastRow (Mat.slice 0 0 hm slices_S1x3072_o0_0_S1x1024) broadcasts_S1x1024_S512x1024)) fun i j _ hj => ?_) _
  rw [hid, mo, mo, if_neg (by omega), if_pos (by omega), if_pos (by omega), Nat.add_sub_cancel_left, Nat.zero_add]

/-- A window of the input projection's columns. -/
theorem proj_mat {n : ℕ} {v : FVec Ideal ⟨2, ![512, 1024]⟩ .bf16} (hv : Mat v (hid W x)) (o : ℕ) {w : FVec Ideal ⟨2, ![1024, n]⟩ .bf16}
    (hw : Mat w fun d c => W.A d (o + c)) {D : DotDims ⟨2, ![512, 1024]⟩ ⟨2, ![1024, n]⟩ ⟨2, ![512, n]⟩} (hD : D = DotDims.plain 512 1024 n) :
    Mat (matmul D none v w (constant ⟨2, ![512, n]⟩ .f32 0x00000000#32)) fun i c => proj W x i (o + c) :=
  Mat.mm hD hv hw

theorem pay4_mat {v0 : Vec Ideal S2x256x1024 .f32} {v2 : Vec Ideal S1x1x3072 .f32} {w : Vec Ideal S1024x512 .bf16}
    (h0 : Cube v0 fun e s d => elem x e s d) (h1 : Cube v2 fun _ _ c => mo W c) (hw : Mat w fun d c => W.A d (1024 + c)) :
    Mat (k0_pay4 v0 v2 w) fun i c => proj W x i (1024 + c) :=
  proj_mat (pay3_mat h0 h1) 1024 hw rfl

theorem pay5_mat {v0 : Vec Ideal S2x256x1024 .f32} {v2 : Vec Ideal S1x1x3072 .f32} {w : Vec Ideal S1024x512 .bf16}
    (h0 : Cube v0 fun e s d => elem x e s d) (h1 : Cube v2 fun _ _ c => mo W c) (hw : Mat w fun d c => W.A d (0 + c)) :
    Mat (k0_pay5 v0 v2 w) fun i c => proj W x i c :=
  (Mat.truncf (proj_mat (pay3_mat h0 h1) 0 hw rfl) _).congr fun i c _ _ => by rw [Nat.zero_add]

theorem pay67_mat {v0 : Vec Ideal S2x256x1024 .f32} {v2 : Vec Ideal S1x1x3072 .f32} {w : Vec Ideal S1024x1024 .bf16}
    (h0 : Cube v0 fun e s d => elem x e s d) (h1 : Cube v2 fun _ _ c => mo W c) (hw : Mat w fun d c => W.A d (2048 + c)) :
    Mat (k0_pay7 (k0_pay6 v0 v2 w)) fun i c => logistic (proj W x i (2048 + c)) :=
  sigm_mat (proj_mat (pay3_mat h0 h1) 2048 hw rfl) ofBits_half ofBits_half ofBits_half

theorem pay8_mat {v : FVec Ideal S512x1024 .bf16} {w : Vec Ideal S1024x1024 .bf16} (hv : Mat v (hid W x))
    (hw : Mat w fun d c => W.A d (3072 + c)) : Mat (k0_pay8 v w) fun i c => logistic (proj W x i (3072 + c)) :=
  sigm_mat (proj_mat hv 3072 hw rfl) ofBits_half ofBits_half ofBits_half

theorem pay9_mat {v : FVec Ideal S512x1024 .bf16} {w : Vec Ideal S1024x512 .bf16} (hv : Mat v (hid W x))
    (hw : Mat w fun d c => W.A d (512 + c)) : Mat (k0_pay9 v w) fun i c => proj W x i (512 + c) * logistic (proj W x i (512 + c)) :=
  Mat.mulf (proj_mat hv 512 hw rfl) (sigm_mat (proj_mat hv 512 hw rfl) ofBits_half ofBits_half ofBits_half)

theorem pay31_mat {v : FVec Ideal S512x1024 .bf16} {w : Vec Ideal S1024x512 .bf16} (hv : Mat v (hid W x))
    (hw : Mat w fun d c => W.A d (1536 + c)) : Mat (k0_pay31 v w) fun i c => proj W x i (1536 + c) * logistic (proj W x i (1536 + c)) :=
  Mat.mulf (proj_mat hv 1536 hw rfl) (sigm_mat (proj_mat hv 1536 hw rfl) ofBits_half ofBits_half ofBits_half)

/-! ### The latents, the queries and the keys -/

variable {c : FVec Ideal S512x512 .f32} (hc : Mat c fun i r => proj W x i (1024 + r))

include hc in
theorem pay25_mat {g : Vec Ideal S1x128 .f32} (hg : Mat g fun _ r => W.kg r) : Mat (k0_pay25 c g) (ckvn W x) := by
  have hv : Mat (extractStridedSlice S512x128 ![0, 256] c slices_S512x512_o0_256_S512x128) fun i r => proj W x i (1280 + r) :=
    (Mat.slice 0 256 hc _).congr fun i j _ _ => by rw [Nat.zero_add, ← Nat.add_assoc]
  exact Mat.mulf (rmsn_mat hv ofBits_128 (by norm_num) ofBits_eps 0x00000000#32 reduces_S512x128_S512 (.inl rfl) rfl
    shapeCasts_S512_S512x1 broadcasts_S512x1_S512x128) (Mat.bcastRow (Mat.cast hg _) broadcasts_S1x128_S512x128)

include hc in
theorem pay26_mat : Mat (k0_pay26 c) fun i r => proj W x i (1408 + r) :=
  (Mat.slice 0 384 hc slices_S512x512_o0_384_S512x128).congr fun i j _ _ => by rw [Nat.zero_add, ← Nat.add_assoc]

/-- The lanes below 32. -/
theorem mask_lt (i : S512x128.Idx) : cmpi .slt (iota .tc S512x128 32 [1] iota_S512x128_d1_w32) (broadcast S512x128 32#32) i
    = if (i 1).val < 32 then 1#1 else 0#1 := by
  have key : ∀ n : Fin 128, IntOp.cmpi .slt (BitVec.ofNat 32 n.val) 32#32 = if n.val < 32 then 1#1 else 0#1 := by decide
  rw [← key (i 1)]
  show IntOp.cmpi .slt (iota .tc S512x128 32 [1] iota_S512x128_d1_w32 i) 32#32 = _
  rw [iota_single_apply]

/-- The lane 32. -/
theorem mask_eq (i : S512x128.Idx) : cmpi .eq (iota .tc S512x128 32 [1] iota_S512x128_d1_w32) (broadcast S512x128 32#32) i
    = if (i 1).val = 32 then 1#1 else 0#1 := by
  have key : ∀ n : Fin 128, IntOp.cmpi .eq (BitVec.ofNat 32 n.val) 32#32 = if n.val = 32 then 1#1 else 0#1 := by decide
  rw [← key (i 1)]
  show IntOp.cmpi .eq (iota .tc S512x128 32 [1] iota_S512x128_d1_w32 i) 32#32 = _
  rw [iota_single_apply]

include hc in
theorem pay27_mat {g : Vec Ideal S1x128 .f32} (hg : Mat g fun _ r => W.kg r) : Mat (k0_pay27 c g) (lat W x) := by
  have hs := sel_mat (fun _ j => j < 32) mask_lt (pay26_mat hc) (Mat.const ofBits_zero)
  have ht := sel_mat (a := 512) (b := 128) (fun _ j => j = 32) mask_eq (Mat.const ofBits_one) (Mat.const ofBits_zero)
  refine Mat.truncf (Mat.congr (Mat.beside (pay25_mat hc hg) (Mat.addf hs ht) rfl concatenates_S512x128_S512x128_S512x256_d1) fun i r _ _ => ?_) _
  unfold lat
  by_cases h1 : r < 128
  · rw [if_pos h1, if_pos h1]
  · rw [if_neg h1, if_neg h1]
    by_cases h2 : r < 160
    · rw [if_pos (by omega), if_pos h2, if_neg (by omega), add_zero]
    · rw [if_neg (by omega), if_neg h2, zero_add]
      by_cases h3 : r = 160
      · rw [if_pos (by omega), if_pos h3]
      · rw [if_neg (by omega), if_neg h3]

include hc in
theorem pay30_mat {g : Vec Ideal S1x256 .f32} {w : Vec Ideal S256x1024 .bf16} (hg : Mat g fun _ r => W.qg r) (hw : Mat w (wq W)) :
    Mat (k0_pay30 (k0_pay28 c) (k0_pay29 g) w) (qpad W x qs) := by
  have hv : Mat (extractStridedSlice S512x256 ![0, 0] c slices_S512x512_o0_0_S512x256) fun i r => proj W x i (1024 + r) :=
    (Mat.slice 0 0 hc _).congr fun i j _ _ => by rw [Nat.zero_add, Nat.zero_add]
  have hq := Mat.mulf (rmsn_mat hv ofBits_256 (by norm_num) ofBits_eps 0x00000000#32 reduces_S512x256_S512 (.inl rfl) rfl
    shapeCasts_S512_S512x1 broadcasts_S512x1_S512x256) (Mat.bcastRow (Mat.cast hg shapeCasts_S1x256_S1x256) broadcasts_S1x256_S512x256)
  have hw' : Mat (shapeCast S256x1024 w shapeCasts_S256x1024_S256x1024 : FVec Ideal S256x1024 .bf16) (wq W) := Mat.cast hw _
  have hp := Mat.mm (D := dot_S512x256_S256x1024_S512x1024_1_0_0_1_n_n) rfl (Mat.truncf (φ' := .bf16) hq bitsLt_bf16_f32) hw'
  exact Mat.truncf (Mat.congr (Mat.mulf hp (Mat.const (r := qs) rfl)) fun i j _ _ => mm_wq W x qs i j) _

variable {l : FVec Ideal S512x256 .bf16} (hl : Mat l (lat W x))

/-- The keys of one batch element. -/
theorem keys_mat {k : FVec Ideal S256x256 .bf16} {e : ℕ} (hk : Mat k fun t r => lat W x (256 * e + t) r) {w : FVec Ideal S256x1024 .bf16}
    (hw : Mat w (wk W)) {D : DotDims S256x256 S256x1024 S256x1024} (hD : D = DotDims.plain 256 256 1024) :
    Mat (matmul D none k (shapeCast S256x1024 w shapeCasts_S256x1024_S256x1024 : FVec Ideal S256x1024 .bf16) (constant S256x1024 .f32 0x00000000#32))
      (kpad W (elem x e)) :=
  (Mat.mm hD hk (Mat.cast hw _)).congr fun t j _ _ => (lat_wk W x (256 * e + t) j).trans rfl

/-- The transposed values of one batch element, eight heads of 64 rows, each above a row of ones and fifteen rows more. -/
def vpad (W : Params) (y : ℕ → ℕ → ℝ) (j t : ℕ) : ℝ := ∑ r ∈ range 256, wvt W j r * lat W y t r

theorem vals_mat {k : FVec Ideal S256x256 .bf16} {e : ℕ} (hk : Mat k fun t r => lat W x (256 * e + t) r) {w : FVec Ideal S640x256 .bf16}
    (hw : Mat w (wvt W)) {D : DotDims S640x256 S256x256 S640x256} (hD : D = DotDims.transposedRhs 640 256 256) :
    Mat (matmul D none w k (constant S640x256 .f32 0x00000000#32)) (vpad W (elem x e)) :=
  Mat.mmT hD hw hk

/-! ### The heads -/

variable {Q : FVec Ideal S512x1024 .bf16} (hQ : Mat Q (qpad W x qs)) {e : ℕ}
  {K : FVec Ideal S256x1024 .bf16} (hK : Mat K (kpad W (elem x e)))
  {V : FVec Ideal S640x256 .bf16} (hV : Mat V (vpad W (elem x e)))

include hQ hK in
/-- A head's scores, key rows down and query rows across. -/
theorem scores_mat (h : ℕ) {k q : FVec Ideal S256x128 .bf16} {o : ℕ} (ho : o = 256 * e) {u : ℕ} (hu : u = 128 * h)
    (sk : S256x1024.Slices ![0, u] S256x128) (sq : S512x1024.Slices ![o, u] S256x128)
    (ek : k = extractStridedSlice S256x128 ![0, u] K sk) (eq : q = extractStridedSlice S256x128 ![o, u] Q sq)
    {D : DotDims S256x128 S256x128 S256x256} (hD : D = DotDims.transposedRhs 256 128 256) :
    Mat (matmul D none k q (constant S256x256 .f32 0x00000000#32)) fun t s => score W (elem x e) h s t * qs := by
  subst ho hu ek eq
  refine (Mat.mmT hD (Mat.slice 0 (128 * h) hK sk) (Mat.slice (256 * e) (128 * h) hQ sq)).congr fun t s _ _ => ?_
  rw [← kpad_qpad]
  exact Finset.sum_congr rfl fun c _ => by rw [Nat.zero_add]; rfl

include hV in
/-- A head's value rows, sliced out. -/
theorem vslice_mat (h : ℕ) {u : ℕ} (hu : u = 80 * h) (sv : S640x256.Slices ![u, 0] S80x256) :
    Mat (extractStridedSlice S80x256 ![u, 0] V sv) fun v t => vpad W (elem x e) (80 * h + v) t := by
  subst hu
  exact (Mat.slice (80 * h) 0 hV sv).congr fun i j _ _ => by rw [Nat.zero_add]

include hV in
/-- A head's result, transposed: value columns down and query rows across. -/
theorem headOut_mat (h : ℕ) {s : FVec Ideal S256x256 .f32} (hs : Mat s fun t i => score W (elem x e) h i t * qs) {u : ℕ} (hu : u = 80 * h)
    (sv : S640x256.Slices ![u, 0] S80x256) {m1 : EReal} (e1 : m1 = ((1 : ℝ) : EReal))
    {o : FVec Ideal S80x256 .f32}
    (ho : o = matmul dot_S80x256_S256x256_S80x256_1_0_0_1_n_n none (extractStridedSlice S80x256 ![u, 0] V sv)
      (truncf .bf16 (exp2 (subf s (broadcastTo S256x256
      (shapeCast S1x256 (multiReduction .maximumf [0] S256 s 0xFF800000#32 reduces_S256x256_S256 (.inl rfl) rfl) shapeCasts_S256_S1x256)
      broadcasts_S1x256_S256x256))) bitsLt_bf16_f32) (constant S80x256 .f32 0x00000000#32)) :
    Mat (mulf (extractStridedSlice S64x256 ![0, 0] o slices_S80x256_o0_0_S64x256) (broadcastTo S64x256
      (divf (broadcast S1x256 m1 : FVec Ideal S1x256 .f32)
        (extractStridedSlice S1x256 ![64, 0] o slices_S80x256_o64_0_S1x256)) broadcasts_S1x256_S64x256))
      fun v i => attn W (elem x e) h i v := by
  refine (head_mat hs (vslice_mat hV h hu sv) (fun t _ => wvt_lat_one W (elem x e) (80 * h + 64) t (by omega)) e1 rfl
    reduces_S256x256_S256 (.inl rfl) rfl shapeCasts_S256_S1x256 broadcasts_S1x256_S256x256 bitsLt_bf16_f32
    slices_S80x256_o0_0_S64x256 slices_S80x256_o64_0_S1x256 broadcasts_S1x256_S64x256 ho).congr fun v i hv _ => ?_
  rw [← head_attn]
  congr 1
  refine Finset.sum_congr rfl fun t _ => ?_
  have e1 : (80 * h + v) % 80 = v := by omega
  have e2 : (80 * h + v) / 80 = h := by omega
  rw [vpad, wvt_lat W (elem x e) (80 * h + v) t (by omega), e1, e2]

end Cert.KernelIdeal.Block
-- ==== Proof.Heads.lean ====
/- The eight attention heads of each of a block's two batch elements, and the matrix they make: value columns down, the
   query rows of both elements across. -/
module

public import proofs.«01_k».proof.Proof.Block

@[expose] public section

noncomputable section

namespace Cert.KernelIdeal.Block

open Cert.KernelIdeal Cert.KernelIdeal.Gen Cert.Layer
open Idealize.ShloMosaic hiding ix1 ix2 ix3 eq_ix1 eq_ix2 eq_ix3
open Idealize.ShloMosaic.ValueIdx
open Finset (range)

variable {W : Params} {x : ℕ → ℕ → ℝ} {Q : FVec Ideal S512x1024 .bf16} (hQ : Mat Q (qpad W x qs))

/-! ### The first batch element -/

section First

variable {K : FVec Ideal S256x1024 .bf16} (hK : Mat K (kpad W (elem x 0)))
  {V : FVec Ideal S640x256 .bf16} (hV : Mat V (vpad W (elem x 0)))

include hQ hK hV

theorem pay42_mat {wv : FVec Ideal S640x256 .bf16} {l : FVec Ideal S256x256 .bf16} (e : V = k0_pay37 wv l) :
    Mat (k0_pay42 Q K wv l) fun v i => attn W (elem x 0) 0 i v := by
  subst e
  exact headOut_mat hV 0 (scores_mat hQ hK 0 rfl rfl _ _ rfl rfl rfl) rfl _ ofBits_one rfl

theorem pay45_mat : Mat (k0_pay45 V (k0_pay39 Q K) (k0_pay44 Q K)) fun v i => attn W (elem x 0) 1 i v :=
  headOut_mat hV 1 (scores_mat hQ hK 1 rfl rfl _ _ rfl rfl rfl) rfl _ ofBits_one rfl

theorem pay47_mat : Mat (k0_pay47 V (k0_pay40 Q K)) fun v i => attn W (elem x 0) 2 i v :=
  headOut_mat hV 2 (scores_mat hQ hK 2 rfl rfl _ _ rfl rfl rfl) rfl _ ofBits_one rfl

theorem pay54_mat : Mat (k0_pay54 (k0_pay51 V (k0_pay41 Q K)) (k0_pay52 V (k0_pay41 Q K)) (k0_pay53 (F := Ideal)))
    fun v i => attn W (elem x 0) 3 i v :=
  headOut_mat hV 3 (scores_mat hQ hK 3 rfl rfl _ _ rfl rfl rfl) rfl _ ofBits_one rfl

theorem pay56_mat : Mat (k0_pay56 V (k0_pay43 Q K)) fun v i => attn W (elem x 0) 4 i v :=
  headOut_mat hV 4 (scores_mat hQ hK 4 rfl rfl _ _ rfl rfl rfl) rfl _ ofBits_one rfl

theorem pay61_mat : Mat (k0_pay61 V (k0_pay46 Q K)) fun v i => attn W (elem x 0) 5 i v :=
  headOut_mat hV 5 (scores_mat hQ hK 5 rfl rfl _ _ rfl rfl rfl) rfl _ ofBits_one rfl

theorem pay62_mat : Mat (k0_pay62 V (k0_pay48 Q K)) fun v i => attn W (elem x 0) 6 i v :=
  headOut_mat hV 6 (scores_mat hQ hK 6 rfl rfl _ _ rfl rfl rfl) rfl _ ofBits_one rfl

theorem pay65_mat {h0 h1 h2 h3 h4 h5 h6 : FVec Ideal S64x256 .f32}
    (m0 : Mat h0 fun v i => attn W (elem x 0) 0 i v) (m1 : Mat h1 fun v i => attn W (elem x 0) 1 i v)
    (m2 : Mat h2 fun v i => attn W (elem x 0) 2 i v) (m3 : Mat h3 fun v i => attn W (elem x 0) 3 i v)
    (m4 : Mat h4 fun v i => attn W (elem x 0) 4 i v) (m5 : Mat h5 fun v i => attn W (elem x 0) 5 i v)
    (m6 : Mat h6 fun v i => attn W (elem x 0) 6 i v) :
    Mat (k0_pay65 V h0 h1 h2 h3 (k0_pay55 Q K) h4 h5 h6 (k0_pay64 (k0_pay55 Q K)))
      fun c i => attn W (elem x 0) (c / 64) i (c % 64) := by
  have m7 := headOut_mat hV 7 (scores_mat hQ hK 7 rfl rfl slices_S256x1024_o0_896_S256x128 slices_S512x1024_o0_896_S256x128 rfl rfl
    (D := dot_S256x128_S256x128_S256x256_1_1_0_0_n_n) rfl) rfl slices_S640x256_o560_0_S80x256 ofBits_one rfl
  exact Mat.aboveN (N := 8) (x := ![h0, h1, h2, h3, h4, h5, h6, _]) (f := fun h v i => attn W (elem x 0) h i v)
    (fun h => match h with
      | ⟨0, _⟩ => m0 | ⟨1, _⟩ => m1 | ⟨2, _⟩ => m2 | ⟨3, _⟩ => m3 | ⟨4, _⟩ => m4 | ⟨5, _⟩ => m5 | ⟨6, _⟩ => m6 | ⟨7, _⟩ => m7)
    rfl concatenates_S64x256_S64x256_S64x256_S64x256_S64x256_S64x256_S64x256_S64x256_S512x256_d0

end First

/-! ### The second batch element -/

section Second

variable {K : FVec Ideal S256x1024 .bf16} (hK : Mat K (kpad W (elem x 1)))
  {V : FVec Ideal S640x256 .bf16} (hV : Mat V (vpad W (elem x 1)))

include hQ hK hV

theorem pay76_mat : Mat (k0_pay76 Q K V) fun v i => attn W (elem x 1) 0 i v :=
  headOut_mat hV 0 (scores_mat hQ hK 0 rfl rfl _ _ rfl rfl rfl) rfl _ ofBits_one rfl

theorem pay78_mat : Mat (k0_pay78 Q K V) fun v i => attn W (elem x 1) 1 i v :=
  headOut_mat hV 1 (scores_mat hQ hK 1 rfl rfl _ _ rfl rfl rfl) rfl _ ofBits_one rfl

theorem pay81_mat : Mat (k0_pay81 V (k0_pay74 Q K)) fun v i => attn W (elem x 1) 2 i v :=
  headOut_mat hV 2 (scores_mat hQ hK 2 rfl rfl _ _ rfl rfl rfl) rfl _ ofBits_one rfl

theorem pay84_mat : Mat (k0_pay84 V (k0_pay75 Q K)) fun v i => attn W (elem x 1) 3 i v :=
  headOut_mat hV 3 (scores_mat hQ hK 3 rfl rfl _ _ rfl rfl rfl) rfl _ ofBits_one rfl

theorem pay88_mat : Mat (k0_pay88 (k0_pay86 V) (k0_pay87 (k0_pay77 Q K))) fun v i => attn W (elem x 1) 4 i v :=
  headOut_mat hV 4 (scores_mat hQ hK 4 rfl rfl _ _ rfl rfl rfl) rfl slices_S640x256_o320_0_S80x256 ofBits_one rfl

/-- The heads of both batch elements. -/
theorem pay92_mat {a : FVec Ideal S512x256 .f32} (ha : Mat a fun c i => attn W (elem x 0) (c / 64) i (c % 64)) :
    Mat (k0_pay92 a V (k0_pay76 Q K V) (k0_pay78 Q K V) (k0_pay80 Q (k0_pay79 K)) (k0_pay81 V (k0_pay74 Q K)) (k0_pay82 Q K)
      (k0_pay84 V (k0_pay75 Q K)) (k0_pay85 Q K) (k0_pay88 (k0_pay86 V) (k0_pay87 (k0_pay77 Q K))) (k0_pay90 (k0_pay80 Q (k0_pay79 K))))
      fun c i => attn W (elem x (i / 256)) (c / 64) (i % 256) (c % 64) := by
  have m5 := headOut_mat hV 5 (scores_mat hQ hK 5 rfl rfl slices_S256x1024_o0_640_S256x128 slices_S512x1024_o256_640_S256x128 rfl rfl
    (D := dot_S256x128_S256x128_S256x256_1_1_0_0_n_n) rfl) rfl slices_S640x256_o400_0_S80x256 ofBits_one rfl
  have m6 := headOut_mat hV 6 (scores_mat hQ hK 6 rfl rfl slices_S256x1024_o0_768_S256x128 slices_S512x1024_o256_768_S256x128 rfl rfl
    (D := dot_S256x128_S256x128_S256x256_1_1_0_0_n_n) rfl) rfl slices_S640x256_o480_0_S80x256 ofBits_one rfl
  have m7 := headOut_mat hV 7 (scores_mat hQ hK 7 rfl rfl slices_S256x1024_o0_896_S256x128 slices_S512x1024_o256_896_S256x128 rfl rfl
    (D := dot_S256x128_S256x128_S256x256_1_1_0_0_n_n) rfl) rfl slices_S640x256_o560_0_S80x256 ofBits_one rfl
  have hb := Mat.aboveN (N := 8) (x := ![k0_pay76 Q K V, k0_pay78 Q K V, k0_pay81 V (k0_pay74 Q K), k0_pay84 V (k0_pay75 Q K),
      k0_pay88 (k0_pay86 V) (k0_pay87 (k0_pay77 Q K)), _, _, _]) (f := fun h v i => attn W (elem x 1) h i v)
    (fun h => match h with
      | ⟨0, _⟩ => pay76_mat hQ hK hV | ⟨1, _⟩ => pay78_mat hQ hK hV | ⟨2, _⟩ => pay81_mat hQ hK hV | ⟨3, _⟩ => pay84_mat hQ hK hV
      | ⟨4, _⟩ => pay88_mat hQ hK hV | ⟨5, _⟩ => m5 | ⟨6, _⟩ => m6 | ⟨7, _⟩ => m7)
    rfl concatenates_S64x256_S64x256_S64x256_S64x256_S64x256_S64x256_S64x256_S64x256_S512x256_d0
  refine Mat.congr (Mat.beside ha hb rfl concatenates_S512x256_S512x256_S512x512_d1) fun c i _ hi => ?_
  split
  · next h =>
    have e1 : i / 256 = 0 := by omega
    have e2 : i % 256 = i := by omega
    rw [e1, e2]
  · next h =>
    have e1 : i / 256 = 1 := by omega
    have e2 : i % 256 = i - 256 := by omega
    rw [e1, e2]

end Second

end Cert.KernelIdeal.Block
-- ==== Proof.Fourier.lean ====
/- The Fourier branch of a block: the channel transform group by group, the rows folded about the middle, the transform
   over positions, and its product with the gated rows and the output weights. -/
module

public import proofs.«01_k».proof.Proof.Block

@[expose] public section

noncomputable section

namespace Cert.KernelIdeal.Block

open Cert.KernelIdeal Cert.KernelIdeal.Gen Cert.Layer
open Idealize.ShloMosaic hiding ix1 ix2 ix3 eq_ix1 eq_ix2 eq_ix3
open Idealize.ShloMosaic.ValueIdx
open Finset (range)

variable {W : Params} {x : ℕ → ℕ → ℝ}

/-! ### The channel transform -/

section Channels

variable {u : FVec Ideal S512x512 .bf16} (hu : Mat u (proj W x)) {d : FVec Ideal S256x512 .bf16} (hd : Mat d dftc)

include hu hd in
/-- One group of a pair: `p` the pair, `g` the group in it, `q` zero for the cosines and one for the sines. -/
theorem group_mat (p g q : ℕ) (hg : g < 2) (hp : 2 * p + g < 4) (hq : q < 2) {o1 o2 o3 : ℕ} (e1 : o1 = 256 * p) (e2 : o2 = 256 * g)
    (e3 : o3 = 128 * q) (s1 : S512x512.Slices ![0, o1] S512x256) (s2 : S512x512.Slices ![0, o2] S512x256)
    (s3 : S512x256.Slices ![0, o3] S512x128) {o : FVec Ideal S512x512 .f32}
    (ho : o = matmul dot_S512x256_S256x512_S512x512_1_0_0_1_n_n none (extractStridedSlice S512x256 ![0, o1] u s1)
      (shapeCast S256x512 d shapeCasts_S256x512_S256x512) (constant S512x512 .f32 0x00000000#32)) :
    Mat (extractStridedSlice S512x128 ![0, o3] (extractStridedSlice S512x256 ![0, o2] o s2) s3)
      fun i k => ucus W x i (128 * (4 * q + (2 * p + g)) + k) := by
  subst e1 e2 e3 ho
  have hd' : Mat (shapeCast S256x512 d shapeCasts_S256x512_S256x512 : FVec Ideal S256x512 .bf16) dftc := Mat.cast hd _
  have hm := Mat.mm (D := dot_S512x256_S256x512_S512x512_1_0_0_1_n_n) (φ₁ := .bf16) rfl (Mat.slice 0 (256 * p) hu s1) hd'
  refine ((hm.slice 0 (256 * g) s2).slice 0 (128 * q) s3).congr fun i k _ hk => ?_
  rw [← mm_dftc W x i p g q k hg hp hq hk]
  exact Finset.sum_congr rfl fun r _ => by simp only [Nat.zero_add, Nat.add_assoc]

include hu hd in
/-- All groups' transforms beside each other. -/
theorem pay24_mat : Mat (k0_pay24 (k0_pay16 u d) (k0_pay17 u d) (k0_pay18 u d) (k0_pay19 u d) (k0_pay20 u d) (k0_pay21 u d)
    (k0_pay22 u d) (k0_pay23 u d)) (ucus W x) := by
  have m0 : Mat (k0_pay16 u d) fun i k => ucus W x i (128 * 0 + k) := group_mat hu hd 0 0 0 (by norm_num) (by norm_num) (by norm_num) rfl rfl rfl slices_S512x512_o0_0_S512x256 slices_S512x512_o0_0_S512x256 slices_S512x256_o0_0_S512x128 rfl
  have m1 : Mat (k0_pay17 u d) fun i k => ucus W x i (128 * 1 + k) := group_mat hu hd 0 1 0 (by norm_num) (by norm_num) (by norm_num) rfl rfl rfl slices_S512x512_o0_0_S512x256 slices_S512x512_o0_256_S512x256 slices_S512x256_o0_0_S512x128 rfl
  have m2 : Mat (k0_pay18 u d) fun i k => ucus W x i (128 * 2 + k) := group_mat hu hd 1 0 0 (by norm_num) (by norm_num) (by norm_num) rfl rfl rfl slices_S512x512_o0_256_S512x256 slices_S512x512_o0_0_S512x256 slices_S512x256_o0_0_S512x128 rfl
  have m3 : Mat (k0_pay19 u d) fun i k => ucus W x i (128 * 3 + k) := group_mat hu hd 1 1 0 (by norm_num) (by norm_num) (by norm_num) rfl rfl rfl slices_S512x512_o0_256_S512x256 slices_S512x512_o0_256_S512x256 slices_S512x256_o0_0_S512x128 rfl
  have m4 : Mat (k0_pay20 u d) fun i k => ucus W x i (128 * 4 + k) := group_mat hu hd 0 0 1 (by norm_num) (by norm_num) (by norm_num) rfl rfl rfl slices_S512x512_o0_0_S512x256 slices_S512x512_o0_0_S512x256 slices_S512x256_o0_128_S512x128 rfl
  have m5 : Mat (k0_pay21 u d) fun i k => ucus W x i (128 * 5 + k) := group_mat hu hd 0 1 1 (by norm_num) (by norm_num) (by norm_num) rfl rfl rfl slices_S512x512_o0_0_S512x256 slices_S512x512_o0_256_S512x256 slices_S512x256_o0_128_S512x128 rfl
  have m6 : Mat (k0_pay22 u d) fun i k => ucus W x i (128 * 6 + k) := group_mat hu hd 1 0 1 (by norm_num) (by norm_num) (by norm_num) rfl rfl rfl slices_S512x512_o0_256_S512x256 slices_S512x512_o0_0_S512x256 slices_S512x256_o0_128_S512x128 rfl
  have m7 : Mat (k0_pay23 u d) fun i k => ucus W x i (128 * 7 + k) := group_mat hu hd 1 1 1 (by norm_num) (by norm_num) (by norm_num) rfl rfl rfl slices_S512x512_o0_256_S512x256 slices_S512x512_o0_256_S512x256 slices_S512x256_o0_128_S512x128 rfl
  refine Mat.truncf (Mat.congr (Mat.besideN (N := 8) (x := ![k0_pay16 u d, k0_pay17 u d, k0_pay18 u d, k0_pay19 u d, k0_pay20 u d,
      k0_pay21 u d, k0_pay22 u d, k0_pay23 u d]) (f := fun e i k => ucus W x i (128 * e + k))
    (fun e => match e with
      | ⟨0, _⟩ => m0 | ⟨1, _⟩ => m1 | ⟨2, _⟩ => m2 | ⟨3, _⟩ => m3 | ⟨4, _⟩ => m4 | ⟨5, _⟩ => m5 | ⟨6, _⟩ => m6 | ⟨7, _⟩ => m7)
    rfl concatenates_S512x128_S512x128_S512x128_S512x128_S512x128_S512x128_S512x128_S512x128_S512x1024_d1) fun i j _ _ => ?_) _
  rw [Nat.div_add_mod]

end Channels

/-! ### The transform over positions -/

section Positions

variable {e : ℕ} {J : FVec Ideal S128x128 .bf16} (hJ : Mat J jrev)

include hJ in
/-- The rows folded about the middle. -/
theorem fold_mat {t b : FVec Ideal S128x1024 .bf16} (ht : Mat t fun m c => ucus W (elem x e) m c)
    (hb : Mat b fun r c => ucus W (elem x e) (128 + r) c) {o : FVec Ideal S128x1024 .f32}
    (ho : o = matmul dot_S128x128_S128x1024_S128x1024_1_0_0_1_n_n none (shapeCast S128x128 J shapeCasts_S128x128_S128x128) b
      (constant S128x1024 .f32 0x00000000#32)) :
    Mat (truncf .bf16 (concatenate S128x1024 1 [⟨S128x512, addf (extractStridedSlice S128x512 ![0, 0] (extf .f32 t bitsLt_bf16_f32) slices_S128x1024_o0_0_S128x512)
        (extractStridedSlice S128x512 ![0, 0] o slices_S128x1024_o0_0_S128x512)⟩,
      ⟨S128x512, subf (extractStridedSlice S128x512 ![0, 512] (extf .f32 t bitsLt_bf16_f32) slices_S128x1024_o0_512_S128x512)
        (extractStridedSlice S128x512 ![0, 512] o slices_S128x1024_o0_512_S128x512)⟩] concatenates_S128x512_S128x512_S128x1024_d1) bitsLt_bf16_f32)
      (fold W (elem x e)) := by
  subst ho
  have hJ' : Mat (shapeCast S128x128 J shapeCasts_S128x128_S128x128 : FVec Ideal S128x128 .bf16) jrev := Mat.cast hJ _
  have hr := (Mat.mm (D := dot_S128x128_S128x1024_S128x1024_1_0_0_1_n_n) rfl hJ' hb).congr
    (g := fun m c => if m = 0 then 0 else ucus W (elem x e) (256 - m) c) fun m c hm _ => jrev_mm m hm fun r => ucus W (elem x e) r c
  have ht' : Mat (extf .f32 t bitsLt_bf16_f32) (fun m c => ucus W (elem x e) m c) := ht
  refine Mat.truncf (Mat.congr (Mat.beside (Mat.addf (ht'.slice 0 0 slices_S128x1024_o0_0_S128x512) (hr.slice 0 0 slices_S128x1024_o0_0_S128x512))
    (Mat.subf (ht'.slice 0 512 slices_S128x1024_o0_512_S128x512) (hr.slice 0 512 slices_S128x1024_o0_512_S128x512)) rfl
    concatenates_S128x512_S128x512_S128x1024_d1) fun m c hm hc => ?_) _
  simp only [Nat.zero_add]
  unfold fold ucus
  by_cases h : c < 512
  · simp only [if_pos h]
  · have e1 : 512 + (c - 512) = c := by omega
    simp only [if_neg h, e1]

include hJ in
theorem pay38_mat {U : FVec Ideal S512x1024 .bf16} (hU : Mat U (ucus W x)) : Mat (k0_pay38 U J) (fold W (elem x 0)) :=
  fold_mat (e := 0) hJ ((Mat.slice 0 0 hU slices_S512x1024_o0_0_S128x1024).congr fun m c _ _ => by simp only [Nat.zero_add, elem0])
    ((Mat.slice 128 0 hU slices_S512x1024_o128_0_S128x1024).congr fun m c _ _ => by simp only [Nat.zero_add, elem0]) rfl

include hJ in
theorem pay73_mat {U : FVec Ideal S512x1024 .bf16} (hU : Mat U (ucus W x)) :
    Mat (k0_pay73 (k0_pay70 U) (k0_pay71 U J) (k0_pay72 U J)) (fold W (elem x 1)) :=
  fold_mat (e := 1) hJ ((Mat.slice 256 0 hU slices_S512x1024_o256_0_S128x1024).congr fun m c _ _ => by rw [Nat.zero_add]; rfl)
    ((Mat.slice 384 0 hU slices_S512x1024_o384_0_S128x1024).congr fun m c _ _ => by
      rw [Nat.zero_add]
      show ucus W x (384 + m) c = ucus W x (256 * 1 + (128 + m)) c
      congr 1; omega) rfl

/-- The odd rows. -/
theorem mask_odd (i : S256x512.Idx) : k0_pay57 i = if (i 0).val % 2 = 1 then 1#1 else 0#1 := by
  have key : ∀ n : Fin 256, (let r := IntOp.remsi .vector (BitVec.ofNat 32 n.val) 2#32
      IntOp.cmpi .eq (Scalar.select ((IntOp.cmpi .slt r 0#32 ^^^ 0#1) &&& IntOp.cmpi .ne r 0#32) (r + 2#32) r) 1#32)
        = if n.val % 2 = 1 then 1#1 else 0#1 := by decide
  rw [← key (i 0), ← iota_single_apply .tc S256x512 32 0 iota_S256x512_d0_w32 i]
  rfl

/-- The mixed rows of one batch element: the folded rows' transform and the middle row's part. -/
theorem mixed_mat {FU : FVec Ideal S128x1024 .bf16} (hF : Mat FU (fold W (elem x e))) {c1 c2 : FVec Ideal S256x128 .bf16}
    (h1 : Mat c1 cs) (h2 : Mat c2 fun k m => cs k (128 + m)) {mid : FVec Ideal S1x512 .bf16}
    (hm : Mat mid fun _ c => ucus W (elem x e) 128 c) {z s : EReal} (ez : z = ((0 : ℝ) : EReal)) (es : s = ((1 / 16 : ℝ) : EReal))
    {k : IVec S256x512 1} (hk : ∀ i, k i = if (i 0).val % 2 = 1 then 1#1 else 0#1) {a b m n p : FVec Ideal S256x512 .f32} {q : FVec Ideal S1x512 .f32}
    (hq : q = mulf (extf .f32 mid bitsLt_bf16_f32) (broadcast S1x512 s : FVec Ideal S1x512 .f32))
    (ha : a = matmul dot_S256x128_S128x512_S256x512_1_0_0_1_n_n none (shapeCast S256x128 c1 shapeCasts_S256x128_S256x128 : FVec Ideal S256x128 .bf16)
      (extractStridedSlice S128x512 ![0, 0] FU slices_S128x1024_o0_0_S128x512) (constant S256x512 .f32 0x00000000#32))
    (hb : b = matmul dot_S256x128_S128x512_S256x512_1_0_0_1_n_n none (shapeCast S256x128 c2 shapeCasts_S256x128_S256x128 : FVec Ideal S256x128 .bf16)
      (extractStridedSlice S128x512 ![0, 512] FU slices_S128x1024_o0_512_S128x512) (constant S256x512 .f32 0x00000000#32))
    (hn : n = broadcastTo S256x512 (shapeCast S1x512 (subf (broadcast S1x512 z : FVec Ideal S1x512 .f32) q) shapeCasts_S1x512_S1x512) broadcasts_S1x512_S256x512)
    (hp : p = broadcastTo S256x512 (shapeCast S1x512 q shapeCasts_S1x512_S1x512) broadcasts_S1x512_S256x512)
    (ho : m = addf (addf a b) (select k n p)) : Mat m (four W (elem x e)) := by
  have mq : Mat q fun _ c => ucus W (elem x e) 128 c * (1 / 16) := by
    subst hq; exact Mat.mulf (Mat.extf hm _) (Mat.const es)
  have ma := Mat.mm (φ₁ := .bf16) (φ₂ := .bf16) (D := dot_S256x128_S128x512_S256x512_1_0_0_1_n_n) rfl (Mat.cast h1 shapeCasts_S256x128_S256x128 : Mat (shapeCast S256x128 c1 shapeCasts_S256x128_S256x128 : FVec Ideal S256x128 .bf16) _)
    (show Mat (extractStridedSlice S128x512 ![0, 0] FU slices_S128x1024_o0_0_S128x512 : FVec Ideal S128x512 .bf16) _ from Mat.slice 0 0 hF slices_S128x1024_o0_0_S128x512)
  have mb := Mat.mm (φ₁ := .bf16) (φ₂ := .bf16) (D := dot_S256x128_S128x512_S256x512_1_0_0_1_n_n) rfl (Mat.cast h2 shapeCasts_S256x128_S256x128 : Mat (shapeCast S256x128 c2 shapeCasts_S256x128_S256x128 : FVec Ideal S256x128 .bf16) _)
    (show Mat (extractStridedSlice S128x512 ![0, 512] FU slices_S128x1024_o0_512_S128x512 : FVec Ideal S128x512 .bf16) _ from Mat.slice 0 512 hF slices_S128x1024_o0_512_S128x512)
  have mn : Mat n fun _ c => 0 - ucus W (elem x e) 128 c * (1 / 16) := by
    subst hn; exact Mat.bcastRow (Mat.cast (Mat.subf (Mat.const ez) mq) _) _
  have mp : Mat p fun _ c => ucus W (elem x e) 128 c * (1 / 16) := by
    subst hp; exact Mat.bcastRow (Mat.cast mq _) _
  subst ha hb ho
  refine (Mat.addf (Mat.addf ma mb) (sel_mat (fun i _ => i % 2 = 1) hk mn mp)).congr fun i c _ hc => ?_
  rw [← cs_fold W (elem x e) i c hc]
  simp only [Nat.zero_add, ucus, if_pos hc]

/-- The Fourier branch of one batch element: the mixed rows times the gated rows, through the output weights. -/
theorem branch_mat {m : FVec Ideal S256x512 .f32} (hm : Mat m (four W (elem x e))) {z : FVec Ideal S512x512 .bf16}
    (hz : Mat z fun i c => proj W x i (512 + c) * logistic (proj W x i (512 + c))) {o : ℕ} (eo : o = 256 * e)
    (sl : S512x512.Slices ![o, 0] S256x512) {w : FVec Ideal S512x1024 .bf16} (hw : Mat w W.WF) {y : FVec Ideal S256x1024 .f32}
    (hy : y = matmul dot_S256x512_S512x1024_S256x1024_1_0_0_1_n_n none (truncf .bf16 (mulf m (extf .f32
      (extractStridedSlice S256x512 ![o, 0] z sl : FVec Ideal S256x512 .bf16) bitsLt_bf16_f32)) bitsLt_bf16_f32 : FVec Ideal S256x512 .bf16)
      (shapeCast S512x1024 w shapeCasts_S512x1024_S512x1024 : FVec Ideal S512x1024 .bf16) (constant S256x1024 .f32 0x00000000#32)) :
    Mat y (yF W (elem x e)) := by
  subst eo hy
  have ms : Mat (extractStridedSlice S256x512 ![256 * e, 0] z sl : FVec Ideal S256x512 .bf16)
      fun i c => proj W (elem x e) i (512 + c) * logistic (proj W (elem x e) i (512 + c)) :=
    (Mat.slice (256 * e) 0 hz sl).congr fun i c _ _ => by rw [Nat.zero_add]; rfl
  exact Mat.mm (D := dot_S256x512_S512x1024_S256x1024_1_0_0_1_n_n) rfl
    (Mat.truncf (φ' := .bf16) (Mat.mulf hm (Mat.extf (φ' := .f32) ms bitsLt_bf16_f32)) bitsLt_bf16_f32) (Mat.cast hw shapeCasts_S512x1024_S512x1024)

section Branches

variable {U : FVec Ideal S512x1024 .bf16} (hU : Mat U (ucus W x)) {z : FVec Ideal S512x512 .bf16}
  (hz : Mat z fun i c => proj W x i (512 + c) * logistic (proj W x i (512 + c))) {w : Vec Ideal S512x1024 .bf16} (hw : Mat w W.WF)
  {c1 c2 : Vec Ideal S256x128 .bf16} (h1 : Mat c1 cs) (h2 : Mat c2 fun k m => cs k (128 + m))

include hU hz hw h1 h2

/-- The first batch element's Fourier branch. -/
theorem pay63_mat {FU : FVec Ideal S128x1024 .bf16} (hF : Mat FU (fold W (elem x 0))) :
    Mat (k0_pay63 z (k0_pay49 FU c1) k0_pay57 (k0_pay58 U) (k0_pay59 c2) (k0_pay60 FU) w) (yF W (elem x 0)) := by
  have hm : Mat (extractStridedSlice S1x512 ![128, 0] U slices_S512x1024_o128_0_S1x512 : FVec Ideal S1x512 .bf16)
      fun _ c => ucus W (elem x 0) 128 c := (Mat.slice 128 0 hU slices_S512x1024_o128_0_S1x512).congr fun i c hi _ => by
    rw [elem0, Nat.zero_add, show i = 0 by omega]
  exact branch_mat (mixed_mat (e := 0) hF h1 h2 hm ofBits_zero ofBits_sixteenth mask_odd rfl rfl rfl rfl rfl rfl) hz rfl
    slices_S512x512_o0_0_S256x512 hw rfl

/-- The second batch element's Fourier branch. -/
theorem pay91_mat {FU : FVec Ideal S128x1024 .bf16} (hF : Mat FU (fold W (elem x 1))) :
    Mat (k0_pay91 z (k0_pay89 U FU (k0_pay83 FU c1) c2) w) (yF W (elem x 1)) := by
  have hm : Mat (extractStridedSlice S1x512 ![384, 0] U slices_S512x1024_o384_0_S1x512 : FVec Ideal S1x512 .bf16)
      fun _ c => ucus W (elem x 1) 128 c := (Mat.slice 384 0 hU slices_S512x1024_o384_0_S1x512).congr fun i c hi _ => by
    rw [Nat.zero_add, show i = 0 by omega]; rfl
  exact branch_mat (mixed_mat (e := 1) hF h1 h2 hm ofBits_zero ofBits_sixteenth mask_odd rfl rfl rfl rfl rfl rfl) hz rfl
    slices_S512x512_o256_0_S256x512 hw rfl

end Branches

end Positions

end Cert.KernelIdeal.Block
-- ==== Proof.Out.lean ====
/- The last stage of a block: the two branches gated and merged, projected, added to the input rows and normalised; and
   the two states it keeps beside that. -/
module

public import proofs.«01_k».proof.Proof.Block

@[expose] public section

noncomputable section

namespace Cert.KernelIdeal.Block

open Cert.KernelIdeal Cert.KernelIdeal.Gen Cert.Layer
open Idealize.ShloMosaic hiding ix1 ix2 ix3 eq_ix1 eq_ix2 eq_ix3
open Idealize.ShloMosaic.ValueIdx
open Finset (range)

variable {W : Params} {x : ℕ → ℕ → ℝ}

/-- The merged, projected and normalised rows of both batch elements. -/
theorem pay93_mat {v1 : FVec Ideal S512x1024 .f32} (hx : Mat v1 x) {v3 : FVec Ideal S1x3072 .f32} (hm : Mat v3 fun _ c => mo W c)
    {gf ga : FVec Ideal S512x1024 .bf16} (hgf : Mat gf fun i c => logistic (proj W x i (2048 + c)))
    (hga : Mat ga fun i c => logistic (proj W x i (3072 + c))) {z : FVec Ideal S512x512 .bf16}
    (hz : Mat z fun i c => proj W x i (1536 + c) * logistic (proj W x i (1536 + c))) {y0 y1 : FVec Ideal S256x1024 .f32}
    (h0 : Mat y0 (yF W (elem x 0))) (h1 : Mat y1 (yF W (elem x 1))) {at' : FVec Ideal S512x512 .f32}
    (hat : Mat at' fun c i => attn W (elem x (i / 256)) (c / 64) (i % 256) (c % 64)) {wa : Vec Ideal S512x1024 .bf16} (hwa : Mat wa W.WA)
    {wo : Vec Ideal S1024x1024 .bf16} (hwo : Mat wo W.WO) {fg : Vec Ideal S1x1024 .f32} (hfg : Mat fg fun _ d => W.fg d) :
    Cube (k0_pay93 v1 v3 gf ga z y0 y1 at' wa wo fg) fun e s d => out W (elem x e) s d := by
  have ma : Mat (matmul dot_S512x512_S512x1024_S512x1024_1_0_0_1_n_n none (truncf .bf16 (mulf (transpose S512x512 [1, 0] at' transposes_S512x512_p1_0_S512x512)
      (extf .f32 z bitsLt_bf16_f32)) bitsLt_bf16_f32 : FVec Ideal S512x512 .bf16) (shapeCast S512x1024 wa shapeCasts_S512x1024_S512x1024 : FVec Ideal S512x1024 .bf16)
      (constant S512x1024 .f32 0x00000000#32)) fun i o => yA W (elem x (i / 256)) (i % 256) o := by
    refine (Mat.mm (D := dot_S512x512_S512x1024_S512x1024_1_0_0_1_n_n) rfl (Mat.truncf (φ' := .bf16) (Mat.mulf (Mat.transpose hat _)
      (Mat.extf (φ' := .f32) hz bitsLt_bf16_f32)) bitsLt_bf16_f32) (Mat.cast hwa shapeCasts_S512x1024_S512x1024)).congr fun i o _ _ => ?_
    unfold yA
    simp only [proj_elem]
  have mf := above_mat (f := fun e => yF W (elem x e)) h0 h1 rfl concatenates_S256x1024_S256x1024_S512x1024_d0
  have mm :=
    (Mat.addf (Mat.mulf (Mat.extf (φ' := .f32) hgf bitsLt_bf16_f32) mf) (Mat.mulf (Mat.extf (φ' := .f32) hga bitsLt_bf16_f32) ma)).congr (g := fun i o => merged W (elem x (i / 256)) (i % 256) o)
      fun i o _ _ => by
        unfold merged
        simp only [proj_elem]
  have mo' := Mat.mm (φ₁ := .bf16) (φ₂ := .bf16) (D := dot_S512x1024_S1024x1024_S512x1024_1_0_0_1_n_n) rfl (Mat.truncf (φ' := .bf16) mm bitsLt_bf16_f32)
    (Mat.cast hwo shapeCasts_S1024x1024_S1024x1024 : Mat (shapeCast S1024x1024 wo shapeCasts_S1024x1024_S1024x1024 : FVec Ideal S1024x1024 .bf16) _)
  have mg := Mat.bcastRow (a := 512) (Mat.slice 0 2048 hm slices_S1x3072_o0_2048_S1x1024) broadcasts_S1x1024_S512x1024
  have mr :=
    (Mat.addf hx (Mat.mulf mg mo')).congr (g := fun i d => resid W (elem x (i / 256)) (i % 256) d) fun i d _ _ => by
      unfold resid
      simp only [elem_row, mo, Nat.add_sub_cancel_left, if_neg (show ¬ 2048 + d < 1024 by omega), if_neg (show ¬ 2048 + d < 2048 by omega)]
  have mn := rmsn_mat mr ofBits_1024 (by norm_num) ofBits_eps 0x00000000#32 reduces_S512x1024_S512 (.inl rfl) rfl shapeCasts_S512_S512x1 broadcasts_S512x1_S512x1024
  have mz := Mat.mulf mn (Mat.bcastRow (a := 512) (Mat.cast hfg shapeCasts_S1x1024_S1x1024) broadcasts_S1x1024_S512x1024)
  intro i
  refine (Mat.split (a := 2) (b := 256) mz rfl shapeCasts_S512x1024_S2x256x1024 i).trans ?_
  have b1 : (i 1).val < 256 := (i 1).isLt
  beta_reduce
  rw [show ((i 0).val * 256 + (i 1).val) / 256 = (i 0).val by omega, show ((i 0).val * 256 + (i 1).val) % 256 = (i 1).val by omega]
  rfl

/-- The kept latent of one batch element. -/
theorem latent_mat {c : FVec Ideal S512x128 .f32} (hc : Mat c (ckvn W x)) (e : ℕ) {o : ℕ} (ho : o = 256 * e) (h : S512x128.Slices ![o, 0] S256x128) :
    Cube (shapeCast S1x256x128 (extractStridedSlice S256x128 ![o, 0] c h : FVec Ideal S256x128 .f32) shapeCasts_S256x128_S1x256x128)
      fun _ s r => ckvn W (elem x e) s r := fun i => by
  subst ho
  refine (Mat.split (a := 1) (b := 256) (Mat.slice (256 * e) 0 hc h) rfl shapeCasts_S256x128_S1x256x128 i).trans ?_
  have b0 : (i 0).val < 1 := (i 0).isLt
  beta_reduce
  rw [show (i 0).val * 256 + (i 1).val = (i 1).val by omega, Nat.zero_add]
  rfl

/-- The kept shared key columns of one batch element, columns first. -/
theorem shared_mat {c : FVec Ideal S512x128 .f32} (hc : Mat c fun i r => proj W x i (1408 + r)) (e : ℕ) {o : ℕ} (ho : o = 256 * e)
    (h : S512x128.Slices ![o, 0] S256x128) :
    Cube (shapeCast S1x32x256 (extractStridedSlice S32x256 ![0, 0] (transpose S128x256 [1, 0] (extractStridedSlice S256x128 ![o, 0] c h : FVec Ideal S256x128 .f32)
      transposes_S256x128_p1_0_S128x256) slices_S128x256_o0_0_S32x256 : FVec Ideal S32x256 .f32) shapeCasts_S32x256_S1x32x256)
      fun _ r s => proj W (elem x e) s (1408 + r) := fun i => by
  subst ho
  refine (Mat.split (a := 1) (b := 32) (Mat.slice 0 0 (Mat.transpose (Mat.slice (256 * e) 0 hc h) transposes_S256x128_p1_0_S128x256)
    slices_S128x256_o0_0_S32x256) rfl shapeCasts_S32x256_S1x32x256 i).trans ?_
  have b0 : (i 0).val < 1 := (i 0).isLt
  beta_reduce
  rw [show (i 0).val * 32 + (i 1).val = (i 1).val by omega, Nat.zero_add, Nat.zero_add, Nat.zero_add]
  rfl

end Cert.KernelIdeal.Block
-- ==== Proof.Step.lean ====
/- What the three staging buffers hold after the body, from what the fifteen input blocks hold. -/
module

public import proofs.«01_k».proof.Proof.Heads
public import proofs.«01_k».proof.Proof.Fourier
public import proofs.«01_k».proof.Proof.Out

@[expose] public section

noncomputable section

namespace Cert.KernelIdeal.Block

open Cert.KernelIdeal Cert.KernelIdeal.Gen Cert.Layer
open Idealize.ShloMosaic hiding ix1 ix2 ix3 eq_ix1 eq_ix2 eq_ix3
open Idealize.ShloMosaic.ValueIdx
open Finset (range)

/-- A load of a rectangle of a matrix. -/
theorem ld_mat {a b p q : ℕ} {X : Vec Ideal ⟨2, ![a, b]⟩ .bf16} {f : ℕ → ℕ → ℝ} (hX : Mat X f) (o u : ℕ)
    (inb : ∀ d, (![o, u] : Fin 2 → ℕ) d + (⟨2, ![p, q]⟩ : Shape).size d ≤ (⟨2, ![a, b]⟩ : Shape).size d) :
    Mat (View.ld X (Rect.unit (s := ⟨2, ![a, b]⟩) ![o, u] (⟨2, ![p, q]⟩ : Shape).size inb)) (fun i j => f (o + i) (u + j)) := fun i => by
  refine (hX ((Rect.unit (s := ⟨2, ![a, b]⟩) ![o, u] (⟨2, ![p, q]⟩ : Shape).size inb).idx i)).trans ?_
  show ((f (o + 1 * (i 0).val) (u + 1 * (i 1).val) : ℝ) : EReal) = _
  rw [Nat.one_mul, Nat.one_mul]

theorem off2 : (![0, 0] : Fin 2 → ℕ) = fun _ => 0 := by decide

theorem off3 : (![0, 0, 0] : Fin 3 → ℕ) = fun _ => 0 := by decide

/-- The input blocks hold two batch elements' rows `x` and the layer's parameters and tables. -/
structure Holds (W : Params) (x : ℕ → ℕ → ℝ) (x0 : Vec Ideal S2x256x1024 .f32) (x1 : Vec Ideal S1x1x3072 .f32) (x2 : Vec Ideal S1024x4096 .bf16)
    (x3 : Vec Ideal S1x256 .f32) (x4 : Vec Ideal S1x128 .f32) (x5 : Vec Ideal S256x512 .bf16) (x6 : Vec Ideal S256x1024 .bf16)
    (x7 : Vec Ideal S256x256 .bf16) (x8 : Vec Ideal S128x128 .bf16) (x9 : Vec Ideal S256x1024 .bf16) (x10 : Vec Ideal S640x256 .bf16)
    (x11 : Vec Ideal S512x1024 .bf16) (x12 : Vec Ideal S512x1024 .bf16) (x13 : Vec Ideal S1024x1024 .bf16) (x14 : Vec Ideal S1x1024 .f32) : Prop where
  rows : Cube x0 fun e s d => elem x e s d
  mods : Cube x1 fun _ _ c => mo W c
  wA : Mat x2 W.A
  gq : Mat x3 fun _ r => W.qg r
  gk : Mat x4 fun _ r => W.kg r
  tc : Mat x5 dftc
  tq : Mat x6 (wq W)
  ts : Mat x7 cs
  tj : Mat x8 jrev
  tk : Mat x9 (wk W)
  tv : Mat x10 (wvt W)
  wF : Mat x11 W.WF
  wAO : Mat x12 W.WA
  wO : Mat x13 W.WO
  gf : Mat x14 fun _ d => W.fg d

variable {W : Params} {x : ℕ → ℕ → ℝ} {x0 : Vec Ideal S2x256x1024 .f32} {x1 : Vec Ideal S1x1x3072 .f32} {x2 : Vec Ideal S1024x4096 .bf16}
  {x3 : Vec Ideal S1x256 .f32} {x4 : Vec Ideal S1x128 .f32} {x5 : Vec Ideal S256x512 .bf16} {x6 : Vec Ideal S256x1024 .bf16}
  {x7 : Vec Ideal S256x256 .bf16} {x8 : Vec Ideal S128x128 .bf16} {x9 : Vec Ideal S256x1024 .bf16} {x10 : Vec Ideal S640x256 .bf16}
  {x11 : Vec Ideal S512x1024 .bf16} {x12 : Vec Ideal S512x1024 .bf16} {x13 : Vec Ideal S1024x1024 .bf16} {x14 : Vec Ideal S1x1024 .f32}
  (H : Holds W x x0 x1 x2 x3 x4 x5 x6 x7 x8 x9 x10 x11 x12 x13 x14)

include H

theorem rows_ld : Cube (View.ld x0 r0_0) fun e s d => elem x e s d := by
  rw [View.ld_unit_zero off3]; exact H.rows

theorem mods_ld : Cube (View.ld x1 r0_1) fun _ _ c => mo W c := by
  rw [View.ld_unit_zero off3]; exact H.mods

/-- A load of some of the input projection's columns. -/
theorem wA_ld {q : ℕ} (o : ℕ) (inb : ∀ d, (![0, o] : Fin 2 → ℕ) d + (⟨2, ![1024, q]⟩ : Shape).size d ≤ (⟨2, ![1024, 4096]⟩ : Shape).size d) :
    Mat (View.ld x2 (Rect.unit (s := ⟨2, ![1024, 4096]⟩) ![0, o] (⟨2, ![1024, q]⟩ : Shape).size inb)) fun d c => W.A d (o + c) :=
  (ld_mat H.wA 0 o inb).congr fun i j _ _ => by rw [Nat.zero_add]

theorem gk_ld : Mat (View.ld x4 r0_8) fun _ r => W.kg r := by rw [View.ld_unit_zero off2]; exact H.gk

theorem gq_ld : Mat (View.ld x3 r0_9) fun _ r => W.qg r := by rw [View.ld_unit_zero off2]; exact H.gq

theorem tc_ld : Mat (View.ld x5 r0_7) dftc := by rw [View.ld_unit_zero off2]; exact H.tc

theorem tq_ld : Mat (View.ld x6 r0_10) (wq W) := by rw [View.ld_unit_zero off2]; exact H.tq

theorem tj_ld : Mat (View.ld x8 r0_15) jrev := by rw [View.ld_unit_zero off2]; exact H.tj

theorem tk_ld : Mat (View.ld x9 r0_10) (wk W) := by rw [View.ld_unit_zero off2]; exact H.tk

theorem tv_ld : Mat (View.ld x10 r0_14) (wvt W) := by rw [View.ld_unit_zero off2]; exact H.tv

theorem wF_ld : Mat (View.ld x11 r0_18) W.WF := by rw [View.ld_unit_zero off2]; exact H.wF

theorem wAO_ld : Mat (View.ld x12 r0_18) W.WA := by rw [View.ld_unit_zero off2]; exact H.wAO

theorem wO_ld : Mat (View.ld x13 r0_21) W.WO := by rw [View.ld_unit_zero off2]; exact H.wO

theorem gf_ld : Mat (View.ld x14 r0_22) fun _ d => W.fg d := by rw [View.ld_unit_zero off2]; exact H.gf

theorem ts_ld_cos : Mat (View.ld x7 r0_16) cs :=
  (ld_mat H.ts 0 0 inb_S256x256_S256x128_0_0).congr fun i j _ _ => by rw [Nat.zero_add, Nat.zero_add]

theorem ts_ld_sin : Mat (View.ld x7 r0_17) fun k m => cs k (128 + m) :=
  (ld_mat H.ts 0 128 inb_S256x256_S256x128_0_128).congr fun i j _ _ => by rw [Nat.zero_add]

theorem pay94_mat : Mat (k0_pay94 x0 x1 x2 x3 x4 x5 x6 x7 x8 x9 x10 x11 x12 x13 x14) (hid W x) := pay3_mat (rows_ld H) (mods_ld H)

theorem pay95_mat : Mat (k0_pay95 x0 x1 x2 x3 x4 x5 x6 x7 x8 x9 x10 x11 x12 x13 x14) fun i c => proj W x i (1024 + c) := pay4_mat (rows_ld H) (mods_ld H) (wA_ld H 1024 inb_S1024x4096_S1024x512_0_1024)

theorem pay96_mat : Mat (k0_pay96 x0 x1 x2 x3 x4 x5 x6 x7 x8 x9 x10 x11 x12 x13 x14) (proj W x) := pay5_mat (rows_ld H) (mods_ld H) (wA_ld H 0 inb_S1024x4096_S1024x512_0_0)

theorem pay97_mat : Mat (k0_pay97 x0 x1 x2 x3 x4 x5 x6 x7 x8 x9 x10 x11 x12 x13 x14) fun i c => proj W x i (512 + c) * logistic (proj W x i (512 + c)) :=
  pay9_mat (pay94_mat H) (wA_ld H 512 inb_S1024x4096_S1024x512_0_512)

theorem pay98_mat : Mat (k0_pay98 x0 x1 x2 x3 x4 x5 x6 x7 x8 x9 x10 x11 x12 x13 x14) (ucus W x) := pay24_mat (pay96_mat H) (tc_ld H)

theorem pay99_mat : Mat (k0_pay99 x0 x1 x2 x3 x4 x5 x6 x7 x8 x9 x10 x11 x12 x13 x14) (ckvn W x) := pay25_mat (pay95_mat H) (gk_ld H)

theorem pay100_mat : Mat (k0_pay100 x0 x1 x2 x3 x4 x5 x6 x7 x8 x9 x10 x11 x12 x13 x14) fun i r => proj W x i (1408 + r) := pay26_mat (pay95_mat H)

theorem pay101_mat : Mat (k0_pay101 x0 x1 x2 x3 x4 x5 x6 x7 x8 x9 x10 x11 x12 x13 x14) (lat W x) := pay27_mat (pay95_mat H) (gk_ld H)

theorem pay102_mat : Mat (k0_pay102 x0 x1 x2 x3 x4 x5 x6 x7 x8 x9 x10 x11 x12 x13 x14) (qpad W x qs) := pay30_mat (pay95_mat H) (gq_ld H) (tq_ld H)

/-- The first batch element's rows of the latent. -/
theorem pay105_mat : Mat (k0_pay105 x0 x1 x2 x3 x4 x5 x6 x7 x8 x9 x10 x11 x12 x13 x14) fun t r => lat W x (256 * 0 + t) r :=
  (Mat.slice 0 0 (pay101_mat H) slices_S512x256_o0_0_S256x256).congr fun i j _ _ => by simp only [Nat.mul_zero, Nat.zero_add]

theorem pay103_mat : Mat (k0_pay103 x0 x1 x2 x3 x4 x5 x6 x7 x8 x9 x10 x11 x12 x13 x14) (kpad W (elem x 0)) := Mat.truncf (keys_mat (e := 0) (pay105_mat H) (tk_ld H) rfl) bitsLt_bf16_f32

theorem pay106_mat : Mat (k0_pay106 x0 x1 x2 x3 x4 x5 x6 x7 x8 x9 x10 x11 x12 x13 x14) (vpad W (elem x 0)) :=
  Mat.truncf (vals_mat (e := 0) (pay105_mat H) (Mat.cast (tv_ld H) shapeCasts_S640x256_S640x256) rfl) bitsLt_bf16_f32

/-- The second batch element's rows of the latent. -/
theorem second_mat : Mat (extractStridedSlice S256x256 ![256, 0] (k0_pay101 x0 x1 x2 x3 x4 x5 x6 x7 x8 x9 x10 x11 x12 x13 x14) slices_S512x256_o256_0_S256x256) fun t r => lat W x (256 * 1 + t) r :=
  (Mat.slice 256 0 (pay101_mat H) slices_S512x256_o256_0_S256x256).congr fun i j _ _ => by rw [Nat.zero_add, Nat.mul_one]

theorem pay110_mat : Mat (k0_pay110 x0 x1 x2 x3 x4 x5 x6 x7 x8 x9 x10 x11 x12 x13 x14) (kpad W (elem x 1)) := Mat.truncf (keys_mat (e := 1) (second_mat H) (tk_ld H) rfl) bitsLt_bf16_f32

theorem pay111_mat : Mat (k0_pay111 x0 x1 x2 x3 x4 x5 x6 x7 x8 x9 x10 x11 x12 x13 x14) (vpad W (elem x 1)) :=
  Mat.truncf (vals_mat (e := 1) (second_mat H) (Mat.cast (tv_ld H) shapeCasts_S640x256_S640x256) rfl) bitsLt_bf16_f32

theorem pay107_mat : Mat (k0_pay107 x0 x1 x2 x3 x4 x5 x6 x7 x8 x9 x10 x11 x12 x13 x14) (fold W (elem x 0)) := pay38_mat (tj_ld H) (pay98_mat H)

theorem pay112_mat : Mat (k0_pay112 x0 x1 x2 x3 x4 x5 x6 x7 x8 x9 x10 x11 x12 x13 x14) (fold W (elem x 1)) := pay73_mat (tj_ld H) (pay98_mat H)

/-- The output's buffer. -/
theorem out_block : Cube (out0_15 x0 x1 x2 x3 x4 x5 x6 x7 x8 x9 x10 x11 x12 x13 x14) fun e s d => out W (elem x e) s d := by
  have hQ := pay102_mat H
  have hK := pay103_mat H
  have hV := pay106_mat H
  have a0 := pay65_mat hQ hK hV (pay42_mat hQ hK hV rfl) (pay45_mat hQ hK hV) (pay47_mat hQ hK hV) (pay54_mat hQ hK hV)
    (pay56_mat hQ hK hV) (pay61_mat hQ hK hV) (pay62_mat hQ hK hV)
  have a1 := pay92_mat hQ (pay110_mat H) (pay111_mat H) a0
  have y0 := pay63_mat (pay98_mat H) (pay97_mat H) (wF_ld H) (ts_ld_cos H) (ts_ld_sin H) (pay107_mat H)
  have y1 := pay91_mat (pay98_mat H) (pay97_mat H) (wF_ld H) (ts_ld_cos H) (ts_ld_sin H) (pay112_mat H)
  have z := pay93_mat (pay1_mat (rows_ld H)) (pay2_mat (mods_ld H)) (pay67_mat (rows_ld H) (mods_ld H) (wA_ld H 2048 inb_S1024x4096_S1024x1024_0_2048))
    (pay8_mat (pay94_mat H) (wA_ld H 3072 inb_S1024x4096_S1024x1024_0_3072)) (pay31_mat (pay94_mat H) (wA_ld H 1536 inb_S1024x4096_S1024x512_0_1536))
    y0 y1 a1 (wAO_ld H) (wO_ld H) (gf_ld H)
  rw [out0_15, View.canon_unit_zero off3]
  exact z

/-- The kept latent's buffer. -/
theorem latent_block : Cube (out0_16 x0 x1 x2 x3 x4 x5 x6 x7 x8 x9 x10 x11 x12 x13 x14) fun e s r => ckvn W (elem x e) s r := fun i => by
  refine View.canon_apply_of_pieces (Val := Elt Ideal) (fun y : S2x256x128.Idx => ((ckvn W (elem x (y 0).val) (y 1).val (y 2).val : ℝ) : EReal)) _ (fun p hp j => ?_) i
    (cover0_16 _ _ i)
  rcases List.mem_cons.1 hp with rfl | hp
  · refine (latent_mat (pay99_mat H) 1 rfl slices_S512x128_o256_0_S256x128 j).trans ?_
    have b0 : (j 0).val < 1 := (j 0).isLt
    show _ = ((ckvn W (elem x (1 + 1 * (j 0).val)) (0 + 1 * (j 1).val) (0 + 1 * (j 2).val) : ℝ) : EReal)
    simp only [show (j 0).val = 0 by omega, Nat.one_mul, Nat.zero_add, Nat.add_zero]
  · obtain rfl := List.mem_singleton.1 hp
    refine (latent_mat (pay99_mat H) 0 rfl slices_S512x128_o0_0_S256x128 j).trans ?_
    have b0 : (j 0).val < 1 := (j 0).isLt
    show _ = ((ckvn W (elem x (0 + 1 * (j 0).val)) (0 + 1 * (j 1).val) (0 + 1 * (j 2).val) : ℝ) : EReal)
    simp only [show (j 0).val = 0 by omega, Nat.one_mul, Nat.zero_add, Nat.add_zero]

/-- The kept shared key columns' buffer. -/
theorem shared_block : Cube (out0_17 x0 x1 x2 x3 x4 x5 x6 x7 x8 x9 x10 x11 x12 x13 x14) fun e r s => proj W (elem x e) s (1408 + r) := fun i => by
  refine View.canon_apply_of_pieces (Val := Elt Ideal) (fun y : S2x32x256.Idx => ((proj W (elem x (y 0).val) (y 2).val (1408 + (y 1).val) : ℝ) : EReal)) _ (fun p hp j => ?_) i
    (cover0_17 _ _ i)
  rcases List.mem_cons.1 hp with rfl | hp
  · refine (shared_mat (pay100_mat H) 1 rfl slices_S512x128_o256_0_S256x128 j).trans ?_
    have b0 : (j 0).val < 1 := (j 0).isLt
    show _ = ((proj W (elem x (1 + 1 * (j 0).val)) (0 + 1 * (j 2).val) (1408 + (0 + 1 * (j 1).val)) : ℝ) : EReal)
    simp only [show (j 0).val = 0 by omega, Nat.one_mul, Nat.zero_add, Nat.add_zero]
  · obtain rfl := List.mem_singleton.1 hp
    refine (shared_mat (pay100_mat H) 0 rfl slices_S512x128_o0_0_S256x128 j).trans ?_
    have b0 : (j 0).val < 1 := (j 0).isLt
    show _ = ((proj W (elem x (0 + 1 * (j 0).val)) (0 + 1 * (j 2).val) (1408 + (0 + 1 * (j 1).val)) : ℝ) : EReal)
    simp only [show (j 0).val = 0 by omega, Nat.one_mul, Nat.zero_add, Nat.add_zero]

end Cert.KernelIdeal.Block
-- ==== Proof.Host.lean ====
/- The host's shape operations at real values: reshapes between ranks two and three, slices, transposes, padding with zeros,
   broadcasts, concatenations and a scatter of one number; and the arithmetic of indices that the cosine and sine tables
   are built from. -/
module

public import proofs.«01_k».proof.Proof.Ops
public import proofs.«01_k».proof.Proof.Spec
public import Idealize.ShloMosaic.Lib.KernelVsHost

@[expose] public section

noncomputable section

namespace Cert.Layer

open Idealize.ShloMosaic hiding ix0 ix1 ix2 ix3 eq_ix1 eq_ix2 eq_ix3
open Idealize.ShloMosaic.ValueIdx
open Finset (range)

variable {a b c : ℕ} {φ φ' : FTy}

/-- A held function may be replaced by one equal to it within the array. -/
theorem Cube.congr {v : (⟨3, ![a, b, c]⟩ : Shape).Idx → EReal} {f g : ℕ → ℕ → ℕ → ℝ} (h : Cube v f)
    (e : ∀ i j k, i < a → j < b → k < c → f i j k = g i j k) : Cube v g :=
  fun i => (h i).trans (congrArg _ (e _ _ _ (i 0).isLt (i 1).isLt (i 2).isLt))

theorem Row.congr {v : (⟨1, ![a]⟩ : Shape).Idx → EReal} {f g : ℕ → ℝ} (h : Row v f)
    (e : ∀ i, i < a → f i = g i) : Row v g :=
  fun i => (h i).trans (congrArg _ (e _ (i 0).isLt))

theorem Cube.truncf {x : FVec Ideal ⟨3, ![a, b, c]⟩ φ} {f : ℕ → ℕ → ℕ → ℝ} (hx : Cube x f) (h : φ'.bits < φ.bits) :
    Cube (truncf φ' x h) f := hx

/-- The columns split over two axes. -/
theorem Mat.splitCols {n : ℕ} {x : (⟨2, ![a, n]⟩ : Shape).Idx → EReal} {f : ℕ → ℕ → ℝ} (hx : Mat x f) (hn : n = b * c)
    (h : (⟨2, ![a, n]⟩ : Shape).ShapeCasts ⟨3, ![a, b, c]⟩) :
    Cube (shapeCast ⟨3, ![a, b, c]⟩ x h) (fun i j k => f i (j * c + k)) := fun i => by
  have h1 : (i 1).val < b := (i 1).isLt
  have h2 : (i 2).val < c := (i 2).isLt
  have hlt : (i 1).val * c + (i 2).val < n := by
    have := Nat.mul_le_mul_right c (Nat.succ_le_of_lt h1)
    rw [Nat.succ_mul] at this; omega
  rw [shapeCast_apply x h i (ix2 (i 0) ⟨(i 1).val * c + (i 2).val, hlt⟩) (by
    rw [Shape.rowMajor_val_three, Shape.rowMajor_val_two]
    show (i 0).val * n + ((i 1).val * c + (i 2).val) = ((i 0).val * b + (i 1).val) * c + (i 2).val
    rw [hn]; ring)]
  exact hx _

/-- The last two axes joined. -/
theorem Cube.joinCols {n : ℕ} {x : (⟨3, ![a, b, c]⟩ : Shape).Idx → EReal} {f : ℕ → ℕ → ℕ → ℝ} (hx : Cube x f) (hn : n = b * c)
    (h : (⟨3, ![a, b, c]⟩ : Shape).ShapeCasts ⟨2, ![a, n]⟩) :
    Mat (shapeCast ⟨2, ![a, n]⟩ x h) (fun i j => f i (j / c) (j % c)) := fun i => by
  have h1 : (i 1).val < n := (i 1).isLt
  have hc : 0 < c := Nat.pos_of_ne_zero (by rintro rfl; omega)
  rw [shapeCast_apply x h i (ix3 (i 0) ⟨(i 1).val / c, Nat.div_lt_of_lt_mul (by rw [Nat.mul_comm]; omega)⟩
    ⟨(i 1).val % c, Nat.mod_lt _ hc⟩) (by
    rw [Shape.rowMajor_val_three, Shape.rowMajor_val_two]
    show ((i 0).val * b + (i 1).val / c) * c + (i 1).val % c = (i 0).val * n + (i 1).val
    have e : n * (i 0).val = (i 0).val * b * c := by rw [hn]; ring
    have := Nat.div_add_mod' (i 1).val c
    rw [Nat.add_mul, Nat.add_assoc, this, Nat.mul_comm (i 0).val n, e])]
  exact hx _

/-- A leading axis of extent one dropped. -/
theorem Cube.drop {x : (⟨3, ![1, b, c]⟩ : Shape).Idx → EReal} {f : ℕ → ℕ → ℕ → ℝ} (hx : Cube x f)
    (h : (⟨3, ![1, b, c]⟩ : Shape).ShapeCasts ⟨2, ![b, c]⟩) : Mat (shapeCast ⟨2, ![b, c]⟩ x h) (fun i j => f 0 i j) :=
  (hx.join (by omega) h).congr fun i j hi _ => by rw [Nat.div_eq_of_lt hi, Nat.mod_eq_of_lt hi]

/-- A single row read as a vector. -/
theorem Mat.drop {x : (⟨2, ![1, b]⟩ : Shape).Idx → EReal} {f : ℕ → ℕ → ℝ} (hx : Mat x f)
    (h : (⟨2, ![1, b]⟩ : Shape).ShapeCasts ⟨1, ![b]⟩) : Row (shapeCast ⟨1, ![b]⟩ x h) (fun j => f 0 j) := fun i => by
  rw [shapeCast_apply x h i (ix2 0 (i 0)) (by
    rw [Shape.rowMajor_val_one, Shape.rowMajor_val_two]
    show 0 * b + (i 0).val = (i 0).val; omega)]
  exact hx _

/-- A vector made the one row of a matrix. -/
theorem Row.lay {x : (⟨1, ![b]⟩ : Shape).Idx → EReal} {f : ℕ → ℝ} (hx : Row x f)
    (h : (⟨1, ![b]⟩ : Shape).BroadcastsInDim ⟨2, ![1, b]⟩ ![1]) :
    Mat (broadcastInDim ⟨2, ![1, b]⟩ ![1] h x) (fun _ j => f j) := fun i => by
  rw [broadcastInDim_apply ![1] h x i (ix1 (i 1)) (fun d => match d with
    | ⟨0, _⟩ => by
      show (i 1).val = if b = 1 then 0 else (i 1).val
      have h1 : (i 1).val < b := (i 1).isLt
      split <;> omega)]
  exact hx _

/-- A number at every place. -/
theorem Mat.fill {r : ℝ} {v : (⟨0, ![]⟩ : Shape).Idx → EReal} (hv : v ix0 = (r : EReal))
    (h : (⟨0, ![]⟩ : Shape).BroadcastsInDim ⟨2, ![a, b]⟩ ![]) :
    Mat (broadcastInDim ⟨2, ![a, b]⟩ ![] h v) (fun _ _ => r) := fun i => by
  rw [broadcastInDim_scalar_apply]; exact hv

theorem Cube.fill {r : ℝ} {v : (⟨0, ![]⟩ : Shape).Idx → EReal} (hv : v ix0 = (r : EReal))
    (h : (⟨0, ![]⟩ : Shape).BroadcastsInDim ⟨3, ![a, b, c]⟩ ![]) :
    Cube (broadcastInDim ⟨3, ![a, b, c]⟩ ![] h v) (fun _ _ _ => r) := fun i => by
  rw [broadcastInDim_scalar_apply]; exact hv

/-- A matrix repeated along a new middle axis. -/
theorem Mat.repeatMid {x : (⟨2, ![a, c]⟩ : Shape).Idx → EReal} {f : ℕ → ℕ → ℝ} (hx : Mat x f)
    (h : (⟨2, ![a, c]⟩ : Shape).BroadcastsInDim ⟨3, ![a, 1, c]⟩ ![0, 2])
    (h' : (⟨3, ![a, 1, c]⟩ : Shape).BroadcastsInDim ⟨3, ![a, b, c]⟩ ![0, 1, 2]) :
    Cube (broadcastInDim ⟨3, ![a, b, c]⟩ ![0, 1, 2] h' (broadcastInDim ⟨3, ![a, 1, c]⟩ ![0, 2] h x)) (fun i _ k => f i k) :=
  fun i => by
  have h0 : (i 0).val < a := (i 0).isLt
  have h2 : (i 2).val < c := (i 2).isLt
  rw [broadcastInDim_apply (s := ⟨3, ![a, 1, c]⟩) (t := ⟨3, ![a, b, c]⟩) ![0, 1, 2] h'
    (broadcastInDim ⟨3, ![a, 1, c]⟩ ![0, 2] h x) i (ix3 (i 0) 0 (i 2)) (fun d => match d with
    | ⟨0, _⟩ => by show (i 0).val = if a = 1 then 0 else (i 0).val; split <;> omega
    | ⟨1, _⟩ => rfl
    | ⟨2, _⟩ => by show (i 2).val = if c = 1 then 0 else (i 2).val; split <;> omega),
    broadcastInDim_apply ![0, 2] h x _ (ix2 (i 0) (i 2)) (fun d => match d with
    | ⟨0, _⟩ => by show (i 0).val = if a = 1 then 0 else (i 0).val; split <;> omega
    | ⟨1, _⟩ => by show (i 2).val = if c = 1 then 0 else (i 2).val; split <;> omega)]
  exact hx _

/-- A slice of the last axis. -/
theorem Cube.sliceLast {q : ℕ} {x : (⟨3, ![a, b, c]⟩ : Shape).Idx → EReal} {f : ℕ → ℕ → ℕ → ℝ} (o : ℕ) (hx : Cube x f)
    (h : (⟨3, ![a, b, c]⟩ : Shape).Slices ![0, 0, o] ⟨3, ![a, b, q]⟩) :
    Cube (extractStridedSlice ⟨3, ![a, b, q]⟩ ![0, 0, o] x h) (fun i j k => f i j (o + k)) := fun i => by
  have e : ∀ d : Fin 3, _ := fun d => h.2 d
  have e2 : o + q ≤ c := e 2
  have h2 : (i 2).val < q := (i 2).isLt
  rw [extractStridedSlice_apply ![0, 0, o] x h i (ix3 (i 0) (i 1) ⟨o + (i 2).val, by omega⟩)
    (fun d => match d with
    | ⟨0, _⟩ => by show (i 0).val = 0 + (i 0).val; omega
    | ⟨1, _⟩ => by show (i 1).val = 0 + (i 1).val; omega
    | ⟨2, _⟩ => rfl)]
  exact hx _

/-- The first axis moved to the end. -/
theorem Cube.rotate {x : (⟨3, ![a, b, c]⟩ : Shape).Idx → EReal} {f : ℕ → ℕ → ℕ → ℝ} (hx : Cube x f)
    (h : (⟨3, ![a, b, c]⟩ : Shape).Transposes [1, 2, 0] ⟨3, ![b, c, a]⟩) :
    Cube (transpose ⟨3, ![b, c, a]⟩ [1, 2, 0] x h) (fun j k i => f i j k) := fun i => by
  rw [transpose_apply [1, 2, 0] x h i (ix3 (i 2) (i 0) (i 1))
    (fun d => match d with | ⟨0, _⟩ => rfl | ⟨1, _⟩ => rfl | ⟨2, _⟩ => rfl)]
  exact hx _

/-- Zeros put after an array's entries on each axis. -/
theorem Cube.padHigh {p q r : ℕ} {hi : Fin 3 → ℕ} {x : (⟨3, ![a, b, c]⟩ : Shape).Idx → EReal} {f : ℕ → ℕ → ℕ → ℝ} (hx : Cube x f)
    {v : (⟨0, ![]⟩ : Shape).Idx → EReal} (hv : v ix0 = ((0 : ℝ) : EReal))
    (h : (⟨3, ![a, b, c]⟩ : Shape).Pads ![0, 0, 0] hi ![0, 0, 0] ⟨3, ![p, q, r]⟩) (hu : 0 < (⟨0, ![]⟩ : Shape).numel) :
    Cube (pad ⟨3, ![p, q, r]⟩ ![0, 0, 0] hi ![0, 0, 0] x v h hu)
      (fun i j k => if i < a ∧ j < b ∧ k < c then f i j k else 0) := fun i => by
  have first : Shape.Idx.first hu = ix0 := funext fun d => d.elim0
  by_cases H : (i 0).val < a ∧ (i 1).val < b ∧ (i 2).val < c
  · rw [pad_apply_of_inside _ _ _ x v h hu i (ix3 ⟨(i 0).val, H.1⟩ ⟨(i 1).val, H.2.1⟩ ⟨(i 2).val, H.2.2⟩) (fun d => match d with
      | ⟨0, _⟩ => by show (i 0).val = 0 + (i 0).val * (0 + 1); omega
      | ⟨1, _⟩ => by show (i 1).val = 0 + (i 1).val * (0 + 1); omega
      | ⟨2, _⟩ => by show (i 2).val = 0 + (i 2).val * (0 + 1); omega)]
    beta_reduce; rw [if_pos H]; exact hx _
  · beta_reduce; rw [if_neg H, ← hv, ← first]
    by_cases h0 : (i 0).val < a
    · by_cases h1 : (i 1).val < b
      · exact pad_apply_of_not_inside _ _ _ x v h hu i 2 fun H' =>
          H ⟨h0, h1, by have : ((i 2).val - 0) / (0 + 1) < c := H'.2.2; omega⟩
      · exact pad_apply_of_not_inside _ _ _ x v h hu i 1 fun H' =>
          h1 (by have : ((i 1).val - 0) / (0 + 1) < b := H'.2.2; omega)
    · exact pad_apply_of_not_inside _ _ _ x v h hu i 0 fun H' =>
        h0 (by have : ((i 0).val - 0) / (0 + 1) < a := H'.2.2; omega)

/-- Zeros put before and after a matrix's columns. -/
theorem Mat.padCols {o u n : ℕ} {x : (⟨2, ![a, b]⟩ : Shape).Idx → EReal} {f : ℕ → ℕ → ℝ} (hx : Mat x f)
    {v : (⟨0, ![]⟩ : Shape).Idx → EReal} (hv : v ix0 = ((0 : ℝ) : EReal))
    (h : (⟨2, ![a, b]⟩ : Shape).Pads ![0, o] ![0, u] ![0, 0] ⟨2, ![a, n]⟩) (hu : 0 < (⟨0, ![]⟩ : Shape).numel) :
    Mat (pad ⟨2, ![a, n]⟩ ![0, o] ![0, u] ![0, 0] x v h hu)
      (fun i j => if o ≤ j ∧ j < o + b then f i (j - o) else 0) := fun i => by
  have first : Shape.Idx.first hu = ix0 := funext fun d => d.elim0
  by_cases H : o ≤ (i 1).val ∧ (i 1).val < o + b
  · rw [pad_apply_of_inside _ _ _ x v h hu i (ix2 (i 0) ⟨(i 1).val - o, by omega⟩) (fun d => match d with
      | ⟨0, _⟩ => by show (i 0).val = 0 + (i 0).val * (0 + 1); omega
      | ⟨1, _⟩ => by show (i 1).val = o + ((i 1).val - o) * (0 + 1); omega)]
    beta_reduce; rw [if_pos H]; exact hx _
  · beta_reduce; rw [if_neg H, ← hv, ← first]
    exact pad_apply_of_not_inside _ _ _ x v h hu i 1 fun H' => H (by
      have h1 : o ≤ (i 1).val := H'.1
      have h2 : ((i 1).val - o) / (0 + 1) < b := H'.2.2
      rw [Nat.zero_add, Nat.div_one] at h2
      exact ⟨h1, by omega⟩)

/-- Two pieces one above the other. -/
theorem Mat.above {p q n : ℕ} {x : (⟨2, ![p, b]⟩ : Shape).Idx → EReal} {y : (⟨2, ![q, b]⟩ : Shape).Idx → EReal}
    {f g : ℕ → ℕ → ℝ} (hx : Mat x f) (hy : Mat y g) (hn : n = p + q)
    (h : Shape.Concatenates [⟨2, ![p, b]⟩, ⟨2, ![q, b]⟩] ⟨2, ![n, b]⟩ 0) :
    Mat (concatenate ⟨2, ![n, b]⟩ 0 [⟨⟨2, ![p, b]⟩, x⟩, ⟨⟨2, ![q, b]⟩, y⟩] h)
      (fun i j => if i < p then f i j else g (i - p) j) := fun i => by
  have h1 : (i 0).val < n := (i 0).isLt
  by_cases hj : (i 0).val < p
  · rw [concatenate_pair_apply_left 0 x y h i rfl (ix2 ⟨(i 0).val, hj⟩ (i 1))
      (fun d => match d with | ⟨0, _⟩ => rfl | ⟨1, _⟩ => rfl)]
    refine (hx _).trans ?_
    simp only [if_pos hj]; rfl
  · rw [concatenate_pair_apply_right 0 x y h i rfl rfl (ix2 ⟨(i 0).val - p, by omega⟩ (i 1))
      (fun d hd => match d with | ⟨1, _⟩ => rfl | ⟨0, _⟩ => absurd rfl hd) (by
        show (i 0).val - p + p = (i 0).val; omega)]
    refine (hy _).trans ?_
    simp only [if_neg hj]; rfl

/-- Three pieces along the first axis. -/
theorem Cube.above3 {p q r n : ℕ} {x : (⟨3, ![p, b, c]⟩ : Shape).Idx → EReal} {y : (⟨3, ![q, b, c]⟩ : Shape).Idx → EReal}
    {z : (⟨3, ![r, b, c]⟩ : Shape).Idx → EReal} {f g k : ℕ → ℕ → ℕ → ℝ} (hx : Cube x f) (hy : Cube y g) (hz : Cube z k)
    (hn : n = p + q + r)
    (h : Shape.Concatenates [⟨3, ![p, b, c]⟩, ⟨3, ![q, b, c]⟩, ⟨3, ![r, b, c]⟩] ⟨3, ![n, b, c]⟩ 0) :
    Cube (concatenate ⟨3, ![n, b, c]⟩ 0 [⟨⟨3, ![p, b, c]⟩, x⟩, ⟨⟨3, ![q, b, c]⟩, y⟩, ⟨⟨3, ![r, b, c]⟩, z⟩] h)
      (fun i j l => if i < p then f i j l else if i < p + q then g (i - p) j l else k (i - p - q) j l) := fun i => by
  have h1 : (i 0).val < n := (i 0).isLt
  by_cases hp : (i 0).val < p
  · rw [concatenate_apply_piece (t := ⟨3, ![n, b, c]⟩) 0 [⟨_, x⟩, ⟨_, y⟩, ⟨_, z⟩] h i 0 (by show 0 < 3; omega) _ x rfl rfl 0 rfl (ix3 ⟨(i 0).val, hp⟩ (i 1) (i 2))
      (fun d hd => match d with | ⟨0, _⟩ => absurd rfl hd | ⟨1, _⟩ => rfl | ⟨2, _⟩ => rfl)
      (by show 0 + (i 0).val = (i 0).val; omega)]
    refine (hx _).trans ?_
    beta_reduce; rw [if_pos hp]; rfl
  · by_cases hq : (i 0).val < p + q
    · rw [concatenate_apply_piece (t := ⟨3, ![n, b, c]⟩) 0 [⟨_, x⟩, ⟨_, y⟩, ⟨_, z⟩] h i 1 (by show 1 < 3; omega) _ y rfl rfl p (by show p + 0 = p; omega)
        (ix3 ⟨(i 0).val - p, by omega⟩ (i 1) (i 2))
        (fun d hd => match d with | ⟨0, _⟩ => absurd rfl hd | ⟨1, _⟩ => rfl | ⟨2, _⟩ => rfl)
        (by show p + ((i 0).val - p) = (i 0).val; omega)]
      refine (hy _).trans ?_
      beta_reduce; rw [if_neg hp, if_pos hq]; rfl
    · rw [concatenate_apply_piece (t := ⟨3, ![n, b, c]⟩) 0 [⟨_, x⟩, ⟨_, y⟩, ⟨_, z⟩] h i 2 (by show 2 < 3; omega) _ z rfl rfl (p + q) (by show p + (q + 0) = p + q; omega)
        (ix3 ⟨(i 0).val - p - q, by omega⟩ (i 1) (i 2))
        (fun d hd => match d with | ⟨0, _⟩ => absurd rfl hd | ⟨1, _⟩ => rfl | ⟨2, _⟩ => rfl)
        (by show p + q + ((i 0).val - p - q) = (i 0).val; omega)]
      refine (hz _).trans ?_
      beta_reduce; rw [if_neg hp, if_neg hq]; rfl

/-- A scatter whose every update is the same number, at the places the updates land on. -/
theorem scatter_same {s si u : Shape} {w : ℕ} {α : Type} (D : ScatterDims s si u) (x : s.Idx → α) (idx : IVec si w)
    (upd : u.Idx → α) (t : u.Idx → s.Idx) (v : α) (ht : ∀ j, D.resultIdx? j idx = some (t j)) (hv : ∀ j, upd j = v) (i : s.Idx)
    [Decidable (∃ j, i = t j)] :
    Host.scatter D (fun _ b => b) x idx upd i = if ∃ j, i = t j then v else x i := by
  have key : ∀ L : List (Fin u.numel), ∀ x : s.Idx → α,
      (L.foldl (fun r n => match D.resultIdx? (u.rowMajor.symm n) idx with
        | some k => fun i' => if i' = k then (fun _ b => b) (r k) (upd (u.rowMajor.symm n)) else r i'
        | none => r) x) i = if ∃ n ∈ L, i = t (u.rowMajor.symm n) then v else x i := by
    intro L
    induction L with
    | nil => intro x; simp
    | cons n L ih =>
      intro x
      rw [List.foldl_cons, ih, ht, hv]
      by_cases h1 : ∃ n ∈ L, i = t (u.rowMajor.symm n)
      · rw [if_pos h1, if_pos (by obtain ⟨k, hk, e⟩ := h1; exact ⟨k, List.mem_cons_of_mem _ hk, e⟩)]
      · rw [if_neg h1]
        by_cases h2 : i = t (u.rowMajor.symm n)
        · rw [if_pos ⟨n, List.mem_cons_self, h2⟩]; simp only [if_pos h2]
        · rw [if_neg (by rintro ⟨k, hk, e⟩; rcases List.mem_cons.1 hk with rfl | hk; exacts [h2 e, h1 ⟨k, hk, e⟩])]
          simp only [if_neg h2]
  refine (key (List.finRange u.numel) x).trans ?_
  refine if_congr ⟨fun ⟨n, _, e⟩ => ⟨_, e⟩, fun ⟨j, e⟩ => ⟨u.rowMajor j, List.mem_finRange _, ?_⟩⟩ rfl rfl
  rw [Equiv.symm_apply_apply]; exact e

/-- The quotient by a nonzero number. -/
theorem Mat.hostDivf {x y : FVec Ideal ⟨2, ![a, b]⟩ φ} {f g : ℕ → ℕ → ℝ} (hx : Mat x f) (hy : Mat y g)
    (hg : ∀ i j, i < a → j < b → g i j ≠ 0) : Mat (Host.divf x y) (fun i j => f i j / g i j) := fun i => by
  show Ideal.div (x i) (y i) = _
  rw [hx i, hy i, Ideal.div_coe (hg _ _ (i 0).isLt (i 1).isLt), ← EReal.coe_mul, mul_one_div]

theorem Mat.hostCos {x : FVec Ideal ⟨2, ![a, b]⟩ φ} {f : ℕ → ℕ → ℝ} (hx : Mat x f) :
    Mat (Host.cos x) (fun i j => Real.cos (f i j)) := fun i => by
  show Ideal.cos (x i) = _
  rw [hx i]; rfl

theorem Mat.hostSin {x : FVec Ideal ⟨2, ![a, b]⟩ φ} {f : ℕ → ℕ → ℝ} (hx : Mat x f) :
    Mat (Host.sin x) (fun i j => Real.sin (f i j)) := fun i => by
  show Ideal.sin (x i) = _
  rw [hx i]; rfl

theorem Mat.hostNegf {x : FVec Ideal ⟨2, ![a, b]⟩ φ} {f : ℕ → ℕ → ℝ} (hx : Mat x f) :
    Mat (Host.negf x) (fun i j => -f i j) := fun i => by
  show -(x i) = _
  rw [hx i, EReal.coe_neg]

/-- The remainder of a word below `2 ^ 31` by another, read as an integer. -/
theorem rem_word (p n : ℕ) (hp : p < 2 ^ 31) (hn : n < 2 ^ 31) (h0 : 0 < n) :
    (IntOp.remsi .host (BitVec.ofNat 32 p) (BitVec.ofNat 32 n)).toInt = ((p % n : ℕ) : ℤ) := by
  have tp : (BitVec.ofNat 32 p).toInt = (p : ℤ) := by
    rw [BitVec.toInt_eq_toNat_of_lt (by rw [BitVec.toNat_ofNat]; omega), BitVec.toNat_ofNat, Nat.mod_eq_of_lt (by omega)]
  have tn : (BitVec.ofNat 32 n).toInt = (n : ℤ) := by
    rw [BitVec.toInt_eq_toNat_of_lt (by rw [BitVec.toNat_ofNat]; omega), BitVec.toNat_ofNat, Nat.mod_eq_of_lt (by omega)]
  have hc : ¬ IntOp.SDivCorner (BitVec.ofNat 32 p) (BitVec.ofNat 32 n) := by
    rintro (h | ⟨_, h⟩)
    · have := congrArg BitVec.toInt h
      rw [tn] at this; simp at this; omega
    · have := congrArg BitVec.toInt h
      rw [tn] at this; simp at this
  rw [IntOp.remsi, if_neg hc, BitVec.toInt_srem, tp, tn]
  rfl

/-- The arc cosine of minus one is the number π. -/
theorem acos_neg_one : Ideal.acos (Ideal.ofBits .f32 0xBF800000#32) = ((Real.pi : ℝ) : EReal) := by
  have h : Ideal.ofBits .f32 0xBF800000#32 = ((-1 : ℝ) : EReal) := by
    simp [Ideal.ofBits, Ideal.ieee]; rw [← EReal.coe_mul]; norm_num
  rw [h, Ideal.acos_coe, if_pos (by norm_num), Real.arccos_neg_one]

theorem ofBits_two : Ideal.ofBits .f32 0x40000000#32 = ((2 : ℝ) : EReal) := by
  simp [Ideal.ofBits, Ideal.ieee]; rw [← EReal.coe_mul]; norm_num

/-- The table of the angles of a transform over `n` points: the product of row and column reduced modulo `n`, times `2π / n`. -/
theorem angles_mat {n : ℕ} {w : BitVec 32} (hw : Ideal.ofBits .f32 w = ((n : ℝ) : EReal)) (hn : 0 < n) (hn' : n < 2 ^ 31)
    (ha : a ≤ 2 ^ 15) (hb : b ≤ 2 ^ 15) (h h' : (⟨0, ![]⟩ : Shape).BroadcastsInDim ⟨2, ![a, b]⟩ ![]) :
    Mat (mulf (F := Ideal) (φ := .f32)
        (sitofp .f32 (Host.remsi (muli (iotaInDim ⟨2, ![a, b]⟩ 32 0) (iotaInDim ⟨2, ![a, b]⟩ 32 1))
          (broadcastInDim ⟨2, ![a, b]⟩ ![] h (constantI ⟨0, ![]⟩ 32 (BitVec.ofNat 32 n)))))
        (broadcastInDim ⟨2, ![a, b]⟩ ![] h' (id (Host.divf (mulf (constant (F := Ideal) ⟨0, ![]⟩ .f32 0x40000000#32)
          (Host.acos (constant (F := Ideal) ⟨0, ![]⟩ .f32 0xBF800000#32))) (constant (F := Ideal) ⟨0, ![]⟩ .f32 w)))))
      (fun i j => angle n (i * j % n)) := by
  have step : Mat (broadcastInDim ⟨2, ![a, b]⟩ ![] h' (id (Host.divf (mulf (constant (F := Ideal) ⟨0, ![]⟩ .f32 0x40000000#32)
      (Host.acos (constant (F := Ideal) ⟨0, ![]⟩ .f32 0xBF800000#32))) (constant (F := Ideal) ⟨0, ![]⟩ .f32 w))))
      (fun _ _ => 2 * Real.pi / n) := Mat.fill (by
    show Ideal.div (Ideal.ofBits .f32 0x40000000#32 * Ideal.acos (Ideal.ofBits .f32 0xBF800000#32)) (Ideal.ofBits .f32 w) = _
    rw [ofBits_two, acos_neg_one, hw, ← EReal.coe_mul, Ideal.div_coe (by exact_mod_cast hn.ne'), ← EReal.coe_mul, mul_one_div]) h'
  have prod : Mat (sitofp (F := Ideal) .f32 (Host.remsi (muli (iotaInDim ⟨2, ![a, b]⟩ 32 0) (iotaInDim ⟨2, ![a, b]⟩ 32 1))
      (broadcastInDim ⟨2, ![a, b]⟩ ![] h (constantI ⟨0, ![]⟩ 32 (BitVec.ofNat 32 n))))) (fun i j => ((i * j % n : ℕ) : ℝ)) := fun i => by
    have h0 : (i 0).val < a := (i 0).isLt
    have h1 : (i 1).val < b := (i 1).isLt
    have hp : (i 0).val * (i 1).val < 2 ^ 31 :=
      lt_of_le_of_lt (Nat.mul_le_mul (by omega : (i 0).val ≤ 2 ^ 15) (by omega : (i 1).val ≤ 2 ^ 15)) (by norm_num)
    show (((IntOp.remsi .host (BitVec.ofNat 32 (i 0).val * BitVec.ofNat 32 (i 1).val)
      (broadcastInDim ⟨2, ![a, b]⟩ ![] h (constantI ⟨0, ![]⟩ 32 (BitVec.ofNat 32 n)) i)).toInt : ℝ) : EReal) = _
    rw [broadcastInDim_scalar_apply]
    show (((IntOp.remsi .host (BitVec.ofNat 32 (i 0).val * BitVec.ofNat 32 (i 1).val) (BitVec.ofNat 32 n)).toInt : ℝ) : EReal) = _
    rw [← BitVec.ofNat_mul, rem_word _ _ hp hn' hn, Int.cast_natCast]
  exact prod.mulf step

end Cert.Layer
-- ==== Proof.Inputs.lean ====
/- The eleven arguments holding real numbers: the context tokens, the modulations' row of the context condition, and the
   weights, which make up the layer's parameters. -/
module

public import proofs.«01_k».proof.Proof.Ops
public import proofs.«01_k».proof.Proof.Spec

@[expose] public section

noncomputable section

namespace Cert.Layer

open Idealize.ShloMosaic hiding ix0 ix1 ix2 ix3 eq_ix1 eq_ix2 eq_ix3
open Idealize.ShloMosaic.ValueIdx

/-- The modulations of the context condition in one row: shift, scale, gate. -/
def modRow (W : Params) (c : ℕ) : ℝ := if c < 1024 then W.shift c else if c < 2048 then W.scale (c - 1024) else W.gate (c - 2048)

/-- The arguments hold the tokens `X` and the parameters `W`; of the modulations only row 4 is asked of. -/
structure Inputs (W : Params) (X : ℕ → ℕ → ℕ → ℝ) (a0 : (⟨3, ![16, 256, 1024]⟩ : Shape).Idx → EReal)
    (a1 : (⟨3, ![8, 1, 3072]⟩ : Shape).Idx → EReal) (a2 : (⟨2, ![1024, 4096]⟩ : Shape).Idx → EReal)
    (a3 : (⟨3, ![1, 256, 768]⟩ : Shape).Idx → EReal) (a4 : (⟨2, ![1, 256]⟩ : Shape).Idx → EReal)
    (a5 : (⟨2, ![1, 128]⟩ : Shape).Idx → EReal) (a6 : (⟨3, ![1, 128, 1024]⟩ : Shape).Idx → EReal)
    (a7 : (⟨3, ![1, 512, 1024]⟩ : Shape).Idx → EReal) (a8 : (⟨3, ![1, 512, 1024]⟩ : Shape).Idx → EReal)
    (a9 : (⟨3, ![1, 1024, 1024]⟩ : Shape).Idx → EReal) (a10 : (⟨1, ![1024]⟩ : Shape).Idx → EReal) : Prop where
  tok : Cube a0 X
  mods : ∀ i, (i 0).val = 4 → a1 i = ((modRow W (i 2).val : ℝ) : EReal)
  wA : Mat a2 W.A
  uq : Cube a3 fun _ r c => W.UQ r c
  gq : Mat a4 fun _ r => W.qg r
  gk : Mat a5 fun _ r => W.kg r
  ukv : Cube a6 fun _ r c => W.UKV r c
  wF : Cube a7 fun _ r c => W.WF r c
  wAO : Cube a8 fun _ r c => W.WA r c
  wO : Cube a9 fun _ r c => W.WO r c
  gf : Row a10 W.fg

end Cert.Layer
-- ==== Proof.Prep.lean ====
/- What the host prepares for the kernel: the contents of the weight and table arrays when the kernel starts, from the
   arguments. -/
module

public import proofs.«01_k».proof.Proof.Host
public import proofs.«01_k».proof.Proof.Inputs
public import proofs.«01_k».proof.Proof.Stages
public import proofs.«01_k».proof.Proof.Tables
public import proofs.«01_k».proof.Proof.Gen.KernelIdeal.Frame

@[expose] public section

noncomputable section

namespace Cert.KernelIdeal.Prep

open Cert.KernelIdeal Cert.KernelIdeal.Gen Cert.Layer Idealize.ShloMosaic.TcCoe Idealize.SL.Sem
open Idealize.ShloMosaic hiding ix0 ix1 ix2 ix3 eq_ix1 eq_ix2 eq_ix3
open Idealize.ShloMosaic.ValueIdx
open Finset (range)

/-! ### The values, by the operations' own terms -/

/-- The word zero converted to a float. -/
theorem zero_word : (sitofp (F := Ideal) .f32 (constantI ⟨0, ![]⟩ 32 0#32)) ix0 = ((0 : ℝ) : EReal) := by
  show (((0#32 : BitVec 32).toInt : ℝ) : EReal) = _
  simp

theorem zero_float : (constant (F := Ideal) ⟨0, ![]⟩ .f32 0x00000000#32) ix0 = ((0 : ℝ) : EReal) :=
  Ideal.ofBits_zero_f32

theorem ofBits_128 : Ideal.ofBits .f32 0x43000000#32 = (((128 : ℕ) : ℝ) : EReal) := by
  simp [Ideal.ofBits, Ideal.ieee]; rw [← EReal.coe_mul]; norm_num

theorem ofBits_256' : Ideal.ofBits .f32 0x43800000#32 = (((256 : ℕ) : ℝ) : EReal) := ofBits_256

/-- The channel transform's table for one group: cosines beside sines. -/
theorem group_mat {x : FVec Ideal ⟨2, ![128, 128]⟩ .f32} (hx : Mat x fun i j => angle 128 (i * j % 128))
    (h : Shape.Concatenates [⟨2, ![128, 128]⟩, ⟨2, ![128, 128]⟩] ⟨2, ![128, 256]⟩ 1)
    (h' : (⟨0, ![]⟩ : Shape).BroadcastsInDim ⟨2, ![128, 256]⟩ ![]) :
    Mat (Host.divf (F := Ideal) (φ := .f32)
        (concatenate ⟨2, ![128, 256]⟩ 1 [⟨⟨2, ![128, 128]⟩, Host.cos x⟩, ⟨⟨2, ![128, 128]⟩, Host.sin x⟩] h)
        (broadcastInDim ⟨2, ![128, 256]⟩ ![] h' (id (Host.sqrt (constant (F := Ideal) ⟨0, ![]⟩ .f32 0x43000000#32)))))
      fun i j => (if j / 128 % 2 = 0 then Real.cos (angle 128 (i * (j % 128))) else Real.sin (angle 128 (i * (j % 128)))) * (Real.sqrt 128)⁻¹ := by
  have hs : Real.sqrt 128 ≠ 0 := (Real.sqrt_pos.2 (by norm_num)).ne'
  have root : Mat (broadcastInDim ⟨2, ![128, 256]⟩ ![] h' (id (Host.sqrt (constant (F := Ideal) ⟨0, ![]⟩ .f32 0x43000000#32))))
      (fun _ _ => Real.sqrt 128) := Mat.fill (by
    show Ideal.sqrt (Ideal.ofBits .f32 0x43000000#32) = _
    rw [ofBits_128, Ideal.sqrt_coe, if_neg (by norm_num)]; norm_num) h'
  refine (((hx.hostCos).beside hx.hostSin rfl h).hostDivf root fun _ _ _ _ => hs).congr fun i j hi hj => ?_
  rw [div_eq_mul_inv]
  congr 1
  by_cases H : j < 128
  · rw [if_pos H, if_pos (by omega), angle_mod_cos _ _ (by norm_num), Nat.mod_eq_of_lt H]
  · rw [if_neg H, if_neg (by omega), angle_mod_sin _ _ (by norm_num)]
    congr 3; omega

/-- Two groups' tables on the diagonal. -/
theorem dftc_mat {x : FVec Ideal ⟨2, ![128, 256]⟩ .f32}
    (hx : Mat x fun i j => (if j / 128 % 2 = 0 then Real.cos (angle 128 (i * (j % 128))) else Real.sin (angle 128 (i * (j % 128)))) * (Real.sqrt 128)⁻¹)
    (h : Shape.Concatenates [⟨2, ![128, 256]⟩, ⟨2, ![128, 256]⟩] ⟨2, ![128, 512]⟩ 1)
    (h₀ : Shape.Concatenates [⟨2, ![128, 512]⟩, ⟨2, ![128, 512]⟩] ⟨2, ![256, 512]⟩ 0)
    (h' : (⟨0, ![]⟩ : Shape).BroadcastsInDim ⟨2, ![128, 256]⟩ ![]) :
    Mat (concatenate ⟨2, ![256, 512]⟩ 0
      [⟨⟨2, ![128, 512]⟩, concatenate ⟨2, ![128, 512]⟩ 1 [⟨⟨2, ![128, 256]⟩, x⟩,
        ⟨⟨2, ![128, 256]⟩, broadcastInDim ⟨2, ![128, 256]⟩ ![] h' (constant (F := Ideal) ⟨0, ![]⟩ .f32 0x00000000#32)⟩] h⟩,
       ⟨⟨2, ![128, 512]⟩, concatenate ⟨2, ![128, 512]⟩ 1
        [⟨⟨2, ![128, 256]⟩, broadcastInDim ⟨2, ![128, 256]⟩ ![] h' (constant (F := Ideal) ⟨0, ![]⟩ .f32 0x00000000#32)⟩,
         ⟨⟨2, ![128, 256]⟩, x⟩] h⟩] h₀) dftc := by
  have z := Mat.fill (a := 128) (b := 256) zero_float h'
  refine ((hx.beside z rfl h).above (z.beside hx rfl h) rfl h₀).congr fun i j hi hj => ?_
  rw [dftc]
  by_cases hi' : i < 128
  · rw [if_pos hi']
    by_cases hj' : j < 256
    · rw [if_pos hj', if_pos (by omega : i / 128 = j / 256), Nat.mod_eq_of_lt hi']
    · rw [if_neg hj', if_neg (by omega : ¬ i / 128 = j / 256)]
  · rw [if_neg hi']
    by_cases hj' : j < 256
    · rw [if_pos hj', if_neg (by omega : ¬ i / 128 = j / 256)]
    · rw [if_neg hj', if_pos (by omega : i / 128 = j / 256), (by omega : (j - 256) / 128 % 2 = j / 128 % 2),
        (by omega : (j - 256) % 128 = j % 128), (by omega : i % 128 = i - 128)]

/-- Half of the transform over positions. -/
theorem cs_mat {x : FVec Ideal ⟨2, ![256, 128]⟩ .f32} (hx : Mat x fun i j => angle 256 (i * j % 256))
    (h : Shape.Concatenates [⟨2, ![256, 128]⟩, ⟨2, ![256, 128]⟩] ⟨2, ![256, 256]⟩ 1)
    (h' : (⟨0, ![]⟩ : Shape).BroadcastsInDim ⟨2, ![256, 256]⟩ ![]) :
    Mat (mulf (F := Ideal) (φ := .f32)
        (concatenate ⟨2, ![256, 256]⟩ 1 [⟨⟨2, ![256, 128]⟩, Host.cos x⟩, ⟨⟨2, ![256, 128]⟩, Host.negf (Host.sin x)⟩] h)
        (broadcastInDim ⟨2, ![256, 256]⟩ ![] h' (constant (F := Ideal) ⟨0, ![]⟩ .f32 0x3D800000#32))) cs := by
  refine (((hx.hostCos).beside hx.hostSin.hostNegf rfl h).mulf (Mat.fill (r := 1 / 16) ofBits_sixteenth h')).congr fun i j hi hj => ?_
  rw [cs]
  by_cases H : j < 128
  · rw [if_pos H, if_pos H, angle_mod_cos _ _ (by norm_num)]
  · rw [if_neg H, if_neg H, angle_mod_sin _ _ (by norm_num)]

/-- Ones on the counter-diagonal whose indices sum to 128. -/
theorem jrev_mat (h h₁ h₂ : (⟨0, ![]⟩ : Shape).BroadcastsInDim ⟨2, ![128, 128]⟩ ![]) :
    Mat (select (cmpi .eq (addi (iotaInDim ⟨2, ![128, 128]⟩ 32 0) (iotaInDim ⟨2, ![128, 128]⟩ 32 1))
        (broadcastInDim ⟨2, ![128, 128]⟩ ![] h (constantI ⟨0, ![]⟩ 32 128#32)))
      (broadcastInDim ⟨2, ![128, 128]⟩ ![] h₁ (constant (F := Ideal) ⟨0, ![]⟩ .f32 0x3F800000#32))
      (broadcastInDim ⟨2, ![128, 128]⟩ ![] h₂ (constant (F := Ideal) ⟨0, ![]⟩ .f32 0x00000000#32))) jrev := fun i => by
  have one : Mat (broadcastInDim ⟨2, ![128, 128]⟩ ![] h₁ (constant (F := Ideal) ⟨0, ![]⟩ .f32 0x3F800000#32)) (fun _ _ => 1) :=
    Mat.fill ofBits_one h₁
  have zero := Mat.fill (a := 128) (b := 128) zero_float h₂
  have hw : ∀ p q : Fin 128, BitVec.ofBool (BitVec.ofNat 32 p.val + BitVec.ofNat 32 q.val == 128#32)
      = if p.val + q.val = 128 then 1#1 else 0#1 := by decide +kernel
  have hm : cmpi .eq (addi (iotaInDim ⟨2, ![128, 128]⟩ 32 0) (iotaInDim ⟨2, ![128, 128]⟩ 32 1))
      (broadcastInDim ⟨2, ![128, 128]⟩ ![] h (constantI ⟨0, ![]⟩ 32 128#32)) i
      = if (i 0).val + (i 1).val = 128 then 1#1 else 0#1 := hw (i 0) (i 1)
  rw [select_apply, hm, jrev]
  by_cases H : (i 0).val + (i 1).val = 128
  · rw [if_pos H, if_pos H]; exact one i
  · rw [if_neg H, if_neg H]; exact zero i

end Cert.KernelIdeal.Prep
-- ==== Proof.Weights.lean ====
/- The prepared weights: the padded query weights, the keys' weights with the identity beneath them, and the transposed
   values' weights with the rows of ones. -/
module

public import proofs.«01_k».proof.Proof.Prep

@[expose] public section

noncomputable section

namespace Cert.KernelIdeal.Prep

open Cert.KernelIdeal Cert.KernelIdeal.Gen Cert.Layer Idealize.ShloMosaic.TcCoe Idealize.SL.Sem
open Idealize.ShloMosaic hiding ix0 ix1 ix2 ix3 eq_ix1 eq_ix2 eq_ix3
open Idealize.ShloMosaic.ValueIdx
open Finset (range)

variable {W : Params}

/-- The query weights, each head's 96 columns padded to 128. -/
theorem wq_mat {a3 : FVec Ideal S1x256x768 .f32} (h3 : Cube a3 fun _ r c => W.UQ r c) {z : FVec Ideal S_ .f32}
    (hz : z ix0 = ((0 : ℝ) : EReal)) :
    Mat (shapeCast S256x1024 (pad S256x8x128 ![0, 0, 0] ![0, 0, 32] ![0, 0, 0]
      (shapeCast S256x8x96 (shapeCast S256x768 a3 shapeCasts_S1x256x768_S256x768) shapeCasts_S256x768_S256x8x96) z
      pads_S256x8x96_S256x8x128_000_000_0320 h_S_) shapeCasts_S256x8x128_S256x1024) (wq W) := by
  refine ((((h3.drop _).splitCols (b := 8) (c := 96) rfl _).padHigh hz _ _).joinCols (b := 8) (c := 128) rfl _).congr fun i j hi hj => ?_
  rw [wq]
  by_cases H : j % 128 < 96
  · rw [if_pos H, if_pos ⟨hi, by omega, H⟩]
  · rw [if_neg H, if_neg (by omega)]

/-- The identity of order 32 as floats. -/
theorem eye_mat : Mat (uitofp (F := Ideal) .f32 (cmpi .eq (addi (iotaInDim S32x32 32 0)
    (broadcastInDim S32x32 ![] bcast_S_S32x32 (constantI S_ 32 0#32))) (iotaInDim S32x32 32 1))) (fun i j => if i = j then 1 else 0) := fun i => by
  have hw : ∀ p q : Fin 32, (BitVec.ofBool (BitVec.ofNat 32 p.val + 0#32 == BitVec.ofNat 32 q.val)).toNat
      = if p.val = q.val then 1 else 0 := by decide +kernel
  show (((BitVec.ofBool (BitVec.ofNat 32 (i 0).val + 0#32 == BitVec.ofNat 32 (i 1).val)).toNat : ℝ) : EReal) = _
  rw [hw (i 0) (i 1)]
  beta_reduce
  split <;> simp

/-- The keys' weights: each head's 64 latent columns, and the identity that carries the shared columns through. -/
theorem wk_mat {a6 : FVec Ideal S1x128x1024 .f32} (h6 : Cube a6 fun _ r c => W.UKV r c) {z z' : FVec Ideal S_ .f32}
    (hz : z ix0 = ((0 : ℝ) : EReal)) (hz' : z' ix0 = ((0 : ℝ) : EReal)) {e : FVec Ideal S32x32 .f32}
    (he : Mat e fun i j => if i = j then 1 else 0) :
    Mat (shapeCast S256x1024 (concatenate S256x8x128 0
      [⟨S128x8x128, pad S128x8x128 ![0, 0, 0] ![0, 0, 64] ![0, 0, 0] (extractStridedSlice S128x8x64 ![0, 0, 0]
        (shapeCast S128x8x128 (shapeCast S128x1024 a6 shapeCasts_S1x128x1024_S128x1024) shapeCasts_S128x1024_S128x8x128)
        slices_S128x8x128_S128x8x64_0_0_0) z pads_S128x8x64_S128x8x128_000_000_0640 h_S_⟩,
       ⟨S32x8x128, broadcastInDim S32x8x128 ![0, 1, 2] bcast_S32x1x128_S32x8x128_0_1_2 (broadcastInDim S32x1x128 ![0, 2]
        bcast_S32x128_S32x1x128_0_2 (pad S32x128 ![0, 64] ![0, 32] ![0, 0] e z' pads_S32x32_S32x128_000_64320 h_S_))⟩,
       ⟨S96x8x128, broadcastInDim S96x8x128 ![] bcast_S_S96x8x128 (constant (F := Ideal) S_ .f32 0x00000000#32)⟩]
      concatenates_S128x8x128_S32x8x128_S96x8x128_S256x8x128_d0) shapeCasts_S256x8x128_S256x1024) (wk W) := by
  have t1 := ((((h6.drop shapeCasts_S1x128x1024_S128x1024).splitCols (b := 8) (c := 128) rfl shapeCasts_S128x1024_S128x8x128).sliceLast 0
    slices_S128x8x128_S128x8x64_0_0_0).padHigh hz pads_S128x8x64_S128x8x128_000_000_0640 h_S_)
  have t2 := (he.padCols hz' pads_S32x32_S32x128_000_64320 h_S_).repeatMid bcast_S32x128_S32x1x128_0_2 bcast_S32x1x128_S32x8x128_0_1_2
  have t3 := Cube.fill zero_float bcast_S_S96x8x128
  refine ((t1.above3 t2 t3 rfl concatenates_S128x8x128_S32x8x128_S96x8x128_S256x8x128_d0).joinCols (b := 8) (c := 128) rfl _).congr fun i j hi hj => ?_
  rw [wk]
  by_cases h1 : i < 128
  · rw [if_pos h1, if_pos h1]
    by_cases h2 : j % 128 < 64
    · rw [if_pos h2, if_pos ⟨h1, by omega, h2⟩]
      congr 1; omega
    · rw [if_neg h2, if_neg (by omega)]
  · rw [if_neg h1, if_neg h1]
    by_cases h2 : i < 128 + 32
    · rw [if_pos h2]
      by_cases h3 : 64 ≤ j % 128 ∧ j % 128 < 96 ∧ j % 128 - 64 = i - 128
      · rw [if_pos h3, if_pos (by omega), if_pos (by omega)]
      · rw [if_neg h3]
        by_cases h4 : 64 ≤ j % 128 ∧ j % 128 < 64 + 32
        · rw [if_pos h4, if_neg (by omega)]
        · rw [if_neg h4]
    · rw [if_neg h2, if_neg (by omega)]

/-- Where the updates of the scatter land: row 64, column 160 of every head. -/
theorem lands (idx : IVec S2 32) (h : idx = fun k => (![64#32, 160#32] : Fin 2 → BitVec 32) (k 0)) (j : S8.Idx) :
    scatter_S8x80x256_S2_S8_0_12_12_0.resultIdx? j idx = some (ix3 (j 0) 64 160) := by
  subst h
  obtain ⟨p, rfl⟩ : ∃ p, j = ix1 p := ⟨j 0, eq_ix1 j⟩
  have : ∀ p : Fin 8, scatter_S8x80x256_S2_S8_0_12_12_0.resultIdx? (ix1 p) (fun k => (![64#32, 160#32] : Fin 2 → BitVec 32) (k 0))
      = some (ix3 p 64 160) := by decide +kernel
  exact this p

/-- The two start indices. -/
theorem starts : concatenate S2 0 [⟨S1, broadcastInDim S1 ![] bcast_S_S1 (constantI S_ 32 64#32)⟩,
    ⟨S1, broadcastInDim S1 ![] bcast_S_S1 (constantI S_ 32 160#32)⟩] concatenates_S1_S1_S2_d0
    = fun k => (![64#32, 160#32] : Fin 2 → BitVec 32) (k 0) := by
  funext k
  obtain ⟨p, rfl⟩ : ∃ p, k = ix1 p := ⟨k 0, eq_ix1 k⟩
  have : ∀ p : Fin 2, concatenate S2 0 [⟨S1, broadcastInDim S1 ![] bcast_S_S1 (constantI S_ 32 64#32)⟩,
    ⟨S1, broadcastInDim S1 ![] bcast_S_S1 (constantI S_ 32 160#32)⟩] concatenates_S1_S1_S2_d0 (ix1 p)
    = (![64#32, 160#32] : Fin 2 → BitVec 32) p := by decide +kernel
  exact this p

/-- The values' weights, transposed, with a row of each head that picks the latent's unit column. -/
theorem wvt_mat {a6 : FVec Ideal S1x128x1024 .f32} (h6 : Cube a6 fun _ r c => W.UKV r c) {z : FVec Ideal S_ .f32}
    (hz : z ix0 = ((0 : ℝ) : EReal)) :
    Mat (shapeCast S640x256 (Host.scatter scatter_S8x80x256_S2_S8_0_12_12_0 (fun _ b => b)
      (pad S8x80x256 ![0, 0, 0] ![0, 16, 128] ![0, 0, 0] (transpose S8x64x128 [1, 2, 0] (extractStridedSlice S128x8x64 ![0, 0, 64]
        (shapeCast S128x8x128 (shapeCast S128x1024 a6 shapeCasts_S1x128x1024_S128x1024) shapeCasts_S128x1024_S128x8x128)
        slices_S128x8x128_S128x8x64_0_0_64) transposes_S128x8x64_S8x64x128_1_2_0) z pads_S8x64x128_S8x80x256_000_0160_01280 h_S_)
      (concatenate S2 0 [⟨S1, broadcastInDim S1 ![] bcast_S_S1 (constantI S_ 32 64#32)⟩,
        ⟨S1, broadcastInDim S1 ![] bcast_S_S1 (constantI S_ 32 160#32)⟩] concatenates_S1_S1_S2_d0)
      (broadcastInDim S8 ![] bcast_S_S8 (constant (F := Ideal) S_ .f32 0x3F800000#32))) shapeCasts_S8x80x256_S640x256) (wvt W) := by
  have t1 := (((((h6.drop shapeCasts_S1x128x1024_S128x1024).splitCols (b := 8) (c := 128) rfl shapeCasts_S128x1024_S128x8x128).sliceLast 64
    slices_S128x8x128_S128x8x64_0_0_64).rotate transposes_S128x8x64_S8x64x128_1_2_0).padHigh hz pads_S8x64x128_S8x80x256_000_0160_01280 h_S_)
  have t2 : Cube (Host.scatter scatter_S8x80x256_S2_S8_0_12_12_0 (fun _ b => b)
      (pad S8x80x256 ![0, 0, 0] ![0, 16, 128] ![0, 0, 0] (transpose S8x64x128 [1, 2, 0] (extractStridedSlice S128x8x64 ![0, 0, 64]
        (shapeCast S128x8x128 (shapeCast S128x1024 a6 shapeCasts_S1x128x1024_S128x1024) shapeCasts_S128x1024_S128x8x128)
        slices_S128x8x128_S128x8x64_0_0_64) transposes_S128x8x64_S8x64x128_1_2_0) z pads_S8x64x128_S8x80x256_000_0160_01280 h_S_)
      (concatenate S2 0 [⟨S1, broadcastInDim S1 ![] bcast_S_S1 (constantI S_ 32 64#32)⟩,
        ⟨S1, broadcastInDim S1 ![] bcast_S_S1 (constantI S_ 32 160#32)⟩] concatenates_S1_S1_S2_d0)
      (broadcastInDim S8 ![] bcast_S_S8 (constant (F := Ideal) S_ .f32 0x3F800000#32)))
      (fun e v r => if v = 64 ∧ r = 160 then 1 else if v < 64 ∧ r < 128 then W.UKV r (e * 128 + (64 + v)) else 0) := fun i => by
    classical
    refine (scatter_same _ _ _ _ (fun j => ix3 (j 0) 64 160) ((1 : ℝ) : EReal) (lands _ starts) (fun j => by
      rw [broadcastInDim_scalar_apply]; exact ofBits_one) i).trans ?_
    beta_reduce
    have h0 : (i 0).val < 8 := (i 0).isLt
    by_cases H : (i 1).val = 64 ∧ (i 2).val = 160
    · have hi : i = ix3 (i 0) 64 160 := (eq_ix3 i).trans (congrArg₂ (ix3 (i 0)) (Fin.ext H.1) (Fin.ext H.2))
      rw [if_pos H, if_pos ⟨ix1 (i 0), hi⟩]
    · rw [if_neg H, if_neg (by
        rintro ⟨j, e⟩
        exact H ⟨congrArg (fun k => (k 1).val) e, congrArg (fun k => (k 2).val) e⟩)]
      refine (t1 i).trans ?_
      beta_reduce
      by_cases h1 : (i 1).val < 64 ∧ (i 2).val < 128
      · rw [if_pos h1, if_pos ⟨h0, h1⟩]
      · rw [if_neg h1, if_neg fun h => h1 h.2]
  refine (t2.join (a := 8) (b := 80) rfl _).congr fun i j hi hj => ?_
  rw [wvt]
  by_cases h1 : i % 80 < 64
  · rw [if_neg (by omega), if_pos h1]
    by_cases h2 : j < 128
    · rw [if_pos h2, if_pos ⟨h1, h2⟩]
    · rw [if_neg h2, if_neg (by omega)]
  · rw [if_neg h1]
    by_cases h2 : i % 80 = 64 ∧ j = 160
    · rw [if_pos h2, if_pos h2]
    · rw [if_neg h2, if_neg h2, if_neg (by omega)]

end Cert.KernelIdeal.Prep
-- ==== Proof.Entry.lean ====
/- The arrays as the kernel finds them: each of the host's operations before it read off, and the prepared array shown to
   hold its real function. -/
module

public import proofs.«01_k».proof.Proof.Weights

@[expose] public section

noncomputable section

namespace Cert.KernelIdeal.Prep

open Cert.KernelIdeal Cert.KernelIdeal.Gen Cert.Layer Idealize.ShloMosaic.TcCoe Idealize.SL.Sem
open Idealize.ShloMosaic hiding ix0 ix1 ix2 ix3 eq_ix1 eq_ix2 eq_ix3
open Idealize.ShloMosaic.ValueIdx
open Finset (range)

variable {W : Params} (m : (ℓ : Loc nD τ sig) → Buf (Elt Ideal) ℓ) (c : Dev nD)

/-- The query weights. -/
theorem tq_mat (h : Cube (m ((c.tc : Thread nD τ).loc main_arg3) : FVec Ideal S1x256x768 .f32) fun _ r c => W.UQ r c) :
    Mat (V m c main_v29 : FVec Ideal S256x1024 .bf16) (wq W) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  exact wq_mat h zero_word

/-- The keys' weights. -/
theorem tk_mat (h : Cube (m ((c.tc : Thread nD τ).loc main_arg6) : FVec Ideal S1x128x1024 .f32) fun _ r c => W.UKV r c) :
    Mat (V m c main_v30 : FVec Ideal S256x1024 .bf16) (wk W) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  exact wk_mat h zero_word zero_word eye_mat

/-- The values' weights. -/
theorem tv_mat (h : Cube (m ((c.tc : Thread nD τ).loc main_arg6) : FVec Ideal S1x128x1024 .f32) fun _ r c => W.UKV r c) :
    Mat (V m c main_v31 : FVec Ideal S640x256 .bf16) (wvt W) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  exact wvt_mat h zero_word

/-- The Fourier branch's output weights. -/
theorem wF_mat (h : Cube (m ((c.tc : Thread nD τ).loc main_arg7) : FVec Ideal S1x512x1024 .f32) fun _ r c => W.WF r c) :
    Mat (V m c main_v33 : FVec Ideal S512x1024 .bf16) (W.WF) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  exact h.drop _

/-- The attention branch's output weights. -/
theorem wAO_mat (h : Cube (m ((c.tc : Thread nD τ).loc main_arg8) : FVec Ideal S1x512x1024 .f32) fun _ r c => W.WA r c) :
    Mat (V m c main_v35 : FVec Ideal S512x1024 .bf16) (W.WA) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  exact h.drop _

/-- The merged output weights. -/
theorem wO_mat (h : Cube (m ((c.tc : Thread nD τ).loc main_arg9) : FVec Ideal S1x1024x1024 .f32) fun _ r c => W.WO r c) :
    Mat (V m c main_v37 : FVec Ideal S1024x1024 .bf16) (W.WO) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  exact h.drop _

/-- The query norm's gains. -/
theorem gq_mat (h : Mat (m ((c.tc : Thread nD τ).loc main_arg4) : FVec Ideal S1x256 .f32) fun _ r => W.qg r) :
    Mat (V m c main_v39 : FVec Ideal S1x256 .f32) (fun _ r => W.qg r) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  exact (h.drop shapeCasts_S1x256_S256).lay bcast_S256_S1x256_1

/-- The latent norm's gains. -/
theorem gk_mat (h : Mat (m ((c.tc : Thread nD τ).loc main_arg5) : FVec Ideal S1x128 .f32) fun _ r => W.kg r) :
    Mat (V m c main_v41 : FVec Ideal S1x128 .f32) (fun _ r => W.kg r) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  exact (h.drop shapeCasts_S1x128_S128).lay bcast_S128_S1x128_1

/-- The final norm's gains. -/
theorem gf_mat (h : Row (m ((c.tc : Thread nD τ).loc main_arg10) : FVec Ideal S1024 .f32) W.fg) :
    Mat (V m c main_v42 : FVec Ideal S1x1024 .f32) (fun _ d => W.fg d) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  exact h.lay bcast_S1024_S1x1024_1

/-- The channel transform's table. -/
theorem tc_mat  :
    Mat (V m c main_v66 : FVec Ideal S256x512 .bf16) (dftc) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  exact dftc_mat (group_mat (angles_mat ofBits_128 (by norm_num) (by norm_num) (by norm_num) (by norm_num) bcast_S_S128x128 bcast_S_S128x128) concatenates_S128x128_S128x128_S128x256_d1
    bcast_S_S128x256) concatenates_S128x256_S128x256_S128x512_d1 concatenates_S128x512_S128x512_S256x512_d0 bcast_S_S128x256

/-- The transform over positions. -/
theorem ts_mat  :
    Mat (V m c main_v85 : FVec Ideal S256x256 .bf16) (cs) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  exact cs_mat (angles_mat ofBits_256' (by norm_num) (by norm_num) (by norm_num) (by norm_num) bcast_S_S256x128 bcast_S_S256x128)
    concatenates_S256x128_S256x128_S256x256_d1 bcast_S_S256x256

/-- The reversal. -/
theorem tj_mat  :
    Mat (V m c main_v92 : FVec Ideal S128x128 .bf16) (jrev) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  exact jrev_mat bcast_S_S128x128 bcast_S_S128x128 bcast_S_S128x128

end Cert.KernelIdeal.Prep
-- ==== Proof.Local.lean ====
/- What a row of the layer depends on: its own input row for the projected columns, and the 256 rows of its batch
   element for the two mixings. -/
module

public import proofs.«01_k».proof.Proof.Spec

@[expose] public section

noncomputable section

namespace Cert.Layer

open Finset (range)

variable {W : Params} {x y : ℕ → ℕ → ℝ}

theorem proj_local {s : ℕ} (h : x s = y s) : proj W x s = proj W y s := by
  funext c; simp only [proj, hid, h]

theorem ckvn_local {s : ℕ} (h : x s = y s) : ckvn W x s = ckvn W y s := by
  funext c; simp only [ckvn, proj_local h]

theorem qv_local {s : ℕ} (h : x s = y s) : qv W x s = qv W y s := by
  funext c; simp only [qv, proj_local h]

theorem kvv_local {s : ℕ} (h : x s = y s) : kvv W x s = kvv W y s := by
  funext c; simp only [kvv, ckvn_local h]

theorem score_local {a s t : ℕ} (h : x s = y s) (h' : x t = y t) : score W x a s t = score W y a s t := by
  simp only [score, qv_local h, kvv_local h', proj_local h']

theorem attn_local (h : ∀ t < 256, x t = y t) {a s v : ℕ} (hs : s < 256) : attn W x a s v = attn W y a s v := by
  rw [attn, attn]
  congr 1
  · exact Finset.sum_congr rfl fun t ht => by rw [score_local (h s hs) (h t (Finset.mem_range.1 ht)), kvv_local (h t (Finset.mem_range.1 ht))]
  · exact Finset.sum_congr rfl fun t ht => by rw [score_local (h s hs) (h t (Finset.mem_range.1 ht))]

theorem four_local (h : ∀ t < 256, x t = y t) {n c : ℕ} : four W x n c = four W y n c := by
  rw [four, four]
  congr 1 <;> exact Finset.sum_congr rfl fun t ht => by simp only [uc, us, proj_local (h t (Finset.mem_range.1 ht))]

/-- An output row depends on the batch element's 256 rows alone. -/
theorem out_local (h : ∀ t < 256, x t = y t) {s o : ℕ} (hs : s < 256) : out W x s o = out W y s o := by
  have e : resid W x s = resid W y s := by
    funext o
    simp only [resid, merged, yF, yA, attn_local h hs, four_local h, proj_local (h s hs), h s hs]
  rw [out, out, e]

end Cert.Layer
-- ==== Proof.Array.lean ====
/- The kernel's arrays: every input block at a grid point, what the point writes back, and the three result arrays after
   the run. -/
module

public import proofs.«01_k».proof.Proof.Step
public import proofs.«01_k».proof.Proof.Entry
public import proofs.«01_k».proof.Proof.Local
public import Idealize.ShloMosaic.Lib.Pipeline.Value

@[expose] public section

noncomputable section

namespace Cert.KernelIdeal.Array

open Cert.KernelIdeal Cert.KernelIdeal.Gen Cert.KernelIdeal.Block Cert.Layer Idealize.ShloMosaic.TcCoe Idealize.SL.Sem
open Idealize.ShloMosaic hiding ix0 ix1 ix2 ix3 eq_ix1 eq_ix2 eq_ix3
open Idealize.ShloMosaic.ValueIdx
open Idealize.ShloMosaic.Pipeline (Dat)
open Finset (range)

variable {W : Params} {X : ℕ → ℕ → ℕ → ℝ} (m : (ℓ : Loc nD τ sig) → Buf (Elt Ideal) ℓ) (ρ : Dev nD → PrngReg) (c : Dev nD)

/-- Device `c`'s arguments hold the tokens and the parameters. -/
abbrev Given (W : Params) (X : ℕ → ℕ → ℕ → ℝ) : Prop :=
  Inputs W X (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10))

/-! ### The blocks of the inputs -/

theorem whole2 (t : Fin cfg0.N) : iblk m c 2 t = V m c main_arg2 :=
  Memref.read_access_unit_zero (Elt Ideal) main_arg2 (off := fun a => win0_2.index t a * main_arg2.ty.shape.size a)
    (funext fun a => by fin_cases a <;> exact Nat.zero_mul _) (fun a => by fin_cases a <;> exact (Nat.zero_mul _ ▸ (Nat.zero_add _).le)) (V m c main_arg2)

theorem whole3 (t : Fin cfg0.N) : iblk m c 3 t = V m c main_v39 :=
  Memref.read_access_unit_zero (Elt Ideal) main_v39 (off := fun a => win0_3.index t a * main_v39.ty.shape.size a)
    (funext fun a => by fin_cases a <;> exact Nat.zero_mul _) (fun a => by fin_cases a <;> exact (Nat.zero_mul _ ▸ (Nat.zero_add _).le)) (V m c main_v39)

theorem whole4 (t : Fin cfg0.N) : iblk m c 4 t = V m c main_v41 :=
  Memref.read_access_unit_zero (Elt Ideal) main_v41 (off := fun a => win0_4.index t a * main_v41.ty.shape.size a)
    (funext fun a => by fin_cases a <;> exact Nat.zero_mul _) (fun a => by fin_cases a <;> exact (Nat.zero_mul _ ▸ (Nat.zero_add _).le)) (V m c main_v41)

theorem whole5 (t : Fin cfg0.N) : iblk m c 5 t = V m c main_v66 :=
  Memref.read_access_unit_zero (Elt Ideal) main_v66 (off := fun a => win0_5.index t a * main_v66.ty.shape.size a)
    (funext fun a => by fin_cases a <;> exact Nat.zero_mul _) (fun a => by fin_cases a <;> exact (Nat.zero_mul _ ▸ (Nat.zero_add _).le)) (V m c main_v66)

theorem whole6 (t : Fin cfg0.N) : iblk m c 6 t = V m c main_v29 :=
  Memref.read_access_unit_zero (Elt Ideal) main_v29 (off := fun a => win0_6.index t a * main_v29.ty.shape.size a)
    (funext fun a => by fin_cases a <;> exact Nat.zero_mul _) (fun a => by fin_cases a <;> exact (Nat.zero_mul _ ▸ (Nat.zero_add _).le)) (V m c main_v29)

theorem whole7 (t : Fin cfg0.N) : iblk m c 7 t = V m c main_v85 :=
  Memref.read_access_unit_zero (Elt Ideal) main_v85 (off := fun a => win0_7.index t a * main_v85.ty.shape.size a)
    (funext fun a => by fin_cases a <;> exact Nat.zero_mul _) (fun a => by fin_cases a <;> exact (Nat.zero_mul _ ▸ (Nat.zero_add _).le)) (V m c main_v85)

theorem whole8 (t : Fin cfg0.N) : iblk m c 8 t = V m c main_v92 :=
  Memref.read_access_unit_zero (Elt Ideal) main_v92 (off := fun a => win0_8.index t a * main_v92.ty.shape.size a)
    (funext fun a => by fin_cases a <;> exact Nat.zero_mul _) (fun a => by fin_cases a <;> exact (Nat.zero_mul _ ▸ (Nat.zero_add _).le)) (V m c main_v92)

theorem whole9 (t : Fin cfg0.N) : iblk m c 9 t = V m c main_v30 :=
  Memref.read_access_unit_zero (Elt Ideal) main_v30 (off := fun a => win0_9.index t a * main_v30.ty.shape.size a)
    (funext fun a => by fin_cases a <;> exact Nat.zero_mul _) (fun a => by fin_cases a <;> exact (Nat.zero_mul _ ▸ (Nat.zero_add _).le)) (V m c main_v30)

theorem whole10 (t : Fin cfg0.N) : iblk m c 10 t = V m c main_v31 :=
  Memref.read_access_unit_zero (Elt Ideal) main_v31 (off := fun a => win0_10.index t a * main_v31.ty.shape.size a)
    (funext fun a => by fin_cases a <;> exact Nat.zero_mul _) (fun a => by fin_cases a <;> exact (Nat.zero_mul _ ▸ (Nat.zero_add _).le)) (V m c main_v31)

theorem whole11 (t : Fin cfg0.N) : iblk m c 11 t = V m c main_v33 :=
  Memref.read_access_unit_zero (Elt Ideal) main_v33 (off := fun a => win0_11.index t a * main_v33.ty.shape.size a)
    (funext fun a => by fin_cases a <;> exact Nat.zero_mul _) (fun a => by fin_cases a <;> exact (Nat.zero_mul _ ▸ (Nat.zero_add _).le)) (V m c main_v33)

theorem whole12 (t : Fin cfg0.N) : iblk m c 12 t = V m c main_v35 :=
  Memref.read_access_unit_zero (Elt Ideal) main_v35 (off := fun a => win0_12.index t a * main_v35.ty.shape.size a)
    (funext fun a => by fin_cases a <;> exact Nat.zero_mul _) (fun a => by fin_cases a <;> exact (Nat.zero_mul _ ▸ (Nat.zero_add _).le)) (V m c main_v35)

theorem whole13 (t : Fin cfg0.N) : iblk m c 13 t = V m c main_v37 :=
  Memref.read_access_unit_zero (Elt Ideal) main_v37 (off := fun a => win0_13.index t a * main_v37.ty.shape.size a)
    (funext fun a => by fin_cases a <;> exact Nat.zero_mul _) (fun a => by fin_cases a <;> exact (Nat.zero_mul _ ▸ (Nat.zero_add _).le)) (V m c main_v37)

theorem whole14 (t : Fin cfg0.N) : iblk m c 14 t = V m c main_v42 :=
  Memref.read_access_unit_zero (Elt Ideal) main_v42 (off := fun a => win0_14.index t a * main_v42.ty.shape.size a)
    (funext fun a => by fin_cases a <;> exact Nat.zero_mul _) (fun a => by fin_cases a <;> exact (Nat.zero_mul _ ▸ (Nat.zero_add _).le)) (V m c main_v42)

/-- Point `t` stages batch elements `2 t` and `2 t + 1`. -/
theorem rows_blk (t : Fin cfg0.N) (h : Given m c W X) :
    Cube (iblk m c 0 t : Vec Ideal S2x256x1024 .f32) (fun e s d => X (2 * t.val + e) s d) := fun j => by
  have hi := (by decide +kernel : ∀ t : Fin grid0.N, win0_0.index t 0 = t.val ∧ win0_0.index t 1 = 0 ∧ win0_0.index t 2 = 0) t
  unfold iblk
  rw [View.read_apply]
  show V m c main_arg0 _ = _
  rw [V_main_arg0]
  refine (h.tok _).trans ?_
  show ((X (win0_0.index t 0 * 2 + 1 * (j 0).val) (win0_0.index t 1 * 256 + 1 * (j 1).val) (win0_0.index t 2 * 1024 + 1 * (j 2).val) : ℝ) : EReal) = _
  rw [hi.1, hi.2.1, hi.2.2]
  simp only [Nat.zero_mul, Nat.zero_add, Nat.one_mul, Nat.mul_comm t.val 2]

/-- Every point stages row 4 of the modulations. -/
theorem mods_blk (t : Fin cfg0.N) (h : Given m c W X) :
    Cube (iblk m c 1 t : Vec Ideal S1x1x3072 .f32) (fun _ _ k => mo W k) := fun j => by
  have hi := (by decide +kernel : ∀ t : Fin grid0.N, win0_1.index t 0 = 4 ∧ win0_1.index t 2 = 0) t
  have h0 : (j 0).val < 1 := (j 0).isLt
  unfold iblk
  rw [View.read_apply]
  show V m c main_arg1 _ = _
  rw [V_main_arg1]
  refine (h.mods _ ?_).trans ?_
  · show win0_1.index t 0 * 1 + 1 * (j 0).val = 4
    rw [hi.1]; omega
  · show ((modRow W (win0_1.index t 2 * 3072 + 1 * (j 2).val) : ℝ) : EReal) = _
    rw [hi.2]
    simp only [Nat.zero_mul, Nat.zero_add, Nat.one_mul]
    rfl

/-- The rows a point stages, one batch element after the other. -/
abbrev staged (X : ℕ → ℕ → ℕ → ℝ) (t i d : ℕ) : ℝ := X (2 * t + i / 256) (i % 256) d

theorem staged_row (t e s : ℕ) (hs : s < 256) : elem (staged X t) e s = X (2 * t + e) s := by
  funext d
  show X (2 * t + (256 * e + s) / 256) ((256 * e + s) % 256) d = _
  rw [show (256 * e + s) / 256 = e by omega, show (256 * e + s) % 256 = s by omega]

/-- Every staged block holds its part of the tokens and parameters. -/
theorem holds (t : Fin cfg0.N) (h : Given m c W X) :
    Holds W (staged X t.val) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) (iblk m c 14 t) where
  rows := fun j => (rows_blk m c t h j).trans (by beta_reduce; rw [staged_row _ _ _ (j 1).isLt])
  mods := mods_blk m c t h
  wA := by rw [whole2, V_main_arg2]; exact h.wA
  gq := by rw [whole3]; exact Prep.gq_mat m c h.gq
  gk := by rw [whole4]; exact Prep.gk_mat m c h.gk
  tc := by rw [whole5]; exact Prep.tc_mat m c
  tq := by rw [whole6]; exact Prep.tq_mat m c h.uq
  ts := by rw [whole7]; exact Prep.ts_mat m c
  tj := by rw [whole8]; exact Prep.tj_mat m c
  tk := by rw [whole9]; exact Prep.tk_mat m c h.ukv
  tv := by rw [whole10]; exact Prep.tv_mat m c h.ukv
  wF := by rw [whole11]; exact Prep.wF_mat m c h.wF
  wAO := by rw [whole12]; exact Prep.wAO_mat m c h.wAO
  wO := by rw [whole13]; exact Prep.wO_mat m c h.wO
  gf := by rw [whole14]; exact Prep.gf_mat m c h.gf

/-! ### The results -/

/-- The layer's output. -/
def output (W : Params) (X : ℕ → ℕ → ℕ → ℝ) : S16x256x1024.Idx → EReal := fun i => ((out W (X (i 0).val) (i 1).val (i 2).val : ℝ) : EReal)

theorem index15 (t : Fin cfg0.N) : win0_15.index t 0 = t.val ∧ win0_15.index t 1 = 0 ∧ win0_15.index t 2 = 0 :=
  (by decide +kernel : ∀ t : Fin grid0.N, win0_15.index t 0 = t.val ∧ win0_15.index t 1 = 0 ∧ win0_15.index t 2 = 0) t

/-- What a point writes back is its block of the whole result. -/
theorem flushed15 (t : Fin cfg0.N) (h : Given m c W X) :
    (dats m 0 c).flushed 15 t = ((cfg0.win 15).blk t).view.read (Elt Ideal) (output W X) := by
  show (cfg0.win 15).cut (grid0.coords t) ((dats m 0 c).after 15 t) = _
  rw [after0_15]
  funext j
  rw [View.read_apply]
  refine (out_block (holds m c t h) j).trans ?_
  show _ = ((out W (X (win0_15.index t 0 * 2 + 1 * (j 0).val)) (win0_15.index t 1 * 256 + 1 * (j 1).val) (win0_15.index t 2 * 1024 + 1 * (j 2).val) : ℝ) : EReal)
  rw [(index15 t).1, (index15 t).2.1, (index15 t).2.2]
  simp only [Nat.zero_mul, Nat.zero_add, Nat.one_mul, Nat.mul_comm t.val 2]
  exact congrArg _ (out_local (fun s hs => staged_row t.val _ s hs) (j 1).isLt)

theorem cover15 (i : S16x256x1024.Idx) : ∃ t : Fin cfg0.N, (cfg0.win 15).flush t = true ∧ i ∈ ((cfg0.win 15).blk t).view.set := by
  have h0 : (i 0).val < 16 := (i 0).isLt
  have h1 : (i 1).val < 256 := (i 1).isLt
  have h2 : (i 2).val < 1024 := (i 2).isLt
  have ht : (i 0).val / 2 < cfg0.N := by rw [show cfg0.N = 8 from N_0]; omega
  refine ⟨⟨(i 0).val / 2, ht⟩, flush0_15 _, ?_⟩
  show i ∈ ((View.whole main_v93_0).slice (win0_15.rect ⟨(i 0).val / 2, ht⟩)).set
  rw [View.set_slice_whole, Rect.mem_set_unit]
  have e := index15 ⟨(i 0).val / 2, ht⟩
  intro a
  match a with
  | ⟨0, _⟩ =>
    show win0_15.index _ 0 * 2 ≤ (i 0).val ∧ (i 0).val < win0_15.index _ 0 * 2 + 2
    rw [e.1]; dsimp only; omega
  | ⟨1, _⟩ =>
    show win0_15.index _ 1 * 256 ≤ (i 1).val ∧ (i 1).val < win0_15.index _ 1 * 256 + 256
    rw [e.2.1]; omega
  | ⟨2, _⟩ =>
    show win0_15.index _ 2 * 1024 ≤ (i 2).val ∧ (i 2).val < win0_15.index _ 2 * 1024 + 1024
    rw [e.2.2]; omega

theorem final15 (h : Given m c W X) : (dats m 0 c).arrAt 15 cfg0.N = output W X :=
  (dats m 0 c).arrAt_eq_of_cover 15 (output W X) (fun t _ => flushed15 m c t h) cover15

/-- The kept latent. -/
def latent (W : Params) (X : ℕ → ℕ → ℕ → ℝ) : S16x256x128.Idx → EReal := fun i => ((ckvn W (X (i 0).val) (i 1).val (i 2).val : ℝ) : EReal)

theorem index16 (t : Fin cfg0.N) : win0_16.index t 0 = t.val ∧ win0_16.index t 1 = 0 ∧ win0_16.index t 2 = 0 :=
  (by decide +kernel : ∀ t : Fin grid0.N, win0_16.index t 0 = t.val ∧ win0_16.index t 1 = 0 ∧ win0_16.index t 2 = 0) t

/-- What a point writes back is its block of the whole result. -/
theorem flushed16 (t : Fin cfg0.N) (h : Given m c W X) :
    (dats m 0 c).flushed 16 t = ((cfg0.win 16).blk t).view.read (Elt Ideal) (latent W X) := by
  show (cfg0.win 16).cut (grid0.coords t) ((dats m 0 c).after 16 t) = _
  rw [after0_16]
  funext j
  rw [View.read_apply]
  refine (latent_block (holds m c t h) j).trans ?_
  show _ = ((ckvn W (X (win0_16.index t 0 * 2 + 1 * (j 0).val)) (win0_16.index t 1 * 256 + 1 * (j 1).val) (win0_16.index t 2 * 128 + 1 * (j 2).val) : ℝ) : EReal)
  rw [(index16 t).1, (index16 t).2.1, (index16 t).2.2]
  simp only [Nat.zero_mul, Nat.zero_add, Nat.one_mul, Nat.mul_comm t.val 2]
  rw [ckvn_local (staged_row t.val _ _ (j 1).isLt)]

theorem cover16 (i : S16x256x128.Idx) : ∃ t : Fin cfg0.N, (cfg0.win 16).flush t = true ∧ i ∈ ((cfg0.win 16).blk t).view.set := by
  have h0 : (i 0).val < 16 := (i 0).isLt
  have h1 : (i 1).val < 256 := (i 1).isLt
  have h2 : (i 2).val < 128 := (i 2).isLt
  have ht : (i 0).val / 2 < cfg0.N := by rw [show cfg0.N = 8 from N_0]; omega
  refine ⟨⟨(i 0).val / 2, ht⟩, flush0_16 _, ?_⟩
  show i ∈ ((View.whole main_v93_1).slice (win0_16.rect ⟨(i 0).val / 2, ht⟩)).set
  rw [View.set_slice_whole, Rect.mem_set_unit]
  have e := index16 ⟨(i 0).val / 2, ht⟩
  intro a
  match a with
  | ⟨0, _⟩ =>
    show win0_16.index _ 0 * 2 ≤ (i 0).val ∧ (i 0).val < win0_16.index _ 0 * 2 + 2
    rw [e.1]; dsimp only; omega
  | ⟨1, _⟩ =>
    show win0_16.index _ 1 * 256 ≤ (i 1).val ∧ (i 1).val < win0_16.index _ 1 * 256 + 256
    rw [e.2.1]; omega
  | ⟨2, _⟩ =>
    show win0_16.index _ 2 * 128 ≤ (i 2).val ∧ (i 2).val < win0_16.index _ 2 * 128 + 128
    rw [e.2.2]; omega

theorem final16 (h : Given m c W X) : (dats m 0 c).arrAt 16 cfg0.N = latent W X :=
  (dats m 0 c).arrAt_eq_of_cover 16 (latent W X) (fun t _ => flushed16 m c t h) cover16

/-- The kept shared key columns. -/
def shared (W : Params) (X : ℕ → ℕ → ℕ → ℝ) : S16x32x256.Idx → EReal := fun i => ((proj W (X (i 0).val) (i 2).val (1408 + (i 1).val) : ℝ) : EReal)

theorem index17 (t : Fin cfg0.N) : win0_17.index t 0 = t.val ∧ win0_17.index t 1 = 0 ∧ win0_17.index t 2 = 0 :=
  (by decide +kernel : ∀ t : Fin grid0.N, win0_17.index t 0 = t.val ∧ win0_17.index t 1 = 0 ∧ win0_17.index t 2 = 0) t

/-- What a point writes back is its block of the whole result. -/
theorem flushed17 (t : Fin cfg0.N) (h : Given m c W X) :
    (dats m 0 c).flushed 17 t = ((cfg0.win 17).blk t).view.read (Elt Ideal) (shared W X) := by
  show (cfg0.win 17).cut (grid0.coords t) ((dats m 0 c).after 17 t) = _
  rw [after0_17]
  funext j
  rw [View.read_apply]
  refine (shared_block (holds m c t h) j).trans ?_
  show _ = ((proj W (X (win0_17.index t 0 * 2 + 1 * (j 0).val)) (win0_17.index t 2 * 256 + 1 * (j 2).val) (1408 + (win0_17.index t 1 * 32 + 1 * (j 1).val)) : ℝ) : EReal)
  rw [(index17 t).1, (index17 t).2.1, (index17 t).2.2]
  simp only [Nat.zero_mul, Nat.zero_add, Nat.one_mul, Nat.mul_comm t.val 2]
  rw [proj_local (staged_row t.val _ _ (j 2).isLt)]

theorem cover17 (i : S16x32x256.Idx) : ∃ t : Fin cfg0.N, (cfg0.win 17).flush t = true ∧ i ∈ ((cfg0.win 17).blk t).view.set := by
  have h0 : (i 0).val < 16 := (i 0).isLt
  have h1 : (i 1).val < 32 := (i 1).isLt
  have h2 : (i 2).val < 256 := (i 2).isLt
  have ht : (i 0).val / 2 < cfg0.N := by rw [show cfg0.N = 8 from N_0]; omega
  refine ⟨⟨(i 0).val / 2, ht⟩, flush0_17 _, ?_⟩
  show i ∈ ((View.whole main_v93_2).slice (win0_17.rect ⟨(i 0).val / 2, ht⟩)).set
  rw [View.set_slice_whole, Rect.mem_set_unit]
  have e := index17 ⟨(i 0).val / 2, ht⟩
  intro a
  match a with
  | ⟨0, _⟩ =>
    show win0_17.index _ 0 * 2 ≤ (i 0).val ∧ (i 0).val < win0_17.index _ 0 * 2 + 2
    rw [e.1]; dsimp only; omega
  | ⟨1, _⟩ =>
    show win0_17.index _ 1 * 32 ≤ (i 1).val ∧ (i 1).val < win0_17.index _ 1 * 32 + 32
    rw [e.2.1]; omega
  | ⟨2, _⟩ =>
    show win0_17.index _ 2 * 256 ≤ (i 2).val ∧ (i 2).val < win0_17.index _ 2 * 256 + 256
    rw [e.2.2]; omega

theorem final17 (h : Given m c W X) : (dats m 0 c).arrAt 17 cfg0.N = shared W X :=
  (dats m 0 c).arrAt_eq_of_cover 17 (shared W X) (fun t _ => flushed17 m c t h) cover17

/-- The run: the three results at the layer's values, the arguments unchanged. -/
theorem run (W : Dev nD → Params) (X : Dev nD → ℕ → ℕ → ℕ → ℝ) (h : ∀ c, Given m c (W c) (X c)) :
    θ_run defs (onTc (τ := τ) (main (F := Ideal))) ⟨m, fun _ => 0, ρ⟩ fun r => ∀ c : Dev nD,
      r.2.mem ((c.tc : Thread nD τ).loc main_v93_0) = output (W c) (X c)
      ∧ r.2.mem ((c.tc : Thread nD τ).loc main_v93_1) = latent (W c) (X c)
      ∧ r.2.mem ((c.tc : Thread nD τ).loc main_v93_2) = shared (W c) (X c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ k c => ⟨((k c).1 15).trans (final15 m c (h c)), ((k c).1 16).trans (final16 m c (h c)),
    ((k c).1 17).trans (final17 m c (h c)),
    ((k c).1 0).trans (((dats m 0 c).arrAt_in 0 rfl _).trans ((A_eq m c 0).trans (V_main_arg0 m c))),
    ((k c).1 1).trans (((dats m 0 c).arrAt_in 1 rfl _).trans ((A_eq m c 1).trans (V_main_arg1 m c))),
    ((k c).1 2).trans (((dats m 0 c).arrAt_in 2 rfl _).trans ((A_eq m c 2).trans (V_main_arg2 m c))),
    ((k c).2 main_arg3 (Pipeline.mem_restRefs_of main_arg3 (by decide) (by decide))).trans (V_main_arg3 m c),
    ((k c).2 main_arg4 (Pipeline.mem_restRefs_of main_arg4 (by decide) (by decide))).trans (V_main_arg4 m c),
    ((k c).2 main_arg5 (Pipeline.mem_restRefs_of main_arg5 (by decide) (by decide))).trans (V_main_arg5 m c),
    ((k c).2 main_arg6 (Pipeline.mem_restRefs_of main_arg6 (by decide) (by decide))).trans (V_main_arg6 m c),
    ((k c).2 main_arg7 (Pipeline.mem_restRefs_of main_arg7 (by decide) (by decide))).trans (V_main_arg7 m c),
    ((k c).2 main_arg8 (Pipeline.mem_restRefs_of main_arg8 (by decide) (by decide))).trans (V_main_arg8 m c),
    ((k c).2 main_arg9 (Pipeline.mem_restRefs_of main_arg9 (by decide) (by decide))).trans (V_main_arg9 m c),
    ((k c).2 main_arg10 (Pipeline.mem_restRefs_of main_arg10 (by decide) (by decide))).trans (V_main_arg10 m c)⟩) (run_main m ρ)

end Cert.KernelIdeal.Array
-- ==== Proof.RefOps.lean ====
/- The reference's operations at real values, element by element: arithmetic of extended reals that are real numbers, sums
   of products, the row norm, the logistic function, the tables of angles and the maximum of a row of scores; and arrays
   of rank four. -/
module

public import proofs.«01_k».proof.Proof.Host
public import proofs.«01_k».proof.Proof.Stages

@[expose] public section

noncomputable section

namespace Cert.Layer

open Idealize.ShloMosaic hiding ix0 ix1 ix2 ix3 ix4 eq_ix1 eq_ix2 eq_ix3
open Idealize.ShloMosaic.ValueIdx
open Finset (range)

/-! ### Numbers -/

theorem mul_real {x y : EReal} {f g : ℝ} (hx : x = (f : EReal)) (hy : y = (g : EReal)) : x * y = ((f * g : ℝ) : EReal) := by
  rw [hx, hy, EReal.coe_mul]

theorem add_real {x y : EReal} {f g : ℝ} (hx : x = (f : EReal)) (hy : y = (g : EReal)) : x + y = ((f + g : ℝ) : EReal) := by
  rw [hx, hy, EReal.coe_add]

theorem sub_real {x y : EReal} {f g : ℝ} (hx : x = (f : EReal)) (hy : y = (g : EReal)) : x - y = ((f - g : ℝ) : EReal) := by
  rw [hx, hy, EReal.coe_sub]

theorem exp_real {x : EReal} {f : ℝ} (hx : x = (f : EReal)) : Ideal.exp x = ((Real.exp f : ℝ) : EReal) := by
  rw [hx]; rfl

/-- A quotient by a nonzero number. -/
theorem div_real {x y : EReal} {f g : ℝ} (hx : x = (f : EReal)) (hy : y = (g : EReal)) (hg : g ≠ 0) :
    Ideal.div x y = ((f / g : ℝ) : EReal) := by
  rw [hx, hy, Ideal.div_coe hg, ← EReal.coe_mul, mul_one_div]

/-- The logistic function written with the exponential. -/
theorem logistic_real {x o o' : EReal} {f : ℝ} (hx : x = (f : EReal)) (ho : o = ((1 : ℝ) : EReal)) (ho' : o' = ((1 : ℝ) : EReal)) :
    Ideal.div o' (o + Ideal.exp (-x)) = ((logistic f : ℝ) : EReal) := by
  have hn : -x = ((-f : ℝ) : EReal) := by rw [hx, EReal.coe_neg]
  exact div_real ho' (add_real ho (exp_real hn)) (by positivity)

/-- A sum of products of real numbers. -/
theorem dot_real {n : ℕ} {u v : Fin n → EReal} (f g : ℕ → ℝ) (hu : ∀ k, u k = ((f k.val : ℝ) : EReal))
    (hv : ∀ k, v k = ((g k.val : ℝ) : EReal)) : ∑ k, u k * v k = ((∑ k ∈ range n, f k * g k : ℝ) : EReal) :=
  (Finset.sum_congr rfl fun k _ => by rw [hu k, hv k]).trans (coe_sum_mul n f g)

/-- The reciprocal root mean square of a row. -/
theorem rms_real {n : ℕ} (hn : 0 < n) {u v : Fin n → EReal} {z w c : EReal} (f : ℕ → ℝ) (hu : ∀ k, u k = ((f k.val : ℝ) : EReal))
    (huv : ∀ k, v k = u k * u k) (hz : z = ((0 : ℝ) : EReal)) (hw : w = ((n : ℝ) : EReal)) (hc : c = (eps : EReal)) :
    Ideal.rsqrt (Ideal.div (z + ∑ k, v k) w + c)
      = (((Real.sqrt ((∑ k ∈ range n, f k * f k) / n + eps))⁻¹ : ℝ) : EReal) := by
  have hs : ∑ k, v k = ((∑ k ∈ range n, f k * f k : ℝ) : EReal) :=
    (Finset.sum_congr rfl fun k _ => huv k).trans (dot_real f f hu hu)
  rw [hs, hz, ← EReal.coe_add, zero_add, div_real rfl hw (Nat.cast_ne_zero.2 hn.ne'), hc, ← EReal.coe_add,
    ideal_rsqrt_pos (rms_pos n f)]

theorem ofBits_96 : Ideal.ofBits .f32 0x42C00000#32 = ((96 : ℝ) : EReal) := by
  simp [Ideal.ofBits, Ideal.ieee]; rw [← EReal.coe_mul]; norm_num

theorem sqrt_real {x : EReal} {f : ℝ} (hx : x = (f : EReal)) (hf : 0 ≤ f) : Ideal.sqrt x = ((Real.sqrt f : ℝ) : EReal) := by
  rw [hx, Ideal.sqrt_coe, if_neg hf.not_gt]

/-! ### Tables -/

/-- The table of the angles of a transform over `n` points: the product of row and column, times `2π / n`. -/
theorem angles_plain {a b n : ℕ} {w : BitVec 32} (hw : Ideal.ofBits .f32 w = ((n : ℝ) : EReal)) (hn : 0 < n)
    (ha : a ≤ 2 ^ 15) (hb : b ≤ 2 ^ 15) (h' : (⟨0, ![]⟩ : Shape).BroadcastsInDim ⟨2, ![a, b]⟩ ![]) :
    Mat (mulf (F := Ideal) (φ := .f32)
        (sitofp .f32 (muli (iotaInDim ⟨2, ![a, b]⟩ 32 0) (iotaInDim ⟨2, ![a, b]⟩ 32 1)))
        (broadcastInDim ⟨2, ![a, b]⟩ ![] h' (id (Host.divf (mulf (constant (F := Ideal) ⟨0, ![]⟩ .f32 0x40000000#32)
          (Host.acos (constant (F := Ideal) ⟨0, ![]⟩ .f32 0xBF800000#32))) (constant (F := Ideal) ⟨0, ![]⟩ .f32 w)))))
      (fun i j => angle n (i * j)) := by
  have step : Mat (broadcastInDim ⟨2, ![a, b]⟩ ![] h' (id (Host.divf (mulf (constant (F := Ideal) ⟨0, ![]⟩ .f32 0x40000000#32)
      (Host.acos (constant (F := Ideal) ⟨0, ![]⟩ .f32 0xBF800000#32))) (constant (F := Ideal) ⟨0, ![]⟩ .f32 w))))
      (fun _ _ => 2 * Real.pi / n) := Mat.fill (by
    show Ideal.div (Ideal.ofBits .f32 0x40000000#32 * Ideal.acos (Ideal.ofBits .f32 0xBF800000#32)) (Ideal.ofBits .f32 w) = _
    exact div_real (mul_real ofBits_two acos_neg_one) hw (Nat.cast_ne_zero.2 hn.ne')) h'
  have prod : Mat (sitofp (F := Ideal) .f32 (muli (iotaInDim ⟨2, ![a, b]⟩ 32 0) (iotaInDim ⟨2, ![a, b]⟩ 32 1)))
      (fun i j => ((i * j : ℕ) : ℝ)) := fun i => by
    have h0 : (i 0).val < a := (i 0).isLt
    have h1 : (i 1).val < b := (i 1).isLt
    have hp : (i 0).val * (i 1).val ≤ 2 ^ 15 * 2 ^ 15 :=
      Nat.mul_le_mul (by omega : (i 0).val ≤ 2 ^ 15) (by omega : (i 1).val ≤ 2 ^ 15)
    show (((BitVec.ofNat 32 (i 0).val * BitVec.ofNat 32 (i 1).val).toInt : ℝ) : EReal) = _
    rw [← BitVec.ofNat_mul, BitVec.toInt_eq_toNat_of_lt (by rw [BitVec.toNat_ofNat]; omega), BitVec.toNat_ofNat,
      Nat.mod_eq_of_lt (by omega), Int.cast_natCast]
  exact prod.mulf step

/-- A table over the root of the number of points. -/
theorem Mat.overRoot {a b n : ℕ} {w : BitVec 32} {x : FVec Ideal ⟨2, ![a, b]⟩ .f32} {f : ℕ → ℕ → ℝ} (hx : Mat x f)
    (hw : Ideal.ofBits .f32 w = ((n : ℝ) : EReal)) (hn : 0 < n) (h : (⟨0, ![]⟩ : Shape).BroadcastsInDim ⟨2, ![a, b]⟩ ![]) :
    Mat (Host.divf x (broadcastInDim ⟨2, ![a, b]⟩ ![] h (id (Host.sqrt (constant (F := Ideal) ⟨0, ![]⟩ .f32 w)))))
      (fun i j => f i j * (Real.sqrt n)⁻¹) :=
  (hx.hostDivf (g := fun _ _ => Real.sqrt n) (Mat.fill (sqrt_real hw (Nat.cast_nonneg n)) h)
    fun _ _ _ _ => Real.sqrt_ne_zero'.2 (Nat.cast_pos.2 hn)).congr fun _ _ _ _ => div_eq_mul_inv _ _

/-! ### Arrays of rank four -/

variable {a b c d : ℕ}

/-- The rank-four array `v` holds the real function `f`. -/
def Quad {a b c d : ℕ} (v : (⟨4, ![a, b, c, d]⟩ : Shape).Idx → EReal) (f : ℕ → ℕ → ℕ → ℕ → ℝ) : Prop :=
  ∀ i, v i = ((f (i 0).val (i 1).val (i 2).val (i 3).val : ℝ) : EReal)

theorem Quad.congr {v : (⟨4, ![a, b, c, d]⟩ : Shape).Idx → EReal} {f g : ℕ → ℕ → ℕ → ℕ → ℝ} (h : Quad v f)
    (e : ∀ i j k l, f i j k l = g i j k l) : Quad v g :=
  fun i => (h i).trans (congrArg _ (e _ _ _ _))

/-- The last axis split over two. -/
theorem Cube.splitLast {n : ℕ} {x : (⟨3, ![a, b, n]⟩ : Shape).Idx → EReal} {f : ℕ → ℕ → ℕ → ℝ} (hx : Cube x f) (hn : n = c * d)
    (h : (⟨3, ![a, b, n]⟩ : Shape).ShapeCasts ⟨4, ![a, b, c, d]⟩) :
    Quad (shapeCast ⟨4, ![a, b, c, d]⟩ x h) (fun i j k l => f i j (k * d + l)) := fun i => by
  have h2 : (i 2).val < c := (i 2).isLt
  have h3 : (i 3).val < d := (i 3).isLt
  have hlt : (i 2).val * d + (i 3).val < n := by
    have := Nat.mul_le_mul_right d (Nat.succ_le_of_lt h2)
    rw [Nat.succ_mul] at this; omega
  rw [shapeCast_apply x h i (ix3 (i 0) (i 1) ⟨(i 2).val * d + (i 3).val, hlt⟩) (by
    rw [Shape.rowMajor_val_four, Shape.rowMajor_val_three]
    show ((i 0).val * b + (i 1).val) * n + ((i 2).val * d + (i 3).val)
      = (((i 0).val * b + (i 1).val) * c + (i 2).val) * d + (i 3).val
    rw [hn]; ring)]
  exact hx _

/-- The last two axes joined. -/
theorem Quad.joinLast {n : ℕ} {x : (⟨4, ![a, b, c, d]⟩ : Shape).Idx → EReal} {f : ℕ → ℕ → ℕ → ℕ → ℝ} (hx : Quad x f) (hn : n = c * d)
    (h : (⟨4, ![a, b, c, d]⟩ : Shape).ShapeCasts ⟨3, ![a, b, n]⟩) :
    Cube (shapeCast ⟨3, ![a, b, n]⟩ x h) (fun i j k => f i j (k / d) (k % d)) := fun i => by
  have h2 : (i 2).val < n := (i 2).isLt
  have hd : 0 < d := Nat.pos_of_ne_zero (by rintro rfl; omega)
  rw [shapeCast_apply x h i (ix4 (i 0) (i 1) ⟨(i 2).val / d, Nat.div_lt_of_lt_mul (by rw [Nat.mul_comm]; omega)⟩
    ⟨(i 2).val % d, Nat.mod_lt _ hd⟩) (by
    rw [Shape.rowMajor_val_four, Shape.rowMajor_val_three]
    show (((i 0).val * b + (i 1).val) * c + (i 2).val / d) * d + (i 2).val % d = ((i 0).val * b + (i 1).val) * n + (i 2).val
    have e : (((i 0).val * b + (i 1).val) * n) = ((i 0).val * b + (i 1).val) * c * d := by rw [hn]; ring
    rw [Nat.add_mul, Nat.add_assoc, Nat.div_add_mod' (i 2).val d, e])]
  exact hx _

/-- The maximum of each row of real scores is real. -/
theorem Quad.maxLast {x : FVec Ideal ⟨4, ![a, b, c, d]⟩ .f32} {f : ℕ → ℕ → ℕ → ℕ → ℝ} (hx : Quad x f) (hd : 0 < d)
    {init : FVec Ideal ⟨0, ![]⟩ .f32} (hi : ∀ j, init j = ⊥) (h : (⟨4, ![a, b, c, d]⟩ : Shape).ReducesTo [3] ⟨3, ![a, b, c]⟩)
    (hu : 0 < (⟨0, ![]⟩ : Shape).numel) (j : (⟨3, ![a, b, c]⟩ : Shape).Idx) :
    ∃ M : ℝ, Host.reduce (FloatOps.maximumf (F := Ideal) (φ := .f32)) x init h hu j = (M : EReal) := by
  have e : Host.reduce (FloatOps.maximumf (F := Ideal) (φ := .f32)) x init h hu j = Host.reduce (max : EReal → EReal → EReal) x init h hu j := rfl
  rw [e, Host.reduce_eq_fold, Shape.ReducesTo.fold_fiber_r4_a3, hi]
  simp only [hx _]
  exact fold_max_real hd _

end Cert.Layer
-- ==== Proof.RefHead.lean ====
/- The reference's first stages at real values: the modulation's rows, the modulated hidden rows, the projected columns and
   their slices, the queries, the latent, and the keys and values. -/
module

public import proofs.«01_k».proof.Proof.RefOps
public import proofs.«01_k».proof.Proof.Inputs
public import proofs.«01_k».proof.Proof.Gen.ReferenceIdeal.Read

@[expose] public section

noncomputable section

namespace Cert.ReferenceIdeal.Layer

open Idealize.ShloMosaic hiding ix0 ix1 ix2 ix3 ix4 eq_ix1 eq_ix2 eq_ix3
open Idealize.ShloMosaic.ValueIdx
open Finset (range)
open Cert.Layer Cert.ReferenceIdeal.Read

variable {W : Params} {X : ℕ → ℕ → ℕ → ℝ}
  {x0 : (⟨S16x256x1024, .f32⟩ : BufTy).Contents (Elt Ideal)} {x1 : (⟨S8x1x3072, .f32⟩ : BufTy).Contents (Elt Ideal)}
  {x2 : (⟨S1024x4096, .bf16⟩ : BufTy).Contents (Elt Ideal)} {x3 : (⟨S1x256x768, .f32⟩ : BufTy).Contents (Elt Ideal)}
  {x4 : (⟨S1x256, .f32⟩ : BufTy).Contents (Elt Ideal)} {x5 : (⟨S1x128, .f32⟩ : BufTy).Contents (Elt Ideal)}
  {x6 : (⟨S1x128x1024, .f32⟩ : BufTy).Contents (Elt Ideal)} {x7 : (⟨S1x512x1024, .f32⟩ : BufTy).Contents (Elt Ideal)}
  {x8 : (⟨S1x512x1024, .f32⟩ : BufTy).Contents (Elt Ideal)} {x9 : (⟨S1x1024x1024, .f32⟩ : BufTy).Contents (Elt Ideal)}
  {x10 : (⟨S1024, .f32⟩ : BufTy).Contents (Elt Ideal)}
  (h : Inputs W X x0 x1 x2 x3 x4 x5 x6 x7 x8 x9 x10)

include h

/-! ### The modulation -/

/-- The context condition's row of the modulations. -/
theorem v1_row : Row (val_main_v1 (F := Ideal) x1) (modRow W) := fun i => by
  have h0 : (i 0).val < 3072 := (i 0).isLt
  rw [val_main_v1_apply, val_main_v0_apply]
  refine (h.mods _ rfl).trans (congrArg (fun n => ((modRow W n : ℝ) : EReal)) ?_)
  exact Nat.mod_eq_of_lt h0

theorem shift_row : Row (val_main_v2 (F := Ideal) x1) W.shift := fun i => by
  have h0 : (i 0).val < 1024 := (i 0).isLt
  rw [val_main_v2_apply]
  refine (v1_row h _).trans (congrArg _ ?_)
  show modRow W (i 0).val = _
  rw [modRow, if_pos h0]

theorem scale_row : Row (val_main_v3 (F := Ideal) x1) W.scale := fun i => by
  have h0 : (i 0).val < 1024 := (i 0).isLt
  rw [val_main_v3_apply]
  refine (v1_row h _).trans (congrArg _ ?_)
  show modRow W (1024 + (i 0).val) = _
  rw [modRow, if_neg (by omega), if_pos (by omega), Nat.add_sub_cancel_left]

theorem gate_row : Row (val_main_v4 (F := Ideal) x1) W.gate := fun i => by
  have h0 : (i 0).val < 1024 := (i 0).isLt
  rw [val_main_v4_apply]
  refine (v1_row h _).trans (congrArg _ ?_)
  show modRow W (2048 + (i 0).val) = _
  rw [modRow, if_neg (by omega), if_neg (by omega), Nat.add_sub_cancel_left]

/-! ### Hidden rows and projected columns -/

/-- The context rows over their root mean squares. -/
theorem v14_cube : Cube (val_main_v14 (F := Ideal) x0) (fun b s d => rms 1024 (X b s) d) := fun i => by
  refine mul_real (h.tok i) ?_
  rw [val_main_v13_apply, val_main_v12_apply, val_main_v11_apply, val_main_v9_apply, val_main_v7_apply, val_main_v8_apply,
    val_main_v10_apply, val_main_v6_apply]
  exact rms_real (by omega) _ (fun k => h.tok _) (fun k => rfl) ofBits_zero ofBits_1024 ofBits_eps

theorem hid_cube : Cube (val_main_v22 (F := Ideal) x0 x1) (fun b s d => hid W (X b) s d) := fun i => by
  refine add_real (mul_real (v14_cube h i) ?_) ?_
  · rw [val_main_v18_apply, val_main_v17_apply, val_main_v16_apply, val_main_v15_apply]
    exact add_real ofBits_one (scale_row h _)
  · rw [val_main_v21_apply, val_main_v20_apply]
    exact shift_row h _

theorem proj_cube : Cube (val_main_v24 (F := Ideal) x0 x1 x2) (fun b s c => proj W (X b) s c) := fun i => by
  rw [val_main_v24_apply]
  exact dot_real (fun d => hid W (X (i 0).val) (i 1).val d) (fun d => W.A d (i 2).val) (fun k => hid_cube h _) (fun k => h.wA _)

theorem u_cube : Cube (val_main_v25 (F := Ideal) x0 x1 x2) (fun b s c => proj W (X b) s c) := fun i => by
  rw [val_main_v25_apply]; exact proj_cube h _

theorem zf_cube : Cube (val_main_v26 (F := Ideal) x0 x1 x2) (fun b s c => proj W (X b) s (512 + c)) := fun i => by
  rw [val_main_v26_apply]; exact proj_cube h _

theorem cq_cube : Cube (val_main_v27 (F := Ideal) x0 x1 x2) (fun b s c => proj W (X b) s (1024 + c)) := fun i => by
  rw [val_main_v27_apply]; exact proj_cube h _

theorem ckv_cube : Cube (val_main_v28 (F := Ideal) x0 x1 x2) (fun b s c => proj W (X b) s (1280 + c)) := fun i => by
  rw [val_main_v28_apply]; exact proj_cube h _

theorem kr_cube : Cube (val_main_v29 (F := Ideal) x0 x1 x2) (fun b s c => proj W (X b) s (1408 + c)) := fun i => by
  rw [val_main_v29_apply]; exact proj_cube h _

theorem za_cube : Cube (val_main_v30 (F := Ideal) x0 x1 x2) (fun b s c => proj W (X b) s (1536 + c)) := fun i => by
  rw [val_main_v30_apply]; exact proj_cube h _

theorem gf_cube : Cube (val_main_v31 (F := Ideal) x0 x1 x2) (fun b s c => proj W (X b) s (2048 + c)) := fun i => by
  rw [val_main_v31_apply]; exact proj_cube h _

theorem ga_cube : Cube (val_main_v32 (F := Ideal) x0 x1 x2) (fun b s c => proj W (X b) s (3072 + c)) := fun i => by
  rw [val_main_v32_apply]; exact proj_cube h _

/-! ### Queries -/

theorem gq_row : Row (val_main_v33 (F := Ideal) x4) W.qg := h.gq.drop _

theorem uq_mat : Mat (val_main_v47 (F := Ideal) x3) W.UQ := h.uq.drop _

/-- The normalised query latent. -/
theorem v46_cube : Cube (val_main_v46 (F := Ideal) x0 x1 x2 x4)
    (fun b s r => rms 256 (fun r => proj W (X b) s (1024 + r)) r * W.qg r) := fun i => by
  refine mul_real (mul_real (cq_cube h i) ?_) ?_
  · rw [val_main_v42_apply, val_main_v41_apply, val_main_v40_apply, val_main_v38_apply, val_main_v36_apply, val_main_v37_apply,
      val_main_v39_apply, val_main_v35_apply]
    exact rms_real (by omega) (fun r => proj W (X (i 0).val) (i 1).val (1024 + r)) (fun k => cq_cube h _) (fun k => rfl)
      ofBits_zero ofBits_256 ofBits_eps
  · rw [val_main_v45_apply, val_main_v44_apply]
    exact gq_row h _

theorem q_cube : Cube (val_main_v48 (F := Ideal) x0 x1 x2 x3 x4) (fun b s c => qv W (X b) s c) := fun i => by
  rw [val_main_v48_apply]
  exact dot_real (fun r => rms 256 (fun r => proj W (X (i 0).val) (i 1).val (1024 + r)) r * W.qg r) (fun r => W.UQ r (i 2).val)
    (fun k => v46_cube h _) (fun k => uq_mat h _)

theorem v49_quad : Quad (val_main_v49 (F := Ideal) x0 x1 x2 x3 x4) (fun b s e c => qv W (X b) s (e * 96 + c)) :=
  (q_cube h).splitLast rfl _

theorem v50_quad : Quad (val_main_v50 (F := Ideal) x0 x1 x2 x3 x4) (fun b s e c => qv W (X b) s (e * 96 + c)) := fun i => by
  rw [val_main_v50_apply]; exact v49_quad h _

theorem v51_quad : Quad (val_main_v51 (F := Ideal) x0 x1 x2 x3 x4) (fun b s e c => qv W (X b) s (e * 96 + (64 + c))) := fun i => by
  rw [val_main_v51_apply]; exact v49_quad h _

/-! ### The latent, keys and values -/

theorem gk_row : Row (val_main_v52 (F := Ideal) x5) W.kg := h.gk.drop _

theorem ukv_mat : Mat (val_main_v66 (F := Ideal) x6) W.UKV := h.ukv.drop _

/-- The normalised latent, the second result. -/
theorem latent_cube : Cube (val_main_v65 (F := Ideal) x0 x1 x2 x5) (fun b s r => ckvn W (X b) s r) := fun i => by
  refine mul_real (mul_real (ckv_cube h i) ?_) ?_
  · rw [val_main_v61_apply, val_main_v60_apply, val_main_v59_apply, val_main_v57_apply, val_main_v55_apply, val_main_v56_apply,
      val_main_v58_apply, val_main_v54_apply]
    exact rms_real (by omega) (fun r => proj W (X (i 0).val) (i 1).val (1280 + r)) (fun k => ckv_cube h _) (fun k => rfl)
      ofBits_zero ofBits_128 ofBits_eps
  · rw [val_main_v64_apply, val_main_v63_apply]
    exact gk_row h _

/-- The shared key columns with the positions last, the third result. -/
theorem shared_cube : Cube (val_main_v184 (F := Ideal) x0 x1 x2) (fun b r s => proj W (X b) s (1408 + r)) := fun i => by
  rw [val_main_v184_apply]; exact kr_cube h _

theorem kv_cube : Cube (val_main_v67 (F := Ideal) x0 x1 x2 x5 x6) (fun b t c => kvv W (X b) t c) := fun i => by
  rw [val_main_v67_apply]
  exact dot_real (fun r => ckvn W (X (i 0).val) (i 1).val r) (fun r => W.UKV r (i 2).val) (fun k => latent_cube h _) (fun k => ukv_mat h _)

theorem v68_quad : Quad (val_main_v68 (F := Ideal) x0 x1 x2 x5 x6) (fun b t e c => kvv W (X b) t (e * 128 + c)) :=
  (kv_cube h).splitLast rfl _

theorem v69_quad : Quad (val_main_v69 (F := Ideal) x0 x1 x2 x5 x6) (fun b t e c => kvv W (X b) t (e * 128 + c)) := fun i => by
  rw [val_main_v69_apply]; exact v68_quad h _

theorem v70_quad : Quad (val_main_v70 (F := Ideal) x0 x1 x2 x5 x6) (fun b t e c => kvv W (X b) t (e * 128 + (64 + c))) := fun i => by
  rw [val_main_v70_apply]; exact v68_quad h _

end Cert.ReferenceIdeal.Layer
-- ==== Proof.RefAttn.lean ====
/- The reference's latent attention at real values: the scores of every head, their softmax over the key rows, and the
   softmax applied to the values. -/
module

public import proofs.«01_k».proof.Proof.RefHead

@[expose] public section

noncomputable section

namespace Cert.ReferenceIdeal.Layer

open Idealize.ShloMosaic hiding ix0 ix1 ix2 ix3 ix4 eq_ix1 eq_ix2 eq_ix3
open Idealize.ShloMosaic.ValueIdx
open Finset (range)
open Cert.Layer Cert.ReferenceIdeal.Read

variable {W : Params} {X : ℕ → ℕ → ℕ → ℝ}
  {x0 : (⟨S16x256x1024, .f32⟩ : BufTy).Contents (Elt Ideal)} {x1 : (⟨S8x1x3072, .f32⟩ : BufTy).Contents (Elt Ideal)}
  {x2 : (⟨S1024x4096, .bf16⟩ : BufTy).Contents (Elt Ideal)} {x3 : (⟨S1x256x768, .f32⟩ : BufTy).Contents (Elt Ideal)}
  {x4 : (⟨S1x256, .f32⟩ : BufTy).Contents (Elt Ideal)} {x5 : (⟨S1x128, .f32⟩ : BufTy).Contents (Elt Ideal)}
  {x6 : (⟨S1x128x1024, .f32⟩ : BufTy).Contents (Elt Ideal)} {x7 : (⟨S1x512x1024, .f32⟩ : BufTy).Contents (Elt Ideal)}
  {x8 : (⟨S1x512x1024, .f32⟩ : BufTy).Contents (Elt Ideal)} {x9 : (⟨S1x1024x1024, .f32⟩ : BufTy).Contents (Elt Ideal)}
  {x10 : (⟨S1024, .f32⟩ : BufTy).Contents (Elt Ideal)}
  (h : Inputs W X x0 x1 x2 x3 x4 x5 x6 x7 x8 x9 x10)

include h

/-- The scores' part without positions. -/
theorem v71_quad : Quad (val_main_v71 (F := Ideal) x0 x1 x2 x3 x4 x5 x6)
    (fun b e q t => ∑ d ∈ range 64, qv W (X b) q (e * 96 + d) * kvv W (X b) t (e * 128 + d)) := fun i => by
  rw [val_main_v71_apply]
  exact dot_real (fun d => qv W (X (i 0).val) (i 2).val ((i 1).val * 96 + d)) (fun d => kvv W (X (i 0).val) (i 3).val ((i 1).val * 128 + d))
    (fun k => v50_quad h _) (fun k => v69_quad h _)

/-- The scores' part of the shared key columns. -/
theorem v72_quad : Quad (val_main_v72 (F := Ideal) x0 x1 x2 x3 x4)
    (fun b t q e => ∑ r ∈ range 32, proj W (X b) t (1408 + r) * qv W (X b) q (e * 96 + (64 + r))) := fun i => by
  rw [val_main_v72_apply]
  exact dot_real (fun r => proj W (X (i 0).val) (i 1).val (1408 + r)) (fun r => qv W (X (i 0).val) (i 2).val ((i 3).val * 96 + (64 + r)))
    (fun k => kr_cube h _) (fun k => v51_quad h _)

theorem v74_quad : Quad (val_main_v74 (F := Ideal) x0 x1 x2 x3 x4 x5 x6) (fun b e q t => score W (X b) e q t) := fun i => by
  refine add_real (v71_quad h i) ?_
  rw [val_main_v73_apply]
  refine (v72_quad h _).trans (congrArg _ (Finset.sum_congr rfl fun r _ => ?_))
  exact mul_comm _ _

/-- The scaled scores. -/
theorem v78_quad : Quad (val_main_v78 (F := Ideal) x0 x1 x2 x3 x4 x5 x6)
    (fun b e q t => score W (X b) e q t * (Real.sqrt 96)⁻¹) := fun i => by
  have hr : val_main_v77 (F := Ideal) i = ((Real.sqrt 96 : ℝ) : EReal) := by
    rw [val_main_v77_apply]; exact sqrt_real ofBits_96 (by norm_num)
  exact (div_real (v74_quad h i) hr (by positivity)).trans (congrArg _ (div_eq_mul_inv _ _))

/-- The number taken off each row of scores is real. -/
theorem v83_real (i : S16x8x256.Idx) : ∃ M : ℝ, val_main_v81 (F := Ideal) x0 x1 x2 x3 x4 x5 x6 i = (M : EReal) := by
  obtain ⟨M, hM⟩ : ∃ M : ℝ, val_main_v79 (F := Ideal) x0 x1 x2 x3 x4 x5 x6 i = (M : EReal) :=
    (v78_quad h).maxLast (by omega) (fun _ => ofBits_neg_inf) _ _ i
  refine ⟨M, ?_⟩
  rw [val_main_v81_apply, val_main_v80_apply]
  show max (Ideal.ofBits .f32 0xFF800000#32) (val_main_v79 (F := Ideal) x0 x1 x2 x3 x4 x5 x6 i) = _
  rw [ofBits_neg_inf, max_eq_right bot_le]
  exact hM

/-- Some real number taken off each row of scores, as a function of the row. -/
theorem shifts : ∃ M : ℕ → ℕ → ℕ → ℝ, Cube (val_main_v81 (F := Ideal) x0 x1 x2 x3 x4 x5 x6) M := by
  choose r hr using v83_real h
  refine ⟨fun b e q => if hi : b < 16 ∧ e < 8 ∧ q < 256 then r (ix3 ⟨b, hi.1⟩ ⟨e, hi.2.1⟩ ⟨q, hi.2.2⟩) else 0, fun i => ?_⟩
  have hi : (i 0).val < 16 ∧ (i 1).val < 8 ∧ (i 2).val < 256 := ⟨(i 0).isLt, (i 1).isLt, (i 2).isLt⟩
  rw [hr i]; beta_reduce; rw [dif_pos hi]
  exact congrArg (fun z => ((r z : ℝ) : EReal)) (eq_ix3 i)

variable {M : ℕ → ℕ → ℕ → ℝ} (hM : Cube (val_main_v81 (F := Ideal) x0 x1 x2 x3 x4 x5 x6) M)

include hM

/-- The exponentials of the shifted scores. -/
theorem v85_quad : Quad (val_main_v85 (F := Ideal) x0 x1 x2 x3 x4 x5 x6)
    (fun b e q t => Real.exp (score W (X b) e q t * (Real.sqrt 96)⁻¹ - M b e q)) := fun i => by
  refine exp_real (sub_real (v78_quad h i) ?_)
  rw [val_main_v83_apply, val_main_v82_apply]
  exact hM _

theorem v89_quad : Quad (val_main_v89 (F := Ideal) x0 x1 x2 x3 x4 x5 x6)
    (fun b e q t => Real.exp (score W (X b) e q t * (Real.sqrt 96)⁻¹ - M b e q)
      / ∑ t' ∈ range 256, Real.exp (score W (X b) e q t' * (Real.sqrt 96)⁻¹ - M b e q)) := fun i => by
  refine div_real (v85_quad h hM i) ?_ (Finset.sum_pos (fun _ _ => Real.exp_pos _) ⟨0, Finset.mem_range.2 (by omega)⟩).ne'
  rw [val_main_v88_apply, val_main_v87_apply, val_main_v86_apply, val_main_cst_12_apply]
  have e : FloatOps.ofBits (F := Ideal) .f32 0x00000000#32 = (0 : EReal) := ofBits_zero
  rw [e, zero_add]
  refine (Finset.sum_congr rfl fun k _ => v85_quad h hM _).trans ?_
  exact coe_sum_range 256 fun t => Real.exp (score W (X (i 0).val) (i 1).val (i 2).val t * (Real.sqrt 96)⁻¹ - M (i 0).val (i 1).val (i 2).val)

theorem v90_quad : Quad (val_main_v90 (F := Ideal) x0 x1 x2 x3 x4 x5 x6) (fun b e v q => attn W (X b) e q v) := fun i => by
  rw [val_main_v90_apply]
  refine Eq.trans (dot_real (fun t => kvv W (X (i 0).val) t ((i 1).val * 128 + (64 + (i 2).val)))
    (fun t => Real.exp (score W (X (i 0).val) (i 1).val (i 3).val t * (Real.sqrt 96)⁻¹ - M (i 0).val (i 1).val (i 3).val)
      / ∑ t' ∈ range 256, Real.exp (score W (X (i 0).val) (i 1).val (i 3).val t' * (Real.sqrt 96)⁻¹ - M (i 0).val (i 1).val (i 3).val))
    (fun k => v70_quad h _) (fun k => v89_quad h hM _)) (congrArg _ ?_)
  refine (Finset.sum_congr rfl fun t _ => mul_comm _ _).trans ?_
  exact softmax_apply 256 (fun t => kvv W (X (i 0).val) t ((i 1).val * 128 + (64 + (i 2).val)))
    (fun t => score W (X (i 0).val) (i 1).val (i 3).val t * (Real.sqrt 96)⁻¹) (M (i 0).val (i 1).val (i 3).val)

omit hM

/-- The attention's result, the heads side by side. -/
theorem attn_cube : Cube (val_main_v92 (F := Ideal) x0 x1 x2 x3 x4 x5 x6) (fun b s c => attn W (X b) (c / 64) s (c % 64)) := by
  obtain ⟨M, hM⟩ := shifts h
  have e : Quad (val_main_v91 (F := Ideal) x0 x1 x2 x3 x4 x5 x6) (fun b s e v => attn W (X b) e s v) := fun i => by
    rw [val_main_v91_apply]; exact v90_quad h hM _
  exact e.joinLast rfl _

end Cert.ReferenceIdeal.Layer
-- ==== Proof.RefFourier.lean ====
/- The reference's Fourier mixing at real values: the tables of cosines and sines, the transforms over the channels of a
   group and over the positions, and the real part of the two-dimensional transform. -/
module

public import proofs.«01_k».proof.Proof.RefHead

@[expose] public section

noncomputable section

namespace Cert.ReferenceIdeal.Layer

open Idealize.ShloMosaic hiding ix0 ix1 ix2 ix3 ix4 eq_ix1 eq_ix2 eq_ix3
open Idealize.ShloMosaic.ValueIdx
open Finset (range)
open Cert.Layer Cert.ReferenceIdeal.Read

variable {W : Params} {X : ℕ → ℕ → ℕ → ℝ}
  {x0 : (⟨S16x256x1024, .f32⟩ : BufTy).Contents (Elt Ideal)} {x1 : (⟨S8x1x3072, .f32⟩ : BufTy).Contents (Elt Ideal)}
  {x2 : (⟨S1024x4096, .bf16⟩ : BufTy).Contents (Elt Ideal)} {x3 : (⟨S1x256x768, .f32⟩ : BufTy).Contents (Elt Ideal)}
  {x4 : (⟨S1x256, .f32⟩ : BufTy).Contents (Elt Ideal)} {x5 : (⟨S1x128, .f32⟩ : BufTy).Contents (Elt Ideal)}
  {x6 : (⟨S1x128x1024, .f32⟩ : BufTy).Contents (Elt Ideal)} {x7 : (⟨S1x512x1024, .f32⟩ : BufTy).Contents (Elt Ideal)}
  {x8 : (⟨S1x512x1024, .f32⟩ : BufTy).Contents (Elt Ideal)} {x9 : (⟨S1x1024x1024, .f32⟩ : BufTy).Contents (Elt Ideal)}
  {x10 : (⟨S1024, .f32⟩ : BufTy).Contents (Elt Ideal)}
  (h : Inputs W X x0 x1 x2 x3 x4 x5 x6 x7 x8 x9 x10)

include h

omit h

/-! ### Tables -/

theorem v102_mat : Mat (val_main_v102 (F := Ideal)) (fun j c => angle 128 (j * c)) :=
  angles_plain ofBits_128 (by omega) (by norm_num) (by norm_num) _

theorem v107_mat : Mat (val_main_v107 (F := Ideal)) (fun j c => Real.cos (angle 128 (j * c)) * (Real.sqrt 128)⁻¹) :=
  (v102_mat.hostCos.overRoot ofBits_128 (by omega) _).congr fun _ _ _ _ => by norm_num

theorem v112_mat : Mat (val_main_v112 (F := Ideal)) (fun j c => Real.sin (angle 128 (j * c)) * (Real.sqrt 128)⁻¹) :=
  (v102_mat.hostSin.overRoot ofBits_128 (by omega) _).congr fun _ _ _ _ => by norm_num

theorem v122_mat : Mat (val_main_v122 (F := Ideal)) (fun n m => angle 256 (n * m)) :=
  angles_plain ofBits_256 (by omega) (by norm_num) (by norm_num) _

/-- The root of the number of positions. -/
theorem root_256 : (Real.sqrt ((256 : ℕ) : ℝ))⁻¹ = 1 / 16 := by
  rw [show ((256 : ℕ) : ℝ) = 16 ^ 2 by norm_num, Real.sqrt_sq (by norm_num)]; norm_num

theorem v127_mat : Mat (val_main_v127 (F := Ideal)) (fun n m => Real.cos (angle 256 (n * m)) * (1 / 16)) :=
  (v122_mat.hostCos.overRoot ofBits_256 (by omega) _).congr fun _ _ _ _ => by rw [root_256]

theorem v132_mat : Mat (val_main_v132 (F := Ideal)) (fun n m => Real.sin (angle 256 (n * m)) * (1 / 16)) :=
  (v122_mat.hostSin.overRoot ofBits_256 (by omega) _).congr fun _ _ _ _ => by rw [root_256]

/-! ### Transforms -/

include h

/-- The columns in four groups of 128 channels. -/
theorem v133_quad : Quad (val_main_v133 (F := Ideal) x0 x1 x2) (fun b s g j => proj W (X b) s (g * 128 + j)) :=
  (u_cube h).splitLast rfl _

/-- The cosine transform over a group's channels. -/
theorem v134_quad : Quad (val_main_v134 (F := Ideal) x0 x1 x2) (fun b s g c =>
    ∑ j ∈ range 128, proj W (X b) s (g * 128 + j) * (Real.cos (angle 128 (j * c)) * (Real.sqrt 128)⁻¹)) := fun i => by
  rw [val_main_v134_apply]
  exact dot_real (fun j => proj W (X (i 0).val) (i 1).val ((i 2).val * 128 + j))
    (fun j => Real.cos (angle 128 (j * (i 3).val)) * (Real.sqrt 128)⁻¹) (fun k => v133_quad h _) (fun k => v107_mat _)

/-- The sine transform over a group's channels. -/
theorem v137_quad : Quad (val_main_v137 (F := Ideal) x0 x1 x2) (fun b s g c =>
    ∑ j ∈ range 128, proj W (X b) s (g * 128 + j) * (Real.sin (angle 128 (j * c)) * (Real.sqrt 128)⁻¹)) := fun i => by
  rw [val_main_v137_apply]
  exact dot_real (fun j => proj W (X (i 0).val) (i 1).val ((i 2).val * 128 + j))
    (fun j => Real.sin (angle 128 (j * (i 3).val)) * (Real.sqrt 128)⁻¹) (fun k => v133_quad h _) (fun k => v112_mat _)

/-- The cosine transform over the positions. -/
theorem v136_quad : Quad (val_main_v136 (F := Ideal) x0 x1 x2) (fun b n g c =>
    ∑ m ∈ range 256, Real.cos (angle 256 (n * m)) * (1 / 16)
      * ∑ j ∈ range 128, proj W (X b) m (g * 128 + j) * (Real.cos (angle 128 (j * c)) * (Real.sqrt 128)⁻¹)) := fun i => by
  rw [val_main_v136_apply, val_main_v135_apply]
  refine Eq.trans (dot_real (fun m => ∑ j ∈ range 128, proj W (X (i 0).val) m ((i 2).val * 128 + j)
      * (Real.cos (angle 128 (j * (i 3).val)) * (Real.sqrt 128)⁻¹)) (fun m => Real.cos (angle 256 ((i 1).val * m)) * (1 / 16))
    (fun k => v134_quad h _) (fun k => v127_mat _)) (congrArg _ (Finset.sum_congr rfl fun m _ => ?_))
  exact mul_comm _ _

/-- The sine transform over the positions. -/
theorem v139_quad : Quad (val_main_v139 (F := Ideal) x0 x1 x2) (fun b n g c =>
    ∑ m ∈ range 256, Real.sin (angle 256 (n * m)) * (1 / 16)
      * ∑ j ∈ range 128, proj W (X b) m (g * 128 + j) * (Real.sin (angle 128 (j * c)) * (Real.sqrt 128)⁻¹)) := fun i => by
  rw [val_main_v139_apply, val_main_v138_apply]
  refine Eq.trans (dot_real (fun m => ∑ j ∈ range 128, proj W (X (i 0).val) m ((i 2).val * 128 + j)
      * (Real.sin (angle 128 (j * (i 3).val)) * (Real.sqrt 128)⁻¹)) (fun m => Real.sin (angle 256 ((i 1).val * m)) * (1 / 16))
    (fun k => v137_quad h _) (fun k => v132_mat _)) (congrArg _ (Finset.sum_congr rfl fun m _ => ?_))
  exact mul_comm _ _

/-- The real part of the transform, one group's channels at a time. -/
theorem v140_quad : Quad (val_main_v140 (F := Ideal) x0 x1 x2) (fun b n g c =>
    ∑ m ∈ range 256, Real.cos (angle 256 (n * m)) * (1 / 16)
        * (∑ j ∈ range 128, proj W (X b) m (g * 128 + j) * (Real.cos (angle 128 (j * c)) * (Real.sqrt 128)⁻¹))
      - ∑ m ∈ range 256, Real.sin (angle 256 (n * m)) * (1 / 16)
        * ∑ j ∈ range 128, proj W (X b) m (g * 128 + j) * (Real.sin (angle 128 (j * c)) * (Real.sqrt 128)⁻¹)) :=
  fun i => sub_real (v136_quad h i) (v139_quad h i)

/-- The real part of the transform, the groups side by side. -/
theorem four_cube : Cube (val_main_v141 (F := Ideal) x0 x1 x2) (fun b n c => four W (X b) n c) :=
  (v140_quad h).joinLast rfl _

end Cert.ReferenceIdeal.Layer
-- ==== Proof.RefOut.lean ====
/- The reference's last stages at real values: the two branches behind their output projections, merged by their gates, the
   residual row and the normalised output. -/
module

public import proofs.«01_k».proof.Proof.RefAttn
public import proofs.«01_k».proof.Proof.RefFourier

@[expose] public section

noncomputable section

namespace Cert.ReferenceIdeal.Layer

open Idealize.ShloMosaic hiding ix0 ix1 ix2 ix3 ix4 eq_ix1 eq_ix2 eq_ix3
open Idealize.ShloMosaic.ValueIdx
open Finset (range)
open Cert.Layer Cert.ReferenceIdeal.Read

variable {W : Params} {X : ℕ → ℕ → ℕ → ℝ}
  {x0 : (⟨S16x256x1024, .f32⟩ : BufTy).Contents (Elt Ideal)} {x1 : (⟨S8x1x3072, .f32⟩ : BufTy).Contents (Elt Ideal)}
  {x2 : (⟨S1024x4096, .bf16⟩ : BufTy).Contents (Elt Ideal)} {x3 : (⟨S1x256x768, .f32⟩ : BufTy).Contents (Elt Ideal)}
  {x4 : (⟨S1x256, .f32⟩ : BufTy).Contents (Elt Ideal)} {x5 : (⟨S1x128, .f32⟩ : BufTy).Contents (Elt Ideal)}
  {x6 : (⟨S1x128x1024, .f32⟩ : BufTy).Contents (Elt Ideal)} {x7 : (⟨S1x512x1024, .f32⟩ : BufTy).Contents (Elt Ideal)}
  {x8 : (⟨S1x512x1024, .f32⟩ : BufTy).Contents (Elt Ideal)} {x9 : (⟨S1x1024x1024, .f32⟩ : BufTy).Contents (Elt Ideal)}
  {x10 : (⟨S1024, .f32⟩ : BufTy).Contents (Elt Ideal)}
  (h : Inputs W X x0 x1 x2 x3 x4 x5 x6 x7 x8 x9 x10)

include h

/-- The Fourier branch under its activation. -/
theorem v143_cube : Cube (val_main_v143 (F := Ideal) x0 x1 x2)
    (fun b s c => four W (X b) s c * (proj W (X b) s (512 + c) * logistic (proj W (X b) s (512 + c)))) := fun i => by
  refine mul_real (four_cube h i) (mul_real (zf_cube h i) ?_)
  rw [val_main_call0_v5_apply, val_main_call0_v3_apply, val_main_call0_v4_apply, val_main_call0_v2_apply]
  exact logistic_real (zf_cube h i) ofBits_one ofBits_one

theorem wF_mat : Mat (val_main_v144 (F := Ideal) x7) W.WF := h.wF.drop _

theorem yF_cube : Cube (val_main_v145 (F := Ideal) x0 x1 x2 x7) (fun b s o => yF W (X b) s o) := fun i => by
  rw [val_main_v145_apply]
  exact dot_real (fun c => four W (X (i 0).val) (i 1).val c
      * (proj W (X (i 0).val) (i 1).val (512 + c) * logistic (proj W (X (i 0).val) (i 1).val (512 + c))))
    (fun c => W.WF c (i 2).val) (fun k => v143_cube h _) (fun k => wF_mat h _)

/-- The attention branch under its activation. -/
theorem v147_cube : Cube (val_main_v147 (F := Ideal) x0 x1 x2 x3 x4 x5 x6)
    (fun b s c => attn W (X b) (c / 64) s (c % 64) * (proj W (X b) s (1536 + c) * logistic (proj W (X b) s (1536 + c)))) := fun i => by
  refine mul_real (attn_cube h i) (mul_real (za_cube h i) ?_)
  rw [val_main_call1_v5_apply, val_main_call1_v3_apply, val_main_call1_v4_apply, val_main_call1_v2_apply]
  exact logistic_real (za_cube h i) ofBits_one ofBits_one

theorem wA_mat : Mat (val_main_v148 (F := Ideal) x8) W.WA := h.wAO.drop _

theorem yA_cube : Cube (val_main_v149 (F := Ideal) x0 x1 x2 x3 x4 x5 x6 x8) (fun b s o => yA W (X b) s o) := fun i => by
  rw [val_main_v149_apply]
  exact dot_real (fun c => attn W (X (i 0).val) (c / 64) (i 1).val (c % 64)
      * (proj W (X (i 0).val) (i 1).val (1536 + c) * logistic (proj W (X (i 0).val) (i 1).val (1536 + c))))
    (fun c => W.WA c (i 2).val) (fun k => v147_cube h _) (fun k => wA_mat h _)

/-- The branches merged. -/
theorem merged_cube : Cube (val_main_v164 (F := Ideal) x0 x1 x2 x3 x4 x5 x6 x7 x8) (fun b s o => merged W (X b) s o) := fun i => by
  refine add_real (mul_real ?_ (yF_cube h i)) (mul_real ?_ (yA_cube h i))
  · rw [val_main_v155_apply, val_main_v153_apply, val_main_v154_apply, val_main_v152_apply]
    exact logistic_real (gf_cube h i) ofBits_one ofBits_one
  · rw [val_main_v162_apply, val_main_v160_apply, val_main_v161_apply, val_main_v159_apply]
    exact logistic_real (ga_cube h i) ofBits_one ofBits_one

theorem wO_mat : Mat (val_main_v165 (F := Ideal) x9) W.WO := h.wO.drop _

theorem resid_cube : Cube (val_main_v170 (F := Ideal) x0 x1 x2 x3 x4 x5 x6 x7 x8 x9) (fun b s o => resid W (X b) s o) := fun i => by
  refine add_real (h.tok i) (mul_real ?_ ?_)
  · rw [val_main_v168_apply, val_main_v167_apply]
    exact gate_row h _
  · rw [val_main_v166_apply]
    exact dot_real (fun j => merged W (X (i 0).val) (i 1).val j) (fun j => W.WO j (i 2).val) (fun k => merged_cube h _) (fun k => wO_mat h _)

/-- The layer's output, the first result. -/
theorem output_cube : Cube (val_main_v183 (F := Ideal) x0 x1 x2 x3 x4 x5 x6 x7 x8 x9 x10) (fun b s o => out W (X b) s o) := fun i => by
  refine mul_real (mul_real (resid_cube h i) ?_) ?_
  · rw [val_main_v179_apply, val_main_v178_apply, val_main_v177_apply, val_main_v175_apply, val_main_v173_apply, val_main_v174_apply,
      val_main_v176_apply, val_main_v172_apply]
    exact rms_real (by omega) (resid W (X (i 0).val) (i 1).val) (fun k => resid_cube h _) (fun k => rfl) ofBits_zero ofBits_1024 ofBits_eps
  · rw [val_main_v182_apply, val_main_v181_apply]
    exact h.gf _

end Cert.ReferenceIdeal.Layer
-- ==== Proof.RefRun.lean ====
/- The reference's run: on real arguments its three results are the layer's output, latent and shared key part; on any
   arguments it ends with the arguments unchanged and every counter at zero. -/
module

public import proofs.«01_k».proof.Proof.RefOut
public import proofs.«01_k».proof.Proof.Gen.ReferenceIdeal.Run
public import Idealize.ShloMosaic.Lib.Quiescent

@[expose] public section

noncomputable section

namespace Cert.ReferenceIdeal.Layer

open Cert.ReferenceIdeal Cert.Layer Idealize.ShloMosaic Idealize.ShloMosaic.TcCoe Idealize.SL.Sem

variable (m : (ℓ : Loc nD τ sig) → Buf (Elt Ideal) ℓ) (ρ : Dev nD → PrngReg) (c : Dev nD)

/-- Device `c`'s arguments hold the tokens and the parameters. -/
abbrev Given (W : Params) (X : ℕ → ℕ → ℕ → ℝ) : Prop :=
  Inputs W X (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10))

/-- The arguments' buffers of device `c` hold after the run what they held before it. -/
def Kept (s : MemSt nD τ sig (Elt Ideal)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)
  ∧ s.mem ((c.tc : Thread nD τ).loc main_arg9) = m ((c.tc : Thread nD τ).loc main_arg9)
  ∧ s.mem ((c.tc : Thread nD τ).loc main_arg10) = m ((c.tc : Thread nD τ).loc main_arg10)

/-- The run: the three results at the layer's values, the arguments unchanged. -/
theorem run (W : Dev nD → Params) (X : Dev nD → ℕ → ℕ → ℕ → ℝ) (h : ∀ c, Given m c (W c) (X c)) :
    θ_run defs (onTc (τ := τ) (main (F := Ideal))) ⟨m, fun _ => 0, ρ⟩ fun r => ∀ c : Dev nD,
      r.2.mem ((c.tc : Thread nD τ).loc main_v183)
          = (fun i : S16x256x1024.Idx => ((out (W c) (X c (i 0).val) (i 1).val (i 2).val : ℝ) : EReal))
      ∧ r.2.mem ((c.tc : Thread nD τ).loc main_v65)
          = (fun i : S16x256x128.Idx => ((ckvn (W c) (X c (i 0).val) (i 1).val (i 2).val : ℝ) : EReal))
      ∧ r.2.mem ((c.tc : Thread nD τ).loc main_v184)
          = (fun i : S16x32x256.Idx => ((proj (W c) (X c (i 0).val) (i 2).val (1408 + (i 1).val) : ℝ) : EReal))
      ∧ Kept m c r.2 :=
  (θ_run defs _ _).mono (fun _ k c => ⟨
    (k c).1.trans ((Read.val_main_v183_eq _).trans (funext (output_cube (h c)))),
    (k c).2.1.trans ((Read.val_main_v65_eq _).trans (funext (latent_cube (h c)))),
    (k c).2.2.1.trans ((Read.val_main_v184_eq _).trans (funext (shared_cube (h c)))),
    (k c).2.2.2⟩) (Value.run m ρ)

/-- The frame: the arguments unchanged, every counter at zero. -/
theorem frame : θ_run defs (onTc (τ := τ) (main (F := Ideal))) ⟨m, fun _ => 0, ρ⟩ fun r =>
    (∀ c : Dev nD, Kept m c r.2) ∧ r.2.sem = fun _ => 0 :=
  (θ_run defs _ _).mono (fun r k => ⟨fun c => (k c).2.2.2, sem_eq_zero_of_no_sems (by decide) r.2⟩) (Value.run m ρ)

end Cert.ReferenceIdeal.Layer
-- ==== Proof.Finite.lean ====
/- What the precondition gives: arguments whose elements are all finite hold the tokens and the parameters of some layer
   of real numbers. -/
module

public import proofs.«01_k».proof.Proof.Inputs
public import proofs.«01_k».proof.Pre_finite
public import Idealize.ShloMosaic.Lib.ReduceAll

@[expose] public section

noncomputable section

namespace Cert.Layer

open Idealize.ShloMosaic hiding ix0 ix1 ix2 ix3 ix4 eq_ix1 eq_ix2 eq_ix3
open Idealize.ShloMosaic.ValueIdx

/-- Every element is a real number. -/
def AllReal {s : Shape} (v : s.Idx → EReal) : Prop := ∀ i, ∃ r : ℝ, v i = (r : EReal)

/-- An extended real whose absolute value is below infinity is a real number. -/
theorem real_of_abs_lt {x : EReal} (h : max x (-x) < ⊤) : ∃ r : ℝ, x = (r : EReal) := by
  have ht : x ≠ ⊤ := fun e => by simp [e] at h
  have hb : x ≠ ⊥ := fun e => by simp [e] at h
  exact ⟨x.toReal, (EReal.coe_toReal ht hb).symm⟩

theorem ofBits_inf : Ideal.ofBits .f32 0x7F800000#32 = ⊤ := by simp [Ideal.ofBits, Ideal.ieee]

/-- An array all of whose absolute values compare below infinity holds real numbers. -/
theorem allReal_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (j : (⟨0, ![]⟩ : Shape).Idx)
    (e : Host.reduce IntOp.andi (cmpf .olt (Host.absf x) (broadcastInDim s ![] hb (constant ⟨0, ![]⟩ .f32 0x7F800000#32)))
      (constantI ⟨0, ![]⟩ 1 1#1) hr hu j = 1#1) : AllReal (s := s) x := fun i => by
  have : Subsingleton (⟨0, ![]⟩ : Shape).Idx := ⟨fun a b => funext fun k => k.elim0⟩
  have k : BitVec.ofBool (decide (max (x i) (-(x i)) < Ideal.ofBits .f32 0x7F800000#32)) = 1#1 :=
    Host.reduce_andi_all _ _ _ _ j e i
  refine real_of_abs_lt ?_
  rw [ofBits_inf] at k
  by_contra hn
  rw [decide_eq_false hn] at k
  exact absurd k (by decide)

theorem Mat.exists {a b : ℕ} {v : (⟨2, ![a, b]⟩ : Shape).Idx → EReal} (h : AllReal v) : ∃ f : ℕ → ℕ → ℝ, Mat v f := by
  choose r hr using h
  refine ⟨fun p q => if hi : p < a ∧ q < b then r (ix2 ⟨p, hi.1⟩ ⟨q, hi.2⟩) else 0, fun i => ?_⟩
  have hi : (i 0).val < a ∧ (i 1).val < b := ⟨(i 0).isLt, (i 1).isLt⟩
  rw [hr i]; beta_reduce; rw [dif_pos hi]
  exact congrArg (fun z => ((r z : ℝ) : EReal)) (eq_ix2 i)

theorem Row.exists {a : ℕ} {v : (⟨1, ![a]⟩ : Shape).Idx → EReal} (h : AllReal v) : ∃ f : ℕ → ℝ, Row v f := by
  choose r hr using h
  refine ⟨fun p => if hi : p < a then r (ix1 ⟨p, hi⟩) else 0, fun i => ?_⟩
  have hi : (i 0).val < a := (i 0).isLt
  rw [hr i]; beta_reduce; rw [dif_pos hi]
  exact congrArg (fun z => ((r z : ℝ) : EReal)) (eq_ix1 i)

theorem Cube.exists {a b c : ℕ} {v : (⟨3, ![a, b, c]⟩ : Shape).Idx → EReal} (h : AllReal v) :
    ∃ f : ℕ → ℕ → ℕ → ℝ, Cube v f := by
  choose r hr using h
  refine ⟨fun p q s => if hi : p < a ∧ q < b ∧ s < c then r (ix3 ⟨p, hi.1⟩ ⟨q, hi.2.1⟩ ⟨s, hi.2.2⟩) else 0, fun i => ?_⟩
  have hi : (i 0).val < a ∧ (i 1).val < b ∧ (i 2).val < c := ⟨(i 0).isLt, (i 1).isLt, (i 2).isLt⟩
  rw [hr i]; beta_reduce; rw [dif_pos hi]
  exact congrArg (fun z => ((r z : ℝ) : EReal)) (eq_ix3 i)

/-- An array of one leading index, read as a matrix. -/
theorem Cube.existsOne {b c : ℕ} {v : (⟨3, ![1, b, c]⟩ : Shape).Idx → EReal} (h : AllReal v) :
    ∃ f : ℕ → ℕ → ℝ, Cube v fun _ => f := by
  obtain ⟨f, hf⟩ := Cube.exists h
  refine ⟨f 0, fun i => (hf i).trans ?_⟩
  have : (i 0).val < 1 := (i 0).isLt
  rw [show (i 0).val = 0 by omega]

/-- A one-row matrix, read as a row. -/
theorem Mat.existsOne {b : ℕ} {v : (⟨2, ![1, b]⟩ : Shape).Idx → EReal} (h : AllReal v) :
    ∃ f : ℕ → ℝ, Mat v fun _ => f := by
  obtain ⟨f, hf⟩ := Mat.exists h
  refine ⟨f 0, fun i => (hf i).trans ?_⟩
  have : (i 0).val < 1 := (i 0).isLt
  rw [show (i 0).val = 0 by omega]

section
variable {a0 : (⟨3, ![16, 256, 1024]⟩ : Shape).Idx → EReal}
  {a1 : (⟨3, ![8, 1, 3072]⟩ : Shape).Idx → EReal} {a2 : (⟨2, ![1024, 4096]⟩ : Shape).Idx → EReal}
  {a3 : (⟨3, ![1, 256, 768]⟩ : Shape).Idx → EReal} {a4 : (⟨2, ![1, 256]⟩ : Shape).Idx → EReal}
  {a5 : (⟨2, ![1, 128]⟩ : Shape).Idx → EReal} {a6 : (⟨3, ![1, 128, 1024]⟩ : Shape).Idx → EReal}
  {a7 : (⟨3, ![1, 512, 1024]⟩ : Shape).Idx → EReal} {a8 : (⟨3, ![1, 512, 1024]⟩ : Shape).Idx → EReal}
  {a9 : (⟨3, ![1, 1024, 1024]⟩ : Shape).Idx → EReal} {a10 : (⟨1, ![1024]⟩ : Shape).Idx → EReal}

/-- Arguments of real numbers hold the tokens and the parameters of a layer. -/
theorem Inputs.exists (h0 : AllReal a0) (h1 : AllReal a1) (h2 : AllReal a2) (h3 : AllReal a3) (h4 : AllReal a4)
    (h5 : AllReal a5) (h6 : AllReal a6) (h7 : AllReal a7) (h8 : AllReal a8) (h9 : AllReal a9) (h10 : AllReal a10) :
    ∃ (W : Params) (X : ℕ → ℕ → ℕ → ℝ), Inputs W X a0 a1 a2 a3 a4 a5 a6 a7 a8 a9 a10 := by
  obtain ⟨X, hX⟩ := Cube.exists h0
  obtain ⟨M, hM⟩ := Cube.exists h1
  obtain ⟨A, hA⟩ := Mat.exists h2
  obtain ⟨UQ, hUQ⟩ := Cube.existsOne h3
  obtain ⟨qg, hqg⟩ := Mat.existsOne h4
  obtain ⟨kg, hkg⟩ := Mat.existsOne h5
  obtain ⟨UKV, hUKV⟩ := Cube.existsOne h6
  obtain ⟨WF, hWF⟩ := Cube.existsOne h7
  obtain ⟨WA, hWA⟩ := Cube.existsOne h8
  obtain ⟨WO, hWO⟩ := Cube.existsOne h9
  obtain ⟨fg, hfg⟩ := Row.exists h10
  refine ⟨⟨fun d => M 4 0 d, fun d => M 4 0 (1024 + d), fun d => M 4 0 (2048 + d), A, UQ, UKV, WF, WA, WO, qg, kg, fg⟩, X,
    ⟨hX, fun i hi => (hM i).trans ?_, hA, hUQ, hqg, hkg, hUKV, hWF, hWA, hWO, hfg⟩⟩
  have : (i 1).val < 1 := (i 1).isLt
  rw [hi, show (i 1).val = 0 by omega]
  refine congrArg _ ?_
  unfold modRow
  split_ifs
  · rfl
  · exact congrArg (M 4 0) (by omega)
  · exact congrArg (M 4 0) (by omega)

/-- The precondition makes every argument one of real numbers, so that they hold the tokens and parameters of a layer. -/
theorem Inputs.ofFinite [Cert.Pre_finite.Facts]
    (e : Cert.Pre_finite.fn (F := Ideal) a0 a1 a2 a3 a4 a5 a6 a7 a8 a9 a10 = fun _ => 1#1) :
    ∃ (W : Params) (X : ℕ → ℕ → ℕ → ℝ), Inputs W X a0 a1 a2 a3 a4 a5 a6 a7 a8 a9 a10 := by
  have e := congrFun e ix0
  dsimp only [Cert.Pre_finite.fn, Cert.Pre_finite.fn_part1, Cert.Pre_finite.fn_part2, Cert.Pre_finite.fn_part3, andi] at e
  obtain ⟨e, k10⟩ := IntOp.andi_eq_one.1 e
  obtain ⟨e, k9⟩ := IntOp.andi_eq_one.1 e
  obtain ⟨e, k8⟩ := IntOp.andi_eq_one.1 e
  obtain ⟨e, k7⟩ := IntOp.andi_eq_one.1 e
  obtain ⟨e, k6⟩ := IntOp.andi_eq_one.1 e
  obtain ⟨e, k5⟩ := IntOp.andi_eq_one.1 e
  obtain ⟨e, k4⟩ := IntOp.andi_eq_one.1 e
  obtain ⟨e, k3⟩ := IntOp.andi_eq_one.1 e
  obtain ⟨e, k2⟩ := IntOp.andi_eq_one.1 e
  obtain ⟨k0, k1⟩ := IntOp.andi_eq_one.1 e
  exact Inputs.exists (allReal_of_all _ _ _ _ _ k0) (allReal_of_all _ _ _ _ _ k1) (allReal_of_all _ _ _ _ _ k2)
    (allReal_of_all _ _ _ _ _ k3) (allReal_of_all _ _ _ _ _ k4) (allReal_of_all _ _ _ _ _ k5) (allReal_of_all _ _ _ _ _ k6)
    (allReal_of_all _ _ _ _ _ k7) (allReal_of_all _ _ _ _ _ k8) (allReal_of_all _ _ _ _ _ k9) (allReal_of_all _ _ _ _ _ k10)

end

end Cert.Layer
-- ==== Proof.TokSpec.lean ====
/- The token call's results as real functions: the rotation of the positional columns by the angles of a position on the
   64 by 64 grid, the scaled and padded queries, the latent with the rotated shared columns, and the equations by which
   the kernel gets them from its tables and its prepared weights. -/
module

public import proofs.«01_k».proof.Proof.Tables

@[expose] public section

noncomputable section

namespace Cert.Layer

open Finset (range)

/-- The quarter turn of 32 columns, in two halves of 16: in each half the last eight columns negated, then the first
    eight. -/
def rot (f : ℕ → ℝ) (r : ℕ) : ℝ := if r % 16 < 8 then -f (r + 8) else f (r - 8)

/-- The frequency of a pair of columns. -/
def freq (k : ℕ) : ℝ := (10000 : ℝ) ^ (-(2 * (k : ℝ)) / 16)

/-- The angle of column `r` at position `p`: the position's row for the first 16 columns, its column for the others. -/
def ropeAngle (p r : ℕ) : ℝ := ((if r < 16 then p / 64 else p % 64 : ℕ) : ℝ) * freq (r % 8)

/-- Columns rotated by the angles of position `p`. -/
def rope (p : ℕ) (f : ℕ → ℝ) (r : ℕ) : ℝ := f r * Real.cos (ropeAngle p r) + rot f r * Real.sin (ropeAngle p r)

/-- The queries' scale. -/
def qscale : ℝ := (Real.sqrt 96)⁻¹ * (Real.log 2)⁻¹

variable (W : Params) (x : ℕ → ℕ → ℝ)

/-- The queries of row `i` at position `p`: in each head's 128 columns the 64 plain ones, the 32 rotated ones, zeros. -/
def qslot (p i c : ℕ) : ℝ :=
  if c % 128 < 64 then qv W x i (c / 128 * 96 + c % 128) * qscale
  else if c % 128 < 96 then rope p (fun r => qv W x i (c / 128 * 96 + (64 + r))) (c % 128 - 64) * qscale
  else 0

/-- The latent of row `i` at position `p`: the normalised latent, the rotated shared columns, a one, zeros. -/
def latTok (p i r : ℕ) : ℝ :=
  if r < 128 then ckvn W x i r
  else if r < 160 then rope p (fun k => proj W x i (1408 + k)) (r - 128)
  else if r = 160 then 1 else 0

/-- The squared length of a row's queries. -/
def qsq (p i : ℕ) : ℝ := ∑ c ∈ range 1024, qslot W x p i c * qslot W x p i c

/-- A gated column. -/
def silu (i c : ℕ) : ℝ := proj W x i c * logistic (proj W x i c)

/-! ### Tables and prepared weights -/

/-- The cosines over a head's 128 columns, scaled. -/
def cosq (p c : ℕ) : ℝ := if c < 64 then qscale else if c < 96 then qscale * Real.cos (ropeAngle p (c - 64)) else 0

/-- The sines over a head's 128 columns, scaled. -/
def sinq (p c : ℕ) : ℝ := if c < 64 then 0 else if c < 96 then qscale * Real.sin (ropeAngle p (c - 64)) else 0

/-- The cosines over the shared columns. -/
def cosk (p c : ℕ) : ℝ := if c < 32 then Real.cos (ropeAngle p c) else 0

/-- The sines over the shared columns. -/
def sink (p c : ℕ) : ℝ := if c < 32 then Real.sin (ropeAngle p c) else 0

/-- The query weights' positional columns, turned. -/
def wqrot (r c : ℕ) : ℝ :=
  if 64 ≤ c % 128 ∧ c % 128 < 96 then rot (fun k => W.UQ r (c / 128 * 96 + (64 + k))) (c % 128 - 64) else 0

theorem rot_congr {f g : ℕ → ℝ} {r : ℕ} (hr : r < 32) (h : ∀ k, k < 32 → f k = g k) : rot f r = rot g r := by
  unfold rot
  split
  · next h' => rw [h (r + 8) (by omega)]
  · next h' => rw [h (r - 8) (by omega)]

/-- A sum of turned columns is the turned sum. -/
theorem rot_sum (n : ℕ) (a : ℕ → ℝ) (g : ℕ → ℕ → ℝ) (r : ℕ) :
    ∑ d ∈ range n, a d * rot (g d) r = rot (fun k => ∑ d ∈ range n, a d * g d k) r := by
  unfold rot
  split
  · simp only [mul_neg, Finset.sum_neg_distrib]
  · rfl

/-- The queries from the two products and the two tables. -/
theorem qslot_tables (p i c : ℕ) :
    (∑ r ∈ range 256, (rms 256 (fun r => proj W x i (1024 + r)) r * W.qg r) * wq W r c) * cosq p (c % 128)
      + (∑ r ∈ range 256, (rms 256 (fun r => proj W x i (1024 + r)) r * W.qg r) * wqrot W r c) * sinq p (c % 128)
      = qslot W x p i c := by
  unfold qslot cosq sinq
  by_cases h1 : c % 128 < 64
  · rw [if_pos h1, if_pos h1, if_pos h1, mul_zero, add_zero]
    simp only [wq, if_pos (show c % 128 < 96 by omega)]
    rfl
  · rw [if_neg h1, if_neg h1, if_neg h1]
    by_cases h2 : c % 128 < 96
    · rw [if_pos h2, if_pos h2, if_pos h2]
      simp only [wq, wqrot, if_pos h2, if_pos (show 64 ≤ c % 128 ∧ c % 128 < 96 by omega)]
      rw [rot_sum]
      have e : c / 128 * 96 + c % 128 = c / 128 * 96 + (64 + (c % 128 - 64)) := by omega
      rw [e]
      unfold rope qv
      ring
    · rw [if_neg h2, if_neg h2, if_neg h2, mul_zero, mul_zero, add_zero]

/-- The projection's turned columns, when its weights carry them. -/
theorem proj_rot (hA : ∀ d j, d < 1024 → j < 32 → W.A d (1472 + j) = rot (fun r => W.A d (1408 + r)) j) (i j : ℕ) (hj : j < 32) :
    proj W x i (1472 + j) = rot (fun r => proj W x i (1408 + r)) j := by
  unfold proj
  rw [← rot_sum]
  exact Finset.sum_congr rfl fun d hd => by rw [hA d j (Finset.mem_range.1 hd) hj]

/-- The shared columns from the tables. -/
theorem lat_tables (hA : ∀ d j, d < 1024 → j < 32 → W.A d (1472 + j) = rot (fun r => W.A d (1408 + r)) j) (p i j : ℕ) :
    proj W x i (1408 + j) * cosk p j + proj W x i (1408 + (j + 64) % 128) * sink p j
      = if j < 32 then rope p (fun k => proj W x i (1408 + k)) j else 0 := by
  unfold cosk sink
  by_cases h : j < 32
  · rw [if_pos h, if_pos h, if_pos h, rope, ← proj_rot W x hA i j h, Nat.mod_eq_of_lt (by omega),
      show 1408 + (j + 64) = 1472 + j by omega]
  · rw [if_neg h, if_neg h, if_neg h, mul_zero, mul_zero, add_zero]

/-- A sum over the eight heads' columns, added head by head. -/
theorem sum_heads (f : ℕ → ℝ) :
    ∑ k ∈ range 128, (f (0 + k) + f (128 + k) + f (256 + k) + f (384 + k) + f (512 + k) + f (640 + k) + f (768 + k) + f (896 + k))
      = ∑ c ∈ range 1024, f c := by
  have e : ∀ n m : ℕ, ∑ c ∈ range (n + m), f c = ∑ c ∈ range n, f c + ∑ k ∈ range m, f (n + k) := fun n m => Finset.sum_range_add f n m
  rw [show (1024 : ℕ) = 896 + 128 from rfl, e, show (896 : ℕ) = 768 + 128 from rfl, e, show (768 : ℕ) = 640 + 128 from rfl, e,
    show (640 : ℕ) = 512 + 128 from rfl, e, show (512 : ℕ) = 384 + 128 from rfl, e, show (384 : ℕ) = 256 + 128 from rfl, e,
    show (256 : ℕ) = 128 + 128 from rfl, e]
  simp only [Finset.sum_add_distrib, Nat.zero_add]

end Cert.Layer
-- ==== Proof.TokBlock.lean ====
/- What one grid step of the token call computes: the body's values, from the blocks it loads to its eight stores, as the
   layer's own functions of the block's 512 rows. -/
module

public import proofs.«01_k».proof.Proof.Step
public import Idealize.ShloMosaic.Lib.KernelVsHost
public import proofs.«01_k».proof.Proof.TokSpec
public import proofs.«01_k».proof.Proof.Gen.TokenIdeal.Frame

@[expose] public section

noncomputable section

namespace Cert.TokenIdeal.Block

open Cert.TokenIdeal Cert.TokenIdeal.Gen Cert.Layer
open Cert.KernelIdeal.Block (proj_mat group_mat mask_eq mo)
open Idealize.ShloMosaic hiding ix1 ix2 ix3 eq_ix1 eq_ix2 eq_ix3
open Idealize.ShloMosaic.ValueIdx
open Finset (range)

variable {W : Params} {x : ℕ → ℕ → ℝ}

/-! ### The hidden rows and the projected columns -/

theorem hidden_mat {v8 : Vec Ideal S512x1024 .f32} {v10 : Vec Ideal S1x1x3072 .f32} (h0 : Mat v8 x)
    (h1 : Cube v10 fun _ _ c => mo W c) : Mat (k0_pay7 v8 v10) (hid W x) := by
  have hm : Mat (shapeCast S1x3072 v10 shapeCasts_S1x1x3072_S1x3072 : FVec Ideal S1x3072 .f32) fun _ c => mo W c := Cube.join h1 rfl _
  have hx : Mat (shapeCast S512x1024 v8 shapeCasts_S512x1024_S512x1024 : FVec Ideal S512x1024 .f32) x := Mat.cast h0 _
  have hr := rmsn_mat hx ofBits_1024 (by norm_num) ofBits_eps 0x00000000#32 reduces_S512x1024_S512 (.inl rfl) rfl
    shapeCasts_S512_S512x1 broadcasts_S512x1_S512x1024
  refine Mat.truncf (Mat.congr (Mat.addf (Mat.mulf hr (Mat.bcastRow (Mat.addf (Mat.const ofBits_one)
    (Mat.slice 0 1024 hm slices_S1x3072_o0_1024_S1x1024)) broadcasts_S1x1024_S512x1024))
    (Mat.bcastRow (Mat.slice 0 0 hm slices_S1x3072_o0_0_S1x1024) broadcasts_S1x1024_S512x1024)) fun i j _ hj => ?_) _
  rw [hid, mo, mo, if_neg (by omega), if_pos (by omega), if_pos (by omega), Nat.add_sub_cancel_left, Nat.zero_add]

theorem cols_mat {v8 : Vec Ideal S512x1024 .f32} {v10 : Vec Ideal S1x1x3072 .f32} (h0 : Mat v8 x)
    (h1 : Cube v10 fun _ _ c => mo W c) {w : Vec Ideal S1024x512 .bf16} (hw : Mat w fun d c => W.A d (1024 + c)) :
    Mat (k0_pay8 v8 v10 w) fun i c => proj W x i (1024 + c) := proj_mat (hidden_mat h0 h1) 1024 hw rfl

theorem first_mat {v8 : Vec Ideal S512x1024 .f32} {v10 : Vec Ideal S1x1x3072 .f32} (h0 : Mat v8 x)
    (h1 : Cube v10 fun _ _ c => mo W c) {w : Vec Ideal S1024x512 .bf16} (hw : Mat w fun d c => W.A d (0 + c)) :
    Mat (k0_pay9 v8 v10 w) (proj W x) :=
  (Mat.truncf (proj_mat (hidden_mat h0 h1) 0 hw rfl) _).congr fun i c _ _ => by rw [Nat.zero_add]

section Gated

variable {v : FVec Ideal S512x1024 .bf16} (hv : Mat v (hid W x))

include hv

theorem gf_mat {w : Vec Ideal S1024x1024 .bf16} (hw : Mat w fun d c => W.A d (2048 + c)) :
    Mat (k0_pay10 v w) fun i c => logistic (proj W x i (2048 + c)) :=
  sigm_mat (proj_mat hv 2048 hw rfl) ofBits_half ofBits_half ofBits_half

theorem ga_mat {w : Vec Ideal S1024x1024 .bf16} (hw : Mat w fun d c => W.A d (3072 + c)) :
    Mat (k0_pay11 v w) fun i c => logistic (proj W x i (3072 + c)) :=
  sigm_mat (proj_mat hv 3072 hw rfl) ofBits_half ofBits_half ofBits_half

theorem zf_mat {w : Vec Ideal S1024x512 .bf16} (hw : Mat w fun d c => W.A d (512 + c)) :
    Mat (k0_pay12 v w) fun i c => silu W x i (512 + c) :=
  Mat.mulf (proj_mat hv 512 hw rfl) (sigm_mat (proj_mat hv 512 hw rfl) ofBits_half ofBits_half ofBits_half)

theorem za_mat {w : Vec Ideal S1024x512 .bf16} (hw : Mat w fun d c => W.A d (1536 + c)) :
    Mat (k0_pay1 v w (constant S512x512 .f32 0x00000000#32)) fun i c => silu W x i (1536 + c) :=
  Mat.mulf (proj_mat hv 1536 hw rfl) (sigm_mat (proj_mat hv 1536 hw rfl) ofBits_half ofBits_half ofBits_half)

end Gated

/-! ### The channel transform -/

/-- One group's cosine or sine columns out of a pair's product. -/
abbrev piece (u : FVec Ideal S512x512 .bf16) (d : FVec Ideal S256x512 .bf16) (o1 o2 o3 : ℕ) (s1 : S512x512.Slices ![0, o1] S512x256)
    (s2 : S512x512.Slices ![0, o2] S512x256) (s3 : S512x256.Slices ![0, o3] S512x128) : FVec Ideal S512x128 .f32 :=
  extractStridedSlice S512x128 ![0, o3] (extractStridedSlice S512x256 ![0, o2]
    (matmul dot_S512x256_S256x512_S512x512_1_0_0_1_n_n none (extractStridedSlice S512x256 ![0, o1] u s1)
      (shapeCast S256x512 d shapeCasts_S256x512_S256x512 : FVec Ideal S256x512 .bf16) (constant S512x512 .f32 0x00000000#32) : FVec Ideal S512x512 .f32) s2) s3

theorem four_mat {u : FVec Ideal S512x512 .bf16} (hu : Mat u (proj W x)) {d : Vec Ideal S256x512 .bf16} (hd : Mat d dftc) :
    Mat (k0_pay15 (k0_pay13 u d) (k0_pay14 u) d) (ucus W x) := by
  have m0 : Mat (piece u d 0 0 0 slices_S512x512_o0_0_S512x256 slices_S512x512_o0_0_S512x256 slices_S512x256_o0_0_S512x128) fun i k => ucus W x i (128 * 0 + k) := group_mat hu hd 0 0 0 (by norm_num) (by norm_num) (by norm_num) rfl rfl rfl _ _ _ rfl
  have m1 : Mat (piece u d 0 256 0 slices_S512x512_o0_0_S512x256 slices_S512x512_o0_256_S512x256 slices_S512x256_o0_0_S512x128) fun i k => ucus W x i (128 * 1 + k) := group_mat hu hd 0 1 0 (by norm_num) (by norm_num) (by norm_num) rfl rfl rfl _ _ _ rfl
  have m2 : Mat (piece u d 256 0 0 slices_S512x512_o0_256_S512x256 slices_S512x512_o0_0_S512x256 slices_S512x256_o0_0_S512x128) fun i k => ucus W x i (128 * 2 + k) := group_mat hu hd 1 0 0 (by norm_num) (by norm_num) (by norm_num) rfl rfl rfl _ _ _ rfl
  have m3 : Mat (piece u d 256 256 0 slices_S512x512_o0_256_S512x256 slices_S512x512_o0_256_S512x256 slices_S512x256_o0_0_S512x128) fun i k => ucus W x i (128 * 3 + k) := group_mat hu hd 1 1 0 (by norm_num) (by norm_num) (by norm_num) rfl rfl rfl _ _ _ rfl
  have m4 : Mat (piece u d 0 0 128 slices_S512x512_o0_0_S512x256 slices_S512x512_o0_0_S512x256 slices_S512x256_o0_128_S512x128) fun i k => ucus W x i (128 * 4 + k) := group_mat hu hd 0 0 1 (by norm_num) (by norm_num) (by norm_num) rfl rfl rfl _ _ _ rfl
  have m5 : Mat (piece u d 0 256 128 slices_S512x512_o0_0_S512x256 slices_S512x512_o0_256_S512x256 slices_S512x256_o0_128_S512x128) fun i k => ucus W x i (128 * 5 + k) := group_mat hu hd 0 1 1 (by norm_num) (by norm_num) (by norm_num) rfl rfl rfl _ _ _ rfl
  have m6 : Mat (piece u d 256 0 128 slices_S512x512_o0_256_S512x256 slices_S512x512_o0_0_S512x256 slices_S512x256_o0_128_S512x128) fun i k => ucus W x i (128 * 6 + k) := group_mat hu hd 1 0 1 (by norm_num) (by norm_num) (by norm_num) rfl rfl rfl _ _ _ rfl
  have m7 : Mat (piece u d 256 256 128 slices_S512x512_o0_256_S512x256 slices_S512x512_o0_256_S512x256 slices_S512x256_o0_128_S512x128) fun i k => ucus W x i (128 * 7 + k) := group_mat hu hd 1 1 1 (by norm_num) (by norm_num) (by norm_num) rfl rfl rfl _ _ _ rfl
  refine Mat.truncf (Mat.congr (Mat.besideN (N := 8) (x := ![
      piece u d 0 0 0 slices_S512x512_o0_0_S512x256 slices_S512x512_o0_0_S512x256 slices_S512x256_o0_0_S512x128,
      piece u d 0 256 0 slices_S512x512_o0_0_S512x256 slices_S512x512_o0_256_S512x256 slices_S512x256_o0_0_S512x128,
      piece u d 256 0 0 slices_S512x512_o0_256_S512x256 slices_S512x512_o0_0_S512x256 slices_S512x256_o0_0_S512x128,
      piece u d 256 256 0 slices_S512x512_o0_256_S512x256 slices_S512x512_o0_256_S512x256 slices_S512x256_o0_0_S512x128,
      piece u d 0 0 128 slices_S512x512_o0_0_S512x256 slices_S512x512_o0_0_S512x256 slices_S512x256_o0_128_S512x128,
      piece u d 0 256 128 slices_S512x512_o0_0_S512x256 slices_S512x512_o0_256_S512x256 slices_S512x256_o0_128_S512x128,
      piece u d 256 0 128 slices_S512x512_o0_256_S512x256 slices_S512x512_o0_0_S512x256 slices_S512x256_o0_128_S512x128,
      piece u d 256 256 128 slices_S512x512_o0_256_S512x256 slices_S512x512_o0_256_S512x256 slices_S512x256_o0_128_S512x128])
      (f := fun e i k => ucus W x i (128 * e + k))
    (fun e => match e with
      | ⟨0, _⟩ => m0 | ⟨1, _⟩ => m1 | ⟨2, _⟩ => m2 | ⟨3, _⟩ => m3 | ⟨4, _⟩ => m4 | ⟨5, _⟩ => m5 | ⟨6, _⟩ => m6 | ⟨7, _⟩ => m7)
    rfl concatenates_S512x128_S512x128_S512x128_S512x128_S512x128_S512x128_S512x128_S512x128_S512x1024_d1) fun i j _ _ => ?_) _
  rw [Nat.div_add_mod]

/-! ### The latent and the queries -/

/-- The columns of a row moved on by half their number. -/
theorem half_turn {v : FVec Ideal S512x128 .f32} {f : ℕ → ℕ → ℝ} (hv : Mat v f) :
    Mat (dynamicRotate 1 64#32 none v rotates_S512x128_d1) fun i j => f i ((j + 64) % 128) := fun i => by
  have h1 : (i 1).val < 128 := (i 1).isLt
  rw [dynamicRotate_apply 1 64#32 v rotates_S512x128_d1 i (ix2 (i 0) ⟨((i 1).val + 64) % 128, Nat.mod_lt _ (by norm_num)⟩) (fun b => match b with
    | ⟨0, _⟩ => rfl
    | ⟨1, _⟩ => by
      show ((i 1).val + 64) % 128 = ((i 1).val + 128 - 64) % 128
      congr 1)]
  exact hv _

variable {c : FVec Ideal S512x512 .f32} (hc : Mat c fun i r => proj W x i (1024 + r)) (P : ℕ)

include hc in
theorem latent_mat (hA : ∀ d j, d < 1024 → j < 32 → W.A d (1472 + j) = rot (fun r => W.A d (1408 + r)) j)
    {g : Vec Ideal S1x128 .f32} (hg : Mat g fun _ r => W.kg r) {tc ts : FVec Ideal S512x128 .f32}
    (htc : Mat tc fun i j => cosk (P + i) j) (hts : Mat ts fun i j => sink (P + i) j) :
    Mat (k0_pay16 tc ts c g) fun i r => latTok W x (P + i) i r := by
  have hv : Mat (extractStridedSlice S512x128 ![0, 256] c slices_S512x512_o0_256_S512x128) fun i r => proj W x i (1280 + r) :=
    (Mat.slice 0 256 hc _).congr fun i j _ _ => by rw [Nat.zero_add, ← Nat.add_assoc]
  have hn := Mat.mulf (rmsn_mat hv ofBits_128 (by norm_num) ofBits_eps 0x00000000#32 reduces_S512x128_S512 (.inl rfl) rfl
    shapeCasts_S512_S512x1 broadcasts_S512x1_S512x128) (Mat.bcastRow (Mat.cast hg shapeCasts_S1x128_S1x128) broadcasts_S1x128_S512x128)
  have hs : Mat (extractStridedSlice S512x128 ![0, 384] c slices_S512x512_o0_384_S512x128) fun i r => proj W x i (1408 + r) :=
    (Mat.slice 0 384 hc _).congr fun i j _ _ => by rw [Nat.zero_add, ← Nat.add_assoc]
  have ho := sel_mat (a := 512) (b := 128) (fun _ j => j = 32) mask_eq (Mat.const ofBits_one) (Mat.const ofBits_zero)
  refine Mat.truncf (Mat.congr (Mat.beside hn (Mat.addf (Mat.addf (Mat.mulf hs htc) (Mat.mulf (half_turn hs) hts)) ho) rfl
    concatenates_S512x128_S512x128_S512x256_d1) fun i r _ _ => ?_) _
  unfold latTok
  by_cases h1 : r < 128
  · rw [if_pos h1, if_pos h1]; rfl
  · rw [if_neg h1, if_neg h1, lat_tables W x hA]
    by_cases h2 : r < 160
    · rw [if_pos (by omega), if_pos h2, if_neg (by omega), add_zero]
    · rw [if_neg (by omega), if_neg h2, zero_add]
      by_cases h3 : r = 160
      · rw [if_pos (by omega), if_pos h3]
      · rw [if_neg (by omega), if_neg h3]

/-- The squared lengths, a column. -/
theorem lengths_mat {v : FVec Ideal S512x1024 .f32} {f : ℕ → ℕ → ℝ} (hv : Mat v f) {s : FVec Ideal S512x128 .f32}
    (hs : s = addf (addf (addf (addf (addf (addf (addf (extractStridedSlice S512x128 ![0, 0] v slices_S512x1024_o0_0_S512x128)
      (extractStridedSlice S512x128 ![0, 128] v slices_S512x1024_o0_128_S512x128)) (extractStridedSlice S512x128 ![0, 256] v slices_S512x1024_o0_256_S512x128))
      (extractStridedSlice S512x128 ![0, 384] v slices_S512x1024_o0_384_S512x128)) (extractStridedSlice S512x128 ![0, 512] v slices_S512x1024_o0_512_S512x128))
      (extractStridedSlice S512x128 ![0, 640] v slices_S512x1024_o0_640_S512x128)) (extractStridedSlice S512x128 ![0, 768] v slices_S512x1024_o0_768_S512x128))
      (extractStridedSlice S512x128 ![0, 896] v slices_S512x1024_o0_896_S512x128)) :
    Mat (shapeCast S512x1 (multiReduction .add [1] S512 s 0x00000000#32 reduces_S512x128_S512 (.inl rfl) rfl) shapeCasts_S512_S512x1)
      fun i _ => ∑ k ∈ range 1024, f i k := by
  subst hs
  refine (Row.col (Mat.sumRows (Mat.addf (Mat.addf (Mat.addf (Mat.addf (Mat.addf (Mat.addf (Mat.addf (Mat.slice 0 0 hv _)
    (Mat.slice 0 128 hv _)) (Mat.slice 0 256 hv _)) (Mat.slice 0 384 hv _)) (Mat.slice 0 512 hv _)) (Mat.slice 0 640 hv _))
    (Mat.slice 0 768 hv _)) (Mat.slice 0 896 hv _)) _ _ _ _) _).congr fun i _ _ _ => ?_
  rw [← sum_heads]
  simp only [Nat.zero_add]

/-- The largest entry of a column. -/
theorem colMax {v : FVec Ideal S512x1 .f32} {f : ℕ → ℝ} (hv : Mat v fun i _ => f i) (hφ : FKind.Formats .f32)
    (hacc : 0xFF800000#32 = FKind.maximumf.neutral .f32 hφ) (i : S1.Idx) :
    multiReduction .maximumf [0] S1 v 0xFF800000#32 reduces_S512x1_S1 hφ hacc i
      = Finset.univ.fold max ⊥ (fun k : Fin 512 => ((f k.val : ℝ) : EReal)) := by
  rw [Ideal.multiReduction_maximumf_single]
  have e : FloatOps.ofBits (F := Ideal) .f32 0xFF800000#32 = (⊥ : EReal) := ofBits_neg_inf
  rw [e]
  exact congrArg (fun g : Fin 512 → EReal => Finset.univ.fold max ⊥ g) (funext fun k => hv (reduces_S512x1_S1.lift i k))

section Queries

variable {tc ts : FVec Ideal S512x128 .f32} (htc : Mat tc fun i j => cosq (P + i) j) (hts : Mat ts fun i j => sinq (P + i) j)
  {g : Vec Ideal S1x256 .f32} (hg : Mat g fun _ r => W.qg r) {w w' : Vec Ideal S256x1024 .bf16} (hw : Mat w (wq W)) (hw' : Mat w' (wqrot W))

/-- A table repeated for the eight heads. -/
theorem heads_mat {t : FVec Ideal S512x128 .f32} {f : ℕ → ℕ → ℝ} (ht : Mat t f) :
    Mat (concatenate S512x1024 1 [⟨S512x128, t⟩, ⟨S512x128, t⟩, ⟨S512x128, t⟩, ⟨S512x128, t⟩, ⟨S512x128, t⟩, ⟨S512x128, t⟩, ⟨S512x128, t⟩,
      ⟨S512x128, t⟩] concatenates_S512x128_S512x128_S512x128_S512x128_S512x128_S512x128_S512x128_S512x128_S512x1024_d1) fun i j => f i (j % 128) :=
  Mat.besideN (N := 8) (x := fun _ => t) (f := fun _ => f) (fun _ => ht) rfl
    concatenates_S512x128_S512x128_S512x128_S512x128_S512x128_S512x128_S512x128_S512x128_S512x1024_d1

include hc htc hts hg hw hw'

theorem query_mat : Mat (k0_pay19 tc ts (k0_pay17 c) (k0_pay18 c) g w w') fun i j => qslot W x (P + i) i j := by
  have hv : Mat (extractStridedSlice S512x256 ![0, 0] c slices_S512x512_o0_0_S512x256) fun i r => proj W x i (1024 + r) :=
    (Mat.slice 0 0 hc _).congr fun i j _ _ => by rw [Nat.zero_add, Nat.zero_add]
  have hq := Mat.mulf (rmsn_mat hv ofBits_256 (by norm_num) ofBits_eps 0x00000000#32 reduces_S512x256_S512 (.inl rfl) rfl
    shapeCasts_S512_S512x1 broadcasts_S512x1_S512x256) (Mat.bcastRow (Mat.cast hg shapeCasts_S1x256_S1x256) broadcasts_S1x256_S512x256)
  have h1 : Mat (shapeCast S256x1024 w shapeCasts_S256x1024_S256x1024 : FVec Ideal S256x1024 .bf16) (wq W) := Mat.cast hw _
  have h2 : Mat (shapeCast S256x1024 w' shapeCasts_S256x1024_S256x1024 : FVec Ideal S256x1024 .bf16) (wqrot W) := Mat.cast hw' _
  have hp := Mat.mm (D := dot_S512x256_S256x1024_S512x1024_1_0_0_1_n_n) rfl (Mat.truncf (φ' := .bf16) hq bitsLt_bf16_f32) h1
  have hp' := Mat.mm (D := dot_S512x256_S256x1024_S512x1024_1_0_0_1_n_n) rfl (Mat.truncf (φ' := .bf16) hq bitsLt_bf16_f32) h2
  exact Mat.congr (Mat.addf (Mat.mulf hp (heads_mat htc)) (Mat.mulf hp' (heads_mat hts))) fun i j _ _ => qslot_tables W x (P + i) i j

theorem stored_mat : Mat (k0_pay21 tc ts (k0_pay17 c) (k0_pay18 c) g w w') fun i j => qslot W x (P + i) i j :=
  Mat.truncf (query_mat hc P htc hts hg hw hw') _

/-- The largest squared length. -/
theorem largest (j : S1x1.Idx) : k0_pay20 tc ts (k0_pay17 c) (k0_pay18 c) g w w' j
    = Finset.univ.fold max ⊥ (fun k : Fin 512 => ((qsq W x (P + k.val) k.val : ℝ) : EReal)) := by
  have hq := query_mat hc P htc hts hg hw hw'
  have hl := lengths_mat (Mat.mulf hq hq) rfl
  exact colMax (f := fun i => qsq W x (P + i) i) hl (.inl rfl) rfl _

end Queries

/-- The stored maximum, the same at every place. -/
theorem spread {v : FVec Ideal S1x1 .f32} {M : EReal} (h : ∀ j, v j = M) (i : S1x8x128.Idx) : k0_pay2 v i = M := h _

end Cert.TokenIdeal.Block
-- ==== Proof.TokStep.lean ====
/- What the token call's eight staging buffers hold after the body, from what its twelve input blocks hold. -/
module

public import proofs.«01_k».proof.Proof.TokBlock

@[expose] public section

noncomputable section

namespace Cert.TokenIdeal.Block

open Cert.TokenIdeal Cert.TokenIdeal.Gen Cert.Layer
open Cert.KernelIdeal.Block (mo ld_mat off2 off3)
open Idealize.ShloMosaic hiding ix1 ix2 ix3 eq_ix1 eq_ix2 eq_ix3
open Idealize.ShloMosaic.ValueIdx
open Finset (range)

/-- The input blocks hold 512 rows `x` of a batch element, from position `P` on, and its parameters and tables. -/
structure Holds (W : Params) (x : ℕ → ℕ → ℝ) (P : ℕ) (x0 : Vec Ideal S512x1024 .f32) (x1 : Vec Ideal S1x1x3072 .f32) (x2 : Vec Ideal S1024x4096 .bf16)
    (x3 : Vec Ideal S1x256 .f32) (x4 : Vec Ideal S1x128 .f32) (x5 : Vec Ideal S256x512 .bf16) (x6 x7 : Vec Ideal S256x1024 .bf16)
    (x8 x9 x10 x11 : Vec Ideal S512x128 .f32) : Prop where
  rows : Mat x0 x
  mods : Cube x1 fun _ _ c => mo W c
  wA : Mat x2 W.A
  gq : Mat x3 fun _ r => W.qg r
  gk : Mat x4 fun _ r => W.kg r
  tc : Mat x5 dftc
  tq : Mat x6 (wq W)
  tr : Mat x7 (wqrot W)
  cq : Mat x8 fun i j => cosq (P + i) j
  sq : Mat x9 fun i j => sinq (P + i) j
  ck : Mat x10 fun i j => cosk (P + i) j
  sk : Mat x11 fun i j => sink (P + i) j
  turned : ∀ d j, d < 1024 → j < 32 → W.A d (1472 + j) = rot (fun r => W.A d (1408 + r)) j

variable {W : Params} {x : ℕ → ℕ → ℝ} {P : ℕ} {x0 : Vec Ideal S512x1024 .f32} {x1 : Vec Ideal S1x1x3072 .f32} {x2 : Vec Ideal S1024x4096 .bf16}
    {x3 : Vec Ideal S1x256 .f32} {x4 : Vec Ideal S1x128 .f32} {x5 : Vec Ideal S256x512 .bf16} {x6 x7 : Vec Ideal S256x1024 .bf16}
    {x8 x9 x10 x11 : Vec Ideal S512x128 .f32}
  (H : Holds W x P x0 x1 x2 x3 x4 x5 x6 x7 x8 x9 x10 x11)

include H

theorem rows_ld : Mat (View.ld x0 r0_1) x := by rw [View.ld_unit_zero off2]; exact H.rows

theorem mods_ld : Cube (View.ld x1 r0_2) fun _ _ c => mo W c := by rw [View.ld_unit_zero off3]; exact H.mods

/-- A load of some of the input projection's columns. -/
theorem wA_ld {q : ℕ} (o : ℕ) (inb : ∀ d, (![0, o] : Fin 2 → ℕ) d + (⟨2, ![1024, q]⟩ : Shape).size d ≤ (⟨2, ![1024, 4096]⟩ : Shape).size d) :
    Mat (View.ld x2 (Rect.unit (s := ⟨2, ![1024, 4096]⟩) ![0, o] (⟨2, ![1024, q]⟩ : Shape).size inb)) fun d c => W.A d (o + c) :=
  (ld_mat H.wA 0 o inb).congr fun i j _ _ => by rw [Nat.zero_add]

theorem gq_ld : Mat (View.ld x3 r0_10) fun _ r => W.qg r := by rw [View.ld_unit_zero off2]; exact H.gq

theorem gk_ld : Mat (View.ld x4 r0_9) fun _ r => W.kg r := by rw [View.ld_unit_zero off2]; exact H.gk

theorem tc_ld : Mat (View.ld x5 r0_8) dftc := by rw [View.ld_unit_zero off2]; exact H.tc

theorem tq_ld : Mat (View.ld x6 r0_11) (wq W) := by rw [View.ld_unit_zero off2]; exact H.tq

theorem tr_ld : Mat (View.ld x7 r0_11) (wqrot W) := by rw [View.ld_unit_zero off2]; exact H.tr

theorem cq_ld : Mat (k0_pay3 (View.ld x8 r0_0)) fun i j => cosq (P + i) j := by rw [View.ld_unit_zero off2]; exact Mat.cast H.cq _

theorem sq_ld : Mat (k0_pay4 (View.ld x9 r0_0)) fun i j => sinq (P + i) j := by rw [View.ld_unit_zero off2]; exact Mat.cast H.sq _

theorem ck_ld : Mat (k0_pay5 (View.ld x10 r0_0)) fun i j => cosk (P + i) j := by rw [View.ld_unit_zero off2]; exact Mat.cast H.ck _

theorem sk_ld : Mat (k0_pay6 (View.ld x11 r0_0)) fun i j => sink (P + i) j := by rw [View.ld_unit_zero off2]; exact Mat.cast H.sk _

/-- The hidden rows. -/
theorem pay24_mat : Mat (k0_pay24 x0 x1 x2 x3 x4 x5 x6 x7 x8 x9 x10 x11) (hid W x) := hidden_mat (rows_ld H) (mods_ld H)

/-- The latents' columns. -/
theorem pay25_mat : Mat (k0_pay25 x0 x1 x2 x3 x4 x5 x6 x7 x8 x9 x10 x11) fun i c => proj W x i (1024 + c) :=
  cols_mat (rows_ld H) (mods_ld H) (wA_ld H 1024 inb_S1024x4096_S1024x512_0_1024)

/-- The Fourier branch's columns. -/
theorem pay26_mat : Mat (k0_pay26 x0 x1 x2 x3 x4 x5 x6 x7 x8 x9 x10 x11) (proj W x) :=
  first_mat (rows_ld H) (mods_ld H) (wA_ld H 0 inb_S1024x4096_S1024x512_0_0)

theorem four_block : Mat (out0_12 x0 x1 x2 x3 x4 x5 x6 x7 x8 x9 x10 x11) (ucus W x) := by
  rw [out0_12, View.canon_unit_zero off2]
  exact four_mat (pay26_mat H) (tc_ld H)

theorem zf_block : Mat (out0_13 x0 x1 x2 x3 x4 x5 x6 x7 x8 x9 x10 x11) fun i c => silu W x i (512 + c) := by
  rw [out0_13, View.canon_unit_zero off2]
  exact zf_mat (pay24_mat H) (wA_ld H 512 inb_S1024x4096_S1024x512_0_512)

theorem q_block : Mat (out0_14 x0 x1 x2 x3 x4 x5 x6 x7 x8 x9 x10 x11) fun i j => qslot W x (P + i) i j := by
  rw [out0_14, View.canon_unit_zero off2]
  exact stored_mat (pay25_mat H) P (cq_ld H) (sq_ld H) (gq_ld H) (tq_ld H) (tr_ld H)

theorem lat_block : Mat (out0_15 x0 x1 x2 x3 x4 x5 x6 x7 x8 x9 x10 x11) fun i r => latTok W x (P + i) i r := by
  rw [out0_15, View.canon_unit_zero off2]
  exact latent_mat (pay25_mat H) P H.turned (gk_ld H) (ck_ld H) (sk_ld H)

theorem za_block : Mat (out0_16 x0 x1 x2 x3 x4 x5 x6 x7 x8 x9 x10 x11) fun i c => silu W x i (1536 + c) := by
  rw [out0_16, View.canon_unit_zero off2]
  exact za_mat (pay24_mat H) (wA_ld H 1536 inb_S1024x4096_S1024x512_0_1536)

theorem gf_block : Mat (out0_17 x0 x1 x2 x3 x4 x5 x6 x7 x8 x9 x10 x11) fun i c => logistic (proj W x i (2048 + c)) := by
  rw [out0_17, View.canon_unit_zero off2]
  exact gf_mat (pay24_mat H) (wA_ld H 2048 inb_S1024x4096_S1024x1024_0_2048)

theorem ga_block : Mat (out0_18 x0 x1 x2 x3 x4 x5 x6 x7 x8 x9 x10 x11) fun i c => logistic (proj W x i (3072 + c)) := by
  rw [out0_18, View.canon_unit_zero off2]
  exact ga_mat (pay24_mat H) (wA_ld H 3072 inb_S1024x4096_S1024x1024_0_3072)

theorem qn_block (i : S1x8x128.Idx) : out0_19 x0 x1 x2 x3 x4 x5 x6 x7 x8 x9 x10 x11 i
    = Finset.univ.fold max ⊥ (fun k : Fin 512 => ((qsq W x (P + k.val) k.val : ℝ) : EReal)) := by
  rw [out0_19, View.canon_unit_zero off3]
  exact spread (largest (pay25_mat H) P (cq_ld H) (sq_ld H) (gq_ld H) (tq_ld H) (tr_ld H)) i

end Cert.TokenIdeal.Block
-- ==== Proof.TokHost.lean ====
/- Operations on real values that the token call and its reference share: the table of the rotation's angles, pieces put
   beside each other along the last axis, and the turned columns. -/
module

public import proofs.«01_k».proof.Proof.Host
public import proofs.«01_k».proof.Proof.RefOps
public import proofs.«01_k».proof.Proof.Stages
public import proofs.«01_k».proof.Proof.TokSpec
public import Idealize.ShloMosaic.Lib.Routing.Words

@[expose] public section

noncomputable section

namespace Cert.Layer

open Idealize.ShloMosaic hiding ix0 ix1 ix2 ix3 ix4 eq_ix1 eq_ix2 eq_ix3
open Idealize.ShloMosaic.ValueIdx
open Finset (range)

/-! ### Pieces along the last axis -/

section Pieces
variable {a b c d : ℕ}

/-- Three pieces of a matrix beside each other. -/
theorem Mat.beside3 {p q r n : ℕ} {x : (⟨2, ![a, p]⟩ : Shape).Idx → EReal} {y : (⟨2, ![a, q]⟩ : Shape).Idx → EReal}
    {z : (⟨2, ![a, r]⟩ : Shape).Idx → EReal} {f g k : ℕ → ℕ → ℝ} (hx : Mat x f) (hy : Mat y g) (hz : Mat z k) (hn : n = p + q + r)
    (h : Shape.Concatenates [⟨2, ![a, p]⟩, ⟨2, ![a, q]⟩, ⟨2, ![a, r]⟩] ⟨2, ![a, n]⟩ 1) :
    Mat (concatenate ⟨2, ![a, n]⟩ 1 [⟨⟨2, ![a, p]⟩, x⟩, ⟨⟨2, ![a, q]⟩, y⟩, ⟨⟨2, ![a, r]⟩, z⟩] h)
      (fun i j => if j < p then f i j else if j < p + q then g i (j - p) else k i (j - p - q)) := fun i => by
  have h1 : (i 1).val < n := (i 1).isLt
  by_cases hp : (i 1).val < p
  · rw [concatenate_apply_piece (t := ⟨2, ![a, n]⟩) 1 [⟨_, x⟩, ⟨_, y⟩, ⟨_, z⟩] h i 0 (by show 0 < 3; omega) _ x rfl rfl 0 rfl (ix2 (i 0) ⟨(i 1).val, hp⟩)
      (fun d hd => match d with | ⟨0, _⟩ => rfl | ⟨1, _⟩ => absurd rfl hd)
      (by show 0 + (i 1).val = (i 1).val; omega)]
    refine (hx _).trans ?_
    beta_reduce; rw [if_pos hp]; rfl
  · by_cases hq : (i 1).val < p + q
    · rw [concatenate_apply_piece (t := ⟨2, ![a, n]⟩) 1 [⟨_, x⟩, ⟨_, y⟩, ⟨_, z⟩] h i 1 (by show 1 < 3; omega) _ y rfl rfl p (by show p + 0 = p; omega)
        (ix2 (i 0) ⟨(i 1).val - p, by omega⟩)
        (fun d hd => match d with | ⟨0, _⟩ => rfl | ⟨1, _⟩ => absurd rfl hd)
        (by show p + ((i 1).val - p) = (i 1).val; omega)]
      refine (hy _).trans ?_
      beta_reduce; rw [if_neg hp, if_pos hq]; rfl
    · rw [concatenate_apply_piece (t := ⟨2, ![a, n]⟩) 1 [⟨_, x⟩, ⟨_, y⟩, ⟨_, z⟩] h i 2 (by show 2 < 3; omega) _ z rfl rfl (p + q) (by show p + (q + 0) = p + q; omega)
        (ix2 (i 0) ⟨(i 1).val - p - q, by omega⟩)
        (fun d hd => match d with | ⟨0, _⟩ => rfl | ⟨1, _⟩ => absurd rfl hd)
        (by show p + q + ((i 1).val - p - q) = (i 1).val; omega)]
      refine (hz _).trans ?_
      beta_reduce; rw [if_neg hp, if_neg hq]; rfl

/-- Two pieces of an array of rank three along its last axis. -/
theorem Cube.beside {p q n : ℕ} {x : (⟨3, ![a, b, p]⟩ : Shape).Idx → EReal} {y : (⟨3, ![a, b, q]⟩ : Shape).Idx → EReal}
    {f g : ℕ → ℕ → ℕ → ℝ} (hx : Cube x f) (hy : Cube y g) (hn : n = p + q)
    (h : Shape.Concatenates [⟨3, ![a, b, p]⟩, ⟨3, ![a, b, q]⟩] ⟨3, ![a, b, n]⟩ 2) :
    Cube (concatenate ⟨3, ![a, b, n]⟩ 2 [⟨⟨3, ![a, b, p]⟩, x⟩, ⟨⟨3, ![a, b, q]⟩, y⟩] h)
      (fun i j k => if k < p then f i j k else g i j (k - p)) := fun i => by
  have h1 : (i 2).val < n := (i 2).isLt
  by_cases hj : (i 2).val < p
  · rw [concatenate_pair_apply_left 2 x y h i rfl (ix3 (i 0) (i 1) ⟨(i 2).val, hj⟩)
      (fun d => match d with | ⟨0, _⟩ => rfl | ⟨1, _⟩ => rfl | ⟨2, _⟩ => rfl)]
    refine (hx _).trans ?_
    simp only [if_pos hj]; rfl
  · rw [concatenate_pair_apply_right 2 x y h i rfl rfl (ix3 (i 0) (i 1) ⟨(i 2).val - p, by omega⟩)
      (fun d hd => match d with | ⟨0, _⟩ => rfl | ⟨1, _⟩ => rfl | ⟨2, _⟩ => absurd rfl hd) (by
        show (i 2).val - p + p = (i 2).val; omega)]
    refine (hy _).trans ?_
    simp only [if_neg hj]; rfl

/-- Two pieces of an array of rank four along its last axis. -/
theorem Quad.beside {p q n : ℕ} {x : (⟨4, ![a, b, c, p]⟩ : Shape).Idx → EReal} {y : (⟨4, ![a, b, c, q]⟩ : Shape).Idx → EReal}
    {f g : ℕ → ℕ → ℕ → ℕ → ℝ} (hx : Quad x f) (hy : Quad y g) (hn : n = p + q)
    (h : Shape.Concatenates [⟨4, ![a, b, c, p]⟩, ⟨4, ![a, b, c, q]⟩] ⟨4, ![a, b, c, n]⟩ 3) :
    Quad (concatenate ⟨4, ![a, b, c, n]⟩ 3 [⟨⟨4, ![a, b, c, p]⟩, x⟩, ⟨⟨4, ![a, b, c, q]⟩, y⟩] h)
      (fun i j l k => if k < p then f i j l k else g i j l (k - p)) := fun i => by
  have h1 : (i 3).val < n := (i 3).isLt
  by_cases hj : (i 3).val < p
  · rw [concatenate_pair_apply_left 3 x y h i rfl (ix4 (i 0) (i 1) (i 2) ⟨(i 3).val, hj⟩)
      (fun d => match d with | ⟨0, _⟩ => rfl | ⟨1, _⟩ => rfl | ⟨2, _⟩ => rfl | ⟨3, _⟩ => rfl)]
    refine (hx _).trans ?_
    simp only [if_pos hj]; rfl
  · rw [concatenate_pair_apply_right 3 x y h i rfl rfl (ix4 (i 0) (i 1) (i 2) ⟨(i 3).val - p, by omega⟩)
      (fun d hd => match d with | ⟨0, _⟩ => rfl | ⟨1, _⟩ => rfl | ⟨2, _⟩ => rfl | ⟨3, _⟩ => absurd rfl hd) (by
        show (i 3).val - p + p = (i 3).val; omega)]
    refine (hy _).trans ?_
    simp only [if_neg hj]; rfl

/-- Four pieces of an array of rank three along its last axis. -/
theorem Cube.beside4 {p q r s n : ℕ} {x : (⟨3, ![a, b, p]⟩ : Shape).Idx → EReal} {y : (⟨3, ![a, b, q]⟩ : Shape).Idx → EReal}
    {z : (⟨3, ![a, b, r]⟩ : Shape).Idx → EReal} {w : (⟨3, ![a, b, s]⟩ : Shape).Idx → EReal} {f g k l : ℕ → ℕ → ℕ → ℝ}
    (hx : Cube x f) (hy : Cube y g) (hz : Cube z k) (hw : Cube w l) (hn : n = p + q + r + s)
    (h : Shape.Concatenates [⟨3, ![a, b, p]⟩, ⟨3, ![a, b, q]⟩, ⟨3, ![a, b, r]⟩, ⟨3, ![a, b, s]⟩] ⟨3, ![a, b, n]⟩ 2) :
    Cube (concatenate ⟨3, ![a, b, n]⟩ 2 [⟨⟨3, ![a, b, p]⟩, x⟩, ⟨⟨3, ![a, b, q]⟩, y⟩, ⟨⟨3, ![a, b, r]⟩, z⟩, ⟨⟨3, ![a, b, s]⟩, w⟩] h)
      (fun i j m => if m < p then f i j m else if m < p + q then g i j (m - p) else if m < p + q + r then k i j (m - (p + q))
        else l i j (m - (p + q + r))) := fun i => by
  have h1 : (i 2).val < n := (i 2).isLt
  by_cases hp : (i 2).val < p
  · rw [concatenate_apply_piece (t := ⟨3, ![a, b, n]⟩) 2 [⟨_, x⟩, ⟨_, y⟩, ⟨_, z⟩, ⟨_, w⟩] h i 0 (by show 0 < 4; omega) _ x rfl rfl 0 rfl
      (ix3 (i 0) (i 1) ⟨(i 2).val, hp⟩)
      (fun d hd => match d with | ⟨0, _⟩ => rfl | ⟨1, _⟩ => rfl | ⟨2, _⟩ => absurd rfl hd)
      (by show 0 + (i 2).val = (i 2).val; omega)]
    refine (hx _).trans ?_
    beta_reduce; rw [if_pos hp]; rfl
  by_cases hq : (i 2).val < p + q
  · rw [concatenate_apply_piece (t := ⟨3, ![a, b, n]⟩) 2 [⟨_, x⟩, ⟨_, y⟩, ⟨_, z⟩, ⟨_, w⟩] h i 1 (by show 1 < 4; omega) _ y rfl rfl p (by show p + 0 = p; omega)
      (ix3 (i 0) (i 1) ⟨(i 2).val - p, by omega⟩)
      (fun d hd => match d with | ⟨0, _⟩ => rfl | ⟨1, _⟩ => rfl | ⟨2, _⟩ => absurd rfl hd)
      (by show p + ((i 2).val - p) = (i 2).val; omega)]
    refine (hy _).trans ?_
    beta_reduce; rw [if_neg hp, if_pos hq]; rfl
  by_cases hr : (i 2).val < p + q + r
  · rw [concatenate_apply_piece (t := ⟨3, ![a, b, n]⟩) 2 [⟨_, x⟩, ⟨_, y⟩, ⟨_, z⟩, ⟨_, w⟩] h i 2 (by show 2 < 4; omega) _ z rfl rfl (p + q)
      (by show p + (q + 0) = p + q; omega)
      (ix3 (i 0) (i 1) ⟨(i 2).val - (p + q), by omega⟩)
      (fun d hd => match d with | ⟨0, _⟩ => rfl | ⟨1, _⟩ => rfl | ⟨2, _⟩ => absurd rfl hd)
      (by show p + q + ((i 2).val - (p + q)) = (i 2).val; omega)]
    refine (hz _).trans ?_
    beta_reduce; rw [if_neg hp, if_neg hq, if_pos hr]; rfl
  · rw [concatenate_apply_piece (t := ⟨3, ![a, b, n]⟩) 2 [⟨_, x⟩, ⟨_, y⟩, ⟨_, z⟩, ⟨_, w⟩] h i 3 (by show 3 < 4; omega) _ w rfl rfl (p + q + r)
      (by show p + (q + (r + 0)) = p + q + r; omega)
      (ix3 (i 0) (i 1) ⟨(i 2).val - (p + q + r), by omega⟩)
      (fun d hd => match d with | ⟨0, _⟩ => rfl | ⟨1, _⟩ => rfl | ⟨2, _⟩ => absurd rfl hd)
      (by show p + q + r + ((i 2).val - (p + q + r)) = (i 2).val; omega)]
    refine (hw _).trans ?_
    beta_reduce; rw [if_neg hp, if_neg hq, if_neg hr]; rfl

/-- Equal pieces of an array of rank three along its last axis. -/
theorem Cube.besideN {N q n : ℕ} {x : Fin N → (⟨3, ![a, b, q]⟩ : Shape).Idx → EReal} {f : ℕ → ℕ → ℕ → ℕ → ℝ}
    (hx : ∀ e : Fin N, Cube (x e) (f e.val)) (hn : n = N * q)
    (h : Shape.Concatenates ((List.ofFn fun e : Fin N => (⟨⟨3, ![a, b, q]⟩, x e⟩ : (s : Shape) × (s.Idx → EReal))).map (·.1)) ⟨3, ![a, b, n]⟩ 2) :
    Cube (concatenate ⟨3, ![a, b, n]⟩ 2 (List.ofFn fun e : Fin N => (⟨⟨3, ![a, b, q]⟩, x e⟩ : (s : Shape) × (s.Idx → EReal))) h)
      (fun i j k => f (k / q) i j (k % q)) := fun i => by
  have h1 : (i 2).val < n := (i 2).isLt
  have hq : 0 < q := Nat.pos_of_ne_zero (by rintro rfl; omega)
  rw [concatenate_ofFn_apply 2 x h rfl q rfl i ⟨(i 2).val / q, Nat.div_lt_of_lt_mul (by rw [Nat.mul_comm]; omega)⟩ rfl
    (ix3 (i 0) (i 1) ⟨(i 2).val % q, Nat.mod_lt _ hq⟩) rfl
    (fun d hd => match d with | ⟨0, _⟩ => rfl | ⟨1, _⟩ => rfl | ⟨2, _⟩ => absurd rfl hd)]
  exact hx _ _

/-- Equal pieces of an array of rank four along its last axis. -/
theorem Quad.besideN {N q n : ℕ} {x : Fin N → (⟨4, ![a, b, c, q]⟩ : Shape).Idx → EReal} {f : ℕ → ℕ → ℕ → ℕ → ℕ → ℝ}
    (hx : ∀ e : Fin N, Quad (x e) (f e.val)) (hn : n = N * q)
    (h : Shape.Concatenates ((List.ofFn fun e : Fin N => (⟨⟨4, ![a, b, c, q]⟩, x e⟩ : (s : Shape) × (s.Idx → EReal))).map (·.1)) ⟨4, ![a, b, c, n]⟩ 3) :
    Quad (concatenate ⟨4, ![a, b, c, n]⟩ 3 (List.ofFn fun e : Fin N => (⟨⟨4, ![a, b, c, q]⟩, x e⟩ : (s : Shape) × (s.Idx → EReal))) h)
      (fun i j l k => f (k / q) i j l (k % q)) := fun i => by
  have h1 : (i 3).val < n := (i 3).isLt
  have hq : 0 < q := Nat.pos_of_ne_zero (by rintro rfl; omega)
  rw [concatenate_ofFn_apply 3 x h rfl q rfl i ⟨(i 3).val / q, Nat.div_lt_of_lt_mul (by rw [Nat.mul_comm]; omega)⟩ rfl
    (ix4 (i 0) (i 1) (i 2) ⟨(i 3).val % q, Nat.mod_lt _ hq⟩) rfl
    (fun d hd => match d with | ⟨0, _⟩ => rfl | ⟨1, _⟩ => rfl | ⟨2, _⟩ => rfl | ⟨3, _⟩ => absurd rfl hd)]
  exact hx _ _

/-! ### Turned columns -/

/-- The four pieces of the turned columns. -/
def quarter (g : ℕ → ℝ) (e k : ℕ) : ℝ :=
  if e = 0 then -g (8 + k) else if e = 1 then g k else if e = 2 then -g (24 + k) else g (16 + k)

theorem quarter_rot (g : ℕ → ℝ) (j : ℕ) (hj : j < 32) : quarter g (j / 8) (j % 8) = rot g j := by
  unfold quarter rot
  by_cases h0 : j < 8
  · rw [if_pos (by omega), if_pos (by omega)]; congr 2; omega
  by_cases h1 : j < 16
  · rw [if_neg (by omega), if_pos (by omega), if_neg (by omega)]; congr 1; omega
  by_cases h2 : j < 24
  · rw [if_neg (by omega), if_neg (by omega), if_pos (by omega), if_pos (by omega)]; congr 2; omega
  · rw [if_neg (by omega), if_neg (by omega), if_neg (by omega), if_neg (by omega)]; congr 1; omega

theorem Mat.turned {x0 x1 x2 x3 : (⟨2, ![a, 8]⟩ : Shape).Idx → EReal} {g : ℕ → ℕ → ℝ} (h0 : Mat x0 fun i k => -g i (8 + k))
    (h1 : Mat x1 fun i k => g i (0 + k)) (h2 : Mat x2 fun i k => -g i (24 + k)) (h3 : Mat x3 fun i k => g i (16 + k))
    (h : Shape.Concatenates [⟨2, ![a, 8]⟩, ⟨2, ![a, 8]⟩, ⟨2, ![a, 8]⟩, ⟨2, ![a, 8]⟩] ⟨2, ![a, 32]⟩ 1) :
    Mat (concatenate ⟨2, ![a, 32]⟩ 1 [⟨⟨2, ![a, 8]⟩, x0⟩, ⟨⟨2, ![a, 8]⟩, x1⟩, ⟨⟨2, ![a, 8]⟩, x2⟩, ⟨⟨2, ![a, 8]⟩, x3⟩] h) (fun i k => rot (g i) k) :=
  (Mat.besideN (N := 4) (x := ![x0, x1, x2, x3]) (f := fun e i k => quarter (g i) e k)
    (fun e => match e with
      | ⟨0, _⟩ => h0 | ⟨1, _⟩ => h1.congr fun i k _ _ => by rw [Nat.zero_add]; rfl
      | ⟨2, _⟩ => h2 | ⟨3, _⟩ => h3) rfl h).congr fun i k _ hk => quarter_rot (g i) k hk

theorem Cube.turned {x0 x1 x2 x3 : (⟨3, ![a, b, 8]⟩ : Shape).Idx → EReal} {g : ℕ → ℕ → ℕ → ℝ} (h0 : Cube x0 fun i j k => -g i j (8 + k))
    (h1 : Cube x1 fun i j k => g i j (0 + k)) (h2 : Cube x2 fun i j k => -g i j (24 + k)) (h3 : Cube x3 fun i j k => g i j (16 + k))
    (h : Shape.Concatenates [⟨3, ![a, b, 8]⟩, ⟨3, ![a, b, 8]⟩, ⟨3, ![a, b, 8]⟩, ⟨3, ![a, b, 8]⟩] ⟨3, ![a, b, 32]⟩ 2) :
    Cube (concatenate ⟨3, ![a, b, 32]⟩ 2 [⟨⟨3, ![a, b, 8]⟩, x0⟩, ⟨⟨3, ![a, b, 8]⟩, x1⟩, ⟨⟨3, ![a, b, 8]⟩, x2⟩, ⟨⟨3, ![a, b, 8]⟩, x3⟩] h)
      (fun i j k => rot (g i j) k) :=
  (Cube.besideN (N := 4) (x := ![x0, x1, x2, x3]) (f := fun e i j k => quarter (g i j) e k)
    (fun e => match e with
      | ⟨0, _⟩ => h0 | ⟨1, _⟩ => h1.congr fun i j k _ _ _ => by rw [Nat.zero_add]; rfl
      | ⟨2, _⟩ => h2 | ⟨3, _⟩ => h3) rfl h).congr fun i j k _ _ hk => quarter_rot (g i j) k hk

theorem Quad.turned {x0 x1 x2 x3 : (⟨4, ![a, b, c, 8]⟩ : Shape).Idx → EReal} {g : ℕ → ℕ → ℕ → ℕ → ℝ}
    (h0 : Quad x0 fun i j l k => -g i j l (8 + k)) (h1 : Quad x1 fun i j l k => g i j l k)
    (h2 : Quad x2 fun i j l k => -g i j l (24 + k)) (h3 : Quad x3 fun i j l k => g i j l (16 + k))
    (h : Shape.Concatenates [⟨4, ![a, b, c, 8]⟩, ⟨4, ![a, b, c, 8]⟩, ⟨4, ![a, b, c, 8]⟩, ⟨4, ![a, b, c, 8]⟩] ⟨4, ![a, b, c, 32]⟩ 3) :
    Quad (concatenate ⟨4, ![a, b, c, 32]⟩ 3 [⟨⟨4, ![a, b, c, 8]⟩, x0⟩, ⟨⟨4, ![a, b, c, 8]⟩, x1⟩, ⟨⟨4, ![a, b, c, 8]⟩, x2⟩, ⟨⟨4, ![a, b, c, 8]⟩, x3⟩] h)
      (fun i j l k => rot (g i j l) k) := fun i => by
  refine (Quad.besideN (N := 4) (x := ![x0, x1, x2, x3]) (f := fun e i j l k => quarter (g i j l) e k)
    (fun e => match e with
      | ⟨0, _⟩ => h0 | ⟨1, _⟩ => h1 | ⟨2, _⟩ => h2 | ⟨3, _⟩ => h3) rfl h i).trans ?_
  exact congrArg _ (quarter_rot _ _ (i 3).isLt)

/-- An array of rank three negated. -/
theorem Cube.hostNegf {φ : FTy} {x : FVec Ideal ⟨3, ![a, b, c]⟩ φ} {f : ℕ → ℕ → ℕ → ℝ} (hx : Cube x f) :
    Cube (Host.negf x) (fun i j k => -f i j k) := fun i => by
  show -(x i) = _
  rw [hx i, EReal.coe_neg]

theorem Quad.hostNegf {φ : FTy} {x : FVec Ideal ⟨4, ![a, b, c, d]⟩ φ} {f : ℕ → ℕ → ℕ → ℕ → ℝ} (hx : Quad x f) :
    Quad (Host.negf x) (fun i j l k => -f i j l k) := fun i => by
  show -(x i) = _
  rw [hx i, EReal.coe_neg]

end Pieces

/-! ### The table of angles -/

/-- The word of a small number, read as an integer. -/
theorem word_int (p : ℕ) (hp : p < 2 ^ 31) : (BitVec.ofNat 32 p).toInt = (p : ℤ) := by
  rw [BitVec.toInt_eq_toNat_of_lt (by rw [BitVec.toNat_ofNat]; omega), BitVec.toNat_ofNat, Nat.mod_eq_of_lt (by omega)]

/-- The position's row on the grid. -/
theorem rows_row (h : (⟨0, ![]⟩ : Shape).BroadcastsInDim ⟨1, ![2048]⟩ ![]) :
    Row (sitofp (F := Ideal) .f32 (Host.divsi (iotaInDim ⟨1, ![2048]⟩ 32 0) (broadcastInDim ⟨1, ![2048]⟩ ![] h (constantI ⟨0, ![]⟩ 32 64#32))))
      (fun p => ((p / 64 : ℕ) : ℝ)) := fun i => by
  have h0 : (i 0).val < 2048 := (i 0).isLt
  show (((IntOp.divsi .host (BitVec.ofNat 32 (i 0).val) (broadcastInDim ⟨1, ![2048]⟩ ![] h (constantI ⟨0, ![]⟩ 32 64#32) i)).toInt : ℝ) : EReal) = _
  rw [broadcastInDim_scalar_apply]
  show (((IntOp.divsi .host (BitVec.ofNat 32 (i 0).val) (BitVec.ofNat 32 64)).toInt : ℝ) : EReal) = _
  rw [Routing.divsi_word .host (by omega) (by omega) (by omega), word_int _ (by omega), Int.cast_natCast]

/-- The position's column on the grid. -/
theorem cols_row (h : (⟨0, ![]⟩ : Shape).BroadcastsInDim ⟨1, ![2048]⟩ ![]) :
    Row (sitofp (F := Ideal) .f32 (Host.remsi (iotaInDim ⟨1, ![2048]⟩ 32 0) (broadcastInDim ⟨1, ![2048]⟩ ![] h (constantI ⟨0, ![]⟩ 32 64#32))))
      (fun p => ((p % 64 : ℕ) : ℝ)) := fun i => by
  have h0 : (i 0).val < 2048 := (i 0).isLt
  show (((IntOp.remsi .host (BitVec.ofNat 32 (i 0).val) (broadcastInDim ⟨1, ![2048]⟩ ![] h (constantI ⟨0, ![]⟩ 32 64#32) i)).toInt : ℝ) : EReal) = _
  rw [broadcastInDim_scalar_apply]
  show (((IntOp.remsi .host (BitVec.ofNat 32 (i 0).val) (BitVec.ofNat 32 64)).toInt : ℝ) : EReal) = _
  rw [rem_word _ _ (by omega) (by omega) (by omega), Int.cast_natCast]

theorem ofBits_16 : Ideal.ofBits .f32 0x41800000#32 = ((16 : ℝ) : EReal) := by
  simp [Ideal.ofBits, Ideal.ieee]; rw [← EReal.coe_mul]; norm_num

theorem ofBits_10000 : Ideal.ofBits .f32 0x461C4000#32 = ((10000 : ℝ) : EReal) := by
  simp [Ideal.ofBits, Ideal.ieee]; rw [← EReal.coe_mul]; norm_num

/-- The frequencies. -/
theorem freq_row (h h₁ h₂ h₃ : (⟨0, ![]⟩ : Shape).BroadcastsInDim ⟨1, ![8]⟩ ![]) :
    Row (Host.powf (F := Ideal) (φ := .f32) (broadcastInDim ⟨1, ![8]⟩ ![] h (constant (F := Ideal) ⟨0, ![]⟩ .f32 0x461C4000#32))
      (Host.divf (Host.negf (addf (broadcastInDim ⟨1, ![8]⟩ ![] h₁ (constant (F := Ideal) ⟨0, ![]⟩ .f32 0x00000000#32))
        (mulf (broadcastInDim ⟨1, ![8]⟩ ![] h₂ (constant (F := Ideal) ⟨0, ![]⟩ .f32 0x40000000#32))
          (sitofp .f32 (iotaInDim ⟨1, ![8]⟩ 32 0)))))
        (broadcastInDim ⟨1, ![8]⟩ ![] h₃ (constant (F := Ideal) ⟨0, ![]⟩ .f32 0x41800000#32)))) freq := fun i => by
  have h0 : (i 0).val < 8 := (i 0).isLt
  have c : ∀ (w : BitVec 32) (h : (⟨0, ![]⟩ : Shape).BroadcastsInDim ⟨1, ![8]⟩ ![]),
      broadcastInDim ⟨1, ![8]⟩ ![] h (constant (F := Ideal) ⟨0, ![]⟩ .f32 w) i = Ideal.ofBits .f32 w := fun w h => by
    rw [broadcastInDim_scalar_apply]; rfl
  show Ideal.pow (broadcastInDim ⟨1, ![8]⟩ ![] h (constant (F := Ideal) ⟨0, ![]⟩ .f32 0x461C4000#32) i)
    (Ideal.div (-(broadcastInDim ⟨1, ![8]⟩ ![] h₁ (constant (F := Ideal) ⟨0, ![]⟩ .f32 0x00000000#32) i
      + broadcastInDim ⟨1, ![8]⟩ ![] h₂ (constant (F := Ideal) ⟨0, ![]⟩ .f32 0x40000000#32) i
        * (((BitVec.ofNat 32 (i 0).val).toInt : ℝ) : EReal)))
      (broadcastInDim ⟨1, ![8]⟩ ![] h₃ (constant (F := Ideal) ⟨0, ![]⟩ .f32 0x41800000#32) i)) = _
  rw [c, c, c, c, word_int _ (by omega), Int.cast_natCast, ofBits_two, ofBits_16, ofBits_10000, Ideal.ofBits_zero_f32,
    zero_add, ← EReal.coe_mul, ← EReal.coe_neg, div_real rfl rfl (by norm_num), Ideal.pow_coe_coe]
  rfl

/-- A column of one number for each row, times a row of one number for each column. -/
theorem times_mat {a b : ℕ} {x : FVec Ideal ⟨1, ![a]⟩ .f32} {y : FVec Ideal ⟨1, ![b]⟩ .f32} {f g : ℕ → ℝ} (hx : Row x f) (hy : Row y g)
    (h₁ : (⟨1, ![a]⟩ : Shape).BroadcastsInDim ⟨2, ![a, 1]⟩ ![0]) (h₂ : (⟨2, ![a, 1]⟩ : Shape).BroadcastsInDim ⟨2, ![a, b]⟩ ![0, 1])
    (h₃ : (⟨1, ![b]⟩ : Shape).BroadcastsInDim ⟨2, ![1, b]⟩ ![1]) (h₄ : (⟨2, ![1, b]⟩ : Shape).BroadcastsInDim ⟨2, ![a, b]⟩ ![0, 1]) :
    Mat (mulf (F := Ideal) (broadcastInDim ⟨2, ![a, b]⟩ ![0, 1] h₂ (broadcastInDim ⟨2, ![a, 1]⟩ ![0] h₁ x))
      (broadcastInDim ⟨2, ![a, b]⟩ ![0, 1] h₄ (broadcastInDim ⟨2, ![1, b]⟩ ![1] h₃ y))) (fun i j => f i * g j) := fun i => by
  have h0 : (i 0).val < a := (i 0).isLt
  have h1 : (i 1).val < b := (i 1).isLt
  refine mul_real ?_ ?_
  · rw [broadcastInDim_apply (s := ⟨2, ![a, 1]⟩) (t := ⟨2, ![a, b]⟩) ![0, 1] h₂ _ i (ix2 (i 0) 0) (fun d => match d with
      | ⟨0, _⟩ => by show (i 0).val = if a = 1 then 0 else (i 0).val; split <;> omega
      | ⟨1, _⟩ => rfl),
      broadcastInDim_apply ![0] h₁ x _ (ix1 (i 0)) (fun d => match d with
      | ⟨0, _⟩ => by show (i 0).val = if a = 1 then 0 else (i 0).val; split <;> omega)]
    exact hx _
  · rw [broadcastInDim_apply (s := ⟨2, ![1, b]⟩) (t := ⟨2, ![a, b]⟩) ![0, 1] h₄ _ i (ix2 0 (i 1)) (fun d => match d with
      | ⟨0, _⟩ => rfl
      | ⟨1, _⟩ => by show (i 1).val = if b = 1 then 0 else (i 1).val; split <;> omega),
      broadcastInDim_apply ![1] h₃ y _ (ix1 (i 1)) (fun d => match d with
      | ⟨0, _⟩ => by show (i 1).val = if b = 1 then 0 else (i 1).val; split <;> omega)]
    exact hy _

/-- The angles: two pieces by the position's row, two by its column. -/
theorem rope_mat {x y : (⟨2, ![2048, 8]⟩ : Shape).Idx → EReal} (hx : Mat x fun p k => ((p / 64 : ℕ) : ℝ) * freq k)
    (hy : Mat y fun p k => ((p % 64 : ℕ) : ℝ) * freq k)
    (h : Shape.Concatenates [⟨2, ![2048, 8]⟩, ⟨2, ![2048, 8]⟩, ⟨2, ![2048, 8]⟩, ⟨2, ![2048, 8]⟩] ⟨2, ![2048, 32]⟩ 1) :
    Mat (concatenate ⟨2, ![2048, 32]⟩ 1 [⟨⟨2, ![2048, 8]⟩, x⟩, ⟨⟨2, ![2048, 8]⟩, x⟩, ⟨⟨2, ![2048, 8]⟩, y⟩, ⟨⟨2, ![2048, 8]⟩, y⟩] h) ropeAngle :=
  (Mat.besideN (N := 4) (x := ![x, x, y, y]) (f := fun e p k => ((if e < 2 then p / 64 else p % 64 : ℕ) : ℝ) * freq k)
    (fun e => match e with
      | ⟨0, _⟩ => hx | ⟨1, _⟩ => hx | ⟨2, _⟩ => hy | ⟨3, _⟩ => hy) rfl h).congr fun p j _ hj => by
    unfold ropeAngle
    by_cases h' : j < 16
    · rw [if_pos h', if_pos (by omega)]
    · rw [if_neg h', if_neg (by omega)]

/-- The table of angles from the positions and the frequencies. -/
theorem ropeTable_mat (h₀ h₁ : (⟨0, ![]⟩ : Shape).BroadcastsInDim ⟨1, ![2048]⟩ ![])
    {w : FVec Ideal ⟨1, ![8]⟩ .f32} (hw : Row w freq)
    (h₂ : (⟨1, ![2048]⟩ : Shape).BroadcastsInDim ⟨2, ![2048, 1]⟩ ![0]) (h₃ : (⟨2, ![2048, 1]⟩ : Shape).BroadcastsInDim ⟨2, ![2048, 8]⟩ ![0, 1])
    (h₄ : (⟨1, ![8]⟩ : Shape).BroadcastsInDim ⟨2, ![1, 8]⟩ ![1]) (h₅ : (⟨2, ![1, 8]⟩ : Shape).BroadcastsInDim ⟨2, ![2048, 8]⟩ ![0, 1])
    (h : Shape.Concatenates [⟨2, ![2048, 8]⟩, ⟨2, ![2048, 8]⟩, ⟨2, ![2048, 8]⟩, ⟨2, ![2048, 8]⟩] ⟨2, ![2048, 32]⟩ 1)
    {x y : FVec Ideal ⟨2, ![2048, 8]⟩ .f32}
    (ex : x = mulf (F := Ideal) (broadcastInDim ⟨2, ![2048, 8]⟩ ![0, 1] h₃ (broadcastInDim ⟨2, ![2048, 1]⟩ ![0] h₂
      (sitofp (F := Ideal) .f32 (Host.divsi (iotaInDim ⟨1, ![2048]⟩ 32 0) (broadcastInDim ⟨1, ![2048]⟩ ![] h₀ (constantI ⟨0, ![]⟩ 32 64#32))))))
      (broadcastInDim ⟨2, ![2048, 8]⟩ ![0, 1] h₅ (broadcastInDim ⟨2, ![1, 8]⟩ ![1] h₄ w)))
    (ey : y = mulf (F := Ideal) (broadcastInDim ⟨2, ![2048, 8]⟩ ![0, 1] h₃ (broadcastInDim ⟨2, ![2048, 1]⟩ ![0] h₂
      (sitofp (F := Ideal) .f32 (Host.remsi (iotaInDim ⟨1, ![2048]⟩ 32 0) (broadcastInDim ⟨1, ![2048]⟩ ![] h₁ (constantI ⟨0, ![]⟩ 32 64#32))))))
      (broadcastInDim ⟨2, ![2048, 8]⟩ ![0, 1] h₅ (broadcastInDim ⟨2, ![1, 8]⟩ ![1] h₄ w))) :
    Mat (concatenate ⟨2, ![2048, 32]⟩ 1 [⟨⟨2, ![2048, 8]⟩, x⟩, ⟨⟨2, ![2048, 8]⟩, x⟩, ⟨⟨2, ![2048, 8]⟩, y⟩, ⟨⟨2, ![2048, 8]⟩, y⟩] h) ropeAngle := by
  subst ex ey
  exact rope_mat (times_mat (rows_row h₀) hw h₂ h₃ h₄ h₅) (times_mat (cols_row h₁) hw h₂ h₃ h₄ h₅) h

end Cert.Layer
-- ==== Proof.TokInputs.lean ====
/- The token call's six arguments holding real numbers: the tokens of four batch elements, the modulations' first four
   rows, one for each batch element, and the weights, whose spare columns carry the turned shared columns. -/
module

public import proofs.«01_k».proof.Proof.Inputs
public import proofs.«01_k».proof.Proof.TokSpec

@[expose] public section

noncomputable section

namespace Cert.Layer

open Idealize.ShloMosaic hiding ix0 ix1 ix2 ix3 eq_ix1 eq_ix2 eq_ix3
open Idealize.ShloMosaic.ValueIdx

/-- The arguments hold the tokens `X` and, for batch element `b`, the parameters `W b`. -/
structure TokInputs (W : ℕ → Params) (X : ℕ → ℕ → ℕ → ℝ) (a0 : (⟨3, ![4, 2048, 1024]⟩ : Shape).Idx → EReal)
    (a1 : (⟨3, ![8, 1, 3072]⟩ : Shape).Idx → EReal) (a2 : (⟨2, ![1024, 4096]⟩ : Shape).Idx → EReal)
    (a3 : (⟨3, ![1, 256, 768]⟩ : Shape).Idx → EReal) (a4 : (⟨2, ![1, 256]⟩ : Shape).Idx → EReal)
    (a5 : (⟨2, ![1, 128]⟩ : Shape).Idx → EReal) : Prop where
  tok : Cube a0 X
  mods : ∀ i, (i 0).val < 4 → a1 i = ((modRow (W (i 0).val) (i 2).val : ℝ) : EReal)
  wA : ∀ b, Mat a2 (W b).A
  uq : ∀ b, Cube a3 fun _ r c => (W b).UQ r c
  gq : ∀ b, Mat a4 fun _ r => (W b).qg r
  gk : ∀ b, Mat a5 fun _ r => (W b).kg r
  turned : ∀ b d j, d < 1024 → j < 32 → (W b).A d (1472 + j) = rot (fun r => (W b).A d (1408 + r)) j

/-! ### The results -/

/-- The largest squared length of 512 rows of queries, starting at position `p`. -/
def qmax (W : Params) (x : ℕ → ℕ → ℝ) (p : ℕ) : EReal :=
  Finset.univ.fold max ⊥ (fun k : Fin 512 => ((qsq W x (p + k.val) (p + k.val) : ℝ) : EReal))

variable (W : ℕ → Params) (X : ℕ → ℕ → ℕ → ℝ)

/-- The channel transforms of all rows. -/
def tokFour : (⟨2, ![8192, 1024]⟩ : Shape).Idx → EReal := fun i =>
  ((ucus (W ((i 0).val / 2048)) (X ((i 0).val / 2048)) ((i 0).val % 2048) (i 1).val : ℝ) : EReal)

/-- The Fourier branch's gated columns. -/
def tokZf : (⟨2, ![8192, 512]⟩ : Shape).Idx → EReal := fun i =>
  ((silu (W ((i 0).val / 2048)) (X ((i 0).val / 2048)) ((i 0).val % 2048) (512 + (i 1).val) : ℝ) : EReal)

/-- The queries. -/
def tokQ : (⟨2, ![8192, 1024]⟩ : Shape).Idx → EReal := fun i =>
  ((qslot (W ((i 0).val / 2048)) (X ((i 0).val / 2048)) ((i 0).val % 2048) ((i 0).val % 2048) (i 1).val : ℝ) : EReal)

/-- The latents with the rotated shared columns. -/
def tokLat : (⟨2, ![8192, 256]⟩ : Shape).Idx → EReal := fun i =>
  ((latTok (W ((i 0).val / 2048)) (X ((i 0).val / 2048)) ((i 0).val % 2048) ((i 0).val % 2048) (i 1).val : ℝ) : EReal)

/-- The attention branch's gated columns. -/
def tokZa : (⟨2, ![8192, 512]⟩ : Shape).Idx → EReal := fun i =>
  ((silu (W ((i 0).val / 2048)) (X ((i 0).val / 2048)) ((i 0).val % 2048) (1536 + (i 1).val) : ℝ) : EReal)

/-- The Fourier branch's merging gates. -/
def tokGf : (⟨2, ![8192, 1024]⟩ : Shape).Idx → EReal := fun i =>
  ((logistic (proj (W ((i 0).val / 2048)) (X ((i 0).val / 2048)) ((i 0).val % 2048) (2048 + (i 1).val)) : ℝ) : EReal)

/-- The attention branch's merging gates. -/
def tokGa : (⟨2, ![8192, 1024]⟩ : Shape).Idx → EReal := fun i =>
  ((logistic (proj (W ((i 0).val / 2048)) (X ((i 0).val / 2048)) ((i 0).val % 2048) (3072 + (i 1).val)) : ℝ) : EReal)

/-- Each block's largest squared length of queries, at every place. -/
def tokQn : (⟨3, ![16, 8, 128]⟩ : Shape).Idx → EReal := fun i =>
  qmax (W ((i 0).val / 4)) (X ((i 0).val / 4)) ((i 0).val % 4 * 512)

end Cert.Layer
-- ==== Proof.TokPrep.lean ====
/- What the host prepares for the token call: the contents of the weight and table arrays when the call starts, from the
   arguments. -/
module

public import proofs.«01_k».proof.Proof.TokHost
public import proofs.«01_k».proof.Proof.TokInputs
public import proofs.«01_k».proof.Proof.Weights
public import proofs.«01_k».proof.Proof.Gen.TokenIdeal.Frame

@[expose] public section

noncomputable section

namespace Cert.TokenIdeal.Prep

open Cert.TokenIdeal Cert.TokenIdeal.Gen Cert.Layer Idealize.ShloMosaic.TcCoe Idealize.SL.Sem
open Idealize.ShloMosaic hiding ix0 ix1 ix2 ix3 eq_ix1 eq_ix2 eq_ix3
open Idealize.ShloMosaic.ValueIdx
open Finset (range)

/-- Zeros put before and after the last axis' entries. -/
theorem padLast {a b c o u n : ℕ} {x : (⟨3, ![a, b, c]⟩ : Shape).Idx → EReal} {f : ℕ → ℕ → ℕ → ℝ} (hx : Cube x f)
    {v : (⟨0, ![]⟩ : Shape).Idx → EReal} (hv : v ValueIdx.ix0 = ((0 : ℝ) : EReal))
    (h : (⟨3, ![a, b, c]⟩ : Shape).Pads ![0, 0, o] ![0, 0, u] ![0, 0, 0] ⟨3, ![a, b, n]⟩) (hu : 0 < (⟨0, ![]⟩ : Shape).numel) :
    Cube (pad ⟨3, ![a, b, n]⟩ ![0, 0, o] ![0, 0, u] ![0, 0, 0] x v h hu)
      (fun i j k => if o ≤ k ∧ k < o + c then f i j (k - o) else 0) := fun i => by
  have first : Shape.Idx.first hu = ValueIdx.ix0 := funext fun d => d.elim0
  by_cases H : o ≤ (i 2).val ∧ (i 2).val < o + c
  · rw [pad_apply_of_inside _ _ _ x v h hu i (ix3 (i 0) (i 1) ⟨(i 2).val - o, by omega⟩) (fun d => match d with
      | ⟨0, _⟩ => by show (i 0).val = 0 + (i 0).val * (0 + 1); omega
      | ⟨1, _⟩ => by show (i 1).val = 0 + (i 1).val * (0 + 1); omega
      | ⟨2, _⟩ => by show (i 2).val = o + ((i 2).val - o) * (0 + 1); omega)]
    beta_reduce; rw [if_pos H]; exact hx _
  · beta_reduce; rw [if_neg H, ← hv, ← first]
    exact pad_apply_of_not_inside _ _ _ x v h hu i 2 fun H' => H (by
      have h1 : o ≤ (i 2).val := H'.1
      have h2 : ((i 2).val - o) / (0 + 1) < c := H'.2.2
      rw [Nat.zero_add, Nat.div_one] at h2
      exact ⟨h1, by omega⟩)

/-- The query weights' positional columns, turned. -/
theorem wqrot_mat {W : Params} {a3 : FVec Ideal S1x256x768 .f32} (h3 : Cube a3 fun _ r c => W.UQ r c) {z : FVec Ideal S_ .f32}
    (hz : z ValueIdx.ix0 = ((0 : ℝ) : EReal)) {t : FVec Ideal S256x8x32 .f32}
    (ht : t = extractStridedSlice S256x8x32 ![0, 0, 64] (shapeCast S256x8x96 (shapeCast S256x768 a3 shapeCasts_S1x256x768_S256x768)
      shapeCasts_S256x768_S256x8x96) slices_S256x8x96_S256x8x32_0_0_64) :
    Mat (shapeCast S256x1024 (pad S256x8x128 ![0, 0, 64] ![0, 0, 32] ![0, 0, 0]
      (concatenate S256x8x32 2 [⟨S256x8x8, Host.negf (φ := .f32) (extractStridedSlice S256x8x8 ![0, 0, 8] t slices_S256x8x32_S256x8x8_0_0_8)⟩,
        ⟨S256x8x8, extractStridedSlice S256x8x8 ![0, 0, 0] t slices_S256x8x32_S256x8x8_0_0_0⟩,
        ⟨S256x8x8, Host.negf (φ := .f32) (extractStridedSlice S256x8x8 ![0, 0, 24] t slices_S256x8x32_S256x8x8_0_0_24)⟩,
        ⟨S256x8x8, extractStridedSlice S256x8x8 ![0, 0, 16] t slices_S256x8x32_S256x8x8_0_0_16⟩]
        concatenates_S256x8x8_S256x8x8_S256x8x8_S256x8x8_S256x8x32_d2) z
      pads_S256x8x32_S256x8x128_000_000_64320 h_S_) shapeCasts_S256x8x128_S256x1024) (wqrot W) := by
  have h4 : Cube t fun r e k => W.UQ r (e * 96 + (64 + k)) := by
    subst ht; exact ((h3.drop _).splitCols (b := 8) (c := 96) rfl _).sliceLast 64 _
  have h11 := Cube.turned (g := fun r e k => W.UQ r (e * 96 + (64 + k)))
    (Cube.hostNegf (φ := .f32) (h4.sliceLast 8 slices_S256x8x32_S256x8x8_0_0_8))
    (h4.sliceLast 0 slices_S256x8x32_S256x8x8_0_0_0)
    (Cube.hostNegf (φ := .f32) (h4.sliceLast 24 slices_S256x8x32_S256x8x8_0_0_24))
    (h4.sliceLast 16 slices_S256x8x32_S256x8x8_0_0_16) concatenates_S256x8x8_S256x8x8_S256x8x8_S256x8x8_S256x8x32_d2
  refine ((padLast h11 hz pads_S256x8x32_S256x8x128_000_000_64320 h_S_).joinCols (b := 8) (c := 128) rfl _).congr fun i j hi hj => ?_
  rfl

/-- The queries' scale. -/
theorem scale_real : Host.divf (F := Ideal) (constant S_ .f32 0x3F800000#32)
    (mulf (Host.sqrt (constant (F := Ideal) S_ .f32 0x42C00000#32)) (Host.log (constant (F := Ideal) S_ .f32 0x40000000#32)))
    ValueIdx.ix0 = ((qscale : ℝ) : EReal) := by
  have hs : (0 : ℝ) < Real.sqrt 96 := Real.sqrt_pos.2 (by norm_num)
  have hl : (0 : ℝ) < Real.log 2 := Real.log_pos (by norm_num)
  have e2 : Ideal.log (Ideal.ofBits .f32 0x40000000#32) = ((Real.log 2 : ℝ) : EReal) := by
    rw [ofBits_two, Ideal.log_coe, if_neg (by norm_num)]
  show Ideal.div (Ideal.ofBits .f32 0x3F800000#32) (Ideal.sqrt (Ideal.ofBits .f32 0x42C00000#32) * Ideal.log (Ideal.ofBits .f32 0x40000000#32)) = _
  refine (div_real ofBits_one (mul_real (sqrt_real ofBits_96 (by norm_num)) e2) (mul_pos hs hl).ne').trans (congrArg _ ?_)
  rw [qscale, one_div, mul_inv]

section Tables
variable {t : FVec Ideal S2048x32 .f32} (ht : Mat t ropeAngle) {s : FVec Ideal S_ .f32} (hs : s ValueIdx.ix0 = ((qscale : ℝ) : EReal))

include ht hs in
/-- The cosines over a head's columns, scaled. -/
theorem cosq_mat : Mat (concatenate S2048x128 1 [⟨S2048x64, id (broadcastInDim S2048x64 ![] bcast_S_S2048x64 s)⟩,
    ⟨S2048x32, mulf (F := Ideal) (φ := .f32) (broadcastInDim S2048x32 ![] bcast_S_S2048x32 (id s)) (Host.cos t)⟩,
    ⟨S2048x32, broadcastInDim S2048x32 ![] bcast_S_S2048x32 (constant (F := Ideal) S_ .f32 0x00000000#32)⟩]
    concatenates_S2048x64_S2048x32_S2048x32_S2048x128_d1) cosq :=
  (Mat.beside3 (Mat.fill hs bcast_S_S2048x64) ((Mat.fill hs bcast_S_S2048x32).mulf ht.hostCos)
    (Mat.fill KernelIdeal.Prep.zero_float bcast_S_S2048x32) rfl _).congr fun p j _ _ => by
    rw [cosq]

include ht hs in
/-- The sines over a head's columns, scaled. -/
theorem sinq_mat : Mat (concatenate S2048x128 1 [⟨S2048x64, broadcastInDim S2048x64 ![] bcast_S_S2048x64 (constant (F := Ideal) S_ .f32 0x00000000#32)⟩,
    ⟨S2048x32, mulf (F := Ideal) (φ := .f32) (broadcastInDim S2048x32 ![] bcast_S_S2048x32 (id s)) (Host.sin t)⟩,
    ⟨S2048x32, broadcastInDim S2048x32 ![] bcast_S_S2048x32 (constant (F := Ideal) S_ .f32 0x00000000#32)⟩]
    concatenates_S2048x64_S2048x32_S2048x32_S2048x128_d1) sinq :=
  (Mat.beside3 (Mat.fill KernelIdeal.Prep.zero_float bcast_S_S2048x64) ((Mat.fill hs bcast_S_S2048x32).mulf ht.hostSin)
    (Mat.fill KernelIdeal.Prep.zero_float bcast_S_S2048x32) rfl _).congr fun p j _ _ => by
    rw [sinq]

include ht in
/-- The cosines over the shared columns. -/
theorem cosk_mat : Mat (concatenate S2048x128 1 [⟨S2048x32, Host.cos t⟩,
    ⟨S2048x96, broadcastInDim S2048x96 ![] bcast_S_S2048x96 (constant (F := Ideal) S_ .f32 0x00000000#32)⟩]
    concatenates_S2048x32_S2048x96_S2048x128_d1) cosk :=
  ht.hostCos.beside (Mat.fill KernelIdeal.Prep.zero_float bcast_S_S2048x96) rfl _

include ht in
/-- The sines over the shared columns. -/
theorem sink_mat : Mat (concatenate S2048x128 1 [⟨S2048x32, Host.sin t⟩,
    ⟨S2048x96, broadcastInDim S2048x96 ![] bcast_S_S2048x96 (constant (F := Ideal) S_ .f32 0x00000000#32)⟩]
    concatenates_S2048x32_S2048x96_S2048x128_d1) sink :=
  ht.hostSin.beside (Mat.fill KernelIdeal.Prep.zero_float bcast_S_S2048x96) rfl _

end Tables

/-! ### The arrays when the call starts -/

variable {W : Params} (m : (ℓ : Loc nD τ sig) → Buf (Elt Ideal) ℓ) (c : Dev nD)

/-- The tokens, all batch elements' rows below each other. -/
theorem x_mat {X : ℕ → ℕ → ℕ → ℝ} (h : Cube (m ((c.tc : Thread nD τ).loc main_arg0) : FVec Ideal S4x2048x1024 .f32) X) :
    Mat (V m c main_v20 : FVec Ideal S8192x1024 .f32) fun i d => X (i / 2048) (i % 2048) d := by
  simp only [V, hostOps0, hostOps0_1, hostOps0_2, hostOps0_3, hostOps0_4,
    List.flatten_cons, List.flatten_nil, List.append_nil, List.cons_append, List.nil_append]
  after_results
  exact Cube.join h rfl _

/-- The query weights. -/
theorem tq_mat (h : Cube (m ((c.tc : Thread nD τ).loc main_arg3) : FVec Ideal S1x256x768 .f32) fun _ r c => W.UQ r c) :
    Mat (V m c main_v14 : FVec Ideal S256x1024 .bf16) (wq W) := by
  simp only [V, hostOps0, hostOps0_1, hostOps0_2, hostOps0_3, hostOps0_4,
    List.flatten_cons, List.flatten_nil, List.append_nil, List.cons_append, List.nil_append]
  after_results
  exact KernelIdeal.Prep.wq_mat h KernelIdeal.Prep.zero_word

/-- The turned query weights. -/
theorem tr_mat (h : Cube (m ((c.tc : Thread nD τ).loc main_arg3) : FVec Ideal S1x256x768 .f32) fun _ r c => W.UQ r c) :
    Mat (V m c main_v15 : FVec Ideal S256x1024 .bf16) (wqrot W) := by
  simp only [V, hostOps0, hostOps0_1, hostOps0_2, hostOps0_3, hostOps0_4,
    List.flatten_cons, List.flatten_nil, List.append_nil, List.cons_append, List.nil_append]
  after_results
  exact wqrot_mat h KernelIdeal.Prep.zero_word rfl

/-- The query norm's gains. -/
theorem gq_mat (h : Mat (m ((c.tc : Thread nD τ).loc main_arg4) : FVec Ideal S1x256 .f32) fun _ r => W.qg r) :
    Mat (V m c main_v17 : FVec Ideal S1x256 .f32) (fun _ r => W.qg r) := by
  simp only [V, hostOps0, hostOps0_1, hostOps0_2, hostOps0_3, hostOps0_4,
    List.flatten_cons, List.flatten_nil, List.append_nil, List.cons_append, List.nil_append]
  after_results
  exact (h.drop shapeCasts_S1x256_S256).lay bcast_S256_S1x256_1

/-- The latent norm's gains. -/
theorem gk_mat (h : Mat (m ((c.tc : Thread nD τ).loc main_arg5) : FVec Ideal S1x128 .f32) fun _ r => W.kg r) :
    Mat (V m c main_v19 : FVec Ideal S1x128 .f32) (fun _ r => W.kg r) := by
  simp only [V, hostOps0, hostOps0_1, hostOps0_2, hostOps0_3, hostOps0_4,
    List.flatten_cons, List.flatten_nil, List.append_nil, List.cons_append, List.nil_append]
  after_results
  exact (h.drop shapeCasts_S1x128_S128).lay bcast_S128_S1x128_1

/-- The channel transform's table. -/
theorem tc_mat : Mat (V m c main_v44 : FVec Ideal S256x512 .bf16) dftc := by
  simp only [V, hostOps0, hostOps0_1, hostOps0_2, hostOps0_3, hostOps0_4,
    List.flatten_cons, List.flatten_nil, List.append_nil, List.cons_append, List.nil_append]
  after_results
  exact KernelIdeal.Prep.dftc_mat (KernelIdeal.Prep.group_mat (angles_mat KernelIdeal.Prep.ofBits_128 (by norm_num) (by norm_num) (by norm_num)
    (by norm_num) bcast_S_S128x128 bcast_S_S128x128) concatenates_S128x128_S128x128_S128x256_d1
    bcast_S_S128x256) concatenates_S128x256_S128x256_S128x512_d1 concatenates_S128x512_S128x512_S256x512_d0 bcast_S_S128x256

/-- The scaled cosines. -/
theorem cosq_entry : Mat (V m c main_v85 : FVec Ideal S2048x128 .f32) cosq := by
  simp only [V, hostOps0, hostOps0_1, hostOps0_2, hostOps0_3, hostOps0_4,
    List.flatten_cons, List.flatten_nil, List.append_nil, List.cons_append, List.nil_append]
  after_results
  exact cosq_mat (ropeTable_mat bcast_S_S2048 bcast_S_S2048 (freq_row bcast_S_S8 bcast_S_S8 bcast_S_S8 bcast_S_S8) bcast_S2048_S2048x1_0
    bcast_S2048x1_S2048x8_0_1 bcast_S8_S1x8_1 bcast_S1x8_S2048x8_0_1 concatenates_S2048x8_S2048x8_S2048x8_S2048x8_S2048x32_d1 rfl rfl) scale_real

/-- The scaled sines. -/
theorem sinq_entry : Mat (V m c main_v90 : FVec Ideal S2048x128 .f32) sinq := by
  simp only [V, hostOps0, hostOps0_1, hostOps0_2, hostOps0_3, hostOps0_4,
    List.flatten_cons, List.flatten_nil, List.append_nil, List.cons_append, List.nil_append]
  after_results
  exact sinq_mat (ropeTable_mat bcast_S_S2048 bcast_S_S2048 (freq_row bcast_S_S8 bcast_S_S8 bcast_S_S8 bcast_S_S8) bcast_S2048_S2048x1_0
    bcast_S2048x1_S2048x8_0_1 bcast_S8_S1x8_1 bcast_S1x8_S2048x8_0_1 concatenates_S2048x8_S2048x8_S2048x8_S2048x8_S2048x32_d1 rfl rfl) scale_real

/-- The cosines. -/
theorem cosk_entry : Mat (V m c main_v92 : FVec Ideal S2048x128 .f32) cosk := by
  simp only [V, hostOps0, hostOps0_1, hostOps0_2, hostOps0_3, hostOps0_4,
    List.flatten_cons, List.flatten_nil, List.append_nil, List.cons_append, List.nil_append]
  after_results
  exact cosk_mat (ropeTable_mat bcast_S_S2048 bcast_S_S2048 (freq_row bcast_S_S8 bcast_S_S8 bcast_S_S8 bcast_S_S8) bcast_S2048_S2048x1_0
    bcast_S2048x1_S2048x8_0_1 bcast_S8_S1x8_1 bcast_S1x8_S2048x8_0_1 concatenates_S2048x8_S2048x8_S2048x8_S2048x8_S2048x32_d1 rfl rfl)

/-- The sines. -/
theorem sink_entry : Mat (V m c main_v93 : FVec Ideal S2048x128 .f32) sink := by
  simp only [V, hostOps0, hostOps0_1, hostOps0_2, hostOps0_3, hostOps0_4,
    List.flatten_cons, List.flatten_nil, List.append_nil, List.cons_append, List.nil_append]
  after_results
  exact sink_mat (ropeTable_mat bcast_S_S2048 bcast_S_S2048 (freq_row bcast_S_S8 bcast_S_S8 bcast_S_S8 bcast_S_S8) bcast_S2048_S2048x1_0
    bcast_S2048x1_S2048x8_0_1 bcast_S8_S1x8_1 bcast_S1x8_S2048x8_0_1 concatenates_S2048x8_S2048x8_S2048x8_S2048x8_S2048x32_d1 rfl rfl)

end Cert.TokenIdeal.Prep
-- ==== Proof.TokArray.lean ====
/- The token call's arrays: every input block at a grid point, what the point writes back, and the eight result arrays
   after the run. -/
module

public import proofs.«01_k».proof.Proof.TokStep
public import proofs.«01_k».proof.Proof.TokPrep
public import proofs.«01_k».proof.Proof.Gen.TokenIdeal.Value
public import Idealize.ShloMosaic.Lib.Pipeline.Value

@[expose] public section

noncomputable section

namespace Cert.TokenIdeal.Array

open Cert.TokenIdeal Cert.TokenIdeal.Gen Cert.TokenIdeal.Block Cert.Layer Idealize.ShloMosaic.TcCoe Idealize.SL.Sem
open Cert.KernelIdeal.Block (mo)
open Idealize.ShloMosaic hiding ix0 ix1 ix2 ix3 eq_ix1 eq_ix2 eq_ix3
open Idealize.ShloMosaic.ValueIdx
open Idealize.ShloMosaic.Pipeline (Dat)
open Finset (range)

variable {W : ℕ → Params} {X : ℕ → ℕ → ℕ → ℝ} (m : (ℓ : Loc nD τ sig) → Buf (Elt Ideal) ℓ) (ρ : Dev nD → PrngReg) (c : Dev nD)

/-- Device `c`'s arguments hold the tokens and the parameters. -/
abbrev Given (W : ℕ → Params) (X : ℕ → ℕ → ℕ → ℝ) : Prop :=
  TokInputs W X (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-! ### The blocks of the inputs -/

theorem whole2 (t : Fin cfg0.N) : iblk m c 2 t = V m c main_arg2 :=
  Memref.read_access_unit_zero (Elt Ideal) main_arg2 (off := fun a => win0_2.index t a * main_arg2.ty.shape.size a)
    (funext fun a => by fin_cases a <;> exact Nat.zero_mul _) (fun a => by fin_cases a <;> exact (Nat.zero_mul _ ▸ (Nat.zero_add _).le)) (V m c main_arg2)

theorem whole3 (t : Fin cfg0.N) : iblk m c 3 t = V m c main_v17 :=
  Memref.read_access_unit_zero (Elt Ideal) main_v17 (off := fun a => win0_3.index t a * main_v17.ty.shape.size a)
    (funext fun a => by fin_cases a <;> exact Nat.zero_mul _) (fun a => by fin_cases a <;> exact (Nat.zero_mul _ ▸ (Nat.zero_add _).le)) (V m c main_v17)

theorem whole4 (t : Fin cfg0.N) : iblk m c 4 t = V m c main_v19 :=
  Memref.read_access_unit_zero (Elt Ideal) main_v19 (off := fun a => win0_4.index t a * main_v19.ty.shape.size a)
    (funext fun a => by fin_cases a <;> exact Nat.zero_mul _) (fun a => by fin_cases a <;> exact (Nat.zero_mul _ ▸ (Nat.zero_add _).le)) (V m c main_v19)

theorem whole5 (t : Fin cfg0.N) : iblk m c 5 t = V m c main_v44 :=
  Memref.read_access_unit_zero (Elt Ideal) main_v44 (off := fun a => win0_5.index t a * main_v44.ty.shape.size a)
    (funext fun a => by fin_cases a <;> exact Nat.zero_mul _) (fun a => by fin_cases a <;> exact (Nat.zero_mul _ ▸ (Nat.zero_add _).le)) (V m c main_v44)

theorem whole6 (t : Fin cfg0.N) : iblk m c 6 t = V m c main_v14 :=
  Memref.read_access_unit_zero (Elt Ideal) main_v14 (off := fun a => win0_6.index t a * main_v14.ty.shape.size a)
    (funext fun a => by fin_cases a <;> exact Nat.zero_mul _) (fun a => by fin_cases a <;> exact (Nat.zero_mul _ ▸ (Nat.zero_add _).le)) (V m c main_v14)

theorem whole7 (t : Fin cfg0.N) : iblk m c 7 t = V m c main_v15 :=
  Memref.read_access_unit_zero (Elt Ideal) main_v15 (off := fun a => win0_7.index t a * main_v15.ty.shape.size a)
    (funext fun a => by fin_cases a <;> exact Nat.zero_mul _) (fun a => by fin_cases a <;> exact (Nat.zero_mul _ ▸ (Nat.zero_add _).le)) (V m c main_v15)

/-- The rows point `t` stages: 512 rows of batch element `t / 4`. -/
abbrev staged (X : ℕ → ℕ → ℕ → ℝ) (t i d : ℕ) : ℝ := X (t / 4) (t % 4 * 512 + i) d

theorem rows_blk (t : Fin cfg0.N) (h : Given m c W X) : Mat (iblk m c 0 t : Vec Ideal S512x1024 .f32) (staged X t.val) := fun j => by
  have hi := (by decide +kernel : ∀ t : Fin grid0.N, win0_0.index t 0 = t.val ∧ win0_0.index t 1 = 0) t
  have hj : (j 0).val < 512 := (j 0).isLt
  unfold iblk
  rw [View.read_apply]
  refine (Prep.x_mat m c h.tok _).trans ?_
  show ((X ((win0_0.index t 0 * 512 + 1 * (j 0).val) / 2048) ((win0_0.index t 0 * 512 + 1 * (j 0).val) % 2048)
    (win0_0.index t 1 * 1024 + 1 * (j 1).val) : ℝ) : EReal) = _
  rw [hi.1, hi.2, show (t.val * 512 + 1 * (j 0).val) / 2048 = t.val / 4 by omega,
    show (t.val * 512 + 1 * (j 0).val) % 2048 = t.val % 4 * 512 + (j 0).val by omega, Nat.zero_mul, Nat.zero_add, Nat.one_mul]

/-- Point `t` stages the modulations of batch element `t / 4`. -/
theorem mods_blk (t : Fin cfg0.N) (h : Given m c W X) :
    Cube (iblk m c 1 t : Vec Ideal S1x1x3072 .f32) (fun _ _ k => mo (W (t.val / 4)) k) := fun j => by
  have hi := (by decide +kernel : ∀ t : Fin grid0.N, win0_1.index t 0 = t.val / 4 ∧ win0_1.index t 2 = 0) t
  have h0 : (j 0).val < 1 := (j 0).isLt
  have ht : t.val < 16 := lt_of_lt_of_eq t.isLt N_0
  unfold iblk
  rw [View.read_apply]
  show V m c main_arg1 _ = _
  rw [V_main_arg1]
  have e : win0_1.index t 0 * 1 + 1 * (j 0).val = t.val / 4 := by rw [hi.1]; omega
  refine (h.mods _ ?_).trans ?_
  · show win0_1.index t 0 * 1 + 1 * (j 0).val < 4
    rw [e]; omega
  · show ((modRow (W (win0_1.index t 0 * 1 + 1 * (j 0).val)) (win0_1.index t 2 * 3072 + 1 * (j 2).val) : ℝ) : EReal) = _
    rw [e, hi.2]
    simp only [Nat.zero_mul, Nat.zero_add, Nat.one_mul]
    rfl

theorem cosq_blk (t : Fin cfg0.N) : Mat (iblk m c 8 t : Vec Ideal S512x128 .f32) (fun i j => cosq (t.val % 4 * 512 + i) j) := fun j => by
  have hi := (by decide +kernel : ∀ t : Fin grid0.N, win0_8.index t 0 = t.val % 4 ∧ win0_8.index t 1 = 0) t
  unfold iblk
  rw [View.read_apply]
  refine (Prep.cosq_entry m c _).trans ?_
  show ((cosq (win0_8.index t 0 * 512 + 1 * (j 0).val) (win0_8.index t 1 * 128 + 1 * (j 1).val) : ℝ) : EReal) = _
  rw [hi.1, hi.2, Nat.zero_mul, Nat.zero_add, Nat.one_mul, Nat.one_mul]

theorem sinq_blk (t : Fin cfg0.N) : Mat (iblk m c 9 t : Vec Ideal S512x128 .f32) (fun i j => sinq (t.val % 4 * 512 + i) j) := fun j => by
  have hi := (by decide +kernel : ∀ t : Fin grid0.N, win0_9.index t 0 = t.val % 4 ∧ win0_9.index t 1 = 0) t
  unfold iblk
  rw [View.read_apply]
  refine (Prep.sinq_entry m c _).trans ?_
  show ((sinq (win0_9.index t 0 * 512 + 1 * (j 0).val) (win0_9.index t 1 * 128 + 1 * (j 1).val) : ℝ) : EReal) = _
  rw [hi.1, hi.2, Nat.zero_mul, Nat.zero_add, Nat.one_mul, Nat.one_mul]

theorem cosk_blk (t : Fin cfg0.N) : Mat (iblk m c 10 t : Vec Ideal S512x128 .f32) (fun i j => cosk (t.val % 4 * 512 + i) j) := fun j => by
  have hi := (by decide +kernel : ∀ t : Fin grid0.N, win0_10.index t 0 = t.val % 4 ∧ win0_10.index t 1 = 0) t
  unfold iblk
  rw [View.read_apply]
  refine (Prep.cosk_entry m c _).trans ?_
  show ((cosk (win0_10.index t 0 * 512 + 1 * (j 0).val) (win0_10.index t 1 * 128 + 1 * (j 1).val) : ℝ) : EReal) = _
  rw [hi.1, hi.2, Nat.zero_mul, Nat.zero_add, Nat.one_mul, Nat.one_mul]

theorem sink_blk (t : Fin cfg0.N) : Mat (iblk m c 11 t : Vec Ideal S512x128 .f32) (fun i j => sink (t.val % 4 * 512 + i) j) := fun j => by
  have hi := (by decide +kernel : ∀ t : Fin grid0.N, win0_11.index t 0 = t.val % 4 ∧ win0_11.index t 1 = 0) t
  unfold iblk
  rw [View.read_apply]
  refine (Prep.sink_entry m c _).trans ?_
  show ((sink (win0_11.index t 0 * 512 + 1 * (j 0).val) (win0_11.index t 1 * 128 + 1 * (j 1).val) : ℝ) : EReal) = _
  rw [hi.1, hi.2, Nat.zero_mul, Nat.zero_add, Nat.one_mul, Nat.one_mul]

/-- Every staged block holds its part of the tokens and parameters. -/
theorem holds (t : Fin cfg0.N) (h : Given m c W X) :
    Holds (W (t.val / 4)) (staged X t.val) (t.val % 4 * 512) (iblk m c 0 t) (iblk m c 1 t) (iblk m c 2 t) (iblk m c 3 t) (iblk m c 4 t)
      (iblk m c 5 t) (iblk m c 6 t) (iblk m c 7 t) (iblk m c 8 t) (iblk m c 9 t) (iblk m c 10 t) (iblk m c 11 t) where
  rows := rows_blk m c t h
  mods := mods_blk m c t h
  wA := by rw [whole2, V_main_arg2]; exact h.wA _
  gq := by rw [whole3]; exact Prep.gq_mat m c (h.gq _)
  gk := by rw [whole4]; exact Prep.gk_mat m c (h.gk _)
  tc := by rw [whole5]; exact Prep.tc_mat m c
  tq := by rw [whole6]; exact Prep.tq_mat m c (h.uq _)
  tr := by rw [whole7]; exact Prep.tr_mat m c (h.uq _)
  cq := cosq_blk m c t
  sq := sinq_blk m c t
  ck := cosk_blk m c t
  sk := sink_blk m c t
  turned := h.turned _

/-! ### The results -/

/-- A row of block `t`, as a row of a batch element. -/
theorem row_div (t i : ℕ) (hi : i < 512) : (t * 512 + 1 * i) / 2048 = t / 4 := by omega

theorem row_mod (t i : ℕ) (hi : i < 512) : (t * 512 + 1 * i) % 2048 = t % 4 * 512 + i := by omega

theorem index12 (t : Fin cfg0.N) : win0_12.index t 0 = t.val ∧ win0_12.index t 1 = 0 :=
  (by decide +kernel : ∀ t : Fin grid0.N, win0_12.index t 0 = t.val ∧ win0_12.index t 1 = 0) t

/-- What a point writes back is its block of the whole result. -/
theorem flushed12 (t : Fin cfg0.N) (h : Given m c W X) :
    (dats m 0 c).flushed 12 t = ((cfg0.win 12).blk t).view.read (Elt Ideal) (tokFour W X) := by
  show (cfg0.win 12).cut (grid0.coords t) ((dats m 0 c).after 12 t) = _
  rw [after0_12]
  funext j
  have hj : (j 0).val < 512 := (j 0).isLt
  rw [View.read_apply]
  refine (four_block (holds m c t h) j).trans ?_
  show _ = ((ucus (W ((win0_12.index t 0 * 512 + 1 * (j 0).val) / 2048)) (X ((win0_12.index t 0 * 512 + 1 * (j 0).val) / 2048)) ((win0_12.index t 0 * 512 + 1 * (j 0).val) % 2048) (win0_12.index t 1 * 1024 + 1 * (j 1).val) : ℝ) : EReal)
  rw [(index12 t).1, (index12 t).2, row_div _ _ hj, row_mod _ _ hj, Nat.zero_mul, Nat.zero_add, Nat.one_mul]
  rfl

theorem cover12 (i : S8192x1024.Idx) : ∃ t : Fin cfg0.N, (cfg0.win 12).flush t = true ∧ i ∈ ((cfg0.win 12).blk t).view.set := by
  have h0 : (i 0).val < 8192 := (i 0).isLt
  have h1 : (i 1).val < 1024 := (i 1).isLt
  have ht : (i 0).val / 512 < cfg0.N := by rw [show cfg0.N = 16 from N_0]; omega
  refine ⟨⟨(i 0).val / 512, ht⟩, flush0_12 _, ?_⟩
  show i ∈ ((View.whole main_v94_0).slice (win0_12.rect ⟨(i 0).val / 512, ht⟩)).set
  rw [View.set_slice_whole, Rect.mem_set_unit]
  have e := index12 ⟨(i 0).val / 512, ht⟩
  intro a
  match a with
  | ⟨0, _⟩ =>
    show win0_12.index _ 0 * 512 ≤ (i 0).val ∧ (i 0).val < win0_12.index _ 0 * 512 + 512
    rw [e.1]; dsimp only; omega
  | ⟨1, _⟩ =>
    show win0_12.index _ 1 * 1024 ≤ (i 1).val ∧ (i 1).val < win0_12.index _ 1 * 1024 + 1024
    rw [e.2]; omega

theorem final12 (h : Given m c W X) : (dats m 0 c).arrAt 12 cfg0.N = tokFour W X :=
  (dats m 0 c).arrAt_eq_of_cover 12 (tokFour W X) (fun t _ => flushed12 m c t h) cover12

theorem index13 (t : Fin cfg0.N) : win0_13.index t 0 = t.val ∧ win0_13.index t 1 = 0 :=
  (by decide +kernel : ∀ t : Fin grid0.N, win0_13.index t 0 = t.val ∧ win0_13.index t 1 = 0) t

/-- What a point writes back is its block of the whole result. -/
theorem flushed13 (t : Fin cfg0.N) (h : Given m c W X) :
    (dats m 0 c).flushed 13 t = ((cfg0.win 13).blk t).view.read (Elt Ideal) (tokZf W X) := by
  show (cfg0.win 13).cut (grid0.coords t) ((dats m 0 c).after 13 t) = _
  rw [after0_13]
  funext j
  have hj : (j 0).val < 512 := (j 0).isLt
  rw [View.read_apply]
  refine (zf_block (holds m c t h) j).trans ?_
  show _ = ((silu (W ((win0_13.index t 0 * 512 + 1 * (j 0).val) / 2048)) (X ((win0_13.index t 0 * 512 + 1 * (j 0).val) / 2048)) ((win0_13.index t 0 * 512 + 1 * (j 0).val) % 2048) (512 + (win0_13.index t 1 * 512 + 1 * (j 1).val)) : ℝ) : EReal)
  rw [(index13 t).1, (index13 t).2, row_div _ _ hj, row_mod _ _ hj, Nat.zero_mul, Nat.zero_add, Nat.one_mul]
  rfl

theorem cover13 (i : S8192x512.Idx) : ∃ t : Fin cfg0.N, (cfg0.win 13).flush t = true ∧ i ∈ ((cfg0.win 13).blk t).view.set := by
  have h0 : (i 0).val < 8192 := (i 0).isLt
  have h1 : (i 1).val < 512 := (i 1).isLt
  have ht : (i 0).val / 512 < cfg0.N := by rw [show cfg0.N = 16 from N_0]; omega
  refine ⟨⟨(i 0).val / 512, ht⟩, flush0_13 _, ?_⟩
  show i ∈ ((View.whole main_v94_1).slice (win0_13.rect ⟨(i 0).val / 512, ht⟩)).set
  rw [View.set_slice_whole, Rect.mem_set_unit]
  have e := index13 ⟨(i 0).val / 512, ht⟩
  intro a
  match a with
  | ⟨0, _⟩ =>
    show win0_13.index _ 0 * 512 ≤ (i 0).val ∧ (i 0).val < win0_13.index _ 0 * 512 + 512
    rw [e.1]; dsimp only; omega
  | ⟨1, _⟩ =>
    show win0_13.index _ 1 * 512 ≤ (i 1).val ∧ (i 1).val < win0_13.index _ 1 * 512 + 512
    rw [e.2]; omega

theorem final13 (h : Given m c W X) : (dats m 0 c).arrAt 13 cfg0.N = tokZf W X :=
  (dats m 0 c).arrAt_eq_of_cover 13 (tokZf W X) (fun t _ => flushed13 m c t h) cover13

theorem index14 (t : Fin cfg0.N) : win0_14.index t 0 = t.val ∧ win0_14.index t 1 = 0 :=
  (by decide +kernel : ∀ t : Fin grid0.N, win0_14.index t 0 = t.val ∧ win0_14.index t 1 = 0) t

/-- What a point writes back is its block of the whole result. -/
theorem flushed14 (t : Fin cfg0.N) (h : Given m c W X) :
    (dats m 0 c).flushed 14 t = ((cfg0.win 14).blk t).view.read (Elt Ideal) (tokQ W X) := by
  show (cfg0.win 14).cut (grid0.coords t) ((dats m 0 c).after 14 t) = _
  rw [after0_14]
  funext j
  have hj : (j 0).val < 512 := (j 0).isLt
  rw [View.read_apply]
  refine (q_block (holds m c t h) j).trans ?_
  show _ = ((qslot (W ((win0_14.index t 0 * 512 + 1 * (j 0).val) / 2048)) (X ((win0_14.index t 0 * 512 + 1 * (j 0).val) / 2048)) ((win0_14.index t 0 * 512 + 1 * (j 0).val) % 2048) ((win0_14.index t 0 * 512 + 1 * (j 0).val) % 2048) (win0_14.index t 1 * 1024 + 1 * (j 1).val) : ℝ) : EReal)
  rw [(index14 t).1, (index14 t).2, row_div _ _ hj, row_mod _ _ hj, Nat.zero_mul, Nat.zero_add, Nat.one_mul]
  rfl

theorem cover14 (i : S8192x1024.Idx) : ∃ t : Fin cfg0.N, (cfg0.win 14).flush t = true ∧ i ∈ ((cfg0.win 14).blk t).view.set := by
  have h0 : (i 0).val < 8192 := (i 0).isLt
  have h1 : (i 1).val < 1024 := (i 1).isLt
  have ht : (i 0).val / 512 < cfg0.N := by rw [show cfg0.N = 16 from N_0]; omega
  refine ⟨⟨(i 0).val / 512, ht⟩, flush0_14 _, ?_⟩
  show i ∈ ((View.whole main_v94_2).slice (win0_14.rect ⟨(i 0).val / 512, ht⟩)).set
  rw [View.set_slice_whole, Rect.mem_set_unit]
  have e := index14 ⟨(i 0).val / 512, ht⟩
  intro a
  match a with
  | ⟨0, _⟩ =>
    show win0_14.index _ 0 * 512 ≤ (i 0).val ∧ (i 0).val < win0_14.index _ 0 * 512 + 512
    rw [e.1]; dsimp only; omega
  | ⟨1, _⟩ =>
    show win0_14.index _ 1 * 1024 ≤ (i 1).val ∧ (i 1).val < win0_14.index _ 1 * 1024 + 1024
    rw [e.2]; omega

theorem final14 (h : Given m c W X) : (dats m 0 c).arrAt 14 cfg0.N = tokQ W X :=
  (dats m 0 c).arrAt_eq_of_cover 14 (tokQ W X) (fun t _ => flushed14 m c t h) cover14

theorem index15 (t : Fin cfg0.N) : win0_15.index t 0 = t.val ∧ win0_15.index t 1 = 0 :=
  (by decide +kernel : ∀ t : Fin grid0.N, win0_15.index t 0 = t.val ∧ win0_15.index t 1 = 0) t

/-- What a point writes back is its block of the whole result. -/
theorem flushed15 (t : Fin cfg0.N) (h : Given m c W X) :
    (dats m 0 c).flushed 15 t = ((cfg0.win 15).blk t).view.read (Elt Ideal) (tokLat W X) := by
  show (cfg0.win 15).cut (grid0.coords t) ((dats m 0 c).after 15 t) = _
  rw [after0_15]
  funext j
  have hj : (j 0).val < 512 := (j 0).isLt
  rw [View.read_apply]
  refine (lat_block (holds m c t h) j).trans ?_
  show _ = ((latTok (W ((win0_15.index t 0 * 512 + 1 * (j 0).val) / 2048)) (X ((win0_15.index t 0 * 512 + 1 * (j 0).val) / 2048)) ((win0_15.index t 0 * 512 + 1 * (j 0).val) % 2048) ((win0_15.index t 0 * 512 + 1 * (j 0).val) % 2048) (win0_15.index t 1 * 256 + 1 * (j 1).val) : ℝ) : EReal)
  rw [(index15 t).1, (index15 t).2, row_div _ _ hj, row_mod _ _ hj, Nat.zero_mul, Nat.zero_add, Nat.one_mul]
  rfl

theorem cover15 (i : S8192x256.Idx) : ∃ t : Fin cfg0.N, (cfg0.win 15).flush t = true ∧ i ∈ ((cfg0.win 15).blk t).view.set := by
  have h0 : (i 0).val < 8192 := (i 0).isLt
  have h1 : (i 1).val < 256 := (i 1).isLt
  have ht : (i 0).val / 512 < cfg0.N := by rw [show cfg0.N = 16 from N_0]; omega
  refine ⟨⟨(i 0).val / 512, ht⟩, flush0_15 _, ?_⟩
  show i ∈ ((View.whole main_v94_3).slice (win0_15.rect ⟨(i 0).val / 512, ht⟩)).set
  rw [View.set_slice_whole, Rect.mem_set_unit]
  have e := index15 ⟨(i 0).val / 512, ht⟩
  intro a
  match a with
  | ⟨0, _⟩ =>
    show win0_15.index _ 0 * 512 ≤ (i 0).val ∧ (i 0).val < win0_15.index _ 0 * 512 + 512
    rw [e.1]; dsimp only; omega
  | ⟨1, _⟩ =>
    show win0_15.index _ 1 * 256 ≤ (i 1).val ∧ (i 1).val < win0_15.index _ 1 * 256 + 256
    rw [e.2]; omega

theorem final15 (h : Given m c W X) : (dats m 0 c).arrAt 15 cfg0.N = tokLat W X :=
  (dats m 0 c).arrAt_eq_of_cover 15 (tokLat W X) (fun t _ => flushed15 m c t h) cover15

theorem index16 (t : Fin cfg0.N) : win0_16.index t 0 = t.val ∧ win0_16.index t 1 = 0 :=
  (by decide +kernel : ∀ t : Fin grid0.N, win0_16.index t 0 = t.val ∧ win0_16.index t 1 = 0) t

/-- What a point writes back is its block of the whole result. -/
theorem flushed16 (t : Fin cfg0.N) (h : Given m c W X) :
    (dats m 0 c).flushed 16 t = ((cfg0.win 16).blk t).view.read (Elt Ideal) (tokZa W X) := by
  show (cfg0.win 16).cut (grid0.coords t) ((dats m 0 c).after 16 t) = _
  rw [after0_16]
  funext j
  have hj : (j 0).val < 512 := (j 0).isLt
  rw [View.read_apply]
  refine (za_block (holds m c t h) j).trans ?_
  show _ = ((silu (W ((win0_16.index t 0 * 512 + 1 * (j 0).val) / 2048)) (X ((win0_16.index t 0 * 512 + 1 * (j 0).val) / 2048)) ((win0_16.index t 0 * 512 + 1 * (j 0).val) % 2048) (1536 + (win0_16.index t 1 * 512 + 1 * (j 1).val)) : ℝ) : EReal)
  rw [(index16 t).1, (index16 t).2, row_div _ _ hj, row_mod _ _ hj, Nat.zero_mul, Nat.zero_add, Nat.one_mul]
  rfl

theorem cover16 (i : S8192x512.Idx) : ∃ t : Fin cfg0.N, (cfg0.win 16).flush t = true ∧ i ∈ ((cfg0.win 16).blk t).view.set := by
  have h0 : (i 0).val < 8192 := (i 0).isLt
  have h1 : (i 1).val < 512 := (i 1).isLt
  have ht : (i 0).val / 512 < cfg0.N := by rw [show cfg0.N = 16 from N_0]; omega
  refine ⟨⟨(i 0).val / 512, ht⟩, flush0_16 _, ?_⟩
  show i ∈ ((View.whole main_v94_4).slice (win0_16.rect ⟨(i 0).val / 512, ht⟩)).set
  rw [View.set_slice_whole, Rect.mem_set_unit]
  have e := index16 ⟨(i 0).val / 512, ht⟩
  intro a
  match a with
  | ⟨0, _⟩ =>
    show win0_16.index _ 0 * 512 ≤ (i 0).val ∧ (i 0).val < win0_16.index _ 0 * 512 + 512
    rw [e.1]; dsimp only; omega
  | ⟨1, _⟩ =>
    show win0_16.index _ 1 * 512 ≤ (i 1).val ∧ (i 1).val < win0_16.index _ 1 * 512 + 512
    rw [e.2]; omega

theorem final16 (h : Given m c W X) : (dats m 0 c).arrAt 16 cfg0.N = tokZa W X :=
  (dats m 0 c).arrAt_eq_of_cover 16 (tokZa W X) (fun t _ => flushed16 m c t h) cover16

theorem index17 (t : Fin cfg0.N) : win0_17.index t 0 = t.val ∧ win0_17.index t 1 = 0 :=
  (by decide +kernel : ∀ t : Fin grid0.N, win0_17.index t 0 = t.val ∧ win0_17.index t 1 = 0) t

/-- What a point writes back is its block of the whole result. -/
theorem flushed17 (t : Fin cfg0.N) (h : Given m c W X) :
    (dats m 0 c).flushed 17 t = ((cfg0.win 17).blk t).view.read (Elt Ideal) (tokGf W X) := by
  show (cfg0.win 17).cut (grid0.coords t) ((dats m 0 c).after 17 t) = _
  rw [after0_17]
  funext j
  have hj : (j 0).val < 512 := (j 0).isLt
  rw [View.read_apply]
  refine (gf_block (holds m c t h) j).trans ?_
  show _ = ((logistic (proj (W ((win0_17.index t 0 * 512 + 1 * (j 0).val) / 2048)) (X ((win0_17.index t 0 * 512 + 1 * (j 0).val) / 2048)) ((win0_17.index t 0 * 512 + 1 * (j 0).val) % 2048) (2048 + (win0_17.index t 1 * 1024 + 1 * (j 1).val))) : ℝ) : EReal)
  rw [(index17 t).1, (index17 t).2, row_div _ _ hj, row_mod _ _ hj, Nat.zero_mul, Nat.zero_add, Nat.one_mul]
  rfl

theorem cover17 (i : S8192x1024.Idx) : ∃ t : Fin cfg0.N, (cfg0.win 17).flush t = true ∧ i ∈ ((cfg0.win 17).blk t).view.set := by
  have h0 : (i 0).val < 8192 := (i 0).isLt
  have h1 : (i 1).val < 1024 := (i 1).isLt
  have ht : (i 0).val / 512 < cfg0.N := by rw [show cfg0.N = 16 from N_0]; omega
  refine ⟨⟨(i 0).val / 512, ht⟩, flush0_17 _, ?_⟩
  show i ∈ ((View.whole main_v94_5).slice (win0_17.rect ⟨(i 0).val / 512, ht⟩)).set
  rw [View.set_slice_whole, Rect.mem_set_unit]
  have e := index17 ⟨(i 0).val / 512, ht⟩
  intro a
  match a with
  | ⟨0, _⟩ =>
    show win0_17.index _ 0 * 512 ≤ (i 0).val ∧ (i 0).val < win0_17.index _ 0 * 512 + 512
    rw [e.1]; dsimp only; omega
  | ⟨1, _⟩ =>
    show win0_17.index _ 1 * 1024 ≤ (i 1).val ∧ (i 1).val < win0_17.index _ 1 * 1024 + 1024
    rw [e.2]; omega

theorem final17 (h : Given m c W X) : (dats m 0 c).arrAt 17 cfg0.N = tokGf W X :=
  (dats m 0 c).arrAt_eq_of_cover 17 (tokGf W X) (fun t _ => flushed17 m c t h) cover17

theorem index18 (t : Fin cfg0.N) : win0_18.index t 0 = t.val ∧ win0_18.index t 1 = 0 :=
  (by decide +kernel : ∀ t : Fin grid0.N, win0_18.index t 0 = t.val ∧ win0_18.index t 1 = 0) t

/-- What a point writes back is its block of the whole result. -/
theorem flushed18 (t : Fin cfg0.N) (h : Given m c W X) :
    (dats m 0 c).flushed 18 t = ((cfg0.win 18).blk t).view.read (Elt Ideal) (tokGa W X) := by
  show (cfg0.win 18).cut (grid0.coords t) ((dats m 0 c).after 18 t) = _
  rw [after0_18]
  funext j
  have hj : (j 0).val < 512 := (j 0).isLt
  rw [View.read_apply]
  refine (ga_block (holds m c t h) j).trans ?_
  show _ = ((logistic (proj (W ((win0_18.index t 0 * 512 + 1 * (j 0).val) / 2048)) (X ((win0_18.index t 0 * 512 + 1 * (j 0).val) / 2048)) ((win0_18.index t 0 * 512 + 1 * (j 0).val) % 2048) (3072 + (win0_18.index t 1 * 1024 + 1 * (j 1).val))) : ℝ) : EReal)
  rw [(index18 t).1, (index18 t).2, row_div _ _ hj, row_mod _ _ hj, Nat.zero_mul, Nat.zero_add, Nat.one_mul]
  rfl

theorem cover18 (i : S8192x1024.Idx) : ∃ t : Fin cfg0.N, (cfg0.win 18).flush t = true ∧ i ∈ ((cfg0.win 18).blk t).view.set := by
  have h0 : (i 0).val < 8192 := (i 0).isLt
  have h1 : (i 1).val < 1024 := (i 1).isLt
  have ht : (i 0).val / 512 < cfg0.N := by rw [show cfg0.N = 16 from N_0]; omega
  refine ⟨⟨(i 0).val / 512, ht⟩, flush0_18 _, ?_⟩
  show i ∈ ((View.whole main_v94_6).slice (win0_18.rect ⟨(i 0).val / 512, ht⟩)).set
  rw [View.set_slice_whole, Rect.mem_set_unit]
  have e := index18 ⟨(i 0).val / 512, ht⟩
  intro a
  match a with
  | ⟨0, _⟩ =>
    show win0_18.index _ 0 * 512 ≤ (i 0).val ∧ (i 0).val < win0_18.index _ 0 * 512 + 512
    rw [e.1]; dsimp only; omega
  | ⟨1, _⟩ =>
    show win0_18.index _ 1 * 1024 ≤ (i 1).val ∧ (i 1).val < win0_18.index _ 1 * 1024 + 1024
    rw [e.2]; omega

theorem final18 (h : Given m c W X) : (dats m 0 c).arrAt 18 cfg0.N = tokGa W X :=
  (dats m 0 c).arrAt_eq_of_cover 18 (tokGa W X) (fun t _ => flushed18 m c t h) cover18

theorem index19 (t : Fin cfg0.N) : win0_19.index t 0 = t.val ∧ win0_19.index t 1 = 0 ∧ win0_19.index t 2 = 0 :=
  (by decide +kernel : ∀ t : Fin grid0.N, win0_19.index t 0 = t.val ∧ win0_19.index t 1 = 0 ∧ win0_19.index t 2 = 0) t

/-- What a point writes back is its block of the whole result. -/
theorem flushed19 (t : Fin cfg0.N) (h : Given m c W X) :
    (dats m 0 c).flushed 19 t = ((cfg0.win 19).blk t).view.read (Elt Ideal) (tokQn W X) := by
  show (cfg0.win 19).cut (grid0.coords t) ((dats m 0 c).after 19 t) = _
  rw [after0_19]
  funext j
  have hj : (j 0).val < 1 := (j 0).isLt
  rw [View.read_apply]
  refine (qn_block (holds m c t h) j).trans ?_
  show _ = qmax (W ((win0_19.index t 0 * 1 + 1 * (j 0).val) / 4)) (X ((win0_19.index t 0 * 1 + 1 * (j 0).val) / 4))
    ((win0_19.index t 0 * 1 + 1 * (j 0).val) % 4 * 512)
  rw [(index19 t).1, show t.val * 1 + 1 * (j 0).val = t.val by omega]
  rfl

theorem cover19 (i : S16x8x128.Idx) : ∃ t : Fin cfg0.N, (cfg0.win 19).flush t = true ∧ i ∈ ((cfg0.win 19).blk t).view.set := by
  have h0 : (i 0).val < 16 := (i 0).isLt
  have h1 : (i 1).val < 8 := (i 1).isLt
  have h2 : (i 2).val < 128 := (i 2).isLt
  have ht : (i 0).val < cfg0.N := by rw [show cfg0.N = 16 from N_0]; omega
  refine ⟨⟨(i 0).val, ht⟩, flush0_19 _, ?_⟩
  show i ∈ ((View.whole main_v94_7).slice (win0_19.rect ⟨(i 0).val, ht⟩)).set
  rw [View.set_slice_whole, Rect.mem_set_unit]
  have e := index19 ⟨(i 0).val, ht⟩
  intro a
  match a with
  | ⟨0, _⟩ =>
    show win0_19.index _ 0 * 1 ≤ (i 0).val ∧ (i 0).val < win0_19.index _ 0 * 1 + 1
    rw [e.1]; dsimp only; omega
  | ⟨1, _⟩ =>
    show win0_19.index _ 1 * 8 ≤ (i 1).val ∧ (i 1).val < win0_19.index _ 1 * 8 + 8
    rw [e.2.1]; omega
  | ⟨2, _⟩ =>
    show win0_19.index _ 2 * 128 ≤ (i 2).val ∧ (i 2).val < win0_19.index _ 2 * 128 + 128
    rw [e.2.2]; omega

theorem final19 (h : Given m c W X) : (dats m 0 c).arrAt 19 cfg0.N = tokQn W X :=
  (dats m 0 c).arrAt_eq_of_cover 19 (tokQn W X) (fun t _ => flushed19 m c t h) cover19

/-- The run: the eight results at the layer's values, the arguments unchanged. -/
theorem run (W : Dev nD → ℕ → Params) (X : Dev nD → ℕ → ℕ → ℕ → ℝ) (h : ∀ c, Given m c (W c) (X c)) :
    θ_run defs (onTc (τ := τ) (main (F := Ideal))) ⟨m, fun _ => 0, ρ⟩ fun r => ∀ c : Dev nD,
      r.2.mem ((c.tc : Thread nD τ).loc main_v94_0) = tokFour (W c) (X c)
      ∧ r.2.mem ((c.tc : Thread nD τ).loc main_v94_1) = tokZf (W c) (X c)
      ∧ r.2.mem ((c.tc : Thread nD τ).loc main_v94_2) = tokQ (W c) (X c)
      ∧ r.2.mem ((c.tc : Thread nD τ).loc main_v94_3) = tokLat (W c) (X c)
      ∧ r.2.mem ((c.tc : Thread nD τ).loc main_v94_4) = tokZa (W c) (X c)
      ∧ r.2.mem ((c.tc : Thread nD τ).loc main_v94_5) = tokGf (W c) (X c)
      ∧ r.2.mem ((c.tc : Thread nD τ).loc main_v94_6) = tokGa (W c) (X c)
      ∧ r.2.mem ((c.tc : Thread nD τ).loc main_v94_7) = tokQn (W c) (X c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ k c => ⟨(k c).1.trans (final12 m c (h c)),
    (k c).2.1.trans (final13 m c (h c)),
    (k c).2.2.1.trans (final14 m c (h c)),
    (k c).2.2.2.1.trans (final15 m c (h c)),
    (k c).2.2.2.2.1.trans (final16 m c (h c)),
    (k c).2.2.2.2.2.1.trans (final17 m c (h c)),
    (k c).2.2.2.2.2.2.1.trans (final18 m c (h c)),
    (k c).2.2.2.2.2.2.2.1.trans (final19 m c (h c)),
    (k c).2.2.2.2.2.2.2.2⟩) (Value.run_blocks m ρ)

end Cert.TokenIdeal.Array
-- ==== Proof.TokRefHead.lean ====
/- The token reference's first stages at real values: the modulated hidden rows, the projected columns and their slices,
   the gates, the queries before their rotation, and the normalised latent. -/
module

public import proofs.«01_k».proof.Proof.RefOps
public import proofs.«01_k».proof.Proof.TokHost
public import proofs.«01_k».proof.Proof.TokInputs
public import proofs.«01_k».proof.Proof.Gen.TokenRefIdeal.Read

@[expose] public section

noncomputable section

namespace Cert.TokenRefIdeal.Layer

open Cert.TokenRefIdeal
open Idealize.ShloMosaic hiding ix0 ix1 ix2 ix3 ix4 eq_ix1 eq_ix2 eq_ix3
open Idealize.ShloMosaic.ValueIdx
open Finset (range)
open Cert.Layer Cert.TokenRefIdeal.Read

variable {W : ℕ → Params} {X : ℕ → ℕ → ℕ → ℝ}
  {x0 : (⟨S4x2048x1024, .f32⟩ : BufTy).Contents (Elt Ideal)} {x1 : (⟨S8x1x3072, .f32⟩ : BufTy).Contents (Elt Ideal)}
  {x2 : (⟨S1024x4096, .bf16⟩ : BufTy).Contents (Elt Ideal)} {x3 : (⟨S1x256x768, .f32⟩ : BufTy).Contents (Elt Ideal)}
  {x4 : (⟨S1x256, .f32⟩ : BufTy).Contents (Elt Ideal)} {x5 : (⟨S1x128, .f32⟩ : BufTy).Contents (Elt Ideal)}
  (h : TokInputs W X x0 x1 x2 x3 x4 x5)

include h

/-! ### The modulation -/

theorem scale_cube : Cube (val_main_v10 (F := Ideal) x1) fun b _ d => (W b).scale d := fun i => by
  have h0 : (i 0).val < 4 := (i 0).isLt
  have h2 : (i 2).val < 1024 := (i 2).isLt
  rw [val_main_v10_apply]
  refine (h.mods _ h0).trans (congrArg _ ?_)
  show modRow (W (i 0).val) (1024 + (i 2).val) = _
  rw [modRow, if_neg (by omega), if_pos (by omega), Nat.add_sub_cancel_left]

theorem shift_cube : Cube (val_main_v15 (F := Ideal) x1) fun b _ d => (W b).shift d := fun i => by
  have h0 : (i 0).val < 4 := (i 0).isLt
  have h2 : (i 2).val < 1024 := (i 2).isLt
  rw [val_main_v15_apply]
  refine (h.mods _ h0).trans (congrArg _ ?_)
  show modRow (W (i 0).val) (i 2).val = _
  rw [modRow, if_pos h2]

/-! ### Hidden rows and projected columns -/

/-- The rows over their root mean squares. -/
theorem v9_cube : Cube (val_main_v9 (F := Ideal) x0) (fun b s d => rms 1024 (X b s) d) := fun i => by
  refine mul_real (h.tok i) ?_
  rw [val_main_v8_apply, val_main_v7_apply, val_main_v6_apply, val_main_v4_apply, val_main_v2_apply, val_main_v3_apply,
    val_main_v5_apply, val_main_v1_apply]
  exact rms_real (by omega) _ (fun k => h.tok _) (fun k => rfl) ofBits_zero ofBits_1024 ofBits_eps

theorem hid_cube : Cube (val_main_v17 (F := Ideal) x0 x1) (fun b s d => hid (W b) (X b) s d) := fun i => by
  refine add_real (mul_real (v9_cube h i) ?_) ?_
  · rw [val_main_v13_apply, val_main_v12_apply, val_main_v11_apply]
    exact add_real ofBits_one (scale_cube h _)
  · rw [val_main_v16_apply]
    exact shift_cube h _

theorem proj_cube : Cube (val_main_v19 (F := Ideal) x0 x1 x2) (fun b s c => proj (W b) (X b) s c) := fun i => by
  rw [val_main_v19_apply]
  exact dot_real (fun d => hid (W (i 0).val) (X (i 0).val) (i 1).val d) (fun d => (W (i 0).val).A d (i 2).val) (fun k => hid_cube h _)
    (fun k => h.wA _ _)

theorem u_cube : Cube (val_main_v20 (F := Ideal) x0 x1 x2) (fun b s c => proj (W b) (X b) s c) := fun i => by
  rw [val_main_v20_apply]; exact proj_cube h _

theorem zf_cube : Cube (val_main_v21 (F := Ideal) x0 x1 x2) (fun b s c => proj (W b) (X b) s (512 + c)) := fun i => by
  rw [val_main_v21_apply]; exact proj_cube h _

theorem cq_cube : Cube (val_main_v22 (F := Ideal) x0 x1 x2) (fun b s c => proj (W b) (X b) s (1024 + c)) := fun i => by
  rw [val_main_v22_apply]; exact proj_cube h _

theorem ckv_cube : Cube (val_main_v23 (F := Ideal) x0 x1 x2) (fun b s c => proj (W b) (X b) s (1280 + c)) := fun i => by
  rw [val_main_v23_apply]; exact proj_cube h _

theorem kr_cube : Cube (val_main_v24 (F := Ideal) x0 x1 x2) (fun b s c => proj (W b) (X b) s (1408 + c)) := fun i => by
  rw [val_main_v24_apply]; exact proj_cube h _

theorem za_cube : Cube (val_main_v25 (F := Ideal) x0 x1 x2) (fun b s c => proj (W b) (X b) s (1536 + c)) := fun i => by
  rw [val_main_v25_apply]; exact proj_cube h _

theorem gf_cube : Cube (val_main_v26 (F := Ideal) x0 x1 x2) (fun b s c => proj (W b) (X b) s (2048 + c)) := fun i => by
  rw [val_main_v26_apply]; exact proj_cube h _

theorem ga_cube : Cube (val_main_v27 (F := Ideal) x0 x1 x2) (fun b s c => proj (W b) (X b) s (3072 + c)) := fun i => by
  rw [val_main_v27_apply]; exact proj_cube h _

/-! ### Gates -/

theorem zf_gated : Cube (val_main_v198 (F := Ideal) x0 x1 x2) (fun b s c => silu (W b) (X b) s (512 + c)) := fun i => by
  refine mul_real (zf_cube h i) ?_
  show Ideal.div (val_main_call1_v4 (F := Ideal) i) (val_main_call1_v2 (F := Ideal) i + Ideal.exp (-(val_main_v21 (F := Ideal) x0 x1 x2 i))) = _
  rw [val_main_call1_v4_apply, val_main_call1_v2_apply]
  exact logistic_real (zf_cube h i) ofBits_one ofBits_one

theorem za_gated : Cube (val_main_v205 (F := Ideal) x0 x1 x2) (fun b s c => silu (W b) (X b) s (1536 + c)) := fun i => by
  refine mul_real (za_cube h i) ?_
  show Ideal.div (val_main_call2_v4 (F := Ideal) i) (val_main_call2_v2 (F := Ideal) i + Ideal.exp (-(val_main_v25 (F := Ideal) x0 x1 x2 i))) = _
  rw [val_main_call2_v4_apply, val_main_call2_v2_apply]
  exact logistic_real (za_cube h i) ofBits_one ofBits_one

theorem gf_gate : Cube (val_main_v213 (F := Ideal) x0 x1 x2) (fun b s c => logistic (proj (W b) (X b) s (2048 + c))) := fun i => by
  show Ideal.div (val_main_v212 (F := Ideal) i) (val_main_v210 (F := Ideal) i + Ideal.exp (-(val_main_v26 (F := Ideal) x0 x1 x2 i))) = _
  rw [val_main_v212_apply, val_main_v210_apply]
  exact logistic_real (gf_cube h i) ofBits_one ofBits_one

theorem ga_gate : Cube (val_main_v221 (F := Ideal) x0 x1 x2) (fun b s c => logistic (proj (W b) (X b) s (3072 + c))) := fun i => by
  show Ideal.div (val_main_v220 (F := Ideal) i) (val_main_v218 (F := Ideal) i + Ideal.exp (-(val_main_v27 (F := Ideal) x0 x1 x2 i))) = _
  rw [val_main_v220_apply, val_main_v218_apply]
  exact logistic_real (ga_cube h i) ofBits_one ofBits_one

/-! ### Queries -/

theorem gq_row (b : ℕ) : Row (val_main_v53 (F := Ideal) x4) (W b).qg := (h.gq b).drop _

theorem uq_mat (b : ℕ) : Mat (val_main_v67 (F := Ideal) x3) (W b).UQ := (h.uq b).drop _

/-- The normalised query latent. -/
theorem v66_cube : Cube (val_main_v66 (F := Ideal) x0 x1 x2 x4)
    (fun b s r => rms 256 (fun r => proj (W b) (X b) s (1024 + r)) r * (W b).qg r) := fun i => by
  refine mul_real (mul_real (cq_cube h i) ?_) ?_
  · rw [val_main_v62_apply, val_main_v61_apply, val_main_v60_apply, val_main_v58_apply, val_main_v56_apply, val_main_v57_apply,
      val_main_v59_apply, val_main_v55_apply]
    exact rms_real (by omega) (fun r => proj (W (i 0).val) (X (i 0).val) (i 1).val (1024 + r)) (fun k => cq_cube h _) (fun k => rfl)
      ofBits_zero ofBits_256 ofBits_eps
  · rw [val_main_v65_apply, val_main_v64_apply]
    exact gq_row h _ _

theorem q_cube : Cube (val_main_v68 (F := Ideal) x0 x1 x2 x3 x4) (fun b s c => qv (W b) (X b) s c) := fun i => by
  rw [val_main_v68_apply]
  exact dot_real (fun r => rms 256 (fun r => proj (W (i 0).val) (X (i 0).val) (i 1).val (1024 + r)) r * (W (i 0).val).qg r)
    (fun r => (W (i 0).val).UQ r (i 2).val) (fun k => v66_cube h _) (fun k => uq_mat h _ _)

theorem v69_quad : Quad (val_main_v69 (F := Ideal) x0 x1 x2 x3 x4) (fun b s e c => qv (W b) (X b) s (e * 96 + c)) :=
  (q_cube h).splitLast rfl _

theorem v70_quad : Quad (val_main_v70 (F := Ideal) x0 x1 x2 x3 x4) (fun b s e c => qv (W b) (X b) s (e * 96 + c)) := fun i => by
  rw [val_main_v70_apply]; exact v69_quad h _

theorem v71_quad : Quad (val_main_v71 (F := Ideal) x0 x1 x2 x3 x4) (fun b s e c => qv (W b) (X b) s (e * 96 + (64 + c))) := fun i => by
  rw [val_main_v71_apply]; exact v69_quad h _

/-! ### The latent -/

theorem gk_row (b : ℕ) : Row (val_main_v128 (F := Ideal) x5) (W b).kg := (h.gk b).drop _

/-- The normalised latent. -/
theorem latent_cube : Cube (val_main_v141 (F := Ideal) x0 x1 x2 x5) (fun b s r => ckvn (W b) (X b) s r) := fun i => by
  refine mul_real (mul_real (ckv_cube h i) ?_) ?_
  · rw [val_main_v137_apply, val_main_v136_apply, val_main_v135_apply, val_main_v133_apply, val_main_v131_apply, val_main_v132_apply,
      val_main_v134_apply, val_main_v130_apply]
    exact rms_real (by omega) (fun r => proj (W (i 0).val) (X (i 0).val) (i 1).val (1280 + r)) (fun k => ckv_cube h _) (fun k => rfl)
      ofBits_zero ofBits_128 ofBits_eps
  · rw [val_main_v140_apply, val_main_v139_apply]
    exact gk_row h _ _

end Cert.TokenRefIdeal.Layer
-- ==== Proof.TokRefOut.lean ====
/- The token reference's results at real values: the channel transforms, the rotated, scaled and padded queries with each
   block's largest squared length, the latent with the rotated shared columns, and the eight arrays the results are. -/
module

public import proofs.«01_k».proof.Proof.TokRefHead

@[expose] public section

noncomputable section

namespace Cert.TokenRefIdeal.Layer

open Cert.TokenRefIdeal
open Idealize.ShloMosaic hiding ix0 ix1 ix2 ix3 ix4 eq_ix1 eq_ix2 eq_ix3
open Idealize.ShloMosaic.ValueIdx
open Finset (range)
open Cert.Layer Cert.TokenRefIdeal.Read

/-- Zeros put after the last axis' entries of an array of rank four. -/
theorem Quad.padLast {a b c d u n : ℕ} {x : (⟨4, ![a, b, c, d]⟩ : Shape).Idx → EReal} {f : ℕ → ℕ → ℕ → ℕ → ℝ} (hx : Quad x f)
    {v : (⟨0, ![]⟩ : Shape).Idx → EReal} (hv : ∀ j, v j = ((0 : ℝ) : EReal))
    (h : (⟨4, ![a, b, c, d]⟩ : Shape).Pads ![0, 0, 0, 0] ![0, 0, 0, u] ![0, 0, 0, 0] ⟨4, ![a, b, c, n]⟩) (hu : 0 < (⟨0, ![]⟩ : Shape).numel) :
    Quad (pad ⟨4, ![a, b, c, n]⟩ ![0, 0, 0, 0] ![0, 0, 0, u] ![0, 0, 0, 0] x v h hu)
      (fun i j l k => if k < d then f i j l k else 0) := fun i => by
  by_cases H : (i 3).val < d
  · rw [pad_apply_of_inside _ _ _ x v h hu i (ix4 (i 0) (i 1) (i 2) ⟨(i 3).val, H⟩) (fun e => match e with
      | ⟨0, _⟩ => by show (i 0).val = 0 + (i 0).val * (0 + 1); omega
      | ⟨1, _⟩ => by show (i 1).val = 0 + (i 1).val * (0 + 1); omega
      | ⟨2, _⟩ => by show (i 2).val = 0 + (i 2).val * (0 + 1); omega
      | ⟨3, _⟩ => by show (i 3).val = 0 + (i 3).val * (0 + 1); omega)]
    beta_reduce; rw [if_pos H]; exact hx _
  · beta_reduce; rw [if_neg H, ← hv (Shape.Idx.first hu)]
    exact pad_apply_of_not_inside _ _ _ x v h hu i 3 fun H' => H (by
      have h2 : ((i 3).val - 0) / (0 + 1) < d := H'.2.2
      rw [Nat.zero_add, Nat.div_one, Nat.sub_zero] at h2
      exact h2)

/-! ### Tables -/

theorem v37_mat : Mat (val_main_v37 (F := Ideal)) (fun j c => angle 128 (j * c)) :=
  angles_plain ofBits_128 (by omega) (by norm_num) (by norm_num) _

theorem v43_mat : Mat (val_main_v43 (F := Ideal)) (fun j c => Real.cos (angle 128 (j * c)) * (Real.sqrt 128)⁻¹) :=
  (v37_mat.hostCos.overRoot ofBits_128 (by omega) _).congr fun _ _ _ _ => by norm_num

theorem v50_mat : Mat (val_main_v50 (F := Ideal)) (fun j c => Real.sin (angle 128 (j * c)) * (Real.sqrt 128)⁻¹) :=
  (v37_mat.hostSin.overRoot ofBits_128 (by omega) _).congr fun _ _ _ _ => by norm_num

/-- The angles of the positions, as the queries' rotation has them. -/
theorem v99_mat : Mat (val_main_v99 (F := Ideal)) ropeAngle :=
  ropeTable_mat _ _ (freq_row _ _ _ _) _ _ _ _ _ rfl rfl

/-- The angles of the positions, as the shared columns' rotation has them. -/
theorem v169_mat : Mat (val_main_v169 (F := Ideal)) ropeAngle :=
  ropeTable_mat _ _ (freq_row _ _ _ _) _ _ _ _ _ rfl rfl

theorem v110_quad : Quad (val_main_v110 (F := Ideal)) (fun _ s _ r => Real.cos (ropeAngle s r)) := fun i => by
  have h3 : (i 3).val < 32 := (i 3).isLt
  rw [val_main_v110_apply, val_main_v109_apply]
  show Ideal.cos (val_main_v100 (F := Ideal) _) = _
  rw [val_main_v100_apply, v99_mat]
  show ((Real.cos (ropeAngle ((((i 1).val * 1 + 0) * 32 + (i 3).val) / 32) ((((i 1).val * 1 + 0) * 32 + (i 3).val) % 32)) : ℝ) : EReal) = _
  rw [show (((i 1).val * 1 + 0) * 32 + (i 3).val) / 32 = (i 1).val by omega,
    show (((i 1).val * 1 + 0) * 32 + (i 3).val) % 32 = (i 3).val by omega]

theorem v114_quad : Quad (val_main_v114 (F := Ideal)) (fun _ s _ r => Real.sin (ropeAngle s r)) := fun i => by
  have h3 : (i 3).val < 32 := (i 3).isLt
  rw [val_main_v114_apply, val_main_v113_apply]
  show Ideal.sin (val_main_v100 (F := Ideal) _) = _
  rw [val_main_v100_apply, v99_mat]
  show ((Real.sin (ropeAngle ((((i 1).val * 1 + 0) * 32 + (i 3).val) / 32) ((((i 1).val * 1 + 0) * 32 + (i 3).val) % 32)) : ℝ) : EReal) = _
  rw [show (((i 1).val * 1 + 0) * 32 + (i 3).val) / 32 = (i 1).val by omega,
    show (((i 1).val * 1 + 0) * 32 + (i 3).val) % 32 = (i 3).val by omega]

theorem v179_cube : Cube (val_main_v179 (F := Ideal)) (fun _ s r => Real.cos (ropeAngle s r)) := fun i => by
  rw [val_main_v179_apply, val_main_v178_apply]
  show Ideal.cos (val_main_v169 (F := Ideal) _) = _
  rw [v169_mat]
  rfl

theorem v183_cube : Cube (val_main_v183 (F := Ideal)) (fun _ s r => Real.sin (ropeAngle s r)) := fun i => by
  rw [val_main_v183_apply, val_main_v182_apply]
  show Ideal.sin (val_main_v169 (F := Ideal) _) = _
  rw [v169_mat]
  rfl

theorem log_two : Ideal.log (Ideal.ofBits .f32 0x40000000#32) = ((Real.log 2 : ℝ) : EReal) := by
  rw [ofBits_two, Ideal.log_coe, if_neg (by norm_num)]

/-- The value the queries are padded with. -/
theorem zero_fill (j : S_.Idx) : val_main_call0_v0 (F := Ideal) j = ((0 : ℝ) : EReal) := by
  show ((((0#32 : BitVec 32).toInt : ℤ) : ℝ) : EReal) = _
  norm_num

theorem v186_cube : Cube (val_main_v186 (F := Ideal)) (fun _ _ _ => 1) := fun i => by
  rw [val_main_v186_apply]; exact ofBits_one

theorem v187_cube : Cube (val_main_v187 (F := Ideal)) (fun _ _ _ => 0) := fun i => by
  rw [val_main_v187_apply]; exact ofBits_zero

variable {W : ℕ → Params} {X : ℕ → ℕ → ℕ → ℝ}
  {x0 : (⟨S4x2048x1024, .f32⟩ : BufTy).Contents (Elt Ideal)} {x1 : (⟨S8x1x3072, .f32⟩ : BufTy).Contents (Elt Ideal)}
  {x2 : (⟨S1024x4096, .bf16⟩ : BufTy).Contents (Elt Ideal)} {x3 : (⟨S1x256x768, .f32⟩ : BufTy).Contents (Elt Ideal)}
  {x4 : (⟨S1x256, .f32⟩ : BufTy).Contents (Elt Ideal)} {x5 : (⟨S1x128, .f32⟩ : BufTy).Contents (Elt Ideal)}
  (h : TokInputs W X x0 x1 x2 x3 x4 x5)

include h

/-! ### The channel transforms -/

theorem v38_quad : Quad (val_main_v38 (F := Ideal) x0 x1 x2) (fun b s g j => proj (W b) (X b) s (g * 128 + j)) :=
  (u_cube h).splitLast rfl _

theorem v44_quad : Quad (val_main_v44 (F := Ideal) x0 x1 x2) (fun b s g c =>
    ∑ j ∈ range 128, proj (W b) (X b) s (g * 128 + j) * (Real.cos (angle 128 (j * c)) * (Real.sqrt 128)⁻¹)) := fun i => by
  rw [val_main_v44_apply]
  exact dot_real (fun j => proj (W (i 0).val) (X (i 0).val) (i 1).val ((i 2).val * 128 + j))
    (fun j => Real.cos (angle 128 (j * (i 3).val)) * (Real.sqrt 128)⁻¹) (fun k => v38_quad h _) (fun k => v43_mat _)

theorem v51_quad : Quad (val_main_v51 (F := Ideal) x0 x1 x2) (fun b s g c =>
    ∑ j ∈ range 128, proj (W b) (X b) s (g * 128 + j) * (Real.sin (angle 128 (j * c)) * (Real.sqrt 128)⁻¹)) := fun i => by
  rw [val_main_v51_apply]
  exact dot_real (fun j => proj (W (i 0).val) (X (i 0).val) (i 1).val ((i 2).val * 128 + j))
    (fun j => Real.sin (angle 128 (j * (i 3).val)) * (Real.sqrt 128)⁻¹) (fun k => v38_quad h _) (fun k => v50_mat _)

theorem v45_cube : Cube (val_main_v45 (F := Ideal) x0 x1 x2) (fun b s c => uc (W b) (X b) s c) := (v44_quad h).joinLast rfl _

theorem v52_cube : Cube (val_main_v52 (F := Ideal) x0 x1 x2) (fun b s c => us (W b) (X b) s c) := (v51_quad h).joinLast rfl _

theorem four_cube : Cube (val_main_v195 (F := Ideal) x0 x1 x2) (fun b s c => ucus (W b) (X b) s c) :=
  (v45_cube h).beside (v52_cube h) rfl _

/-! ### The queries -/

theorem v107_quad : Quad (val_main_v107 (F := Ideal) x0 x1 x2 x3 x4)
    (fun b s e c => rot (fun r => qv (W b) (X b) s (e * 96 + (64 + r))) c) :=
  Quad.turned (g := fun b s e r => qv (W b) (X b) s (e * 96 + (64 + r)))
    (Quad.hostNegf (φ := .f32) fun i => by rw [val_main_v101_apply]; exact v71_quad h _)
    (fun i => by rw [val_main_v103_apply]; exact v71_quad h _)
    (Quad.hostNegf (φ := .f32) fun i => by rw [val_main_v104_apply]; exact v71_quad h _)
    (fun i => by rw [val_main_v106_apply]; exact v71_quad h _) _

theorem v116_quad : Quad (val_main_v116 (F := Ideal) x0 x1 x2 x3 x4)
    (fun b s e c => rope s (fun r => qv (W b) (X b) s (e * 96 + (64 + r))) c) := fun i =>
  add_real (mul_real (v71_quad h i) (v110_quad i)) (mul_real (v107_quad h i) (v114_quad i))

theorem v117_quad : Quad (val_main_v117 (F := Ideal) x0 x1 x2 x3 x4)
    (fun b s e c => if c < 64 then qv (W b) (X b) s (e * 96 + c) else rope s (fun r => qv (W b) (X b) s (e * 96 + (64 + r))) (c - 64)) :=
  Quad.beside (v70_quad h) (v116_quad h) rfl _

theorem v125_quad : Quad (val_main_v125 (F := Ideal) x0 x1 x2 x3 x4)
    (fun b s e c => (if c < 64 then qv (W b) (X b) s (e * 96 + c) else rope s (fun r => qv (W b) (X b) s (e * 96 + (64 + r))) (c - 64)) * qscale) :=
  fun i => by
  have hs : (0 : ℝ) < Real.sqrt 96 := Real.sqrt_pos.2 (by norm_num)
  have hl : (0 : ℝ) < Real.log 2 := Real.log_pos (by norm_num)
  have e1 : val_main_v120 (F := Ideal) i = ((Real.sqrt 96 : ℝ) : EReal) := by
    rw [val_main_v120_apply]; exact sqrt_real ofBits_96 (by norm_num)
  have e2 : val_main_v124 (F := Ideal) i = ((Real.log 2 : ℝ) : EReal) := by
    rw [val_main_v124_apply]; exact log_two
  refine (div_real (div_real (v117_quad h i) e1 hs.ne') e2 hl.ne').trans (congrArg _ ?_)
  rw [qscale, div_eq_mul_inv, div_eq_mul_inv, mul_assoc]

theorem v126_quad : Quad (val_main_v126 (F := Ideal) x0 x1 x2 x3 x4) (fun b s e c => if c < 96 then
    (if c < 64 then qv (W b) (X b) s (e * 96 + c) else rope s (fun r => qv (W b) (X b) s (e * 96 + (64 + r))) (c - 64)) * qscale else 0) :=
  Quad.padLast (v125_quad h) zero_fill _ _

theorem v127_cube : Cube (val_main_v127 (F := Ideal) x0 x1 x2 x3 x4) (fun b s c => if c % 128 < 96 then
    (if c % 128 < 64 then qv (W b) (X b) s (c / 128 * 96 + c % 128)
      else rope s (fun r => qv (W b) (X b) s (c / 128 * 96 + (64 + r))) (c % 128 - 64)) * qscale else 0) :=
  (v126_quad h).joinLast rfl _

/-- The queries, padded and the heads side by side. -/
theorem query_cube : Cube (val_main_v127 (F := Ideal) x0 x1 x2 x3 x4) (fun b s c => qslot (W b) (X b) s s c) :=
  (v127_cube h).congr fun b s c _ _ _ => by
  unfold qslot
  by_cases h1 : c % 128 < 64
  · rw [if_pos h1, if_pos h1, if_pos (by omega)]
  · rw [if_neg h1, if_neg h1]

/-- The squared length of every position's queries. -/
theorem length_mat : Mat (val_main_v190 (F := Ideal) x0 x1 x2 x3 x4) (fun b s => qsq (W b) (X b) s s) := fun i => by
  rw [val_main_v190_apply]
  refine (add_real ofBits_zero (dot_real (fun c => qslot (W (i 0).val) (X (i 0).val) (i 1).val (i 1).val c)
    (fun c => qslot (W (i 0).val) (X (i 0).val) (i 1).val (i 1).val c) (fun k => query_cube h _) (fun k => query_cube h _))).trans ?_
  rw [zero_add]
  rfl

/-- Each block's largest squared length. -/
theorem largest (i : S16.Idx) : val_main_v192 (F := Ideal) x0 x1 x2 x3 x4 i
    = qmax (W ((i 0).val / 4)) (X ((i 0).val / 4)) ((i 0).val % 4 * 512) := by
  show Host.reduce (max : EReal → EReal → EReal) (val_main_v191 (F := Ideal) x0 x1 x2 x3 x4) (val_main_cst_31 (F := Ideal)) _ _ i = _
  rw [Host.reduce_eq_fold, Shape.ReducesTo.fold_fiber_r2_a1]
  have e : ∀ j, val_main_cst_31 (F := Ideal) j = (⊥ : EReal) := fun _ => ofBits_neg_inf
  rw [e]
  refine congrArg (fun g : Fin 512 → EReal => Finset.univ.fold max ⊥ g) (funext fun k => ?_)
  have hk : k.val < 512 := k.isLt
  rw [val_main_v191_apply, length_mat h]
  show ((qsq (W (((i 0).val * 512 + k.val) / 2048)) (X (((i 0).val * 512 + k.val) / 2048)) (((i 0).val * 512 + k.val) % 2048)
    (((i 0).val * 512 + k.val) % 2048) : ℝ) : EReal) = _
  rw [show ((i 0).val * 512 + k.val) / 2048 = (i 0).val / 4 by omega,
    show ((i 0).val * 512 + k.val) % 2048 = (i 0).val % 4 * 512 + k.val by omega]

/-! ### The latent -/

theorem v176_cube : Cube (val_main_v176 (F := Ideal) x0 x1 x2) (fun b s c => rot (fun r => proj (W b) (X b) s (1408 + r)) c) :=
  Cube.turned (g := fun b s r => proj (W b) (X b) s (1408 + r))
    (Cube.hostNegf (φ := .f32) fun i => by rw [val_main_v170_apply]; exact kr_cube h _)
    (fun i => by rw [val_main_v172_apply]; beta_reduce; rw [Nat.zero_add]; exact kr_cube h _)
    (Cube.hostNegf (φ := .f32) fun i => by rw [val_main_v173_apply]; exact kr_cube h _)
    (fun i => by rw [val_main_v175_apply]; exact kr_cube h _) _

theorem v185_cube : Cube (val_main_v185 (F := Ideal) x0 x1 x2) (fun b s c => rope s (fun r => proj (W b) (X b) s (1408 + r)) c) := fun i =>
  add_real (mul_real (kr_cube h i) (v179_cube i)) (mul_real (v176_cube h i) (v183_cube i))

theorem v188_pieces : Cube (val_main_v188 (F := Ideal) x0 x1 x2 x5) (fun b s r => if r < 128 then ckvn (W b) (X b) s r
    else if r < 160 then rope s (fun r => proj (W b) (X b) s (1408 + r)) (r - 128) else if r < 161 then 1 else 0) :=
  Cube.beside4 (latent_cube h) (v185_cube h) v186_cube v187_cube rfl _

theorem v188_cube : Cube (val_main_v188 (F := Ideal) x0 x1 x2 x5) (fun b s r => latTok (W b) (X b) s s r) :=
  (v188_pieces h).congr fun b s r _ _ _ => by
  unfold latTok
  by_cases h1 : r < 128
  · rw [if_pos h1, if_pos h1]
  · rw [if_neg h1, if_neg h1]
    by_cases h2 : r < 160
    · rw [if_pos h2, if_pos h2]
    · rw [if_neg h2, if_neg h2]
      by_cases h3 : r = 160
      · rw [if_pos h3, if_pos (by omega)]
      · rw [if_neg h3, if_neg (by omega)]

/-! ### The results -/

theorem four_result : val_main_v197 (F := Ideal) x0 x1 x2 = tokFour W X := funext (Cube.join (four_cube h) rfl _)

theorem zf_result : val_main_v200 (F := Ideal) x0 x1 x2 = tokZf W X := funext (Cube.join (zf_gated h) rfl _)

theorem q_result : val_main_v202 (F := Ideal) x0 x1 x2 x3 x4 = tokQ W X := funext (Cube.join (query_cube h) rfl _)

theorem lat_result : val_main_v204 (F := Ideal) x0 x1 x2 x5 = tokLat W X := funext (Cube.join (v188_cube h) rfl _)

theorem za_result : val_main_v207 (F := Ideal) x0 x1 x2 = tokZa W X := funext (Cube.join (za_gated h) rfl _)

theorem gf_result : val_main_v215 (F := Ideal) x0 x1 x2 = tokGf W X := funext (Cube.join (gf_gate h) rfl _)

theorem ga_result : val_main_v223 (F := Ideal) x0 x1 x2 = tokGa W X := funext (Cube.join (ga_gate h) rfl _)

theorem qn_result : val_main_v194 (F := Ideal) x0 x1 x2 x3 x4 = tokQn W X := funext fun i => by
  rw [val_main_v194_apply, val_main_v193_apply]
  exact largest h _

end Cert.TokenRefIdeal.Layer
-- ==== Proof.TokRefRun.lean ====
/- The token reference's run: on real arguments its eight results are the token's arrays; on any arguments it ends with the
   arguments unchanged and every counter at zero. -/
module

public import proofs.«01_k».proof.Proof.TokRefOut
public import proofs.«01_k».proof.Proof.Gen.TokenRefIdeal.Run
public import Idealize.ShloMosaic.Lib.Quiescent

@[expose] public section

noncomputable section

namespace Cert.TokenRefIdeal.Layer

open Cert.TokenRefIdeal Cert.Layer Idealize.ShloMosaic Idealize.ShloMosaic.TcCoe Idealize.SL.Sem

variable (m : (ℓ : Loc nD τ sig) → Buf (Elt Ideal) ℓ) (ρ : Dev nD → PrngReg) (c : Dev nD)

/-- Device `c`'s arguments hold the tokens and the parameters. -/
abbrev Given (W : ℕ → Params) (X : ℕ → ℕ → ℕ → ℝ) : Prop :=
  TokInputs W X (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- The arguments' buffers of device `c` hold after the run what they held before it. -/
def Kept (s : MemSt nD τ sig (Elt Ideal)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)

/-- The run: the eight results at the token's arrays, the arguments unchanged. -/
theorem run (W : Dev nD → ℕ → Params) (X : Dev nD → ℕ → ℕ → ℕ → ℝ) (h : ∀ c, Given m c (W c) (X c)) :
    θ_run defs (onTc (τ := τ) (main (F := Ideal))) ⟨m, fun _ => 0, ρ⟩ fun r => ∀ c : Dev nD,
      r.2.mem ((c.tc : Thread nD τ).loc main_v197) = tokFour (W c) (X c)
      ∧ r.2.mem ((c.tc : Thread nD τ).loc main_v200) = tokZf (W c) (X c)
      ∧ r.2.mem ((c.tc : Thread nD τ).loc main_v202) = tokQ (W c) (X c)
      ∧ r.2.mem ((c.tc : Thread nD τ).loc main_v204) = tokLat (W c) (X c)
      ∧ r.2.mem ((c.tc : Thread nD τ).loc main_v207) = tokZa (W c) (X c)
      ∧ r.2.mem ((c.tc : Thread nD τ).loc main_v215) = tokGf (W c) (X c)
      ∧ r.2.mem ((c.tc : Thread nD τ).loc main_v223) = tokGa (W c) (X c)
      ∧ r.2.mem ((c.tc : Thread nD τ).loc main_v194) = tokQn (W c) (X c)
      ∧ Kept m c r.2 :=
  (θ_run defs _ _).mono (fun _ k c => ⟨
    (k c).1.trans ((Read.val_main_v197_eq _).trans (four_result (h c))),
    (k c).2.1.trans ((Read.val_main_v200_eq _).trans (zf_result (h c))),
    (k c).2.2.1.trans ((Read.val_main_v202_eq _).trans (q_result (h c))),
    (k c).2.2.2.1.trans ((Read.val_main_v204_eq _).trans (lat_result (h c))),
    (k c).2.2.2.2.1.trans ((Read.val_main_v207_eq _).trans (za_result (h c))),
    (k c).2.2.2.2.2.1.trans ((Read.val_main_v215_eq _).trans (gf_result (h c))),
    (k c).2.2.2.2.2.2.1.trans ((Read.val_main_v223_eq _).trans (ga_result (h c))),
    (k c).2.2.2.2.2.2.2.1.trans ((Read.val_main_v194_eq _).trans (qn_result (h c))),
    (k c).2.2.2.2.2.2.2.2⟩) (Value.run m ρ)

/-- The frame: the arguments unchanged, every counter at zero. -/
theorem frame : θ_run defs (onTc (τ := τ) (main (F := Ideal))) ⟨m, fun _ => 0, ρ⟩ fun r =>
    (∀ c : Dev nD, Kept m c r.2) ∧ r.2.sem = fun _ => 0 :=
  (θ_run defs _ _).mono (fun r k => ⟨fun c => (k c).2.2.2.2.2.2.2.2, sem_eq_zero_of_no_sems (by decide) r.2⟩) (Value.run m ρ)

end Cert.TokenRefIdeal.Layer
-- ==== Proof.TokFinite.lean ====
/- What the token's precondition gives: arguments whose elements are all finite and whose rotated columns agree hold the
   tokens and the parameters of some layer of real numbers for each batch. -/
module

public import proofs.«01_k».proof.Proof.TokHost
public import proofs.«01_k».proof.Proof.TokInputs
public import proofs.«01_k».proof.Proof.Finite
public import proofs.«01_k».proof.Pre_laid_out

@[expose] public section

noncomputable section

namespace Cert.Layer

open Idealize.ShloMosaic hiding ix0 ix1 ix2 ix3 ix4 eq_ix1 eq_ix2 eq_ix3
open Idealize.ShloMosaic.ValueIdx

/-- Two arrays all of whose elements compare equal are equal at every index. -/
theorem eq_of_all {s : Shape} {axes : List (Fin s.rank)} (x y : FVec Ideal s .f32) (hr : s.ReducesTo axes ⟨0, ![]⟩)
    (hu : 0 < (⟨0, ![]⟩ : Shape).numel) (j : (⟨0, ![]⟩ : Shape).Idx)
    (e : Host.reduce IntOp.andi (cmpf .oeq x y) (constantI ⟨0, ![]⟩ 1 1#1) hr hu j = 1#1) (i : s.Idx) : x i = y i := by
  have : Subsingleton (⟨0, ![]⟩ : Shape).Idx := ⟨fun a b => funext fun k => k.elim0⟩
  have k : BitVec.ofBool (decide (x i = y i)) = 1#1 := Host.reduce_andi_all _ _ _ _ j e i
  by_contra hn
  rw [decide_eq_false hn] at k
  exact absurd k (by decide)

variable {a0 : (⟨3, ![4, 2048, 1024]⟩ : Shape).Idx → EReal}
  {a1 : (⟨3, ![8, 1, 3072]⟩ : Shape).Idx → EReal} {a2 : (⟨2, ![1024, 4096]⟩ : Shape).Idx → EReal}
  {a3 : (⟨3, ![1, 256, 768]⟩ : Shape).Idx → EReal} {a4 : (⟨2, ![1, 256]⟩ : Shape).Idx → EReal}
  {a5 : (⟨2, ![1, 128]⟩ : Shape).Idx → EReal}

/-- Arguments of real numbers whose rotated columns agree hold the tokens and the parameters of a layer for each batch. -/
theorem TokInputs.exists (h0 : AllReal a0) (h1 : AllReal a1) (h2 : AllReal a2) (h3 : AllReal a3) (h4 : AllReal a4)
    (h5 : AllReal a5) (ht : ∀ A : ℕ → ℕ → ℝ, Mat a2 A → ∀ d j, d < 1024 → j < 32 →
      A d (1472 + j) = rot (fun r => A d (1408 + r)) j) :
    ∃ (W : ℕ → Params) (X : ℕ → ℕ → ℕ → ℝ), TokInputs W X a0 a1 a2 a3 a4 a5 := by
  obtain ⟨X, hX⟩ := Cube.exists h0
  obtain ⟨M, hM⟩ := Cube.exists h1
  obtain ⟨A, hA⟩ := Mat.exists h2
  obtain ⟨UQ, hUQ⟩ := Cube.existsOne h3
  obtain ⟨qg, hqg⟩ := Mat.existsOne h4
  obtain ⟨kg, hkg⟩ := Mat.existsOne h5
  refine ⟨fun b => ⟨fun d => M b 0 d, fun d => M b 0 (1024 + d), fun d => M b 0 (2048 + d), A, UQ, fun _ _ => 0, fun _ _ => 0,
    fun _ _ => 0, fun _ _ => 0, qg, kg, fun _ => 0⟩, X,
    ⟨hX, fun i _ => (hM i).trans ?_, fun _ => hA, fun _ => hUQ, fun _ => hqg, fun _ => hkg, fun _ => ht A hA⟩⟩
  have : (i 1).val < 1 := (i 1).isLt
  rw [show (i 1).val = 0 by omega]
  refine congrArg _ ?_
  unfold modRow
  split_ifs
  · rfl
  · exact congrArg (M (i 0).val 0) (by omega)
  · exact congrArg (M (i 0).val 0) (by omega)

/-- The precondition makes every argument one of real numbers and the rotated columns agree. -/
theorem TokInputs.ofLaidOut [Cert.Pre_laid_out.Facts]
    (e : Cert.Pre_laid_out.fn (F := Ideal) a0 a1 a2 a3 a4 a5 = fun _ => 1#1) :
    ∃ (W : ℕ → Params) (X : ℕ → ℕ → ℕ → ℝ), TokInputs W X a0 a1 a2 a3 a4 a5 := by
  have e := congrFun e ix0
  dsimp only [Cert.Pre_laid_out.fn, Cert.Pre_laid_out.fn_part1, Cert.Pre_laid_out.fn_part2, andi] at e
  obtain ⟨e, k5⟩ := IntOp.andi_eq_one.1 e
  obtain ⟨e, k4⟩ := IntOp.andi_eq_one.1 e
  obtain ⟨e, k3⟩ := IntOp.andi_eq_one.1 e
  obtain ⟨e, k2⟩ := IntOp.andi_eq_one.1 e
  obtain ⟨e, k1⟩ := IntOp.andi_eq_one.1 e
  obtain ⟨kt, k0⟩ := IntOp.andi_eq_one.1 e
  refine TokInputs.exists (allReal_of_all _ _ _ _ _ k0) (allReal_of_all _ _ _ _ _ k1) (allReal_of_all _ _ _ _ _ k2)
    (allReal_of_all _ _ _ _ _ k3) (allReal_of_all _ _ _ _ _ k4) (allReal_of_all _ _ _ _ _ k5) fun A hA d j hd hj => ?_
  have q := eq_of_all _ _ _ _ _ kt (ix2 ⟨d, hd⟩ ⟨j, hj⟩)
  have hs : Mat (extractStridedSlice ⟨2, ![1024, 32]⟩ ![0, 1408] a2 Cert.Pre_laid_out.Facts.slices_S1024x4096_S1024x32_0_1408)
      (fun i r => A i (1408 + r)) := (hA.slice 0 1408 _).congr fun i r _ _ => by rw [Nat.zero_add]
  have hl := hA.slice 0 1472 Cert.Pre_laid_out.Facts.slices_S1024x4096_S1024x32_0_1472 (ix2 ⟨d, hd⟩ ⟨j, hj⟩)
  have hr := Mat.turned (g := fun i r => A i (1408 + r))
    (Mat.hostNegf (φ := .f32) ((hs.slice 0 8 Cert.Pre_laid_out.Facts.slices_S1024x32_S1024x8_0_8).congr fun i r _ _ => by rw [Nat.zero_add]))
    ((hs.slice 0 0 Cert.Pre_laid_out.Facts.slices_S1024x32_S1024x8_0_0).congr fun i r _ _ => by rw [Nat.zero_add])
    (Mat.hostNegf (φ := .f32) ((hs.slice 0 24 Cert.Pre_laid_out.Facts.slices_S1024x32_S1024x8_0_24).congr fun i r _ _ => by rw [Nat.zero_add]))
    ((hs.slice 0 16 Cert.Pre_laid_out.Facts.slices_S1024x32_S1024x8_0_16).congr fun i r _ _ => by rw [Nat.zero_add])
    Cert.Pre_laid_out.Facts.concatenates_S1024x8_S1024x8_S1024x8_S1024x8_S1024x32_d1 (ix2 ⟨d, hd⟩ ⟨j, hj⟩)
  have z := EReal.coe_eq_coe_iff.1 (hl.symm.trans (q.trans hr))
  exact (congrArg (fun x => A x (1472 + j)) (Nat.zero_add d)).symm.trans z

end Cert.Layer
-- ==== Proof.PadSpec.lean ====
/- The padded projection's mathematics over the extended reals: the logistic function in the kernel's form and the
   reference's, arrays given by functions of row and column, arrays put together from pieces, and the padded column. -/
module

public import proofs.«01_k».proof.Proof.RefOps

@[expose] public section

noncomputable section

namespace Cert.Layer

open Idealize.ShloMosaic hiding ix0 ix1 ix2 ix3 eq_ix1 eq_ix2 eq_ix3
open Idealize.ShloMosaic.ValueIdx
open Finset (range)

/-! ### The logistic function -/

/-- The logistic function of an extended real. -/
def sigm (x : EReal) : EReal := Ideal.div ((1 : ℝ) : EReal) (((1 : ℝ) : EReal) + Ideal.exp (-x))

/-- The kernel writes it with the hyperbolic tangent. -/
theorem sigm_tanh (x : EReal) :
    ((1 / 2 : ℝ) : EReal) * Ideal.tanh (((1 / 2 : ℝ) : EReal) * x) + ((1 / 2 : ℝ) : EReal) = sigm x := by
  induction x with
  | coe r =>
    rw [sigm, logistic_real rfl rfl rfl, ← half_tanh, ← EReal.coe_mul]
    show ((1 / 2 : ℝ) : EReal) * ((Real.tanh (1 / 2 * r) : ℝ) : EReal) + _ = _
    rw [← EReal.coe_mul, ← EReal.coe_add]
  | bot =>
    rw [EReal.coe_mul_bot_of_pos (by norm_num)]
    have e : Ideal.tanh ⊥ = (((-1 : ℝ)) : EReal) := rfl
    have e' : Ideal.exp (-⊥) = ⊤ := by rw [EReal.neg_bot]; rfl
    rw [sigm, e, e', ← EReal.coe_mul, ← EReal.coe_add]
    have t : ((1 : ℝ) : EReal) + ⊤ = ⊤ := rfl
    rw [t, Ideal.div, if_neg EReal.top_ne_zero, EReal.inv_top, mul_zero]
    norm_num
  | top =>
    rw [EReal.coe_mul_top_of_pos (by norm_num)]
    have e : Ideal.tanh ⊤ = ((1 : ℝ) : EReal) := rfl
    have e' : Ideal.exp (-⊤) = ((0 : ℝ) : EReal) := by rw [EReal.neg_top]; rfl
    rw [sigm, e, e', ← EReal.coe_add, Ideal.div_coe (by norm_num), ← EReal.coe_mul, ← EReal.coe_mul, ← EReal.coe_add]
    norm_num

/-- `x` times its logistic. -/
def swish (x : EReal) : EReal := x * sigm x

/-! ### Arrays given by functions -/

variable {a b : ℕ}

/-- The array's entry at row `i` and column `j` is `f i j`. -/
def Ent (x : (⟨2, ![a, b]⟩ : Shape).Idx → EReal) (f : ℕ → ℕ → EReal) : Prop := ∀ i, x i = f (i 0).val (i 1).val

/-- The entries of an array as a function, zero outside. -/
def entries (x : (⟨2, ![a, b]⟩ : Shape).Idx → EReal) (i j : ℕ) : EReal :=
  if h : i < a ∧ j < b then x (ix2 ⟨i, h.1⟩ ⟨j, h.2⟩) else 0

theorem ent_entries (x : (⟨2, ![a, b]⟩ : Shape).Idx → EReal) : Ent x (entries x) := fun i => by
  have h : (i 0).val < a ∧ (i 1).val < b := ⟨(i 0).isLt, (i 1).isLt⟩
  rw [entries, dif_pos h]
  exact congrArg x (eq_ix2 i)

/-- Four pieces one above the other. -/
theorem Ent.above4 {p q r s n : ℕ} {x : (⟨2, ![p, b]⟩ : Shape).Idx → EReal} {y : (⟨2, ![q, b]⟩ : Shape).Idx → EReal} {z : (⟨2, ![r, b]⟩ : Shape).Idx → EReal} {w : (⟨2, ![s, b]⟩ : Shape).Idx → EReal}
    {f g u v : ℕ → ℕ → EReal} (hx : Ent x f) (hy : Ent y g) (hz : Ent z u) (hw : Ent w v) (hn : n = p + q + r + s)
    (h : Shape.Concatenates [⟨2, ![p, b]⟩, ⟨2, ![q, b]⟩, ⟨2, ![r, b]⟩, ⟨2, ![s, b]⟩] ⟨2, ![n, b]⟩ 0) :
    Ent (concatenate ⟨2, ![n, b]⟩ 0 [⟨⟨2, ![p, b]⟩, x⟩, ⟨⟨2, ![q, b]⟩, y⟩, ⟨⟨2, ![r, b]⟩, z⟩, ⟨⟨2, ![s, b]⟩, w⟩] h)
      (fun i j => if i < p then f i j else if i < p + q then g (i - p) j else if i < p + q + r then u (i - (p + q)) j else v (i - (p + q + r)) j) := fun i => by
  have h0 : (i 0).val < n := (i 0).isLt
  by_cases c0 : (i 0).val < p
  · rw [concatenate_apply_piece (xs := [⟨_, x⟩, ⟨_, y⟩, ⟨_, z⟩, ⟨_, w⟩]) 0 h i 0 (Nat.lt_of_sub_eq_succ rfl) _ x rfl rfl (0)
      (by show 0 = 0; omega) (ix2 ⟨(i 0).val - (0), by omega⟩ (i 1))
      (fun d hd => match d with | ⟨1, _⟩ => rfl | ⟨0, _⟩ => absurd rfl hd) (by show (0) + ((i 0).val - (0)) = (i 0).val; omega), hx _]
    simp only [if_pos c0]; rfl
  by_cases c1 : (i 0).val < p + q
  · rw [concatenate_apply_piece (xs := [⟨_, x⟩, ⟨_, y⟩, ⟨_, z⟩, ⟨_, w⟩]) 0 h i 1 (Nat.lt_of_sub_eq_succ rfl) _ y rfl rfl (p)
      (by show p + (0) = p; omega) (ix2 ⟨(i 0).val - (p), by omega⟩ (i 1))
      (fun d hd => match d with | ⟨1, _⟩ => rfl | ⟨0, _⟩ => absurd rfl hd) (by show (p) + ((i 0).val - (p)) = (i 0).val; omega), hy _]
    simp only [if_neg c0, if_pos c1]; rfl
  by_cases c2 : (i 0).val < p + q + r
  · rw [concatenate_apply_piece (xs := [⟨_, x⟩, ⟨_, y⟩, ⟨_, z⟩, ⟨_, w⟩]) 0 h i 2 (Nat.lt_of_sub_eq_succ rfl) _ z rfl rfl (p + q)
      (by show p + (q + (0)) = p + q; omega) (ix2 ⟨(i 0).val - (p + q), by omega⟩ (i 1))
      (fun d hd => match d with | ⟨1, _⟩ => rfl | ⟨0, _⟩ => absurd rfl hd) (by show (p + q) + ((i 0).val - (p + q)) = (i 0).val; omega), hz _]
    simp only [if_neg c0, if_neg c1, if_pos c2]; rfl
  · rw [concatenate_apply_piece (xs := [⟨_, x⟩, ⟨_, y⟩, ⟨_, z⟩, ⟨_, w⟩]) 0 h i 3 (Nat.lt_of_sub_eq_succ rfl) _ w rfl rfl (p + q + r)
      (by show p + (q + (r + (0))) = p + q + r; omega) (ix2 ⟨(i 0).val - (p + q + r), by omega⟩ (i 1))
      (fun d hd => match d with | ⟨1, _⟩ => rfl | ⟨0, _⟩ => absurd rfl hd) (by show (p + q + r) + ((i 0).val - (p + q + r)) = (i 0).val; omega), hw _]
    simp only [if_neg c0, if_neg c1, if_neg c2]; rfl

/-- Five pieces one above the other. -/
theorem Ent.above5 {p q r s t n : ℕ} {x : (⟨2, ![p, b]⟩ : Shape).Idx → EReal} {y : (⟨2, ![q, b]⟩ : Shape).Idx → EReal} {z : (⟨2, ![r, b]⟩ : Shape).Idx → EReal} {w : (⟨2, ![s, b]⟩ : Shape).Idx → EReal} {e : (⟨2, ![t, b]⟩ : Shape).Idx → EReal}
    {f g u v k : ℕ → ℕ → EReal} (hx : Ent x f) (hy : Ent y g) (hz : Ent z u) (hw : Ent w v) (he : Ent e k) (hn : n = p + q + r + s + t)
    (h : Shape.Concatenates [⟨2, ![p, b]⟩, ⟨2, ![q, b]⟩, ⟨2, ![r, b]⟩, ⟨2, ![s, b]⟩, ⟨2, ![t, b]⟩] ⟨2, ![n, b]⟩ 0) :
    Ent (concatenate ⟨2, ![n, b]⟩ 0 [⟨⟨2, ![p, b]⟩, x⟩, ⟨⟨2, ![q, b]⟩, y⟩, ⟨⟨2, ![r, b]⟩, z⟩, ⟨⟨2, ![s, b]⟩, w⟩, ⟨⟨2, ![t, b]⟩, e⟩] h)
      (fun i j => if i < p then f i j else if i < p + q then g (i - p) j else if i < p + q + r then u (i - (p + q)) j else if i < p + q + r + s then v (i - (p + q + r)) j else k (i - (p + q + r + s)) j) := fun i => by
  have h0 : (i 0).val < n := (i 0).isLt
  by_cases c0 : (i 0).val < p
  · rw [concatenate_apply_piece (xs := [⟨_, x⟩, ⟨_, y⟩, ⟨_, z⟩, ⟨_, w⟩, ⟨_, e⟩]) 0 h i 0 (Nat.lt_of_sub_eq_succ rfl) _ x rfl rfl (0)
      (by show 0 = 0; omega) (ix2 ⟨(i 0).val - (0), by omega⟩ (i 1))
      (fun d hd => match d with | ⟨1, _⟩ => rfl | ⟨0, _⟩ => absurd rfl hd) (by show (0) + ((i 0).val - (0)) = (i 0).val; omega), hx _]
    simp only [if_pos c0]; rfl
  by_cases c1 : (i 0).val < p + q
  · rw [concatenate_apply_piece (xs := [⟨_, x⟩, ⟨_, y⟩, ⟨_, z⟩, ⟨_, w⟩, ⟨_, e⟩]) 0 h i 1 (Nat.lt_of_sub_eq_succ rfl) _ y rfl rfl (p)
      (by show p + (0) = p; omega) (ix2 ⟨(i 0).val - (p), by omega⟩ (i 1))
      (fun d hd => match d with | ⟨1, _⟩ => rfl | ⟨0, _⟩ => absurd rfl hd) (by show (p) + ((i 0).val - (p)) = (i 0).val; omega), hy _]
    simp only [if_neg c0, if_pos c1]; rfl
  by_cases c2 : (i 0).val < p + q + r
  · rw [concatenate_apply_piece (xs := [⟨_, x⟩, ⟨_, y⟩, ⟨_, z⟩, ⟨_, w⟩, ⟨_, e⟩]) 0 h i 2 (Nat.lt_of_sub_eq_succ rfl) _ z rfl rfl (p + q)
      (by show p + (q + (0)) = p + q; omega) (ix2 ⟨(i 0).val - (p + q), by omega⟩ (i 1))
      (fun d hd => match d with | ⟨1, _⟩ => rfl | ⟨0, _⟩ => absurd rfl hd) (by show (p + q) + ((i 0).val - (p + q)) = (i 0).val; omega), hz _]
    simp only [if_neg c0, if_neg c1, if_pos c2]; rfl
  by_cases c3 : (i 0).val < p + q + r + s
  · rw [concatenate_apply_piece (xs := [⟨_, x⟩, ⟨_, y⟩, ⟨_, z⟩, ⟨_, w⟩, ⟨_, e⟩]) 0 h i 3 (Nat.lt_of_sub_eq_succ rfl) _ w rfl rfl (p + q + r)
      (by show p + (q + (r + (0))) = p + q + r; omega) (ix2 ⟨(i 0).val - (p + q + r), by omega⟩ (i 1))
      (fun d hd => match d with | ⟨1, _⟩ => rfl | ⟨0, _⟩ => absurd rfl hd) (by show (p + q + r) + ((i 0).val - (p + q + r)) = (i 0).val; omega), hw _]
    simp only [if_neg c0, if_neg c1, if_neg c2, if_pos c3]; rfl
  · rw [concatenate_apply_piece (xs := [⟨_, x⟩, ⟨_, y⟩, ⟨_, z⟩, ⟨_, w⟩, ⟨_, e⟩]) 0 h i 4 (Nat.lt_of_sub_eq_succ rfl) _ e rfl rfl (p + q + r + s)
      (by show p + (q + (r + (s + (0)))) = p + q + r + s; omega) (ix2 ⟨(i 0).val - (p + q + r + s), by omega⟩ (i 1))
      (fun d hd => match d with | ⟨1, _⟩ => rfl | ⟨0, _⟩ => absurd rfl hd) (by show (p + q + r + s) + ((i 0).val - (p + q + r + s)) = (i 0).val; omega), he _]
    simp only [if_neg c0, if_neg c1, if_neg c2, if_neg c3]; rfl

/-- Four pieces side by side. -/
theorem Ent.beside4 {p q r s n : ℕ} {x : (⟨2, ![a, p]⟩ : Shape).Idx → EReal} {y : (⟨2, ![a, q]⟩ : Shape).Idx → EReal} {z : (⟨2, ![a, r]⟩ : Shape).Idx → EReal} {w : (⟨2, ![a, s]⟩ : Shape).Idx → EReal}
    {f g u v : ℕ → ℕ → EReal} (hx : Ent x f) (hy : Ent y g) (hz : Ent z u) (hw : Ent w v) (hn : n = p + q + r + s)
    (h : Shape.Concatenates [⟨2, ![a, p]⟩, ⟨2, ![a, q]⟩, ⟨2, ![a, r]⟩, ⟨2, ![a, s]⟩] ⟨2, ![a, n]⟩ 1) :
    Ent (concatenate ⟨2, ![a, n]⟩ 1 [⟨⟨2, ![a, p]⟩, x⟩, ⟨⟨2, ![a, q]⟩, y⟩, ⟨⟨2, ![a, r]⟩, z⟩, ⟨⟨2, ![a, s]⟩, w⟩] h)
      (fun i j => if j < p then f i j else if j < p + q then g i (j - p) else if j < p + q + r then u i (j - (p + q)) else v i (j - (p + q + r))) := fun i => by
  have h0 : (i 1).val < n := (i 1).isLt
  by_cases c0 : (i 1).val < p
  · rw [concatenate_apply_piece (xs := [⟨_, x⟩, ⟨_, y⟩, ⟨_, z⟩, ⟨_, w⟩]) 1 h i 0 (Nat.lt_of_sub_eq_succ rfl) _ x rfl rfl (0)
      (by show 0 = 0; omega) (ix2 (i 0) ⟨(i 1).val - (0), by omega⟩)
      (fun d hd => match d with | ⟨0, _⟩ => rfl | ⟨1, _⟩ => absurd rfl hd) (by show (0) + ((i 1).val - (0)) = (i 1).val; omega), hx _]
    simp only [if_pos c0]; rfl
  by_cases c1 : (i 1).val < p + q
  · rw [concatenate_apply_piece (xs := [⟨_, x⟩, ⟨_, y⟩, ⟨_, z⟩, ⟨_, w⟩]) 1 h i 1 (Nat.lt_of_sub_eq_succ rfl) _ y rfl rfl (p)
      (by show p + (0) = p; omega) (ix2 (i 0) ⟨(i 1).val - (p), by omega⟩)
      (fun d hd => match d with | ⟨0, _⟩ => rfl | ⟨1, _⟩ => absurd rfl hd) (by show (p) + ((i 1).val - (p)) = (i 1).val; omega), hy _]
    simp only [if_neg c0, if_pos c1]; rfl
  by_cases c2 : (i 1).val < p + q + r
  · rw [concatenate_apply_piece (xs := [⟨_, x⟩, ⟨_, y⟩, ⟨_, z⟩, ⟨_, w⟩]) 1 h i 2 (Nat.lt_of_sub_eq_succ rfl) _ z rfl rfl (p + q)
      (by show p + (q + (0)) = p + q; omega) (ix2 (i 0) ⟨(i 1).val - (p + q), by omega⟩)
      (fun d hd => match d with | ⟨0, _⟩ => rfl | ⟨1, _⟩ => absurd rfl hd) (by show (p + q) + ((i 1).val - (p + q)) = (i 1).val; omega), hz _]
    simp only [if_neg c0, if_neg c1, if_pos c2]; rfl
  · rw [concatenate_apply_piece (xs := [⟨_, x⟩, ⟨_, y⟩, ⟨_, z⟩, ⟨_, w⟩]) 1 h i 3 (Nat.lt_of_sub_eq_succ rfl) _ w rfl rfl (p + q + r)
      (by show p + (q + (r + (0))) = p + q + r; omega) (ix2 (i 0) ⟨(i 1).val - (p + q + r), by omega⟩)
      (fun d hd => match d with | ⟨0, _⟩ => rfl | ⟨1, _⟩ => absurd rfl hd) (by show (p + q + r) + ((i 1).val - (p + q + r)) = (i 1).val; omega), hw _]
    simp only [if_neg c0, if_neg c1, if_neg c2]; rfl

/-- Five pieces side by side. -/
theorem Ent.beside5 {p q r s t n : ℕ} {x : (⟨2, ![a, p]⟩ : Shape).Idx → EReal} {y : (⟨2, ![a, q]⟩ : Shape).Idx → EReal} {z : (⟨2, ![a, r]⟩ : Shape).Idx → EReal} {w : (⟨2, ![a, s]⟩ : Shape).Idx → EReal} {e : (⟨2, ![a, t]⟩ : Shape).Idx → EReal}
    {f g u v k : ℕ → ℕ → EReal} (hx : Ent x f) (hy : Ent y g) (hz : Ent z u) (hw : Ent w v) (he : Ent e k) (hn : n = p + q + r + s + t)
    (h : Shape.Concatenates [⟨2, ![a, p]⟩, ⟨2, ![a, q]⟩, ⟨2, ![a, r]⟩, ⟨2, ![a, s]⟩, ⟨2, ![a, t]⟩] ⟨2, ![a, n]⟩ 1) :
    Ent (concatenate ⟨2, ![a, n]⟩ 1 [⟨⟨2, ![a, p]⟩, x⟩, ⟨⟨2, ![a, q]⟩, y⟩, ⟨⟨2, ![a, r]⟩, z⟩, ⟨⟨2, ![a, s]⟩, w⟩, ⟨⟨2, ![a, t]⟩, e⟩] h)
      (fun i j => if j < p then f i j else if j < p + q then g i (j - p) else if j < p + q + r then u i (j - (p + q)) else if j < p + q + r + s then v i (j - (p + q + r)) else k i (j - (p + q + r + s))) := fun i => by
  have h0 : (i 1).val < n := (i 1).isLt
  by_cases c0 : (i 1).val < p
  · rw [concatenate_apply_piece (xs := [⟨_, x⟩, ⟨_, y⟩, ⟨_, z⟩, ⟨_, w⟩, ⟨_, e⟩]) 1 h i 0 (Nat.lt_of_sub_eq_succ rfl) _ x rfl rfl (0)
      (by show 0 = 0; omega) (ix2 (i 0) ⟨(i 1).val - (0), by omega⟩)
      (fun d hd => match d with | ⟨0, _⟩ => rfl | ⟨1, _⟩ => absurd rfl hd) (by show (0) + ((i 1).val - (0)) = (i 1).val; omega), hx _]
    simp only [if_pos c0]; rfl
  by_cases c1 : (i 1).val < p + q
  · rw [concatenate_apply_piece (xs := [⟨_, x⟩, ⟨_, y⟩, ⟨_, z⟩, ⟨_, w⟩, ⟨_, e⟩]) 1 h i 1 (Nat.lt_of_sub_eq_succ rfl) _ y rfl rfl (p)
      (by show p + (0) = p; omega) (ix2 (i 0) ⟨(i 1).val - (p), by omega⟩)
      (fun d hd => match d with | ⟨0, _⟩ => rfl | ⟨1, _⟩ => absurd rfl hd) (by show (p) + ((i 1).val - (p)) = (i 1).val; omega), hy _]
    simp only [if_neg c0, if_pos c1]; rfl
  by_cases c2 : (i 1).val < p + q + r
  · rw [concatenate_apply_piece (xs := [⟨_, x⟩, ⟨_, y⟩, ⟨_, z⟩, ⟨_, w⟩, ⟨_, e⟩]) 1 h i 2 (Nat.lt_of_sub_eq_succ rfl) _ z rfl rfl (p + q)
      (by show p + (q + (0)) = p + q; omega) (ix2 (i 0) ⟨(i 1).val - (p + q), by omega⟩)
      (fun d hd => match d with | ⟨0, _⟩ => rfl | ⟨1, _⟩ => absurd rfl hd) (by show (p + q) + ((i 1).val - (p + q)) = (i 1).val; omega), hz _]
    simp only [if_neg c0, if_neg c1, if_pos c2]; rfl
  by_cases c3 : (i 1).val < p + q + r + s
  · rw [concatenate_apply_piece (xs := [⟨_, x⟩, ⟨_, y⟩, ⟨_, z⟩, ⟨_, w⟩, ⟨_, e⟩]) 1 h i 3 (Nat.lt_of_sub_eq_succ rfl) _ w rfl rfl (p + q + r)
      (by show p + (q + (r + (0))) = p + q + r; omega) (ix2 (i 0) ⟨(i 1).val - (p + q + r), by omega⟩)
      (fun d hd => match d with | ⟨0, _⟩ => rfl | ⟨1, _⟩ => absurd rfl hd) (by show (p + q + r) + ((i 1).val - (p + q + r)) = (i 1).val; omega), hw _]
    simp only [if_neg c0, if_neg c1, if_neg c2, if_pos c3]; rfl
  · rw [concatenate_apply_piece (xs := [⟨_, x⟩, ⟨_, y⟩, ⟨_, z⟩, ⟨_, w⟩, ⟨_, e⟩]) 1 h i 4 (Nat.lt_of_sub_eq_succ rfl) _ e rfl rfl (p + q + r + s)
      (by show p + (q + (r + (s + (0)))) = p + q + r + s; omega) (ix2 (i 0) ⟨(i 1).val - (p + q + r + s), by omega⟩)
      (fun d hd => match d with | ⟨0, _⟩ => rfl | ⟨1, _⟩ => absurd rfl hd) (by show (p + q + r + s) + ((i 1).val - (p + q + r + s)) = (i 1).val; omega), he _]
    simp only [if_neg c0, if_neg c1, if_neg c2, if_neg c3]; rfl

/-- Some rows and columns of an array. -/
theorem Ent.slice {p q : ℕ} {x : (⟨2, ![a, b]⟩ : Shape).Idx → EReal} {f : ℕ → ℕ → EReal} (o u : ℕ) (hx : Ent x f)
    (h : (⟨2, ![a, b]⟩ : Shape).Slices ![o, u] ⟨2, ![p, q]⟩) :
    Ent (extractStridedSlice ⟨2, ![p, q]⟩ ![o, u] x h) (fun i j => f (o + i) (u + j)) := fun i => by
  have e : ∀ d : Fin 2, _ := fun d => h.2 d
  have e0 : o + p ≤ a := e 0
  have e1 : u + q ≤ b := e 1
  have h0 : (i 0).val < p := (i 0).isLt
  have h1 : (i 1).val < q := (i 1).isLt
  rw [extractStridedSlice_apply ![o, u] x h i (ix2 ⟨o + (i 0).val, by omega⟩ ⟨u + (i 1).val, by omega⟩)
    (fun d => match d with | ⟨0, _⟩ => rfl | ⟨1, _⟩ => rfl)]
  exact hx _

/-- The transpose. -/
theorem Ent.transpose {x : (⟨2, ![a, b]⟩ : Shape).Idx → EReal} {f : ℕ → ℕ → EReal} (hx : Ent x f)
    (h : (⟨2, ![a, b]⟩ : Shape).Transposes [1, 0] ⟨2, ![b, a]⟩) :
    Ent (Idealize.ShloMosaic.transpose ⟨2, ![b, a]⟩ [1, 0] x h) (fun i j => f j i) := fun i => by
  rw [transpose_apply [1, 0] x h i (ix2 (i 1) (i 0)) (fun d => match d with | ⟨0, _⟩ => rfl | ⟨1, _⟩ => rfl)]
  exact hx _

/-- The product of two arrays. -/
theorem Ent.mm {m k n : ℕ} {φ₁ φ₂ : FTy} {D : DotDims ⟨2, ![m, k]⟩ ⟨2, ![k, n]⟩ ⟨2, ![m, n]⟩} (hD : D = DotDims.plain m k n)
    {x : FVec Ideal ⟨2, ![m, k]⟩ φ₁} {y : FVec Ideal ⟨2, ![k, n]⟩ φ₂} {f g : ℕ → ℕ → EReal} (hx : Ent x f) (hy : Ent y g) :
    Ent (matmul D none x y (constant ⟨2, ![m, n]⟩ .f32 0x00000000#32)) (fun i j => ∑ r ∈ range k, f i r * g r j) := fun i => by
  subst hD
  obtain ⟨p, q, rfl⟩ : ∃ p q, i = ix2 p q := ⟨i 0, i 1, eq_ix2 i⟩
  refine (Ideal.matmul_plain_apply none x y _ p q).trans ?_
  have h0 : (constant (F := Ideal) ⟨2, ![m, n]⟩ .f32 0x00000000#32) (ix2 p q) = 0 := Ideal.ofBits_zero_f32
  rw [h0, zero_add]
  show _ = ∑ r ∈ range k, f p.val r * g r q.val
  rw [Finset.sum_range]
  exact Finset.sum_congr rfl fun r _ => by rw [hx, hy]; rfl

/-! ### The padded column -/

/-- A pair of quarters turned, twice. -/
def turned32 (g : ℕ → EReal) (c : ℕ) : EReal :=
  if c < 8 then -g (8 + c) else if c < 16 then g (c - 8) else if c < 24 then -g (24 + (c - 16)) else g (16 + (c - 24))

/-- The columns of the padded weights: the first 1440, 32 of zeros, the last 32 of these turned, 32 of zeros, the others. -/
def padded (g : ℕ → EReal) (c : ℕ) : EReal :=
  if c < 1440 then g c else if c < 1472 then 0 else if c < 1504 then turned32 (fun k => g (1408 + k)) (c - 1472)
    else if c < 1536 then 0 else g (1440 + (c - 1536))

end Cert.Layer
-- ==== Proof.PadBlock.lean ====
/- The padded projection's grid point: the modulation block it adds up and the block of padded weights it stores. -/
module

public import proofs.«01_k».proof.Proof.PadSpec
public import proofs.«01_k».proof.Proof.Gen.PadIdeal.Value
public import Idealize.ShloMosaic.Lib.WholeRead

@[expose] public section

noncomputable section

namespace Cert.PadIdeal.Block

open Cert.PadIdeal Cert.PadIdeal.Gen Cert.Layer Idealize.ShloMosaic.TcCoe Idealize.SL.Sem
open Idealize.ShloMosaic hiding ix0 ix1 ix2 ix3 eq_ix1 eq_ix2 eq_ix3
open Idealize.ShloMosaic.ValueIdx
open Finset (range)

/-! ### The modulation block -/

theorem act_half (x : EReal) :
    x * (Ideal.ofBits .f32 0x3F000000#32 * Ideal.tanh (Ideal.ofBits .f32 0x3F000000#32 * x) + Ideal.ofBits .f32 0x3F000000#32) = swish x := by
  rw [ofBits_half, sigm_tanh, swish]

/-- The product of the activated conditioning block with the block of the weights. -/
theorem product_block {v0 : Vec Ideal S8x256 .f32} {v11 : Vec Ideal S256x3072 .f32} {f g : ℕ → ℕ → EReal} (h0 : Ent v0 f) (h1 : Ent v11 g) :
    Ent (k0_pay10 v0 v11) (fun i j => ∑ k ∈ range 256, swish (f i k) * g k j) := by
  unfold k0_pay10
  dsimp only
  rw [shapeCast_self, shapeCast_self]
  exact Ent.mm (D := dot_S8x256_S256x3072_S8x3072_1_0_0_1_n_n) rfl (f := fun i k => swish (f i k))
    (fun i => (act_half (v0 i)).trans (by rw [h0 i])) h1

/-- The first point: the product over the bias. -/
theorem first_block {v0 : Vec Ideal S8x256 .f32} {v11 : Vec Ideal S256x3072 .f32} {v70 : Vec Ideal S1x3072 .f32} {f g b : ℕ → ℕ → EReal}
    (h0 : Ent v0 f) (h1 : Ent v11 g) (h2 : Ent v70 b) (y : S8x1x3072.Idx) :
    k0_pay11 v0 v11 v70 y = (∑ k ∈ range 256, swish (f (y 0).val k) * g k (y 2).val) + b 0 (y 2).val := by
  have hy : (y 1).val < 1 := (y 1).isLt
  unfold k0_pay11
  dsimp only
  rw [shapeCast_self]
  refine (shapeCast_apply _ _ y (ix2 (y 0) (y 2)) (by
    rw [Shape.rowMajor_val_three, Shape.rowMajor_val_two]
    show (y 0).val * 3072 + (y 2).val = ((y 0).val * 1 + (y 1).val) * 3072 + (y 2).val
    omega)).trans ?_
  show k0_pay10 v0 v11 (ix2 (y 0) (y 2)) + broadcastTo S8x3072 v70 _ (ix2 (y 0) (y 2)) = _
  exact congrArg₂ (· + ·) (product_block h0 h1 _) ((broadcastTo_apply v70 broadcasts_S1x3072_S8x3072 (ix2 (y 0) (y 2)) (ix2 (0 : Fin 1) (y 2))
    (fun d => match d with | ⟨0, _⟩ => rfl | ⟨1, _⟩ => rfl)).trans (h2 _))

/-- A later point: the product added to what the point before left. -/
theorem later_block {v0 : Vec Ideal S8x256 .f32} {v11 : Vec Ideal S256x3072 .f32} {v70 : Vec Ideal S8x1x3072 .f32} {f g : ℕ → ℕ → EReal}
    (h0 : Ent v0 f) (h1 : Ent v11 g) (y : S8x1x3072.Idx) :
    k0_pay12 v0 v11 v70 y = v70 y + ∑ k ∈ range 256, swish (f (y 0).val k) * g k (y 2).val := by
  have hy : (y 1).val < 1 := (y 1).isLt
  unfold k0_pay12
  dsimp only
  refine (shapeCast_apply _ _ y (ix2 (y 0) (y 2)) (by
    rw [Shape.rowMajor_val_three, Shape.rowMajor_val_two]
    show (y 0).val * 3072 + (y 2).val = ((y 0).val * 1 + (y 1).val) * 3072 + (y 2).val
    omega)).trans ?_
  show shapeCast S8x3072 v70 _ (ix2 (y 0) (y 2)) + k0_pay10 v0 v11 (ix2 (y 0) (y 2)) = _
  exact congrArg₂ (· + ·) (shapeCast_apply v70 shapeCasts_S8x1x3072_S8x3072 (ix2 (y 0) (y 2)) y (by
    rw [Shape.rowMajor_val_three, Shape.rowMajor_val_two]
    show ((y 0).val * 1 + (y 1).val) * 3072 + (y 2).val = (y 0).val * 3072 + (y 2).val
    omega)) (product_block h0 h1 _)

/-! ### The block of padded weights -/

theorem neg_sub (x : EReal) : Ideal.ofBits .f32 0x00000000#32 - x = -x := by
  rw [ofBits_zero, EReal.coe_zero, zero_sub]

/-- The 32 turned rows. -/
theorem turned_block {v21 : Vec Ideal S32x256 .f32} {f : ℕ → ℕ → EReal} (h : Ent v21 f) :
    Ent (k0_pay13 v21) (fun i j => turned32 (fun k => f k j) i) := by
  unfold k0_pay13
  dsimp only
  rw [shapeCast_self]
  intro i
  have h2 : Ent (fun y : S8x256.Idx => -extractStridedSlice S8x256 ![8, 0] v21 slices_S32x256_o8_0_S8x256 y) (fun i j => -f (8 + i) (0 + j)) :=
    fun y => congrArg Neg.neg (h.slice 8 0 slices_S32x256_o8_0_S8x256 y)
  have h4 : Ent (fun y : S8x256.Idx => -extractStridedSlice S8x256 ![24, 0] v21 slices_S32x256_o24_0_S8x256 y) (fun i j => -f (24 + i) (0 + j)) :=
    fun y => congrArg Neg.neg (h.slice 24 0 slices_S32x256_o24_0_S8x256 y)
  have e2 : subf (broadcast S8x256 (Scalar.ofBits (F := Ideal) .f32 0x00000000#32)) (extractStridedSlice S8x256 ![8, 0] v21 slices_S32x256_o8_0_S8x256)
      = fun y : S8x256.Idx => -extractStridedSlice S8x256 ![8, 0] v21 slices_S32x256_o8_0_S8x256 y := funext fun y => neg_sub _
  have e4 : subf (broadcast S8x256 (Scalar.ofBits (F := Ideal) .f32 0x00000000#32)) (extractStridedSlice S8x256 ![24, 0] v21 slices_S32x256_o24_0_S8x256)
      = fun y : S8x256.Idx => -extractStridedSlice S8x256 ![24, 0] v21 slices_S32x256_o24_0_S8x256 y := funext fun y => neg_sub _
  rw [e2, e4]
  refine (Ent.above4 h2 (h.slice 0 0 slices_S32x256_o0_0_S8x256) h4 (h.slice 16 0 slices_S32x256_o16_0_S8x256) rfl
    concatenates_S8x256_S8x256_S8x256_S8x256_S32x256_d0 i).trans ?_
  simp only [turned32, Nat.zero_add, Nat.reduceAdd]

section tiles

variable {v31 v32 : FVec Ideal S32x256 .f32} {v34 : FVec Ideal S1440x256 .f32} {v35 : Vec Ideal S2560x256 .f32} {e : ℕ → ℕ → EReal}
  (h31 : Ent v31 (fun i j => turned32 (fun k => e (1408 + k) j) i)) (h32 : Ent v32 (fun _ _ => 0)) (h34 : Ent v34 e)
  (h35 : Ent v35 (fun i j => e (1440 + i) j))

include h31 h32 h34 h35

/-- The five pieces one above the other. -/
theorem stack : Ent (k0_pay1 v31 v32 v34 v35) (fun i j => padded (fun k => e k j) i) := by
  unfold k0_pay1
  dsimp only
  rw [shapeCast_self]
  intro i
  refine (Ent.above5 h34 h32 h31 h32 h35 rfl concatenates_S1440x256_S32x256_S32x256_S32x256_S2560x256_S4096x256_d0 i).trans ?_
  simp only [padded, Nat.reduceAdd]

theorem tile_0 : Ent (k0_pay2 v31 v32 v34 v35) (fun i j => padded (fun k => e k i) (0 + j)) := fun i => by
  refine (((stack h31 h32 h34 h35).slice 0 0 slices_S4096x256_o0_0_S512x256).transpose transposes_S512x256_p1_0_S256x512 i).trans ?_
  simp only [Nat.zero_add]

theorem tile_1 : Ent (k0_pay3 v31 v32 v34 v35) (fun i j => padded (fun k => e k i) (512 + j)) := fun i => by
  refine (((stack h31 h32 h34 h35).slice 512 0 slices_S4096x256_o512_0_S512x256).transpose transposes_S512x256_p1_0_S256x512 i).trans ?_
  simp only [Nat.zero_add]

theorem tile_2 : Ent (k0_pay4 v31 v32 v34 v35) (fun i j => padded (fun k => e k i) (1024 + j)) := fun i => by
  refine (((stack h31 h32 h34 h35).slice 1024 0 slices_S4096x256_o1024_0_S512x256).transpose transposes_S512x256_p1_0_S256x512 i).trans ?_
  simp only [Nat.zero_add]

theorem tile_3 : Ent (k0_pay5 v31 v32 v34 v35) (fun i j => padded (fun k => e k i) (1536 + j)) := fun i => by
  refine (((stack h31 h32 h34 h35).slice 1536 0 slices_S4096x256_o1536_0_S512x256).transpose transposes_S512x256_p1_0_S256x512 i).trans ?_
  simp only [Nat.zero_add]

theorem tile_4 : Ent (k0_pay6 v31 v32 v34 v35) (fun i j => padded (fun k => e k i) (2048 + j)) := fun i => by
  refine (((stack h31 h32 h34 h35).slice 2048 0 slices_S4096x256_o2048_0_S512x256).transpose transposes_S512x256_p1_0_S256x512 i).trans ?_
  simp only [Nat.zero_add]

theorem tile_5 : Ent (k0_pay7 v31 v32 v34 v35) (fun i j => padded (fun k => e k i) (2560 + j)) := fun i => by
  refine (((stack h31 h32 h34 h35).slice 2560 0 slices_S4096x256_o2560_0_S512x256).transpose transposes_S512x256_p1_0_S256x512 i).trans ?_
  simp only [Nat.zero_add]

theorem tile_6 : Ent (k0_pay8 v31 v32 v34 v35) (fun i j => padded (fun k => e k i) (3072 + j)) := fun i => by
  refine (((stack h31 h32 h34 h35).slice 3072 0 slices_S4096x256_o3072_0_S512x256).transpose transposes_S512x256_p1_0_S256x512 i).trans ?_
  simp only [Nat.zero_add]

theorem tile_7 : Ent (k0_pay9 v31 v32 v34 v35) (fun i j => padded (fun k => e k i) (3584 + j)) := fun i => by
  refine (((stack h31 h32 h34 h35).slice 3584 0 slices_S4096x256_o3584_0_S512x256).transpose transposes_S512x256_p1_0_S256x512 i).trans ?_
  simp only [Nat.zero_add]

end tiles

/-- The eight stores of a point. -/
def stores (v31 v32 : FVec Ideal S32x256 .f32) (v34 : FVec Ideal S1440x256 .f32) (v35 : Vec Ideal S2560x256 .f32) :
    List (View.Piece (Elt Ideal) S256x4096 .bf16) :=
  [⟨Rect.unit ![0, 3584] ![256, 512] inb_S256x4096_S256x512_0_3584, k0_pay9 v31 v32 v34 v35⟩,
   ⟨Rect.unit ![0, 3072] ![256, 512] inb_S256x4096_S256x512_0_3072, k0_pay8 v31 v32 v34 v35⟩,
   ⟨Rect.unit ![0, 2560] ![256, 512] inb_S256x4096_S256x512_0_2560, k0_pay7 v31 v32 v34 v35⟩,
   ⟨Rect.unit ![0, 2048] ![256, 512] inb_S256x4096_S256x512_0_2048, k0_pay6 v31 v32 v34 v35⟩,
   ⟨Rect.unit ![0, 1536] ![256, 512] inb_S256x4096_S256x512_0_1536, k0_pay5 v31 v32 v34 v35⟩,
   ⟨Rect.unit ![0, 1024] ![256, 512] inb_S256x4096_S256x512_0_1024, k0_pay4 v31 v32 v34 v35⟩,
   ⟨Rect.unit ![0, 512] ![256, 512] inb_S256x4096_S256x512_0_512, k0_pay3 v31 v32 v34 v35⟩,
   ⟨Rect.unit ![0, 0] ![256, 512] inb_S256x4096_S256x512_0_0, k0_pay2 v31 v32 v34 v35⟩]

/-- They leave the padded weights of the block's 256 rows. -/
theorem stores_block {v31 v32 : FVec Ideal S32x256 .f32} {v34 : FVec Ideal S1440x256 .f32} {v35 : Vec Ideal S2560x256 .f32} {e : ℕ → ℕ → EReal}
    (h31 : Ent v31 (fun i j => turned32 (fun k => e (1408 + k) j) i)) (h32 : Ent v32 (fun _ _ => 0)) (h34 : Ent v34 e)
    (h35 : Ent v35 (fun i j => e (1440 + i) j)) :
    Ent (View.canon (stores v31 v32 v34 v35)) (fun i j => padded (fun k => e k i) j) := fun y => by
  refine View.canon_apply_of_pieces (Val := Elt Ideal) (e := .bf16) (fun y : S256x4096.Idx => padded (fun k => e k (y 0).val) (y 1).val) _ ?_ y ?_
  · intro p hp
    simp only [stores, List.mem_cons, List.not_mem_nil, or_false] at hp
    rcases hp with rfl | rfl | rfl | rfl | rfl | rfl | rfl | rfl
    · exact fun x => (tile_7 h31 h32 h34 h35 x).trans (by
        show _ = padded (fun k => e k (0 + 1 * (x 0).val)) (3584 + 1 * (x 1).val)
        simp only [Nat.zero_add, Nat.one_mul])
    · exact fun x => (tile_6 h31 h32 h34 h35 x).trans (by
        show _ = padded (fun k => e k (0 + 1 * (x 0).val)) (3072 + 1 * (x 1).val)
        simp only [Nat.zero_add, Nat.one_mul])
    · exact fun x => (tile_5 h31 h32 h34 h35 x).trans (by
        show _ = padded (fun k => e k (0 + 1 * (x 0).val)) (2560 + 1 * (x 1).val)
        simp only [Nat.zero_add, Nat.one_mul])
    · exact fun x => (tile_4 h31 h32 h34 h35 x).trans (by
        show _ = padded (fun k => e k (0 + 1 * (x 0).val)) (2048 + 1 * (x 1).val)
        simp only [Nat.zero_add, Nat.one_mul])
    · exact fun x => (tile_3 h31 h32 h34 h35 x).trans (by
        show _ = padded (fun k => e k (0 + 1 * (x 0).val)) (1536 + 1 * (x 1).val)
        simp only [Nat.zero_add, Nat.one_mul])
    · exact fun x => (tile_2 h31 h32 h34 h35 x).trans (by
        show _ = padded (fun k => e k (0 + 1 * (x 0).val)) (1024 + 1 * (x 1).val)
        simp only [Nat.zero_add, Nat.one_mul])
    · exact fun x => (tile_1 h31 h32 h34 h35 x).trans (by
        show _ = padded (fun k => e k (0 + 1 * (x 0).val)) (512 + 1 * (x 1).val)
        simp only [Nat.zero_add, Nat.one_mul])
    · exact fun x => (tile_0 h31 h32 h34 h35 x).trans (by
        show _ = padded (fun k => e k (0 + 1 * (x 0).val)) (0 + 1 * (x 1).val)
        simp only [Nat.zero_add, Nat.one_mul])
  · have h0 : (y 0).val < 256 := (y 0).isLt
    have h1 : (y 1).val < 4096 := (y 1).isLt
    have mem : ∀ o (inb : ∀ a, (![0, o] : Fin 2 → ℕ) a + (![256, 512] : Fin 2 → ℕ) a ≤ S256x4096.size a), o ≤ (y 1).val → (y 1).val < o + 512 →
        y ∈ (Rect.unit (s := S256x4096) ![0, o] ![256, 512] inb).set := fun o inb l u => by
      rw [Rect.mem_set_unit]
      intro a
      match a with
      | ⟨0, _⟩ => exact ⟨Nat.zero_le _, by show (y 0).val < 0 + 256; omega⟩
      | ⟨1, _⟩ => exact ⟨l, u⟩
    by_contra hn
    simp only [not_exists, not_and] at hn
    simp only [stores, List.mem_cons, List.not_mem_nil, or_false, forall_eq_or_imp, forall_eq] at hn
    obtain ⟨n7, n6, n5, n4, n3, n2, n1, n0⟩ := hn
    have q0 : ¬ (y 1).val < 512 := fun h => n0 (mem 0 _ (by omega) (by omega))
    have q1 : ¬ (y 1).val < 1024 := fun h => n1 (mem 512 _ (by omega) (by omega))
    have q2 : ¬ (y 1).val < 1536 := fun h => n2 (mem 1024 _ (by omega) (by omega))
    have q3 : ¬ (y 1).val < 2048 := fun h => n3 (mem 1536 _ (by omega) (by omega))
    have q4 : ¬ (y 1).val < 2560 := fun h => n4 (mem 2048 _ (by omega) (by omega))
    have q5 : ¬ (y 1).val < 3072 := fun h => n5 (mem 2560 _ (by omega) (by omega))
    have q6 : ¬ (y 1).val < 3584 := fun h => n6 (mem 3072 _ (by omega) (by omega))
    have q7 : ¬ (y 1).val < 4096 := fun h => n7 (mem 3584 _ (by omega) (by omega))
    omega

/-! ### What a point leaves, in either case -/

theorem load_whole {s : Shape} {e : EltTy} {m : Memref sig .tc .vmem s e} (h : m.IsWhole) (X : s.Idx → Elt Ideal e) {off : Fin s.rank → ℕ}
    (ho : off = fun _ => 0) (inb : ∀ a, off a + s.size a ≤ s.size a) :
    View.readAt (Elt Ideal) m.view (Rect.unit off s.size inb).toLoadRect (h.unread X) = X := by
  subst ho
  funext x
  exact (h.readAt_unread X _ x).trans (congrArg X (funext fun a => Fin.ext (by show 0 + 1 * (x a).val = _; omega)))

theorem off2 : (![0, 0] : Fin 2 → ℕ) = fun _ => 0 := by decide
theorem off3 : (![0, 0, 0] : Fin 3 → ℕ) = fun _ => 0 := by decide

theorem zero_block : Ent (k0_pay14 (F := Ideal)) (fun _ _ => 0) := fun _ => Ideal.ofBits_zero_f32

section point

variable (c : Dev nD) (i : grid0.Coords) (arg1 : Memref sig .tc .vmem S4000x256 .f32) (harg1 : arg1.IsWhole) (arg2 : Memref sig .tc .vmem S8x256 .f32)
    (harg2 : arg2.IsWhole) (arg3 : Memref sig .tc .vmem S256x3072 .f32) (harg3 : arg3.IsWhole) (arg4 : Memref sig .tc .vmem S1x3072 .f32)
    (harg4 : arg4.IsWhole) (arg5 : Memref sig .tc .vmem S256x4096 .bf16) (harg5 : arg5.IsWhole) (arg6 : Memref sig .tc .vmem S8x1x3072 .f32)
    (harg6 : arg6.IsWhole) (x0 : Vec Ideal S4000x256 .f32) (x1 : Vec Ideal S8x256 .f32) (x2 : Vec Ideal S256x3072 .f32) (x3 : Vec Ideal S1x3072 .f32)

theorem load_rows {n o : ℕ} {e : ℕ → ℕ → EReal} (h : Ent x0 e) (inb : ∀ a, (![o, 0] : Fin 2 → ℕ) a + (![n, 256] : Fin 2 → ℕ) a ≤ S4000x256.size a) :
    Ent (a := n) (b := 256) (View.readAt (Elt Ideal) arg1.view (Rect.unit (s := S4000x256) ![o, 0] ![n, 256] inb).toLoadRect (harg1.unread x0)) (fun i j => e (o + i) j) := fun y => by
  refine (harg1.readAt_unread x0 (Rect.unit (s := S4000x256) ![o, 0] ![n, 256] inb).toLoadRect y).trans ((h _).trans ?_)
  show e (o + 1 * (y 0).val) (0 + 1 * (y 1).val) = _
  rw [Nat.one_mul, Nat.one_mul, Nat.zero_add]

theorem first_weights (hc0 : cond0_0 i) (hc1 : ¬ cond0_1 i) {e : ℕ → ℕ → EReal} (h : Ent x0 e) :
    Ent (out0_A_4 c i arg1 harg1 arg2 harg2 arg3 harg3 arg4 harg4 arg5 harg5 arg6 harg6 hc0 hc1 x0 x1 x2 x3) (fun i j => padded (fun k => e k i) j) := by
  unfold out0_A_4
  rw [View.read_writes_junk_eq_canon]
  have h34 := load_rows arg1 harg1 x0 h inb_S4000x256_S1440x256_0_0
  simp only [Nat.zero_add] at h34
  exact stores_block (turned_block (load_rows arg1 harg1 x0 h inb_S4000x256_S32x256_1408_0)) zero_block
    (v34 := k0_pay15 _) (by unfold k0_pay15; dsimp only; rw [shapeCast_self]; exact h34)
    (load_rows arg1 harg1 x0 h inb_S4000x256_S2560x256_1440_0)

theorem later_weights (hc0 : ¬ cond0_0 i) (hc1 : cond0_1 i) (xo5 : Vec Ideal S8x1x3072 .f32) {e : ℕ → ℕ → EReal} (h : Ent x0 e) :
    Ent (out0_B_4 c i arg1 harg1 arg2 harg2 arg3 harg3 arg4 harg4 arg5 harg5 arg6 harg6 hc0 hc1 x0 x1 x2 x3 xo5) (fun i j => padded (fun k => e k i) j) := by
  unfold out0_B_4
  rw [View.read_writes_junk_eq_canon]
  have h34 := load_rows arg1 harg1 x0 h inb_S4000x256_S1440x256_0_0
  simp only [Nat.zero_add] at h34
  exact stores_block (turned_block (load_rows arg1 harg1 x0 h inb_S4000x256_S32x256_1408_0)) zero_block
    (v34 := k0_pay15 _) (by unfold k0_pay15; dsimp only; rw [shapeCast_self]; exact h34)
    (load_rows arg1 harg1 x0 h inb_S4000x256_S2560x256_1440_0)

theorem first_mods (hc0 : cond0_0 i) (hc1 : ¬ cond0_1 i) : out0_A_5 c i arg1 harg1 arg2 harg2 arg3 harg3 arg4 harg4 arg5 harg5 arg6 harg6 hc0 hc1 x0 x1 x2 x3 = k0_pay11 x1 x2 x3 := by
  unfold out0_A_5 kernelRun0_A
  dsimp only
  rw [View.read_writes_junk_eq_canon]
  refine (View.canon_unit_zero off3 _ _).trans ?_
  rw [load_whole harg2 x1 off2 inb_S8x256_S8x256_0_0, load_whole harg3 x2 off2 inb_S256x3072_S256x3072_0_0,
    load_whole harg4 x3 off2 inb_S1x3072_S1x3072_0_0]

theorem later_mods (hc0 : ¬ cond0_0 i) (hc1 : cond0_1 i) (xo5 : Vec Ideal S8x1x3072 .f32) :
    out0_B_5 c i arg1 harg1 arg2 harg2 arg3 harg3 arg4 harg4 arg5 harg5 arg6 harg6 hc0 hc1 x0 x1 x2 x3 xo5 = k0_pay12 x1 x2 xo5 := by
  unfold out0_B_5 kernelRun0_B
  dsimp only
  rw [View.read_writes_junk_eq_canon]
  refine (View.canon_unit_zero off3 _ _).trans ?_
  rw [load_whole harg2 x1 off2 inb_S8x256_S8x256_0_0, load_whole harg3 x2 off2 inb_S256x3072_S256x3072_0_0,
    load_whole harg6 xo5 off3 inb_S8x1x3072_S8x1x3072_0_0_0]

end point

end Cert.PadIdeal.Block
-- ==== Proof.PadRefRun.lean ====
/- The padded projection's reference: its two results by row and column, and its run. -/
module

public import proofs.«01_k».proof.Proof.PadSpec
public import proofs.«01_k».proof.Proof.Gen.PadRefIdeal.Read
public import proofs.«01_k».proof.Proof.Gen.PadRefIdeal.Run
public import Idealize.ShloMosaic.Lib.Quiescent

@[expose] public section

noncomputable section

namespace Cert.PadRefIdeal.Layer

open Cert.PadRefIdeal Cert.Layer Idealize.ShloMosaic.TcCoe Idealize.SL.Sem
open Idealize.ShloMosaic hiding ix0 ix1 ix2 ix3 eq_ix1 eq_ix2 eq_ix3
open Idealize.ShloMosaic.ValueIdx
open Cert.PadRefIdeal.Read
open Finset (range)

variable (x0 : (⟨S4x1024, .f32⟩ : BufTy).Contents (Elt Ideal)) (x1 : (⟨S1024, .f32⟩ : BufTy).Contents (Elt Ideal))
  (x2 : (⟨S1x1024x3072, .f32⟩ : BufTy).Contents (Elt Ideal)) (x3 : (⟨S1x3072, .f32⟩ : BufTy).Contents (Elt Ideal))
  (x4 : (⟨S1x1024x4000, .f32⟩ : BufTy).Contents (Elt Ideal))

/-- The conditioning rows: the batch's, the context's, and zeros. -/
abbrev rows (i k : ℕ) : EReal := entries (a := 8) (b := 1024) (val_main_v2 (F := Ideal) x0 x1) i k

/-- The weights of the modulation. -/
abbrev weights (k j : ℕ) : EReal := entries (a := 1024) (b := 3072) (val_main_v4 (F := Ideal) x2) k j

/-- The projection's weights before padding. -/
abbrev columns (k j : ℕ) : EReal := entries (a := 1024) (b := 4000) (val_main_v11 (F := Ideal) x4) k j

theorem silu_entry (i : S8x1024.Idx) : val_main_v3 (F := Ideal) x0 x1 i = swish (val_main_v2 (F := Ideal) x0 x1 i) := by
  rw [val_main_v3_apply, val_main_call0_v5_apply, val_main_call0_v4_apply, val_main_call0_cst_0_apply, val_main_call0_v3_apply,
    val_main_call0_v2_apply, val_main_call0_cst_apply, val_main_call0_v1_apply, val_main_call0_v0_apply]
  show val_main_v2 (F := Ideal) x0 x1 i * Ideal.div (Ideal.ofBits .f32 0x3F800000#32)
    (Ideal.ofBits .f32 0x3F800000#32 + Ideal.exp (-(val_main_v2 (F := Ideal) x0 x1 i))) = _
  rw [ofBits_one, swish, sigm]

/-- The modulations. -/
theorem mods_result (y : S8x1x3072.Idx) : val_main_v10 (F := Ideal) x0 x1 x2 x3 y
    = (∑ k ∈ range 1024, swish (rows x0 x1 (y 0).val k) * weights x2 k (y 2).val) + entries (a := 1) (b := 3072) x3 0 (y 2).val := by
  rw [val_main_v10_apply, val_main_v9_apply]
  refine congrArg₂ (· + ·) ?_ ?_
  · rw [val_main_v5_apply, Finset.sum_range]
    refine Finset.sum_congr rfl fun k _ => ?_
    rw [silu_entry]
    exact congrArg₂ (fun u v => swish u * v) (ent_entries (a := 8) (b := 1024) _ _) (ent_entries (a := 1024) (b := 3072) _ _)
  · have h2 : (y 2).val < 3072 := (y 2).isLt
    rw [val_main_v8_apply, val_main_v7_apply, val_main_v6_apply]
    refine (ent_entries (a := 1) (b := 3072) x3 _).trans ?_
    show entries x3 0 ((y 2).val % 3072) = _
    rw [Nat.mod_eq_of_lt h2]

theorem zeros : Ent (a := 1024) (b := 32) (val_main_v20 (F := Ideal)) (fun _ _ => 0) := fun i => by
  rw [val_main_v20_apply, val_main_cst_0_apply]
  exact Ideal.ofBits_zero_f32

theorem whole : Ent (a := 1024) (b := 4000) (val_main_v11 (F := Ideal) x4) (columns x4) := ent_entries _

theorem last : Ent (a := 1024) (b := 32) (val_main_v12 (F := Ideal) x4) (fun i j => columns x4 i (1408 + j)) := fun i => by
  rw [val_main_v12_apply]; exact whole x4 _

/-- The last 32 of the first 1440 columns, turned. -/
theorem turned_columns : Ent (a := 1024) (b := 32) (val_main_v19 (F := Ideal) x4) (fun i j => turned32 (fun k => columns x4 i (1408 + k)) j) := by
  unfold val_main_v19
  intro i
  have h14 : Ent (a := 1024) (b := 8) (val_main_v14 (F := Ideal) x4) (fun i j => -columns x4 i (1408 + (8 + j))) := fun i => by
    rw [val_main_v14_apply, val_main_v13_apply]; exact congrArg Neg.neg (last x4 _)
  have h15 : Ent (a := 1024) (b := 8) (val_main_v15 (F := Ideal) x4) (fun i j => columns x4 i (1408 + j)) := fun i => by
    rw [val_main_v15_apply]; exact last x4 _
  have h17 : Ent (a := 1024) (b := 8) (val_main_v17 (F := Ideal) x4) (fun i j => -columns x4 i (1408 + (24 + j))) := fun i => by
    rw [val_main_v17_apply, val_main_v16_apply]; exact congrArg Neg.neg (last x4 _)
  have h18 : Ent (a := 1024) (b := 8) (val_main_v18 (F := Ideal) x4) (fun i j => columns x4 i (1408 + (16 + j))) := fun i => by
    rw [val_main_v18_apply]; exact last x4 _
  exact Ent.beside4 h14 h15 h17 h18 rfl _ i

/-- The padded weights. -/
theorem weights_result : Ent (a := 1024) (b := 4096) (val_main_v24 (F := Ideal) x4) (fun i j => padded (columns x4 i) j) := fun i => by
  rw [val_main_v24_apply]
  show val_main_v23 (F := Ideal) x4 i = _
  unfold val_main_v23
  have h21 : Ent (a := 1024) (b := 1440) (val_main_v21 (F := Ideal) x4) (columns x4) := fun i => by
    rw [val_main_v21_apply]; exact whole x4 _
  have h22 : Ent (a := 1024) (b := 2560) (val_main_v22 (F := Ideal) x4) (fun i j => columns x4 i (1440 + j)) := fun i => by
    rw [val_main_v22_apply]; exact whole x4 _
  exact Ent.beside5 h21 zeros (turned_columns x4) zeros h22 rfl _ i

variable (m : (ℓ : Loc nD τ sig) → Buf (Elt Ideal) ℓ) (ρ : Dev nD → PrngReg) (c : Dev nD)

/-- The arguments' buffers of device `c` hold after the run what they held before it. -/
def Kept (s : MemSt nD τ sig (Elt Ideal)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)

/-- The run: the two results, the arguments unchanged. -/
theorem run : θ_run defs (onTc (τ := τ) (main (F := Ideal))) ⟨m, fun _ => 0, ρ⟩ fun r => ∀ c : Dev nD,
      r.2.mem ((c.tc : Thread nD τ).loc main_v24) = val_main_v24 (F := Ideal) (m ((c.tc : Thread nD τ).loc main_arg4))
      ∧ r.2.mem ((c.tc : Thread nD τ).loc main_v10) = val_main_v10 (F := Ideal) (m ((c.tc : Thread nD τ).loc main_arg0))
          (m ((c.tc : Thread nD τ).loc main_arg1)) (m ((c.tc : Thread nD τ).loc main_arg2)) (m ((c.tc : Thread nD τ).loc main_arg3))
      ∧ Kept m c r.2 :=
  (θ_run defs _ _).mono (fun _ k c => ⟨(k c).1.trans (val_main_v24_eq _), (k c).2.1.trans (val_main_v10_eq _ _ _ _), (k c).2.2⟩) (Value.run m ρ)

/-- The frame: the arguments unchanged, every counter at zero. -/
theorem frame : θ_run defs (onTc (τ := τ) (main (F := Ideal))) ⟨m, fun _ => 0, ρ⟩ fun r =>
    (∀ c : Dev nD, Kept m c r.2) ∧ r.2.sem = fun _ => 0 :=
  (θ_run defs _ _).mono (fun r k => ⟨fun c => (k c).2.2, sem_eq_zero_of_no_sems (by decide) r.2⟩) (Value.run m ρ)

end Cert.PadRefIdeal.Layer
-- ==== Proof.PadArray.lean ====
/- The padded projection's arrays: every input block at a grid point, the sum over the points, and the two result arrays
   after the run, which are the reference's. -/
module

public import proofs.«01_k».proof.Proof.PadBlock
public import proofs.«01_k».proof.Proof.PadRefRun

@[expose] public section

noncomputable section

namespace Cert.PadIdeal.Array

open Cert.PadIdeal Cert.PadIdeal.Gen Cert.PadIdeal.Block Cert.Layer Idealize.ShloMosaic.TcCoe Idealize.SL.Sem
open Cert.PadRefIdeal.Layer (rows weights columns mods_result weights_result)
open Cert.PadRefIdeal.Read (val_main_v2 val_main_v4 val_main_v10 val_main_v11 val_main_v24)
open Idealize.ShloMosaic hiding ix0 ix1 ix2 ix3 eq_ix1 eq_ix2 eq_ix3
open Idealize.ShloMosaic.ValueIdx
open Idealize.ShloMosaic.Pipeline (Dat)
open Finset (range)

variable (m : (ℓ : Loc nD τ sig) → Buf (Elt Ideal) ℓ) (ρ : Dev nD → PrngReg) (c : Dev nD)

/-! ### The arguments -/

abbrev a0 : Vec Ideal S4x1024 .f32 := m ((c.tc : Thread nD τ).loc main_arg0)
abbrev a1 : Vec Ideal S1024 .f32 := m ((c.tc : Thread nD τ).loc main_arg1)
abbrev a2 : Vec Ideal S1x1024x3072 .f32 := m ((c.tc : Thread nD τ).loc main_arg2)
abbrev a3 : Vec Ideal S1x3072 .f32 := m ((c.tc : Thread nD τ).loc main_arg3)
abbrev a4 : Vec Ideal S1x1024x4000 .f32 := m ((c.tc : Thread nD τ).loc main_arg4)

/-! ### The arrays when the call starts -/

theorem host_rows : V m c main_v2 = val_main_v2 (F := Ideal) (a0 m c) (a1 m c) := rfl

theorem host_weights : V m c main_v5 = val_main_v4 (F := Ideal) (a2 m c) := rfl

theorem host_bias : V m c main_v7 = a3 m c := by
  show shapeCast S1x3072 (shapeCast S3072 (a3 m c) shapeCasts_S1x3072_S3072) shapeCasts_S3072_S1x3072 = _
  funext i
  have h0 : (i 0).val < 1 := (i 0).isLt
  rw [shapeCast_apply _ shapeCasts_S3072_S1x3072 i (ix1 (i 1)) (by
    rw [Shape.rowMajor_val_one, Shape.rowMajor_val_two]
    show (i 1).val = (i 0).val * 3072 + (i 1).val
    omega)]
  exact shapeCast_apply _ shapeCasts_S1x3072_S3072 (ix1 (i 1)) i (by
    rw [Shape.rowMajor_val_one, Shape.rowMajor_val_two]
    show (i 0).val * 3072 + (i 1).val = (i 1).val
    omega)

theorem host_columns : Ent (a := 4000) (b := 1024) (V m c main_v4) (fun j k => columns (a4 m c) k j) :=
  (ent_entries (a := 1024) (b := 4000) (val_main_v11 (F := Ideal) (a4 m c))).transpose transposes_S1024x4000_S4000x1024_1_0

/-! ### The blocks of the inputs -/

theorem columns_blk (t : Fin cfg0.N) : Ent (a := 4000) (b := 256) (iblk m c 0 t) (fun j k => columns (a4 m c) (t.val * 256 + k) j) := fun y => by
  have hi := (by decide +kernel : ∀ t : Fin grid0.N, win0_0.index t 0 = 0 ∧ win0_0.index t 1 = t.val) t
  unfold iblk
  rw [View.read_apply]
  refine (host_columns m c _).trans ?_
  show columns (a4 m c) (win0_0.index t 1 * 256 + 1 * (y 1).val) (win0_0.index t 0 * 4000 + 1 * (y 0).val) = _
  rw [hi.1, hi.2, Nat.zero_mul, Nat.zero_add, Nat.one_mul, Nat.one_mul]

theorem rows_blk (t : Fin cfg0.N) : Ent (a := 8) (b := 256) (iblk m c 1 t) (fun i k => rows (a0 m c) (a1 m c) i (t.val * 256 + k)) := fun y => by
  have hi := (by decide +kernel : ∀ t : Fin grid0.N, win0_1.index t 0 = 0 ∧ win0_1.index t 1 = t.val) t
  unfold iblk
  rw [View.read_apply]
  refine (ent_entries (a := 8) (b := 1024) (V m c main_v2) _).trans ?_
  show rows (a0 m c) (a1 m c) (win0_1.index t 0 * 8 + 1 * (y 0).val) (win0_1.index t 1 * 256 + 1 * (y 1).val) = _
  rw [hi.1, hi.2, Nat.zero_mul, Nat.zero_add, Nat.one_mul, Nat.one_mul]

theorem weights_blk (t : Fin cfg0.N) : Ent (a := 256) (b := 3072) (iblk m c 2 t) (fun k j => weights (a2 m c) (t.val * 256 + k) j) := fun y => by
  have hi := (by decide +kernel : ∀ t : Fin grid0.N, win0_2.index t 0 = t.val ∧ win0_2.index t 1 = 0) t
  unfold iblk
  rw [View.read_apply]
  refine (ent_entries (a := 1024) (b := 3072) (V m c main_v5) _).trans ?_
  show weights (a2 m c) (win0_2.index t 0 * 256 + 1 * (y 0).val) (win0_2.index t 1 * 3072 + 1 * (y 1).val) = _
  rw [hi.1, hi.2, Nat.zero_mul, Nat.zero_add, Nat.one_mul, Nat.one_mul]

theorem bias_blk (t : Fin cfg0.N) : iblk m c 3 t = a3 m c :=
  (Memref.read_access_unit_zero (Elt Ideal) main_v7 (off := fun a => win0_3.index t a * main_v7.ty.shape.size a)
    (funext fun a => by fin_cases a <;> exact Nat.zero_mul _) (fun a => by fin_cases a <;> exact (Nat.zero_mul _ ▸ (Nat.zero_add _).le)) (V m c main_v7)).trans
    (host_bias m c)

/-! ### The points -/

/-- The terms of a modulation's sum. -/
abbrev term (i j k : ℕ) : EReal := swish (rows (a0 m c) (a1 m c) i k) * weights (a2 m c) k j

/-- After point `n` the modulation block holds the bias and the first `n + 1` blocks of the sum. -/
theorem mods_upto (n : ℕ) (hn : n < cfg0.N) (y : S8x1x3072.Idx) :
    (outsAt0 m c n hn).2 y
      = (∑ k ∈ range ((n + 1) * 256), term m c (y 0).val (y 2).val k) + entries (a := 1) (b := 3072) (a3 m c) 0 (y 2).val := by
  induction n with
  | zero =>
    rw [outsAt0_A m c ⟨0, hn⟩ rfl (Nat.not_succ_le_zero 0)]
    dsimp only
    have hb : Ent (a := 1) (b := 3072) (iblk m c 3 ⟨0, hn⟩) (entries (a := 1) (b := 3072) (a3 m c)) := by
      rw [bias_blk]; exact ent_entries _
    rw [first_mods, first_block (rows_blk m c _) (weights_blk m c _) hb]
    simp only [Nat.zero_mul, Nat.zero_add, Nat.one_mul]
  | succ n ih =>
    have h4 : n + 1 < 4 := lt_of_lt_of_eq hn N_0
    rw [outsAt0_B m c ⟨n + 1, hn⟩ (by show ¬ (n + 1) % 4 = 0; omega) (by show 1 ≤ n + 1; omega)]
    dsimp only
    rw [later_mods, later_block (rows_blk m c _) (weights_blk m c _)]
    have e := ih (Nat.lt_of_succ_lt hn)
    refine (congrArg (· + _) e).trans ?_
    rw [show (n + 1 + 1) * 256 = (n + 1) * 256 + 256 by ring, Finset.sum_range_add, add_right_comm]

/-- Every point leaves the padded weights of its 256 rows. -/
theorem weights_point (t : Fin cfg0.N) :
    Ent (a := 256) (b := 4096) (outsAt0 m c t.val t.isLt).1 (fun i j => padded (columns (a4 m c) (t.val * 256 + i)) j) := by
  have ht : t.val < 4 := lt_of_lt_of_eq t.isLt N_0
  by_cases h : t.val = 0
  · rw [outsAt0_A m c t (by omega) (by omega)]
    dsimp only
    exact first_weights (h := columns_blk m c t) _ _ _ _ _ _ _ _ _ _ _ _ _ _ _ _ _ _ _ _
  · rw [outsAt0_B m c t (by omega) (by omega)]
    dsimp only
    exact later_weights (h := columns_blk m c t) _ _ _ _ _ _ _ _ _ _ _ _ _ _ _ _ _ _ _ _ _

/-! ### The results -/

theorem index4 (t : Fin cfg0.N) : win0_4.index t 0 = t.val ∧ win0_4.index t 1 = 0 :=
  (by decide +kernel : ∀ t : Fin grid0.N, win0_4.index t 0 = t.val ∧ win0_4.index t 1 = 0) t

/-- What a point writes back is its block of the whole result. -/
theorem flushed4 (t : Fin cfg0.N) :
    (dats m 0 c).flushed 4 t = ((cfg0.win 4).blk t).view.read (Elt Ideal) (val_main_v24 (F := Ideal) (a4 m c)) := by
  rw [Value.flushed4]
  funext y
  rw [View.read_apply]
  refine (weights_point m c t y).trans (Eq.symm ((weights_result (a4 m c) _).trans ?_))
  show padded (columns (a4 m c) (win0_4.index t 0 * 256 + 1 * (y 0).val)) (win0_4.index t 1 * 4096 + 1 * (y 1).val) = _
  rw [(index4 t).1, (index4 t).2, Nat.zero_mul, Nat.zero_add, Nat.one_mul, Nat.one_mul]

theorem cover4 (i : S1024x4096.Idx) : ∃ t : Fin cfg0.N, (cfg0.win 4).flush t = true ∧ i ∈ ((cfg0.win 4).blk t).view.set := by
  have h0 : (i 0).val < 1024 := (i 0).isLt
  have h1 : (i 1).val < 4096 := (i 1).isLt
  have ht : (i 0).val / 256 < cfg0.N := by rw [show cfg0.N = 4 from N_0]; omega
  refine ⟨⟨(i 0).val / 256, ht⟩, flush0_4 _, ?_⟩
  show i ∈ ((View.whole main_v8_0).slice (win0_4.rect ⟨(i 0).val / 256, ht⟩)).set
  rw [View.set_slice_whole, Rect.mem_set_unit]
  have e := index4 ⟨(i 0).val / 256, ht⟩
  intro a
  match a with
  | ⟨0, _⟩ =>
    show win0_4.index _ 0 * 256 ≤ (i 0).val ∧ (i 0).val < win0_4.index _ 0 * 256 + 256
    rw [e.1]; dsimp only; omega
  | ⟨1, _⟩ =>
    show win0_4.index _ 1 * 4096 ≤ (i 1).val ∧ (i 1).val < win0_4.index _ 1 * 4096 + 4096
    rw [e.2]; omega

theorem final4 : (dats m 0 c).arrAt 4 cfg0.N = val_main_v24 (F := Ideal) (a4 m c) :=
  (dats m 0 c).arrAt_eq_of_cover 4 _ (fun t _ => flushed4 m c t) cover4

theorem index5 (t : Fin cfg0.N) : win0_5.index t 0 = 0 ∧ win0_5.index t 1 = 0 ∧ win0_5.index t 2 = 0 :=
  (by decide +kernel : ∀ t : Fin grid0.N, win0_5.index t 0 = 0 ∧ win0_5.index t 1 = 0 ∧ win0_5.index t 2 = 0) t

/-- The last point writes back the whole sums. -/
theorem flushed5 (t : Fin cfg0.N) (hf : (cfg0.win 5).flush t = true) :
    (dats m 0 c).flushed 5 t
      = ((cfg0.win 5).blk t).view.read (Elt Ideal) (val_main_v10 (F := Ideal) (a0 m c) (a1 m c) (a2 m c) (a3 m c)) := by
  have ht : t.val < 4 := lt_of_lt_of_eq t.isLt N_0
  have h3 : t.val = 3 := by have := (flush0_5 t).mp hf; omega
  rw [Value.flushed5]
  funext y
  rw [View.read_apply]
  refine (mods_upto m c t.val t.isLt y).trans (Eq.symm ((mods_result (a0 m c) (a1 m c) (a2 m c) (a3 m c) _).trans ?_))
  show (∑ k ∈ range 1024, term m c (win0_5.index t 0 * 8 + 1 * (y 0).val) (win0_5.index t 2 * 3072 + 1 * (y 2).val) k)
    + entries (a := 1) (b := 3072) (a3 m c) 0 (win0_5.index t 2 * 3072 + 1 * (y 2).val) = _
  rw [(index5 t).1, (index5 t).2.2, h3, Nat.zero_mul, Nat.zero_add, Nat.one_mul, Nat.zero_add, Nat.one_mul]

theorem cover5 (i : S8x1x3072.Idx) : ∃ t : Fin cfg0.N, (cfg0.win 5).flush t = true ∧ i ∈ ((cfg0.win 5).blk t).view.set := by
  have h0 : (i 0).val < 8 := (i 0).isLt
  have h1 : (i 1).val < 1 := (i 1).isLt
  have h2 : (i 2).val < 3072 := (i 2).isLt
  have ht : 3 < cfg0.N := by rw [show cfg0.N = 4 from N_0]; omega
  refine ⟨⟨3, ht⟩, (flush0_5 _).mpr rfl, ?_⟩
  show i ∈ ((View.whole main_v8_1).slice (win0_5.rect ⟨3, ht⟩)).set
  rw [View.set_slice_whole, Rect.mem_set_unit]
  have e := index5 ⟨3, ht⟩
  intro a
  match a with
  | ⟨0, _⟩ =>
    show win0_5.index _ 0 * 8 ≤ (i 0).val ∧ (i 0).val < win0_5.index _ 0 * 8 + 8
    rw [e.1]; omega
  | ⟨1, _⟩ =>
    show win0_5.index _ 1 * 1 ≤ (i 1).val ∧ (i 1).val < win0_5.index _ 1 * 1 + 1
    rw [e.2.1]; omega
  | ⟨2, _⟩ =>
    show win0_5.index _ 2 * 3072 ≤ (i 2).val ∧ (i 2).val < win0_5.index _ 2 * 3072 + 3072
    rw [e.2.2]; omega

theorem final5 : (dats m 0 c).arrAt 5 cfg0.N = val_main_v10 (F := Ideal) (a0 m c) (a1 m c) (a2 m c) (a3 m c) :=
  (dats m 0 c).arrAt_eq_of_cover 5 _ (fun t hf => flushed5 m c t hf) cover5

/-- The run: the two results at the reference's arrays, the arguments unchanged. -/
theorem run : θ_run defs (onTc (τ := τ) (main (F := Ideal))) ⟨m, fun _ => 0, ρ⟩ fun r => ∀ c : Dev nD,
      r.2.mem ((c.tc : Thread nD τ).loc main_v8_0) = val_main_v24 (F := Ideal) (a4 m c)
      ∧ r.2.mem ((c.tc : Thread nD τ).loc main_v8_1) = val_main_v10 (F := Ideal) (a0 m c) (a1 m c) (a2 m c) (a3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ k c => ⟨(k c).1.trans (final4 m c), (k c).2.1.trans (final5 m c), (k c).2.2⟩) (Value.run_blocks m ρ)

end Cert.PadIdeal.Array
-- ==== Proof.lean ====
module

public import proofs.«01_k».proof.Defs
public import proofs.«01_k».proof.Proof.Array
public import proofs.«01_k».proof.Proof.RefRun
public import proofs.«01_k».proof.Proof.Finite
public import proofs.«01_k».proof.Proof.TokArray
public import proofs.«01_k».proof.Proof.TokRefRun
public import proofs.«01_k».proof.Proof.TokFinite
public import proofs.«01_k».proof.Proof.PadArray
public import proofs.«01_k».proof.Proof.PadRefRun
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite
public import proofs.«01_k».proof.Proof.Gen.Token
public import proofs.«01_k».proof.Proof.Gen.Token.Frame
public import proofs.«01_k».proof.Proof.Gen.TokenIdeal
public import proofs.«01_k».proof.Proof.Gen.TokenIdeal.Frame
public import proofs.«01_k».proof.Proof.Gen.TokenIdeal.Value
public import proofs.«01_k».proof.Proof.Gen.TokenRefIdeal
public import proofs.«01_k».proof.Proof.Gen.TokenRefIdeal.Run
public import proofs.«01_k».proof.Proof.Gen.TokenRefIdeal.Read
public import proofs.«01_k».proof.Proof.Gen.Pre_laid_out
public import proofs.«01_k».proof.Proof.Gen.Pad
public import proofs.«01_k».proof.Proof.Gen.Pad.Frame
public import proofs.«01_k».proof.Proof.Gen.PadIdeal
public import proofs.«01_k».proof.Proof.Gen.PadIdeal.Frame
public import proofs.«01_k».proof.Proof.Gen.PadIdeal.Value
public import proofs.«01_k».proof.Proof.Gen.PadRefIdeal
public import proofs.«01_k».proof.Proof.Gen.PadRefIdeal.Run
public import proofs.«01_k».proof.Proof.Gen.PadRefIdeal.Read

@[expose] public section

noncomputable section

namespace Cert.Proof

open Idealize.ShloMosaic Idealize.SL.Sem

/-- The kernel and the reference, run from arguments that agree and are finite, end with equal results. -/
theorem algebraic : Cert.algebraic_KernelIdeal_ReferenceIdeal_pre_finite := by
  intro m ρ m' ρ' hpre hag
  have hW := fun c => Cert.Layer.Inputs.ofFinite (hpre c)
  choose W X hX using hW
  refine ⟨fun c => Cert.KernelIdeal.Array.output (W c) (X c), fun c => Cert.KernelIdeal.Array.latent (W c) (X c),
    fun c => Cert.KernelIdeal.Array.shared (W c) (X c), Cert.KernelIdeal.Array.run m ρ W X hX,
    Cert.ReferenceIdeal.Layer.run m' ρ' W X fun c => ?_⟩
  obtain ⟨e0, e1, e2, e3, e4, e5, e6, e7, e8, e9, e10⟩ := hag c
  have k := hX c
  rw [← e0, ← e1, ← e2, ← e3, ← e4, ← e5, ← e6, ← e7, ← e8, ← e9, ← e10] at k
  exact k

/-- The token kernel and its reference, run from arguments that agree and are finite and laid out, end with equal results. -/
theorem token_algebraic : Cert.algebraic_TokenIdeal_TokenRefIdeal_pre_laid_out := by
  intro m ρ m' ρ' hpre hag
  have hW := fun c => Cert.Layer.TokInputs.ofLaidOut (hpre c)
  choose W X hX using hW
  refine ⟨fun c => Cert.Layer.tokFour (W c) (X c), fun c => Cert.Layer.tokZf (W c) (X c), fun c => Cert.Layer.tokQ (W c) (X c),
    fun c => Cert.Layer.tokLat (W c) (X c), fun c => Cert.Layer.tokZa (W c) (X c), fun c => Cert.Layer.tokGf (W c) (X c),
    fun c => Cert.Layer.tokGa (W c) (X c), fun c => Cert.Layer.tokQn (W c) (X c), Cert.TokenIdeal.Array.run m ρ W X hX,
    Cert.TokenRefIdeal.Layer.run m' ρ' W X fun c => ?_⟩
  obtain ⟨e0, e1, e2, e3, e4, e5⟩ := hag c
  have k := hX c
  rw [← e0, ← e1, ← e2, ← e3, ← e4, ← e5] at k
  exact k

/-- The padded projection and its reference, run from arguments that agree, end with equal results. -/
theorem pad_algebraic : Cert.algebraic_PadIdeal_PadRefIdeal := by
  intro m ρ m' ρ' _ hag
  refine ⟨fun c => Cert.PadRefIdeal.Read.val_main_v24 (F := Ideal) (Cert.PadIdeal.Array.a4 m c),
    fun c => Cert.PadRefIdeal.Read.val_main_v10 (F := Ideal) (Cert.PadIdeal.Array.a0 m c) (Cert.PadIdeal.Array.a1 m c)
      (Cert.PadIdeal.Array.a2 m c) (Cert.PadIdeal.Array.a3 m c), Cert.PadIdeal.Array.run m ρ,
    (θ_run _ _ _).mono (fun _ k c => ?_) (Cert.PadRefIdeal.Layer.run m' ρ')⟩
  obtain ⟨e0, e1, e2, e3, e4⟩ := hag c
  have k := k c
  exact ⟨k.1.trans (congrArg _ e4), k.2.1.trans (by rw [e0, e1, e2, e3]), k.2.2⟩

theorem claim : Cert.Claim := ⟨Cert.Kernel.Gen.facts, Cert.KernelIdeal.Gen.facts, Cert.ReferenceIdeal.Gen.facts,
  Cert.Token.Gen.facts, Cert.TokenIdeal.Gen.facts, Cert.TokenRefIdeal.Gen.facts,
  Cert.Pad.Gen.facts, Cert.PadIdeal.Gen.facts, Cert.PadRefIdeal.Gen.facts, Cert.Pre_finite.Gen.facts, Cert.Pre_laid_out.Gen.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Layer.frame m ρ,
  fun m ρ _ => Cert.ReferenceIdeal.Layer.frame m ρ,
  fun m ρ _ => Cert.Token.Gen.frame m ρ,
  fun m ρ _ => Cert.TokenIdeal.Gen.frame m ρ,
  fun m ρ _ => Cert.TokenIdeal.Gen.frame m ρ,
  fun m ρ _ => Cert.TokenRefIdeal.Layer.frame m ρ,
  fun m ρ _ => Cert.TokenRefIdeal.Layer.frame m ρ,
  fun m ρ _ => Cert.Pad.Gen.frame m ρ,
  fun m ρ _ => Cert.PadIdeal.Gen.frame m ρ,
  fun m ρ _ => Cert.PadRefIdeal.Layer.frame m ρ,
  IdealRules.named_const.statement Cert.KernelIdeal.κ "qs" .f32 0x3E16C740#32 (((Real.sqrt 96)⁻¹ * (Real.log 2)⁻¹ : ℝ) : EReal) rfl,
  algebraic,
  trivial,
  token_algebraic,
  trivial,
  pad_algebraic⟩

end Cert.Proof

end
